-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v54) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v42_0)) (v1 : (c : Dev Cert.Kernel3Ideal.nD) → Buf (Elt Ideal) ((c.tc : Thread Cert.Kernel3Ideal.nD Cert.Kernel3Ideal.τ).loc Cert.Kernel3Ideal.main_v42_1)) (v2 : (c : Dev Cert.Kernel3Ideal.nD) → Buf (Elt Ideal) ((c.tc : Thread Cert.Kernel3Ideal.nD Cert.Kernel3Ideal.τ).loc Cert.Kernel3Ideal.main_v42_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v42_0) = v0 c
          ∧ r.2.mem ((c.tc : Thread Cert.Kernel3Ideal.nD Cert.Kernel3Ideal.τ).loc Cert.Kernel3Ideal.main_v42_1) = v1 c
          ∧ r.2.mem ((c.tc : Thread Cert.Kernel3Ideal.nD Cert.Kernel3Ideal.τ).loc Cert.Kernel3Ideal.main_v42_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v118) = v0 c
          ∧ r.2.mem ((c.tc : Thread Cert.Reference3Ideal.nD Cert.Reference3Ideal.τ).loc Cert.Reference3Ideal.main_v121) = v1 c
          ∧ r.2.mem ((c.tc : Thread Cert.Reference3Ideal.nD Cert.Reference3Ideal.τ).loc Cert.Reference3Ideal.main_v123) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S4x8192x1536 : Shape := ⟨3, ![4, 8192, 1536]⟩
abbrev S4x256x1536 : Shape := ⟨3, ![4, 256, 1536]⟩
abbrev S4x8x15x31 : Shape := ⟨4, ![4, 8, 15, 31]⟩
abbrev S_ : Shape := ⟨0, ![]⟩

class Facts : Prop where
  bitsLt_bf16_f32 : FTy.bits .bf16 < FTy.bits .f32
  bcast_S_S4x8192x1536 : S_.BroadcastsInDim S4x8192x1536 (![] : Fin 0 → Fin S4x8192x1536.rank)
  bcast_S_S4x256x1536 : S_.BroadcastsInDim S4x256x1536 (![] : Fin 0 → Fin S4x256x1536.rank)
  bcast_S_S4x8x15x31 : S_.BroadcastsInDim S4x8x15x31 (![] : Fin 0 → Fin S4x8x15x31.rank)

variable [Facts]

def fn {F : FTy → Type} [FloatOps F] (main_arg0 : FVec F S4x8192x1536 .bf16) (main_arg1 : FVec F S4x256x1536 .bf16) (main_arg2 : FVec F S4x8x15x31 .f32) : IVec S4x8192x1536 1 × IVec S4x256x1536 1 × IVec S4x8x15x31 1 :=
  let main_v0 : FVec F S4x8192x1536 .f32 := (extf .f32 · bitsLt_bf16_f32) main_arg0
  let main_v1 : FVec F S4x8192x1536 .f32 := Host.absf main_v0
  let main_cst : FVec F S_ .f32 := constant S_ .f32 0x7F800000#32
  let main_v2 : FVec F S4x8192x1536 .f32 := broadcastInDim S4x8192x1536 ![] bcast_S_S4x8192x1536 main_cst
  let main_v3 : IVec S4x8192x1536 1 := cmpf .olt main_v1 main_v2
  let main_v4 : FVec F S4x256x1536 .f32 := (extf .f32 · bitsLt_bf16_f32) main_arg1
  let main_v5 : FVec F S4x256x1536 .f32 := Host.absf main_v4
  let main_cst_0 : FVec F S_ .f32 := constant S_ .f32 0x7F800000#32
  let main_v6 : FVec F S4x256x1536 .f32 := broadcastInDim S4x256x1536 ![] bcast_S_S4x256x1536 main_cst_0
  let main_v7 : IVec S4x256x1536 1 := cmpf .olt main_v5 main_v6
  let main_v8 : FVec F S4x8x15x31 .f32 := Host.absf main_arg2
  let main_cst_1 : FVec F S_ .f32 := constant S_ .f32 0x7F800000#32
  let main_v9 : FVec F S4x8x15x31 .f32 := broadcastInDim S4x8x15x31 ![] bcast_S_S4x8x15x31 main_cst_1
  let main_v10 : IVec S4x8x15x31 1 := cmpf .olt main_v8 main_v9
  (main_v3, main_v7, main_v10)
-- ==== Kernel.lean ====
abbrev S4x8192x1536 : Shape := ⟨3, ![4, 8192, 1536]⟩
abbrev S4x256x1536 : Shape := ⟨3, ![4, 256, 1536]⟩
abbrev S4x8x15x31 : Shape := ⟨4, ![4, 8, 15, 31]⟩
abbrev S64 : Shape := ⟨1, ![64]⟩
abbrev S_ : Shape := ⟨0, ![]⟩
abbrev S1x64 : Shape := ⟨2, ![1, 64]⟩
abbrev S64x1 : Shape := ⟨2, ![64, 1]⟩
abbrev S64x64 : Shape := ⟨2, ![64, 64]⟩
abbrev S64x64x1 : Shape := ⟨3, ![64, 64, 1]⟩
abbrev S31 : Shape := ⟨1, ![31]⟩
abbrev S1x1x31 : Shape := ⟨3, ![1, 1, 31]⟩
abbrev S64x64x31 : Shape := ⟨3, ![64, 64, 31]⟩
abbrev S4x8x15x64x64 : Shape := ⟨5, ![4, 8, 15, 64, 64]⟩
abbrev S1x1x1x64x64 : Shape := ⟨5, ![1, 1, 1, 64, 64]⟩
abbrev S4x8x14x64x64 : Shape := ⟨5, ![4, 8, 14, 64, 64]⟩
abbrev S4x8x14x64x128 : Shape := ⟨5, ![4, 8, 14, 64, 128]⟩
abbrev S4x4x2x14x64x128 : Shape := ⟨6, ![4, 4, 2, 14, 64, 128]⟩
abbrev S4x4x14x2x64x128 : Shape := ⟨6, ![4, 4, 14, 2, 64, 128]⟩
abbrev S4x4x14x128x128 : Shape := ⟨5, ![4, 4, 14, 128, 128]⟩
abbrev S4x8192x512 : Shape := ⟨3, ![4, 8192, 512]⟩
abbrev S1x1024x512 : Shape := ⟨3, ![1, 1024, 512]⟩
abbrev S1x8192x512 : Shape := ⟨3, ![1, 8192, 512]⟩
abbrev S1x256x512 : Shape := ⟨3, ![1, 256, 512]⟩
abbrev S1x4x14x128x128 : Shape := ⟨5, ![1, 4, 14, 128, 128]⟩
abbrev S1x64x128 : Shape := ⟨3, ![1, 64, 128]⟩
abbrev S64x128 : Shape := ⟨2, ![64, 128]⟩
abbrev S128x128 : Shape := ⟨2, ![128, 128]⟩
abbrev S1x512x128 : Shape := ⟨3, ![1, 512, 128]⟩
abbrev S512x128 : Shape := ⟨2, ![512, 128]⟩
abbrev S1x1x1x128x128 : Shape := ⟨5, ![1, 1, 1, 128, 128]⟩
abbrev S128x512 : Shape := ⟨2, ![128, 512]⟩
abbrev S1x256x128 : Shape := ⟨3, ![1, 256, 128]⟩
abbrev S256x128 : Shape := ⟨2, ![256, 128]⟩
abbrev S128x256 : Shape := ⟨2, ![128, 256]⟩
abbrev S128 : Shape := ⟨1, ![128]⟩
abbrev S128x1 : Shape := ⟨2, ![128, 1]⟩

abbrev nBuf : Space → Nat
  | .hbm => 71
  | .vmem => 13
  | .smem => 0
  | _ => 0

abbrev bufTy : (tb : Table) → Fin (tcTables nBuf tb) → BufTy
  | .hbm, ⟨0, _⟩ => ⟨S4x8192x1536, .bf16⟩
  | .hbm, ⟨1, _⟩ => ⟨S4x256x1536, .bf16⟩
  | .hbm, ⟨2, _⟩ => ⟨S4x8x15x31, .f32⟩
  | .hbm, ⟨3, _⟩ => ⟨S64, .i32⟩
  | .hbm, ⟨4, _⟩ => ⟨S64, .i32⟩
  | .hbm, ⟨5, _⟩ => ⟨S_, .i32⟩
  | .hbm, ⟨6, _⟩ => ⟨S64, .i32⟩
  | .hbm, ⟨7, _⟩ => ⟨S64, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S64, .i32⟩
  | .hbm, ⟨12, _⟩ => ⟨S64, .i32⟩
  | .hbm, ⟨13, _⟩ => ⟨S_, .i32⟩
  | .hbm, ⟨14, _⟩ => ⟨S64, .i32⟩
  | .hbm, ⟨15, _⟩ => ⟨S64, .i32⟩
  | .hbm, ⟨16, _⟩ => ⟨S1x64, .i32⟩
  | .hbm, ⟨17, _⟩ => ⟨S64x1, .i32⟩
  | .hbm, ⟨18, _⟩ => ⟨S64x64, .i32⟩
  | .hbm, ⟨19, _⟩ => ⟨S64x64, .i32⟩
  | .hbm, ⟨20, _⟩ => ⟨S64x64, .i1⟩
  | .hbm, ⟨21, _⟩ => ⟨S1x64, .i32⟩
  | .hbm, ⟨22, _⟩ => ⟨S64x1, .i32⟩
  | .hbm, ⟨23, _⟩ => ⟨S_, .i32⟩
  | .hbm, ⟨24, _⟩ => ⟨S64x1, .i32⟩
  | .hbm, ⟨25, _⟩ => ⟨S64x1, .i32⟩
  | .hbm, ⟨26, _⟩ => ⟨S64x64, .i32⟩
  | .hbm, ⟨27, _⟩ => ⟨S64x64, .i32⟩
  | .hbm, ⟨28, _⟩ => ⟨S64x64, .i1⟩
  | .hbm, ⟨29, _⟩ => ⟨S64x64, .i1⟩
  | .hbm, ⟨30, _⟩ => ⟨S1x64, .i32⟩
  | .hbm, ⟨31, _⟩ => ⟨S64x1, .i32⟩
  | .hbm, ⟨32, _⟩ => ⟨S64x64, .i32⟩
  | .hbm, ⟨33, _⟩ => ⟨S64x64, .i32⟩
  | .hbm, ⟨34, _⟩ => ⟨S64x64, .i32⟩
  | .hbm, ⟨35, _⟩ => ⟨S_, .i32⟩
  | .hbm, ⟨36, _⟩ => ⟨S64x64, .i32⟩
  | .hbm, ⟨37, _⟩ => ⟨S64x64, .i32⟩
  | .hbm, ⟨38, _⟩ => ⟨S64x64x1, .i1⟩
  | .hbm, ⟨39, _⟩ => ⟨S64x64x1, .i32⟩
  | .hbm, ⟨40, _⟩ => ⟨S31, .i32⟩
  | .hbm, ⟨41, _⟩ => ⟨S1x1x31, .i32⟩
  | .hbm, ⟨42, _⟩ => ⟨S64x64x31, .i32⟩
  | .hbm, ⟨43, _⟩ => ⟨S64x64x31, .i32⟩
  | .hbm, ⟨44, _⟩ => ⟨S64x64x31, .i1⟩
  | .hbm, ⟨45, _⟩ => ⟨S64x64x31, .i1⟩
  | .hbm, ⟨46, _⟩ => ⟨S64x64x31, .i1⟩
  | .hbm, ⟨47, _⟩ => ⟨S64x64x31, .f32⟩
  | .hbm, ⟨48, _⟩ => ⟨S4x8x15x64x64, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S4x8x15x64x64, .f32⟩
  | .hbm, ⟨54, _⟩ => ⟨S4x8x15x64x64, .f32⟩
  | .hbm, ⟨55, _⟩ => ⟨S_, .f32⟩
  | .hbm, ⟨56, _⟩ => ⟨S_, .f32⟩
  | .hbm, ⟨57, _⟩ => ⟨S64x64, .f32⟩
  | .hbm, ⟨58, _⟩ => ⟨S64x64, .f32⟩
  | .hbm, ⟨59, _⟩ => ⟨S64x64, .f32⟩
  | .hbm, ⟨60, _⟩ => ⟨S64x64, .f32⟩
  | .hbm, ⟨61, _⟩ => ⟨S1x1x1x64x64, .f32⟩
  | .hbm, ⟨62, _⟩ => ⟨S4x8x15x64x64, .f32⟩
  | .hbm, ⟨63, _⟩ => ⟨S4x8x15x64x64, .f32⟩
  | .hbm, ⟨64, _⟩ => ⟨S4x8x14x64x64, .f32⟩
  | .hbm, ⟨65, _⟩ => ⟨S4x8x14x64x64, .f32⟩
  | .hbm, ⟨66, _⟩ => ⟨S4x8x14x64x128, .f32⟩
  | .hbm, ⟨67, _⟩ => ⟨S4x4x2x14x64x128, .f32⟩
  | .hbm, ⟨68, _⟩ => ⟨S4x4x14x2x64x128, .f32⟩
  | .hbm, ⟨69, _⟩ => ⟨S4x4x14x128x128, .f32⟩
  | .hbm, ⟨70, _⟩ => ⟨S4x8192x512, .bf16⟩
  | .local _ .vmem, ⟨0, _⟩ => ⟨S1x1024x512, .bf16⟩
  | .local _ .vmem, ⟨1, _⟩ => ⟨S1x1024x512, .bf16⟩
  | .local _ .vmem, ⟨2, _⟩ => ⟨S1x8192x512, .bf16⟩
  | .local _ .vmem, ⟨3, _⟩ => ⟨S1x8192x512, .bf16⟩
  | .local _ .vmem, ⟨4, _⟩ => ⟨S1x8192x512, .bf16⟩
  | .local _ .vmem, ⟨5, _⟩ => ⟨S1x8192x512, .bf16⟩
  | .local _ .vmem, ⟨6, _⟩ => ⟨S1x256x512, .bf16⟩
  | .local _ .vmem, ⟨7, _⟩ => ⟨S1x256x512, .bf16⟩
  | .local _ .vmem, ⟨8, _⟩ => ⟨S1x256x512, .bf16⟩
  | .local _ .vmem, ⟨9, _⟩ => ⟨S1x256x512, .bf16⟩
  | .local _ .vmem, ⟨10, _⟩ => ⟨S1x4x14x128x128, .f32⟩
  | .local _ .vmem, ⟨11, _⟩ => ⟨S1x1024x512, .bf16⟩
  | .local _ .vmem, ⟨12, _⟩ => ⟨S1x1024x512, .bf16⟩
  | _, _ => ⟨S4x8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_c_1 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst : Ref sig .tc := ⟨.hbm, 49, rfl⟩
abbrev main_v36 : Ref sig .tc := ⟨.hbm, 50, rfl⟩
abbrev main_cst_4 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_5 : Ref sig .tc := ⟨.hbm, 55, rfl⟩
abbrev main_cst_6 : Ref sig .tc := ⟨.hbm, 56, rfl⟩
abbrev main_call1_v0 : Ref sig .tc := ⟨.hbm, 57, rfl⟩
abbrev main_call1_v1 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 8], ![false, false]⟩

def k0_mult1 : BitVec 32 :=
  let c0_i32 : BitVec 32 := 0#32
  let c16_i32 : BitVec 32 := 16#32
  let v0 : BitVec 32 := Scalar.muli c0_i32 c16_i32
  let c0_i32_0 : BitVec 32 := 0#32
  let v1 : BitVec 32 := Scalar.addi v0 c0_i32_0
  let c64_i32 : BitVec 32 := 64#32
  let v135 : BitVec 32 := Scalar.muli v1 c64_i32
  v135
def k0_mult2 (i : grid0.Coords) : BitVec 32 :=
  let c120_i32 : BitVec 32 := 120#32
  let c0_i32_114 : BitVec 32 := 0#32
  let arg1 : BitVec 32 := BitVec.ofNat 32 (i 1).val
  let c16_i32_112 : BitVec 32 := 16#32
  let v128 : BitVec 32 := Scalar.muli arg1 c16_i32_112
  let c0_i32 : BitVec 32 := 0#32
  let c16_i32 : BitVec 32 := 16#32
  let v0 : BitVec 32 := Scalar.muli c0_i32 c16_i32
  let c0_i32_0 : BitVec 32 := 0#32
  let v1 : BitVec 32 := Scalar.addi v0 c0_i32_0
  let v129 : BitVec 32 := Scalar.addi v128 v1
  let c4_i32_113 : BitVec 32 := 4#32
  let v130 : BitVec 32 := Scalar.subi v129 c4_i32_113
  let v131 : BitVec 32 := Scalar.maxsi c0_i32_114 v130
  let v132 : BitVec 32 := Scalar.minsi c120_i32 v131
  let c64_i32_116 : BitVec 32 := 64#32
  let v137 : BitVec 32 := Scalar.muli v132 c64_i32_116
  v137
def k0_off1 (c0_i32_0 : BitVec 32) : Fin 3 → Nat :=
  let c0 : Index := 0#32
  let c0_i32 : BitVec 32 := 0#32
  let c16_i32 : BitVec 32 := 16#32
  let v0 : BitVec 32 := Scalar.muli c0_i32 c16_i32
  let v1 : BitVec 32 := Scalar.addi v0 c0_i32_0
  let c64_i32 : BitVec 32 := 64#32
  let v135 : BitVec 32 := Scalar.muli v1 c64_i32
  let v136 : BitVec 32 := v135
  let v139 : Index := Scalar.indexCast v136
  let c0_117 : Index := 0#32
  ![0, v139.toNat, 0]
def k0_off2 (i : grid0.Coords) (c0_i32_0 : BitVec 32) : Fin 3 → Nat :=
  let c0_120 : Index := 0#32
  let c120_i32 : BitVec 32 := 120#32
  let c0_i32_114 : BitVec 32 := 0#32
  let arg1 : BitVec 32 := BitVec.ofNat 32 (i 1).val
  let c16_i32_112 : BitVec 32 := 16#32
  let v128 : BitVec 32 := Scalar.muli arg1 c16_i32_112
  let c0_i32 : BitVec 32 := 0#32
  let c16_i32 : BitVec 32 := 16#32
  let v0 : BitVec 32 := Scalar.muli c0_i32 c16_i32
  let v1 : BitVec 32 := Scalar.addi v0 c0_i32_0
  let v129 : BitVec 32 := Scalar.addi v128 v1
  let c4_i32_113 : BitVec 32 := 4#32
  let v130 : BitVec 32 := Scalar.subi v129 c4_i32_113
  let v131 : BitVec 32 := Scalar.maxsi c0_i32_114 v130
  let v132 : BitVec 32 := Scalar.minsi c120_i32 v131
  let c64_i32_116 : BitVec 32 := 64#32
  let v137 : BitVec 32 := Scalar.muli v132 c64_i32_116
  let v138 : BitVec 32 := v137
  let v151 : Index := Scalar.indexCast v138
  let c0_121 : Index := 0#32
  ![0, v151.toNat, 0]
def k0_off3 (i : grid0.Coords) (c0_i32_0 : BitVec 32) (c0_i32_122 : BitVec 32) : Fin 5 → Nat :=
  let c0_123 : Index := 0#32
  let c0_124 : Index := 0#32
  let c120_i32 : BitVec 32 := 120#32
  let c0_i32_114 : BitVec 32 := 0#32
  let arg1 : BitVec 32 := BitVec.ofNat 32 (i 1).val
  let c16_i32_112 : BitVec 32 := 16#32
  let v128 : BitVec 32 := Scalar.muli arg1 c16_i32_112
  let c0_i32 : BitVec 32 := 0#32
  let c16_i32 : BitVec 32 := 16#32
  let v0 : BitVec 32 := Scalar.muli c0_i32 c16_i32
  let v1 : BitVec 32 := Scalar.addi v0 c0_i32_0
  let v129 : BitVec 32 := Scalar.addi v128 v1
  let c4_i32_113 : BitVec 32 := 4#32
  let v130 : BitVec 32 := Scalar.subi v129 c4_i32_113
  let v131 : BitVec 32 := Scalar.maxsi c0_i32_114 v130
  let v132 : BitVec 32 := Scalar.minsi c120_i32 v131
  let v133 : BitVec 32 := Scalar.subi v132 v129
  let c7_i32_115 : BitVec 32 := 7#32
  let v134 : BitVec 32 := Scalar.addi v133 c7_i32_115
  let v154 : BitVec 32 := Scalar.addi v134 c0_i32_122
  let v155 : Index := Scalar.indexCast v154
  let c0_125 : Index := 0#32
  let c0_126 : Index := 0#32
  ![0, 0, v155.toNat, 0, 0]
def k0_mult3 : BitVec 32 :=
  let c0_i32 : BitVec 32 := 0#32
  let c16_i32_1 : BitVec 32 := 16#32
  let v2 : BitVec 32 := Scalar.muli c0_i32 c16_i32_1
  let c0_i32_2 : BitVec 32 := 0#32
  let v3 : BitVec 32 := Scalar.addi v2 c0_i32_2
  let c64_i32_152 : BitVec 32 := 64#32
  let v183 : BitVec 32 := Scalar.muli v3 c64_i32_152
  v183
def k0_mult4 (i : grid0.Coords) : BitVec 32 :=
  let c120_i32_150 : BitVec 32 := 120#32
  let c0_i32_149 : BitVec 32 := 0#32
  let arg1 : BitVec 32 := BitVec.ofNat 32 (i 1).val
  let c16_i32_147 : BitVec 32 := 16#32
  let v176 : BitVec 32 := Scalar.muli arg1 c16_i32_147
  let c0_i32 : BitVec 32 := 0#32
  let c16_i32_1 : BitVec 32 := 16#32
  let v2 : BitVec 32 := Scalar.muli c0_i32 c16_i32_1
  let c0_i32_2 : BitVec 32 := 0#32
  let v3 : BitVec 32 := Scalar.addi v2 c0_i32_2
  let v177 : BitVec 32 := Scalar.addi v176 v3
  let c4_i32_148 : BitVec 32 := 4#32
  let v178 : BitVec 32 := Scalar.subi v177 c4_i32_148
  let v179 : BitVec 32 := Scalar.maxsi c0_i32_149 v178
  let v180 : BitVec 32 := Scalar.minsi c120_i32_150 v179
  let c64_i32_153 : BitVec 32 := 64#32
  let v185 : BitVec 32 := Scalar.muli v180 c64_i32_153
  v185
def k0_off4 (c0_i32_2 : BitVec 32) : Fin 3 → Nat :=
  let c0_154 : Index := 0#32
  let c0_i32 : BitVec 32 := 0#32
  let c16_i32_1 : BitVec 32 := 16#32
  let v2 : BitVec 32 := Scalar.muli c0_i32 c16_i32_1
  let v3 : BitVec 32 := Scalar.addi v2 c0_i32_2
  let c64_i32_152 : BitVec 32 := 64#32
  let v183 : BitVec 32 := Scalar.muli v3 c64_i32_152
  let v184 : BitVec 32 := v183
  let v187 : Index := Scalar.indexCast v184
  let c128 : Index := 128#32
  ![0, v187.toNat, 128]
def k0_off5 (i : grid0.Coords) (c0_i32_2 : BitVec 32) : Fin 3 → Nat :=
  let c0_158 : Index := 0#32
  let c120_i32_150 : BitVec 32 := 120#32
  let c0_i32_149 : BitVec 32 := 0#32
  let arg1 : BitVec 32 := BitVec.ofNat 32 (i 1).val
  let c16_i32_147 : BitVec 32 := 16#32
  let v176 : BitVec 32 := Scalar.muli arg1 c16_i32_147
  let c0_i32 : BitVec 32 := 0#32
  let c16_i32_1 : BitVec 32 := 16#32
  let v2 : BitVec 32 := Scalar.muli c0_i32 c16_i32_1
  let v3 : BitVec 32 := Scalar.addi v2 c0_i32_2
  let v177 : BitVec 32 := Scalar.addi v176 v3
  let c4_i32_148 : BitVec 32 := 4#32
  let v178 : BitVec 32 := Scalar.subi v177 c4_i32_148
  let v179 : BitVec 32 := Scalar.maxsi c0_i32_149 v178
  let v180 : BitVec 32 := Scalar.minsi c120_i32_150 v179
  let c64_i32_153 : BitVec 32 := 64#32
  let v185 : BitVec 32 := Scalar.muli v180 c64_i32_153
  let v186 : BitVec 32 := v185
  let v199 : Index := Scalar.indexCast v186
  let c128_159 : Index := 128#32
  ![0, v199.toNat, 128]
def k0_off6 (i : grid0.Coords) (c0_i32_2 : BitVec 32) (c0_i32_160 : BitVec 32) : Fin 5 → Nat :=
  let c0_161 : Index := 0#32
  let c1 : Index := 1#32
  let c120_i32_150 : BitVec 32 := 120#32
  let c0_i32_149 : BitVec 32 := 0#32
  let arg1 : BitVec 32 := BitVec.ofNat 32 (i 1).val
  let c16_i32_147 : BitVec 32 := 16#32
  let v176 : BitVec 32 := Scalar.muli arg1 c16_i32_147
  let c0_i32 : BitVec 32 := 0#32
  let c16_i32_1 : BitVec 32 := 16#32
  let v2 : BitVec 32 := Scalar.muli c0_i32 c16_i32_1
  let v3 : BitVec 32 := Scalar.addi v2 c0_i32_2
  let v177 : BitVec 32 := Scalar.addi v176 v3
  let c4_i32_148 : BitVec 32 := 4#32
  let v178 : BitVec 32 := Scalar.subi v177 c4_i32_148
  let v179 : BitVec 32 := Scalar.maxsi c0_i32_149 v178
  let v180 : BitVec 32 := Scalar.minsi c120_i32_150 v179
  let v181 : BitVec 32 := Scalar.subi v180 v177
  let c7_i32_151 : BitVec 32 := 7#32
  let v182 : BitVec 32 := Scalar.addi v181 c7_i32_151
  let v202 : BitVec 32 := Scalar.addi v182 c0_i32_160
  let v203 : Index := Scalar.indexCast v202
  let c0_162 : Index := 0#32
  let c0_163 : Index := 0#32
  ![0, 1, v203.toNat, 0, 0]
def k0_mult5 : BitVec 32 :=
  let c0_i32 : BitVec 32 := 0#32
  let c16_i32_3 : BitVec 32 := 16#32
  let v4 : BitVec 32 := Scalar.muli c0_i32 c16_i32_3
  let c0_i32_4 : BitVec 32 := 0#32
  let v5 : BitVec 32 := Scalar.addi v4 c0_i32_4
  let c64_i32_189 : BitVec 32 := 64#32
  let v231 : BitVec 32 := Scalar.muli v5 c64_i32_189
  v231
def k0_mult6 (i : grid0.Coords) : BitVec 32 :=
  let c120_i32_187 : BitVec 32 := 120#32
  let c0_i32_186 : BitVec 32 := 0#32
  let arg1 : BitVec 32 := BitVec.ofNat 32 (i 1).val
  let c16_i32_184 : BitVec 32 := 16#32
  let v224 : BitVec 32 := Scalar.muli arg1 c16_i32_184
  let c0_i32 : BitVec 32 := 0#32
  let c16_i32_3 : BitVec 32 := 16#32
  let v4 : BitVec 32 := Scalar.muli c0_i32 c16_i32_3
  let c0_i32_4 : BitVec 32 := 0#32
  let v5 : BitVec 32 := Scalar.addi v4 c0_i32_4
  let v225 : BitVec 32 := Scalar.addi v224 v5
  let c4_i32_185 : BitVec 32 := 4#32
  let v226 : BitVec 32 := Scalar.subi v225 c4_i32_185
  let v227 : BitVec 32 := Scalar.maxsi c0_i32_186 v226
  let v228 : BitVec 32 := Scalar.minsi c120_i32_187 v227
  let c64_i32_190 : BitVec 32 := 64#32
  let v233 : BitVec 32 := Scalar.muli v228 c64_i32_190
  v233
def k0_off7 (c0_i32_4 : BitVec 32) : Fin 3 → Nat :=
  let c0_191 : Index := 0#32
  let c0_i32 : BitVec 32 := 0#32
  let c16_i32_3 : BitVec 32 := 16#32
  let v4 : BitVec 32 := Scalar.muli c0_i32 c16_i32_3
  let v5 : BitVec 32 := Scalar.addi v4 c0_i32_4
  let c64_i32_189 : BitVec 32 := 64#32
  let v231 : BitVec 32 := Scalar.muli v5 c64_i32_189
  let v232 : BitVec 32 := v231
  let v235 : Index := Scalar.indexCast v232
  let c256 : Index := 256#32
  ![0, v235.toNat, 256]
def k0_off8 (i : grid0.Coords) (c0_i32_4 : BitVec 32) : Fin 3 → Nat :=
  let c0_195 : Index := 0#32
  let c120_i32_187 : BitVec 32 := 120#32
  let c0_i32_186 : BitVec 32 := 0#32
  let arg1 : BitVec 32 := BitVec.ofNat 32 (i 1).val
  let c16_i32_184 : BitVec 32 := 16#32
  let v224 : BitVec 32 := Scalar.muli arg1 c16_i32_184
  let c0_i32 : BitVec 32 := 0#32
  let c16_i32_3 : BitVec 32 := 16#32
  let v4 : BitVec 32 := Scalar.muli c0_i32 c16_i32_3
  let v5 : BitVec 32 := Scalar.addi v4 c0_i32_4
  let v225 : BitVec 32 := Scalar.addi v224 v5
  let c4_i32_185 : BitVec 32 := 4#32
  let v226 : BitVec 32 := Scalar.subi v225 c4_i32_185
  let v227 : BitVec 32 := Scalar.maxsi c0_i32_186 v226
  let v228 : BitVec 32 := Scalar.minsi c120_i32_187 v227
  let c64_i32_190 : BitVec 32 := 64#32
  let v233 : BitVec 32 := Scalar.muli v228 c64_i32_190
  let v234 : BitVec 32 := v233
  let v247 : Index := Scalar.indexCast v234
  let c256_196 : Index := 256#32
  ![0, v247.toNat, 256]
def k0_off9 (i : grid0.Coords) (c0_i32_4 : BitVec 32) (c0_i32_197 : BitVec 32) : Fin 5 → Nat :=
  let c0_198 : Index := 0#32
  let c2 : Index := 2#32
  let c120_i32_187 : BitVec 32 := 120#32
  let c0_i32_186 : BitVec 32 := 0#32
  let arg1 : BitVec 32 := BitVec.ofNat 32 (i 1).val
  let c16_i32_184 : BitVec 32 := 16#32
  let v224 : BitVec 32 := Scalar.muli arg1 c16_i32_184
  let c0_i32 : BitVec 32 := 0#32
  let c16_i32_3 : BitVec 32 := 16#32
  let v4 : BitVec 32 := Scalar.muli c0_i32 c16_i32_3
  let v5 : BitVec 32 := Scalar.addi v4 c0_i32_4
  let v225 : BitVec 32 := Scalar.addi v224 v5
  let c4_i32_185 : BitVec 32 := 4#32
  let v226 : BitVec 32 := Scalar.subi v225 c4_i32_185
  let v227 : BitVec 32 := Scalar.maxsi c0_i32_186 v226
  let v228 : BitVec 32 := Scalar.minsi c120_i32_187 v227
  let v229 : BitVec 32 := Scalar.subi v228 v225
  let c7_i32_188 : BitVec 32 := 7#32
  let v230 : BitVec 32 := Scalar.addi v229 c7_i32_188
  let v250 : BitVec 32 := Scalar.addi v230 c0_i32_197
  let v251 : Index := Scalar.indexCast v250
  let c0_199 : Index := 0#32
  let c0_200 : Index := 0#32
  ![0, 2, v251.toNat, 0, 0]
def k0_mult7 : BitVec 32 :=
  let c0_i32 : BitVec 32 := 0#32
  let c16_i32_5 : BitVec 32 := 16#32
  let v6 : BitVec 32 := Scalar.muli c0_i32 c16_i32_5
  let c0_i32_6 : BitVec 32 := 0#32
  let v7 : BitVec 32 := Scalar.addi v6 c0_i32_6
  let c64_i32_240 : BitVec 32 := 64#32
  let v318 : BitVec 32 := Scalar.muli v7 c64_i32_240
  v318
def k0_mult8 (i : grid0.Coords) : BitVec 32 :=
  let c120_i32_238 : BitVec 32 := 120#32
  let c0_i32_237 : BitVec 32 := 0#32
  let arg1 : BitVec 32 := BitVec.ofNat 32 (i 1).val
  let c16_i32_235 : BitVec 32 := 16#32
  let v311 : BitVec 32 := Scalar.muli arg1 c16_i32_235
  let c0_i32 : BitVec 32 := 0#32
  let c16_i32_5 : BitVec 32 := 16#32
  let v6 : BitVec 32 := Scalar.muli c0_i32 c16_i32_5
  let c0_i32_6 : BitVec 32 := 0#32
  let v7 : BitVec 32 := Scalar.addi v6 c0_i32_6
  let v312 : BitVec 32 := Scalar.addi v311 v7
  let c4_i32_236 : BitVec 32 := 4#32
  let v313 : BitVec 32 := Scalar.subi v312 c4_i32_236
  let v314 : BitVec 32 := Scalar.maxsi c0_i32_237 v313
  let v315 : BitVec 32 := Scalar.minsi c120_i32_238 v314
  let c64_i32_241 : BitVec 32 := 64#32
  let v320 : BitVec 32 := Scalar.muli v315 c64_i32_241
  v320
def k0_off10 (c0_i32_6 : BitVec 32) : Fin 3 → Nat :=
  let c0_242 : Index := 0#32
  let c0_i32 : BitVec 32 := 0#32
  let c16_i32_5 : BitVec 32 := 16#32
  let v6 : BitVec 32 := Scalar.muli c0_i32 c16_i32_5
  let v7 : BitVec 32 := Scalar.addi v6 c0_i32_6
  let c64_i32_240 : BitVec 32 := 64#32
  let v318 : BitVec 32 := Scalar.muli v7 c64_i32_240
  let v319 : BitVec 32 := v318
  let v322 : Index := Scalar.indexCast v319
  let c384 : Index := 384#32
  ![0, v322.toNat, 384]
def k0_off11 (i : grid0.Coords) (c0_i32_6 : BitVec 32) : Fin 3 → Nat :=
  let c0_246 : Index := 0#32
  let c120_i32_238 : BitVec 32 := 120#32
  let c0_i32_237 : BitVec 32 := 0#32
  let arg1 : BitVec 32 := BitVec.ofNat 32 (i 1).val
  let c16_i32_235 : BitVec 32 := 16#32
  let v311 : BitVec 32 := Scalar.muli arg1 c16_i32_235
  let c0_i32 : BitVec 32 := 0#32
  let c16_i32_5 : BitVec 32 := 16#32
  let v6 : BitVec 32 := Scalar.muli c0_i32 c16_i32_5
  let v7 : BitVec 32 := Scalar.addi v6 c0_i32_6
  let v312 : BitVec 32 := Scalar.addi v311 v7
  let c4_i32_236 : BitVec 32 := 4#32
  let v313 : BitVec 32 := Scalar.subi v312 c4_i32_236
  let v314 : BitVec 32 := Scalar.maxsi c0_i32_237 v313
  let v315 : BitVec 32 := Scalar.minsi c120_i32_238 v314
  let c64_i32_241 : BitVec 32 := 64#32
  let v320 : BitVec 32 := Scalar.muli v315 c64_i32_241
  let v321 : BitVec 32 := v320
  let v334 : Index := Scalar.indexCast v321
  let c384_247 : Index := 384#32
  ![0, v334.toNat, 384]
def k0_off12 (i : grid0.Coords) (c0_i32_6 : BitVec 32) (c0_i32_248 : BitVec 32) : Fin 5 → Nat :=
  let c0_249 : Index := 0#32
  let c3 : Index := 3#32
  let c120_i32_238 : BitVec 32 := 120#32
  let c0_i32_237 : BitVec 32 := 0#32
  let arg1 : BitVec 32 := BitVec.ofNat 32 (i 1).val
  let c16_i32_235 : BitVec 32 := 16#32
  let v311 : BitVec 32 := Scalar.muli arg1 c16_i32_235
  let c0_i32 : BitVec 32 := 0#32
  let c16_i32_5 : BitVec 32 := 16#32
  let v6 : BitVec 32 := Scalar.muli c0_i32 c16_i32_5
  let v7 : BitVec 32 := Scalar.addi v6 c0_i32_6
  let v312 : BitVec 32 := Scalar.addi v311 v7
  let c4_i32_236 : BitVec 32 := 4#32
  let v313 : BitVec 32 := Scalar.subi v312 c4_i32_236
  let v314 : BitVec 32 := Scalar.maxsi c0_i32_237 v313
  let v315 : BitVec 32 := Scalar.minsi c120_i32_238 v314
  let v316 : BitVec 32 := Scalar.subi v315 v312
  let c7_i32_239 : BitVec 32 := 7#32
  let v317 : BitVec 32 := Scalar.addi v316 c7_i32_239
  let v337 : BitVec 32 := Scalar.addi v317 c0_i32_248
  let v338 : Index := Scalar.indexCast v337
  let c0_250 : Index := 0#32
  let c0_251 : Index := 0#32
  ![0, 3, v338.toNat, 0, 0]
def k0_mult9 : BitVec 32 :=
  let c0_i32 : BitVec 32 := 0#32
  let c16_i32_7 : BitVec 32 := 16#32
  let v8 : BitVec 32 := Scalar.muli c0_i32 c16_i32_7
  let c1_i32 : BitVec 32 := 1#32
  let v9 : BitVec 32 := Scalar.addi v8 c1_i32
  let c64_i32_291 : BitVec 32 := 64#32
  let v405 : BitVec 32 := Scalar.muli v9 c64_i32_291
  v405
def k0_mult10 (i : grid0.Coords) : BitVec 32 :=
  let c120_i32_289 : BitVec 32 := 120#32
  let c0_i32_288 : BitVec 32 := 0#32
  let arg1 : BitVec 32 := BitVec.ofNat 32 (i 1).val
  let c16_i32_286 : BitVec 32 := 16#32
  let v398 : BitVec 32 := Scalar.muli arg1 c16_i32_286
  let c0_i32 : BitVec 32 := 0#32
  let c16_i32_7 : BitVec 32 := 16#32
  let v8 : BitVec 32 := Scalar.muli c0_i32 c16_i32_7
  let c1_i32 : BitVec 32 := 1#32
  let v9 : BitVec 32 := Scalar.addi v8 c1_i32
  let v399 : BitVec 32 := Scalar.addi v398 v9
  let c4_i32_287 : BitVec 32 := 4#32
  let v400 : BitVec 32 := Scalar.subi v399 c4_i32_287
  let v401 : BitVec 32 := Scalar.maxsi c0_i32_288 v400
  let v402 : BitVec 32 := Scalar.minsi c120_i32_289 v401
  let c64_i32_292 : BitVec 32 := 64#32
  let v407 : BitVec 32 := Scalar.muli v402 c64_i32_292
  v407
def k0_mult11 : BitVec 32 :=
  let c0_i32 : BitVec 32 := 0#32
  let c16_i32_8 : BitVec 32 := 16#32
  let v10 : BitVec 32 := Scalar.muli c0_i32 c16_i32_8
  let c1_i32_9 : BitVec 32 := 1#32
  let v11 : BitVec 32 := Scalar.addi v10 c1_i32_9
  let c64_i32_344 : BitVec 32 := 64#32
  let v492 : BitVec 32 := Scalar.muli v11 c64_i32_344
  v492
def k0_mult12 (i : grid0.Coords) : BitVec 32 :=
  let c120_i32_342 : BitVec 32 := 120#32
  let c0_i32_341 : BitVec 32 := 0#32
  let arg1 : BitVec 32 := BitVec.ofNat 32 (i 1).val
  let c16_i32_339 : BitVec 32 := 16#32
  let v485 : BitVec 32 := Scalar.muli arg1 c16_i32_339
  let c0_i32 : BitVec 32 := 0#32
  let c16_i32_8 : BitVec 32 := 16#32
  let v10 : BitVec 32 := Scalar.muli c0_i32 c16_i32_8
  let c1_i32_9 : BitVec 32 := 1#32
  let v11 : BitVec 32 := Scalar.addi v10 c1_i32_9
  let v486 : BitVec 32 := Scalar.addi v485 v11
  let c4_i32_340 : BitVec 32 := 4#32
  let v487 : BitVec 32 := Scalar.subi v486 c4_i32_340
  let v488 : BitVec 32 := Scalar.maxsi c0_i32_341 v487
  let v489 : BitVec 32 := Scalar.minsi c120_i32_342 v488
  let c64_i32_345 : BitVec 32 := 64#32
  let v494 : BitVec 32 := Scalar.muli v489 c64_i32_345
  v494
def k0_mult13 : BitVec 32 :=
  let c0_i32 : BitVec 32 := 0#32
  let c16_i32_10 : BitVec 32 := 16#32
  let v12 : BitVec 32 := Scalar.muli c0_i32 c16_i32_10
  let c1_i32_11 : BitVec 32 := 1#32
  let v13 : BitVec 32 := Scalar.addi v12 c1_i32_11
  let c64_i32_397 : BitVec 32 := 64#32
  let v579 : BitVec 32 := Scalar.muli v13 c64_i32_397
  v579
def k0_mult14 (i : grid0.Coords) : BitVec 32 :=
  let c120_i32_395 : BitVec 32 := 120#32
  let c0_i32_394 : BitVec 32 := 0#32
  let arg1 : BitVec 32 := BitVec.ofNat 32 (i 1).val
  let c16_i32_392 : BitVec 32 := 16#32
  let v572 : BitVec 32 := Scalar.muli arg1 c16_i32_392
  let c0_i32 : BitVec 32 := 0#32
  let c16_i32_10 : BitVec 32 := 16#32
  let v12 : BitVec 32 := Scalar.muli c0_i32 c16_i32_10
  let c1_i32_11 : BitVec 32 := 1#32
  let v13 : BitVec 32 := Scalar.addi v12 c1_i32_11
  let v573 : BitVec 32 := Scalar.addi v572 v13
  let c4_i32_393 : BitVec 32 := 4#32
  let v574 : BitVec 32 := Scalar.subi v573 c4_i32_393
  let v575 : BitVec 32 := Scalar.maxsi c0_i32_394 v574
  let v576 : BitVec 32 := Scalar.minsi c120_i32_395 v575
  let c64_i32_398 : BitVec 32 := 64#32
  let v581 : BitVec 32 := Scalar.muli v576 c64_i32_398
  v581
def k0_mult15 : BitVec 32 :=
  let c0_i32 : BitVec 32 := 0#32
  let c16_i32_12 : BitVec 32 := 16#32
  let v14 : BitVec 32 := Scalar.muli c0_i32 c16_i32_12
  let c1_i32_13 : BitVec 32 := 1#32
  let v15 : BitVec 32 := Scalar.addi v14 c1_i32_13
  let c64_i32_450 : BitVec 32 := 64#32
  let v666 : BitVec 32 := Scalar.muli v15 c64_i32_450
  v666
def k0_mult16 (i : grid0.Coords) : BitVec 32 :=
  let c120_i32_448 : BitVec 32 := 120#32
  let c0_i32_447 : BitVec 32 := 0#32
  let arg1 : BitVec 32 := BitVec.ofNat 32 (i 1).val
  let c16_i32_445 : BitVec 32 := 16#32
  let v659 : BitVec 32 := Scalar.muli arg1 c16_i32_445
  let c0_i32 : BitVec 32 := 0#32
  let c16_i32_12 : BitVec 32 := 16#32
  let v14 : BitVec 32 := Scalar.muli c0_i32 c16_i32_12
  let c1_i32_13 : BitVec 32 := 1#32
  let v15 : BitVec 32 := Scalar.addi v14 c1_i32_13
  let v660 : BitVec 32 := Scalar.addi v659 v15
  let c4_i32_446 : BitVec 32 := 4#32
  let v661 : BitVec 32 := Scalar.subi v660 c4_i32_446
  let v662 : BitVec 32 := Scalar.maxsi c0_i32_447 v661
  let v663 : BitVec 32 := Scalar.minsi c120_i32_448 v662
  let c64_i32_451 : BitVec 32 := 64#32
  let v668 : BitVec 32 := Scalar.muli v663 c64_i32_451
  v668
def k0_mult17 : BitVec 32 :=
  let c0_i32 : BitVec 32 := 0#32
  let c16_i32_14 : BitVec 32 := 16#32
  let v16 : BitVec 32 := Scalar.muli c0_i32 c16_i32_14
  let c2_i32 : BitVec 32 := 2#32
  let v17 : BitVec 32 := Scalar.addi v16 c2_i32
  let c64_i32_503 : BitVec 32 := 64#32
  let v753 : BitVec 32 := Scalar.muli v17 c64_i32_503
  v753
def k0_mult18 (i : grid0.Coords) : BitVec 32 :=
  let c120_i32_501 : BitVec 32 := 120#32
  let c0_i32_500 : BitVec 32 := 0#32
  let arg1 : BitVec 32 := BitVec.ofNat 32 (i 1).val
  let c16_i32_498 : BitVec 32 := 16#32
  let v746 : BitVec 32 := Scalar.muli arg1 c16_i32_498
  let c0_i32 : BitVec 32 := 0#32
  let c16_i32_14 : BitVec 32 := 16#32
  let v16 : BitVec 32 := Scalar.muli c0_i32 c16_i32_14
  let c2_i32 : BitVec 32 := 2#32
  let v17 : BitVec 32 := Scalar.addi v16 c2_i32
  let v747 : BitVec 32 := Scalar.addi v746 v17
  let c4_i32_499 : BitVec 32 := 4#32
  let v748 : BitVec 32 := Scalar.subi v747 c4_i32_499
  let v749 : BitVec 32 := Scalar.maxsi c0_i32_500 v748
  let v750 : BitVec 32 := Scalar.minsi c120_i32_501 v749
  let c64_i32_504 : BitVec 32 := 64#32
  let v755 : BitVec 32 := Scalar.muli v750 c64_i32_504
  v755
def k0_mult19 : BitVec 32 :=
  let c0_i32 : BitVec 32 := 0#32
  let c16_i32_15 : BitVec 32 := 16#32
  let v18 : BitVec 32 := Scalar.muli c0_i32 c16_i32_15
  let c2_i32_16 : BitVec 32 := 2#32
  let v19 : BitVec 32 := Scalar.addi v18 c2_i32_16
  let c64_i32_556 : BitVec 32 := 64#32
  let v840 : BitVec 32 := Scalar.muli v19 c64_i32_556
  v840
def k0_mult20 (i : grid0.Coords) : BitVec 32 :=
  let c120_i32_554 : BitVec 32 := 120#32
  let c0_i32_553 : BitVec 32 := 0#32
  let arg1 : BitVec 32 := BitVec.ofNat 32 (i 1).val
  let c16_i32_551 : BitVec 32 := 16#32
  let v833 : BitVec 32 := Scalar.muli arg1 c16_i32_551
  let c0_i32 : BitVec 32 := 0#32
  let c16_i32_15 : BitVec 32 := 16#32
  let v18 : BitVec 32 := Scalar.muli c0_i32 c16_i32_15
  let c2_i32_16 : BitVec 32 := 2#32
  let v19 : BitVec 32 := Scalar.addi v18 c2_i32_16
  let v834 : BitVec 32 := Scalar.addi v833 v19
  let c4_i32_552 : BitVec 32 := 4#32
  let v835 : BitVec 32 := Scalar.subi v834 c4_i32_552
  let v836 : BitVec 32 := Scalar.maxsi c0_i32_553 v835
  let v837 : BitVec 32 := Scalar.minsi c120_i32_554 v836
  let c64_i32_557 : BitVec 32 := 64#32
  let v842 : BitVec 32 := Scalar.muli v837 c64_i32_557
  v842
def k0_mult21 : BitVec 32 :=
  let c0_i32 : BitVec 32 := 0#32
  let c16_i32_17 : BitVec 32 := 16#32
  let v20 : BitVec 32 := Scalar.muli c0_i32 c16_i32_17
  let c2_i32_18 : BitVec 32 := 2#32
  let v21 : BitVec 32 := Scalar.addi v20 c2_i32_18
  let c64_i32_609 : BitVec 32 := 64#32
  let v927 : BitVec 32 := Scalar.muli v21 c64_i32_609
  v927
def k0_mult22 (i : grid0.Coords) : BitVec 32 :=
  let c120_i32_607 : BitVec 32 := 120#32
  let c0_i32_606 : BitVec 32 := 0#32
  let arg1 : BitVec 32 := BitVec.ofNat 32 (i 1).val
  let c16_i32_604 : BitVec 32 := 16#32
  let v920 : BitVec 32 := Scalar.muli arg1 c16_i32_604
  let c0_i32 : BitVec 32 := 0#32
  let c16_i32_17 : BitVec 32 := 16#32
  let v20 : BitVec 32 := Scalar.muli c0_i32 c16_i32_17
  let c2_i32_18 : BitVec 32 := 2#32
  let v21 : BitVec 32 := Scalar.addi v20 c2_i32_18
  let v921 : BitVec 32 := Scalar.addi v920 v21
  let c4_i32_605 : BitVec 32 := 4#32
  let v922 : BitVec 32 := Scalar.subi v921 c4_i32_605
  let v923 : BitVec 32 := Scalar.maxsi c0_i32_606 v922
  let v924 : BitVec 32 := Scalar.minsi c120_i32_607 v923
  let c64_i32_610 : BitVec 32 := 64#32
  let v929 : BitVec 32 := Scalar.muli v924 c64_i32_610
  v929
def k0_mult23 : BitVec 32 :=
  let c0_i32 : BitVec 32 := 0#32
  let c16_i32_19 : BitVec 32 := 16#32
  let v22 : BitVec 32 := Scalar.muli c0_i32 c16_i32_19
  let c2_i32_20 : BitVec 32 := 2#32
  let v23 : BitVec 32 := Scalar.addi v22 c2_i32_20
  let c64_i32_662 : BitVec 32 := 64#32
  let v1014 : BitVec 32 := Scalar.muli v23 c64_i32_662
  v1014
def k0_mult24 (i : grid0.Coords) : BitVec 32 :=
  let c120_i32_660 : BitVec 32 := 120#32
  let c0_i32_659 : BitVec 32 := 0#32
  let arg1 : BitVec 32 := BitVec.ofNat 32 (i 1).val
  let c16_i32_657 : BitVec 32 := 16#32
  let v1007 : BitVec 32 := Scalar.muli arg1 c16_i32_657
  let c0_i32 : BitVec 32 := 0#32
  let c16_i32_19 : BitVec 32 := 16#32
  let v22 : BitVec 32 := Scalar.muli c0_i32 c16_i32_19
  let c2_i32_20 : BitVec 32 := 2#32
  let v23 : BitVec 32 := Scalar.addi v22 c2_i32_20
  let v1008 : BitVec 32 := Scalar.addi v1007 v23
  let c4_i32_658 : BitVec 32 := 4#32
  let v1009 : BitVec 32 := Scalar.subi v1008 c4_i32_658
  let v1010 : BitVec 32 := Scalar.maxsi c0_i32_659 v1009
  let v1011 : BitVec 32 := Scalar.minsi c120_i32_660 v1010
  let c64_i32_663 : BitVec 32 := 64#32
  let v1016 : BitVec 32 := Scalar.muli v1011 c64_i32_663
  v1016
def k0_mult25 : BitVec 32 :=
  let c0_i32 : BitVec 32 := 0#32
  let c16_i32_21 : BitVec 32 := 16#32
  let v24 : BitVec 32 := Scalar.muli c0_i32 c16_i32_21
  let c3_i32 : BitVec 32 := 3#32
  let v25 : BitVec 32 := Scalar.addi v24 c3_i32
  let c64_i32_715 : BitVec 32 := 64#32
  let v1101 : BitVec 32 := Scalar.muli v25 c64_i32_715
  v1101
def k0_mult26 (i : grid0.Coords) : BitVec 32 :=
  let c120_i32_713 : BitVec 32 := 120#32
  let c0_i32_712 : BitVec 32 := 0#32
  let arg1 : BitVec 32 := BitVec.ofNat 32 (i 1).val
  let c16_i32_710 : BitVec 32 := 16#32
  let v1094 : BitVec 32 := Scalar.muli arg1 c16_i32_710
  let c0_i32 : BitVec 32 := 0#32
  let c16_i32_21 : BitVec 32 := 16#32
  let v24 : BitVec 32 := Scalar.muli c0_i32 c16_i32_21
  let c3_i32 : BitVec 32 := 3#32
  let v25 : BitVec 32 := Scalar.addi v24 c3_i32
  let v1095 : BitVec 32 := Scalar.addi v1094 v25
  let c4_i32_711 : BitVec 32 := 4#32
  let v1096 : BitVec 32 := Scalar.subi v1095 c4_i32_711
  let v1097 : BitVec 32 := Scalar.maxsi c0_i32_712 v1096
  let v1098 : BitVec 32 := Scalar.minsi c120_i32_713 v1097
  let c64_i32_716 : BitVec 32 := 64#32
  let v1103 : BitVec 32 := Scalar.muli v1098 c64_i32_716
  v1103
def k0_mult27 : BitVec 32 :=
  let c0_i32 : BitVec 32 := 0#32
  let c16_i32_22 : BitVec 32 := 16#32
  let v26 : BitVec 32 := Scalar.muli c0_i32 c16_i32_22
  let c3_i32_23 : BitVec 32 := 3#32
  let v27 : BitVec 32 := Scalar.addi v26 c3_i32_23
  let c64_i32_768 : BitVec 32 := 64#32
  let v1188 : BitVec 32 := Scalar.muli v27 c64_i32_768
  v1188
def k0_mult28 (i : grid0.Coords) : BitVec 32 :=
  let c120_i32_766 : BitVec 32 := 120#32
  let c0_i32_765 : BitVec 32 := 0#32
  let arg1 : BitVec 32 := BitVec.ofNat 32 (i 1).val
  let c16_i32_763 : BitVec 32 := 16#32
  let v1181 : BitVec 32 := Scalar.muli arg1 c16_i32_763
  let c0_i32 : BitVec 32 := 0#32
  let c16_i32_22 : BitVec 32 := 16#32
  let v26 : BitVec 32 := Scalar.muli c0_i32 c16_i32_22
  let c3_i32_23 : BitVec 32 := 3#32
  let v27 : BitVec 32 := Scalar.addi v26 c3_i32_23
  let v1182 : BitVec 32 := Scalar.addi v1181 v27
  let c4_i32_764 : BitVec 32 := 4#32
  let v1183 : BitVec 32 := Scalar.subi v1182 c4_i32_764
  let v1184 : BitVec 32 := Scalar.maxsi c0_i32_765 v1183
  let v1185 : BitVec 32 := Scalar.minsi c120_i32_766 v1184
  let c64_i32_769 : BitVec 32 := 64#32
  let v1190 : BitVec 32 := Scalar.muli v1185 c64_i32_769
  v1190
def k0_mult29 : BitVec 32 :=
  let c0_i32 : BitVec 32 := 0#32
  let c16_i32_24 : BitVec 32 := 16#32
  let v28 : BitVec 32 := Scalar.muli c0_i32 c16_i32_24
  let c3_i32_25 : BitVec 32 := 3#32
  let v29 : BitVec 32 := Scalar.addi v28 c3_i32_25
  let c64_i32_821 : BitVec 32 := 64#32
  let v1275 : BitVec 32 := Scalar.muli v29 c64_i32_821
  v1275
def k0_mult30 (i : grid0.Coords) : BitVec 32 :=
  let c120_i32_819 : BitVec 32 := 120#32
  let c0_i32_818 : BitVec 32 := 0#32
  let arg1 : BitVec 32 := BitVec.ofNat 32 (i 1).val
  let c16_i32_816 : BitVec 32 := 16#32
  let v1268 : BitVec 32 := Scalar.muli arg1 c16_i32_816
  let c0_i32 : BitVec 32 := 0#32
  let c16_i32_24 : BitVec 32 := 16#32
  let v28 : BitVec 32 := Scalar.muli c0_i32 c16_i32_24
  let c3_i32_25 : BitVec 32 := 3#32
  let v29 : BitVec 32 := Scalar.addi v28 c3_i32_25
  let v1269 : BitVec 32 := Scalar.addi v1268 v29
  let c4_i32_817 : BitVec 32 := 4#32
  let v1270 : BitVec 32 := Scalar.subi v1269 c4_i32_817
  let v1271 : BitVec 32 := Scalar.maxsi c0_i32_818 v1270
  let v1272 : BitVec 32 := Scalar.minsi c120_i32_819 v1271
  let c64_i32_822 : BitVec 32 := 64#32
  let v1277 : BitVec 32 := Scalar.muli v1272 c64_i32_822
  v1277
def k0_mult31 : BitVec 32 :=
  let c0_i32 : BitVec 32 := 0#32
  let c16_i32_26 : BitVec 32 := 16#32
  let v30 : BitVec 32 := Scalar.muli c0_i32 c16_i32_26
  let c3_i32_27 : BitVec 32 := 3#32
  let v31 : BitVec 32 := Scalar.addi v30 c3_i32_27
  let c64_i32_874 : BitVec 32 := 64#32
  let v1362 : BitVec 32 := Scalar.muli v31 c64_i32_874
  v1362
def k0_mult32 (i : grid0.Coords) : BitVec 32 :=
  let c120_i32_872 : BitVec 32 := 120#32
  let c0_i32_871 : BitVec 32 := 0#32
  let arg1 : BitVec 32 := BitVec.ofNat 32 (i 1).val
  let c16_i32_869 : BitVec 32 := 16#32
  let v1355 : BitVec 32 := Scalar.muli arg1 c16_i32_869
  let c0_i32 : BitVec 32 := 0#32
  let c16_i32_26 : BitVec 32 := 16#32
  let v30 : BitVec 32 := Scalar.muli c0_i32 c16_i32_26
  let c3_i32_27 : BitVec 32 := 3#32
  let v31 : BitVec 32 := Scalar.addi v30 c3_i32_27
  let v1356 : BitVec 32 := Scalar.addi v1355 v31
  let c4_i32_870 : BitVec 32 := 4#32
  let v1357 : BitVec 32 := Scalar.subi v1356 c4_i32_870
  let v1358 : BitVec 32 := Scalar.maxsi c0_i32_871 v1357
  let v1359 : BitVec 32 := Scalar.minsi c120_i32_872 v1358
  let c64_i32_875 : BitVec 32 := 64#32
  let v1364 : BitVec 32 := Scalar.muli v1359 c64_i32_875
  v1364
def k0_mult33 : BitVec 32 :=
  let c0_i32 : BitVec 32 := 0#32
  let c16_i32_28 : BitVec 32 := 16#32
  let v32 : BitVec 32 := Scalar.muli c0_i32 c16_i32_28
  let c4_i32 : BitVec 32 := 4#32
  let v33 : BitVec 32 := Scalar.addi v32 c4_i32
  let c64_i32_927 : BitVec 32 := 64#32
  let v1449 : BitVec 32 := Scalar.muli v33 c64_i32_927
  v1449
def k0_mult34 (i : grid0.Coords) : BitVec 32 :=
  let c120_i32_925 : BitVec 32 := 120#32
  let c0_i32_924 : BitVec 32 := 0#32
  let arg1 : BitVec 32 := BitVec.ofNat 32 (i 1).val
  let c16_i32_922 : BitVec 32 := 16#32
  let v1442 : BitVec 32 := Scalar.muli arg1 c16_i32_922
  let c0_i32 : BitVec 32 := 0#32
  let c16_i32_28 : BitVec 32 := 16#32
  let v32 : BitVec 32 := Scalar.muli c0_i32 c16_i32_28
  let c4_i32 : BitVec 32 := 4#32
  let v33 : BitVec 32 := Scalar.addi v32 c4_i32
  let v1443 : BitVec 32 := Scalar.addi v1442 v33
  let c4_i32_923 : BitVec 32 := 4#32
  let v1444 : BitVec 32 := Scalar.subi v1443 c4_i32_923
  let v1445 : BitVec 32 := Scalar.maxsi c0_i32_924 v1444
  let v1446 : BitVec 32 := Scalar.minsi c120_i32_925 v1445
  let c64_i32_928 : BitVec 32 := 64#32
  let v1451 : BitVec 32 := Scalar.muli v1446 c64_i32_928
  v1451
def k0_mult35 : BitVec 32 :=
  let c0_i32 : BitVec 32 := 0#32
  let c16_i32_29 : BitVec 32 := 16#32
  let v34 : BitVec 32 := Scalar.muli c0_i32 c16_i32_29
  let c4_i32_30 : BitVec 32 := 4#32
  let v35 : BitVec 32 := Scalar.addi v34 c4_i32_30
  let c64_i32_980 : BitVec 32 := 64#32
  let v1536 : BitVec 32 := Scalar.muli v35 c64_i32_980
  v1536
def k0_mult36 (i : grid0.Coords) : BitVec 32 :=
  let c120_i32_978 : BitVec 32 := 120#32
  let c0_i32_977 : BitVec 32 := 0#32
  let arg1 : BitVec 32 := BitVec.ofNat 32 (i 1).val
  let c16_i32_975 : BitVec 32 := 16#32
  let v1529 : BitVec 32 := Scalar.muli arg1 c16_i32_975
  let c0_i32 : BitVec 32 := 0#32
  let c16_i32_29 : BitVec 32 := 16#32
  let v34 : BitVec 32 := Scalar.muli c0_i32 c16_i32_29
  let c4_i32_30 : BitVec 32 := 4#32
  let v35 : BitVec 32 := Scalar.addi v34 c4_i32_30
  let v1530 : BitVec 32 := Scalar.addi v1529 v35
  let c4_i32_976 : BitVec 32 := 4#32
  let v1531 : BitVec 32 := Scalar.subi v1530 c4_i32_976
  let v1532 : BitVec 32 := Scalar.maxsi c0_i32_977 v1531
  let v1533 : BitVec 32 := Scalar.minsi c120_i32_978 v1532
  let c64_i32_981 : BitVec 32 := 64#32
  let v1538 : BitVec 32 := Scalar.muli v1533 c64_i32_981
  v1538
def k0_mult37 : BitVec 32 :=
  let c0_i32 : BitVec 32 := 0#32
  let c16_i32_31 : BitVec 32 := 16#32
  let v36 : BitVec 32 := Scalar.muli c0_i32 c16_i32_31
  let c4_i32_32 : BitVec 32 := 4#32
  let v37 : BitVec 32 := Scalar.addi v36 c4_i32_32
  let c64_i32_1033 : BitVec 32 := 64#32
  let v1623 : BitVec 32 := Scalar.muli v37 c64_i32_1033
  v1623
def k0_mult38 (i : grid0.Coords) : BitVec 32 :=
  let c120_i32_1031 : BitVec 32 := 120#32
  let c0_i32_1030 : BitVec 32 := 0#32
  let arg1 : BitVec 32 := BitVec.ofNat 32 (i 1).val
  let c16_i32_1028 : BitVec 32 := 16#32
  let v1616 : BitVec 32 := Scalar.muli arg1 c16_i32_1028
  let c0_i32 : BitVec 32 := 0#32
  let c16_i32_31 : BitVec 32 := 16#32
  let v36 : BitVec 32 := Scalar.muli c0_i32 c16_i32_31
  let c4_i32_32 : BitVec 32 := 4#32
  let v37 : BitVec 32 := Scalar.addi v36 c4_i32_32
  let v1617 : BitVec 32 := Scalar.addi v1616 v37
  let c4_i32_1029 : BitVec 32 := 4#32
  let v1618 : BitVec 32 := Scalar.subi v1617 c4_i32_1029
  let v1619 : BitVec 32 := Scalar.maxsi c0_i32_1030 v1618
  let v1620 : BitVec 32 := Scalar.minsi c120_i32_1031 v1619
  let c64_i32_1034 : BitVec 32 := 64#32
  let v1625 : BitVec 32 := Scalar.muli v1620 c64_i32_1034
  v1625
def k0_mult39 : BitVec 32 :=
  let c0_i32 : BitVec 32 := 0#32
  let c16_i32_33 : BitVec 32 := 16#32
  let v38 : BitVec 32 := Scalar.muli c0_i32 c16_i32_33
  let c4_i32_34 : BitVec 32 := 4#32
  let v39 : BitVec 32 := Scalar.addi v38 c4_i32_34
  let c64_i32_1086 : BitVec 32 := 64#32
  let v1710 : BitVec 32 := Scalar.muli v39 c64_i32_1086
  v1710
def k0_mult40 (i : grid0.Coords) : BitVec 32 :=
  let c120_i32_1084 : BitVec 32 := 120#32
  let c0_i32_1083 : BitVec 32 := 0#32
  let arg1 : BitVec 32 := BitVec.ofNat 32 (i 1).val
  let c16_i32_1081 : BitVec 32 := 16#32
  let v1703 : BitVec 32 := Scalar.muli arg1 c16_i32_1081
  let c0_i32 : BitVec 32 := 0#32
  let c16_i32_33 : BitVec 32 := 16#32
  let v38 : BitVec 32 := Scalar.muli c0_i32 c16_i32_33
  let c4_i32_34 : BitVec 32 := 4#32
  let v39 : BitVec 32 := Scalar.addi v38 c4_i32_34
  let v1704 : BitVec 32 := Scalar.addi v1703 v39
  let c4_i32_1082 : BitVec 32 := 4#32
  let v1705 : BitVec 32 := Scalar.subi v1704 c4_i32_1082
  let v1706 : BitVec 32 := Scalar.maxsi c0_i32_1083 v1705
  let v1707 : BitVec 32 := Scalar.minsi c120_i32_1084 v1706
  let c64_i32_1087 : BitVec 32 := 64#32
  let v1712 : BitVec 32 := Scalar.muli v1707 c64_i32_1087
  v1712
def k0_mult41 : BitVec 32 :=
  let c0_i32 : BitVec 32 := 0#32
  let c16_i32_35 : BitVec 32 := 16#32
  let v40 : BitVec 32 := Scalar.muli c0_i32 c16_i32_35
  let c5_i32 : BitVec 32 := 5#32
  let v41 : BitVec 32 := Scalar.addi v40 c5_i32
  let c64_i32_1139 : BitVec 32 := 64#32
  let v1797 : BitVec 32 := Scalar.muli v41 c64_i32_1139
  v1797
def k0_mult42 (i : grid0.Coords) : BitVec 32 :=
  let c120_i32_1137 : BitVec 32 := 120#32
  let c0_i32_1136 : BitVec 32 := 0#32
  let arg1 : BitVec 32 := BitVec.ofNat 32 (i 1).val
  let c16_i32_1134 : BitVec 32 := 16#32
  let v1790 : BitVec 32 := Scalar.muli arg1 c16_i32_1134
  let c0_i32 : BitVec 32 := 0#32
  let c16_i32_35 : BitVec 32 := 16#32
  let v40 : BitVec 32 := Scalar.muli c0_i32 c16_i32_35
  let c5_i32 : BitVec 32 := 5#32
  let v41 : BitVec 32 := Scalar.addi v40 c5_i32
  let v1791 : BitVec 32 := Scalar.addi v1790 v41
  let c4_i32_1135 : BitVec 32 := 4#32
  let v1792 : BitVec 32 := Scalar.subi v1791 c4_i32_1135
  let v1793 : BitVec 32 := Scalar.maxsi c0_i32_1136 v1792
  let v1794 : BitVec 32 := Scalar.minsi c120_i32_1137 v1793
  let c64_i32_1140 : BitVec 32 := 64#32
  let v1799 : BitVec 32 := Scalar.muli v1794 c64_i32_1140
  v1799
def k0_mult43 : BitVec 32 :=
  let c0_i32 : BitVec 32 := 0#32
  let c16_i32_36 : BitVec 32 := 16#32
  let v42 : BitVec 32 := Scalar.muli c0_i32 c16_i32_36
  let c5_i32_37 : BitVec 32 := 5#32
  let v43 : BitVec 32 := Scalar.addi v42 c5_i32_37
  let c64_i32_1192 : BitVec 32 := 64#32
  let v1884 : BitVec 32 := Scalar.muli v43 c64_i32_1192
  v1884
def k0_mult44 (i : grid0.Coords) : BitVec 32 :=
  let c120_i32_1190 : BitVec 32 := 120#32
  let c0_i32_1189 : BitVec 32 := 0#32
  let arg1 : BitVec 32 := BitVec.ofNat 32 (i 1).val
  let c16_i32_1187 : BitVec 32 := 16#32
  let v1877 : BitVec 32 := Scalar.muli arg1 c16_i32_1187
  let c0_i32 : BitVec 32 := 0#32
  let c16_i32_36 : BitVec 32 := 16#32
  let v42 : BitVec 32 := Scalar.muli c0_i32 c16_i32_36
  let c5_i32_37 : BitVec 32 := 5#32
  let v43 : BitVec 32 := Scalar.addi v42 c5_i32_37
  let v1878 : BitVec 32 := Scalar.addi v1877 v43
  let c4_i32_1188 : BitVec 32 := 4#32
  let v1879 : BitVec 32 := Scalar.subi v1878 c4_i32_1188
  let v1880 : BitVec 32 := Scalar.maxsi c0_i32_1189 v1879
  let v1881 : BitVec 32 := Scalar.minsi c120_i32_1190 v1880
  let c64_i32_1193 : BitVec 32 := 64#32
  let v1886 : BitVec 32 := Scalar.muli v1881 c64_i32_1193
  v1886
def k0_mult45 : BitVec 32 :=
  let c0_i32 : BitVec 32 := 0#32
  let c16_i32_38 : BitVec 32 := 16#32
  let v44 : BitVec 32 := Scalar.muli c0_i32 c16_i32_38
  let c5_i32_39 : BitVec 32 := 5#32
  let v45 : BitVec 32 := Scalar.addi v44 c5_i32_39
  let c64_i32_1245 : BitVec 32 := 64#32
  let v1971 : BitVec 32 := Scalar.muli v45 c64_i32_1245
  v1971
def k0_mult46 (i : grid0.Coords) : BitVec 32 :=
  let c120_i32_1243 : BitVec 32 := 120#32
  let c0_i32_1242 : BitVec 32 := 0#32
  let arg1 : BitVec 32 := BitVec.ofNat 32 (i 1).val
  let c16_i32_1240 : BitVec 32 := 16#32
  let v1964 : BitVec 32 := Scalar.muli arg1 c16_i32_1240
  let c0_i32 : BitVec 32 := 0#32
  let c16_i32_38 : BitVec 32 := 16#32
  let v44 : BitVec 32 := Scalar.muli c0_i32 c16_i32_38
  let c5_i32_39 : BitVec 32 := 5#32
  let v45 : BitVec 32 := Scalar.addi v44 c5_i32_39
  let v1965 : BitVec 32 := Scalar.addi v1964 v45
  let c4_i32_1241 : BitVec 32 := 4#32
  let v1966 : BitVec 32 := Scalar.subi v1965 c4_i32_1241
  let v1967 : BitVec 32 := Scalar.maxsi c0_i32_1242 v1966
  let v1968 : BitVec 32 := Scalar.minsi c120_i32_1243 v1967
  let c64_i32_1246 : BitVec 32 := 64#32
  let v1973 : BitVec 32 := Scalar.muli v1968 c64_i32_1246
  v1973
def k0_mult47 : BitVec 32 :=
  let c0_i32 : BitVec 32 := 0#32
  let c16_i32_40 : BitVec 32 := 16#32
  let v46 : BitVec 32 := Scalar.muli c0_i32 c16_i32_40
  let c5_i32_41 : BitVec 32 := 5#32
  let v47 : BitVec 32 := Scalar.addi v46 c5_i32_41
  let c64_i32_1298 : BitVec 32 := 64#32
  let v2058 : BitVec 32 := Scalar.muli v47 c64_i32_1298
  v2058
def k0_mult48 (i : grid0.Coords) : BitVec 32 :=
  let c120_i32_1296 : BitVec 32 := 120#32
  let c0_i32_1295 : BitVec 32 := 0#32
  let arg1 : BitVec 32 := BitVec.ofNat 32 (i 1).val
  let c16_i32_1293 : BitVec 32 := 16#32
  let v2051 : BitVec 32 := Scalar.muli arg1 c16_i32_1293
  let c0_i32 : BitVec 32 := 0#32
  let c16_i32_40 : BitVec 32 := 16#32
  let v46 : BitVec 32 := Scalar.muli c0_i32 c16_i32_40
  let c5_i32_41 : BitVec 32 := 5#32
  let v47 : BitVec 32 := Scalar.addi v46 c5_i32_41
  let v2052 : BitVec 32 := Scalar.addi v2051 v47
  let c4_i32_1294 : BitVec 32 := 4#32
  let v2053 : BitVec 32 := Scalar.subi v2052 c4_i32_1294
  let v2054 : BitVec 32 := Scalar.maxsi c0_i32_1295 v2053
  let v2055 : BitVec 32 := Scalar.minsi c120_i32_1296 v2054
  let c64_i32_1299 : BitVec 32 := 64#32
  let v2060 : BitVec 32 := Scalar.muli v2055 c64_i32_1299
  v2060
def k0_mult49 : BitVec 32 :=
  let c0_i32 : BitVec 32 := 0#32
  let c16_i32_42 : BitVec 32 := 16#32
  let v48 : BitVec 32 := Scalar.muli c0_i32 c16_i32_42
  let c6_i32 : BitVec 32 := 6#32
  let v49 : BitVec 32 := Scalar.addi v48 c6_i32
  let c64_i32_1351 : BitVec 32 := 64#32
  let v2145 : BitVec 32 := Scalar.muli v49 c64_i32_1351
  v2145
def k0_mult50 (i : grid0.Coords) : BitVec 32 :=
  let c120_i32_1349 : BitVec 32 := 120#32
  let c0_i32_1348 : BitVec 32 := 0#32
  let arg1 : BitVec 32 := BitVec.ofNat 32 (i 1).val
  let c16_i32_1346 : BitVec 32 := 16#32
  let v2138 : BitVec 32 := Scalar.muli arg1 c16_i32_1346
  let c0_i32 : BitVec 32 := 0#32
  let c16_i32_42 : BitVec 32 := 16#32
  let v48 : BitVec 32 := Scalar.muli c0_i32 c16_i32_42
  let c6_i32 : BitVec 32 := 6#32
  let v49 : BitVec 32 := Scalar.addi v48 c6_i32
  let v2139 : BitVec 32 := Scalar.addi v2138 v49
  let c4_i32_1347 : BitVec 32 := 4#32
  let v2140 : BitVec 32 := Scalar.subi v2139 c4_i32_1347
  let v2141 : BitVec 32 := Scalar.maxsi c0_i32_1348 v2140
  let v2142 : BitVec 32 := Scalar.minsi c120_i32_1349 v2141
  let c64_i32_1352 : BitVec 32 := 64#32
  let v2147 : BitVec 32 := Scalar.muli v2142 c64_i32_1352
  v2147
def k0_mult51 : BitVec 32 :=
  let c0_i32 : BitVec 32 := 0#32
  let c16_i32_43 : BitVec 32 := 16#32
  let v50 : BitVec 32 := Scalar.muli c0_i32 c16_i32_43
  let c6_i32_44 : BitVec 32 := 6#32
  let v51 : BitVec 32 := Scalar.addi v50 c6_i32_44
  let c64_i32_1404 : BitVec 32 := 64#32
  let v2232 : BitVec 32 := Scalar.muli v51 c64_i32_1404
  v2232
def k0_mult52 (i : grid0.Coords) : BitVec 32 :=
  let c120_i32_1402 : BitVec 32 := 120#32
  let c0_i32_1401 : BitVec 32 := 0#32
  let arg1 : BitVec 32 := BitVec.ofNat 32 (i 1).val
  let c16_i32_1399 : BitVec 32 := 16#32
  let v2225 : BitVec 32 := Scalar.muli arg1 c16_i32_1399
  let c0_i32 : BitVec 32 := 0#32
  let c16_i32_43 : BitVec 32 := 16#32
  let v50 : BitVec 32 := Scalar.muli c0_i32 c16_i32_43
  let c6_i32_44 : BitVec 32 := 6#32
  let v51 : BitVec 32 := Scalar.addi v50 c6_i32_44
  let v2226 : BitVec 32 := Scalar.addi v2225 v51
  let c4_i32_1400 : BitVec 32 := 4#32
  let v2227 : BitVec 32 := Scalar.subi v2226 c4_i32_1400
  let v2228 : BitVec 32 := Scalar.maxsi c0_i32_1401 v2227
  let v2229 : BitVec 32 := Scalar.minsi c120_i32_1402 v2228
  let c64_i32_1405 : BitVec 32 := 64#32
  let v2234 : BitVec 32 := Scalar.muli v2229 c64_i32_1405
  v2234
def k0_mult53 : BitVec 32 :=
  let c0_i32 : BitVec 32 := 0#32
  let c16_i32_45 : BitVec 32 := 16#32
  let v52 : BitVec 32 := Scalar.muli c0_i32 c16_i32_45
  let c6_i32_46 : BitVec 32 := 6#32
  let v53 : BitVec 32 := Scalar.addi v52 c6_i32_46
  let c64_i32_1457 : BitVec 32 := 64#32
  let v2319 : BitVec 32 := Scalar.muli v53 c64_i32_1457
  v2319
def k0_mult54 (i : grid0.Coords) : BitVec 32 :=
  let c120_i32_1455 : BitVec 32 := 120#32
  let c0_i32_1454 : BitVec 32 := 0#32
  let arg1 : BitVec 32 := BitVec.ofNat 32 (i 1).val
  let c16_i32_1452 : BitVec 32 := 16#32
  let v2312 : BitVec 32 := Scalar.muli arg1 c16_i32_1452
  let c0_i32 : BitVec 32 := 0#32
  let c16_i32_45 : BitVec 32 := 16#32
  let v52 : BitVec 32 := Scalar.muli c0_i32 c16_i32_45
  let c6_i32_46 : BitVec 32 := 6#32
  let v53 : BitVec 32 := Scalar.addi v52 c6_i32_46
  let v2313 : BitVec 32 := Scalar.addi v2312 v53
  let c4_i32_1453 : BitVec 32 := 4#32
  let v2314 : BitVec 32 := Scalar.subi v2313 c4_i32_1453
  let v2315 : BitVec 32 := Scalar.maxsi c0_i32_1454 v2314
  let v2316 : BitVec 32 := Scalar.minsi c120_i32_1455 v2315
  let c64_i32_1458 : BitVec 32 := 64#32
  let v2321 : BitVec 32 := Scalar.muli v2316 c64_i32_1458
  v2321
def k0_mult55 : BitVec 32 :=
  let c0_i32 : BitVec 32 := 0#32
  let c16_i32_47 : BitVec 32 := 16#32
  let v54 : BitVec 32 := Scalar.muli c0_i32 c16_i32_47
  let c6_i32_48 : BitVec 32 := 6#32
  let v55 : BitVec 32 := Scalar.addi v54 c6_i32_48
  let c64_i32_1510 : BitVec 32 := 64#32
  let v2406 : BitVec 32 := Scalar.muli v55 c64_i32_1510
  v2406
def k0_mult56 (i : grid0.Coords) : BitVec 32 :=
  let c120_i32_1508 : BitVec 32 := 120#32
  let c0_i32_1507 : BitVec 32 := 0#32
  let arg1 : BitVec 32 := BitVec.ofNat 32 (i 1).val
  let c16_i32_1505 : BitVec 32 := 16#32
  let v2399 : BitVec 32 := Scalar.muli arg1 c16_i32_1505
  let c0_i32 : BitVec 32 := 0#32
  let c16_i32_47 : BitVec 32 := 16#32
  let v54 : BitVec 32 := Scalar.muli c0_i32 c16_i32_47
  let c6_i32_48 : BitVec 32 := 6#32
  let v55 : BitVec 32 := Scalar.addi v54 c6_i32_48
  let v2400 : BitVec 32 := Scalar.addi v2399 v55
  let c4_i32_1506 : BitVec 32 := 4#32
  let v2401 : BitVec 32 := Scalar.subi v2400 c4_i32_1506
  let v2402 : BitVec 32 := Scalar.maxsi c0_i32_1507 v2401
  let v2403 : BitVec 32 := Scalar.minsi c120_i32_1508 v2402
  let c64_i32_1511 : BitVec 32 := 64#32
  let v2408 : BitVec 32 := Scalar.muli v2403 c64_i32_1511
  v2408
def k0_mult57 : BitVec 32 :=
  let c0_i32 : BitVec 32 := 0#32
  let c16_i32_49 : BitVec 32 := 16#32
  let v56 : BitVec 32 := Scalar.muli c0_i32 c16_i32_49
  let c7_i32 : BitVec 32 := 7#32
  let v57 : BitVec 32 := Scalar.addi v56 c7_i32
  let c64_i32_1563 : BitVec 32 := 64#32
  let v2493 : BitVec 32 := Scalar.muli v57 c64_i32_1563
  v2493
def k0_mult58 (i : grid0.Coords) : BitVec 32 :=
  let c120_i32_1561 : BitVec 32 := 120#32
  let c0_i32_1560 : BitVec 32 := 0#32
  let arg1 : BitVec 32 := BitVec.ofNat 32 (i 1).val
  let c16_i32_1558 : BitVec 32 := 16#32
  let v2486 : BitVec 32 := Scalar.muli arg1 c16_i32_1558
  let c0_i32 : BitVec 32 := 0#32
  let c16_i32_49 : BitVec 32 := 16#32
  let v56 : BitVec 32 := Scalar.muli c0_i32 c16_i32_49
  let c7_i32 : BitVec 32 := 7#32
  let v57 : BitVec 32 := Scalar.addi v56 c7_i32
  let v2487 : BitVec 32 := Scalar.addi v2486 v57
  let c4_i32_1559 : BitVec 32 := 4#32
  let v2488 : BitVec 32 := Scalar.subi v2487 c4_i32_1559
  let v2489 : BitVec 32 := Scalar.maxsi c0_i32_1560 v2488
  let v2490 : BitVec 32 := Scalar.minsi c120_i32_1561 v2489
  let c64_i32_1564 : BitVec 32 := 64#32
  let v2495 : BitVec 32 := Scalar.muli v2490 c64_i32_1564
  v2495
def k0_mult59 : BitVec 32 :=
  let c0_i32 : BitVec 32 := 0#32
  let c16_i32_50 : BitVec 32 := 16#32
  let v58 : BitVec 32 := Scalar.muli c0_i32 c16_i32_50
  let c7_i32_51 : BitVec 32 := 7#32
  let v59 : BitVec 32 := Scalar.addi v58 c7_i32_51
  let c64_i32_1616 : BitVec 32 := 64#32
  let v2580 : BitVec 32 := Scalar.muli v59 c64_i32_1616
  v2580
def k0_mult60 (i : grid0.Coords) : BitVec 32 :=
  let c120_i32_1614 : BitVec 32 := 120#32
  let c0_i32_1613 : BitVec 32 := 0#32
  let arg1 : BitVec 32 := BitVec.ofNat 32 (i 1).val
  let c16_i32_1611 : BitVec 32 := 16#32
  let v2573 : BitVec 32 := Scalar.muli arg1 c16_i32_1611
  let c0_i32 : BitVec 32 := 0#32
  let c16_i32_50 : BitVec 32 := 16#32
  let v58 : BitVec 32 := Scalar.muli c0_i32 c16_i32_50
  let c7_i32_51 : BitVec 32 := 7#32
  let v59 : BitVec 32 := Scalar.addi v58 c7_i32_51
  let v2574 : BitVec 32 := Scalar.addi v2573 v59
  let c4_i32_1612 : BitVec 32 := 4#32
  let v2575 : BitVec 32 := Scalar.subi v2574 c4_i32_1612
  let v2576 : BitVec 32 := Scalar.maxsi c0_i32_1613 v2575
  let v2577 : BitVec 32 := Scalar.minsi c120_i32_1614 v2576
  let c64_i32_1617 : BitVec 32 := 64#32
  let v2582 : BitVec 32 := Scalar.muli v2577 c64_i32_1617
  v2582
def k0_mult61 : BitVec 32 :=
  let c0_i32 : BitVec 32 := 0#32
  let c16_i32_52 : BitVec 32 := 16#32
  let v60 : BitVec 32 := Scalar.muli c0_i32 c16_i32_52
  let c7_i32_53 : BitVec 32 := 7#32
  let v61 : BitVec 32 := Scalar.addi v60 c7_i32_53
  let c64_i32_1669 : BitVec 32 := 64#32
  let v2667 : BitVec 32 := Scalar.muli v61 c64_i32_1669
  v2667
def k0_mult62 (i : grid0.Coords) : BitVec 32 :=
  let c120_i32_1667 : BitVec 32 := 120#32
  let c0_i32_1666 : BitVec 32 := 0#32
  let arg1 : BitVec 32 := BitVec.ofNat 32 (i 1).val
  let c16_i32_1664 : BitVec 32 := 16#32
  let v2660 : BitVec 32 := Scalar.muli arg1 c16_i32_1664
  let c0_i32 : BitVec 32 := 0#32
  let c16_i32_52 : BitVec 32 := 16#32
  let v60 : BitVec 32 := Scalar.muli c0_i32 c16_i32_52
  let c7_i32_53 : BitVec 32 := 7#32
  let v61 : BitVec 32 := Scalar.addi v60 c7_i32_53
  let v2661 : BitVec 32 := Scalar.addi v2660 v61
  let c4_i32_1665 : BitVec 32 := 4#32
  let v2662 : BitVec 32 := Scalar.subi v2661 c4_i32_1665
  let v2663 : BitVec 32 := Scalar.maxsi c0_i32_1666 v2662
  let v2664 : BitVec 32 := Scalar.minsi c120_i32_1667 v2663
  let c64_i32_1670 : BitVec 32 := 64#32
  let v2669 : BitVec 32 := Scalar.muli v2664 c64_i32_1670
  v2669
def k0_mult63 : BitVec 32 :=
  let c0_i32 : BitVec 32 := 0#32
  let c16_i32_54 : BitVec 32 := 16#32
  let v62 : BitVec 32 := Scalar.muli c0_i32 c16_i32_54
  let c7_i32_55 : BitVec 32 := 7#32
  let v63 : BitVec 32 := Scalar.addi v62 c7_i32_55
  let c64_i32_1722 : BitVec 32 := 64#32
  let v2754 : BitVec 32 := Scalar.muli v63 c64_i32_1722
  v2754
def k0_mult64 (i : grid0.Coords) : BitVec 32 :=
  let c120_i32_1720 : BitVec 32 := 120#32
  let c0_i32_1719 : BitVec 32 := 0#32
  let arg1 : BitVec 32 := BitVec.ofNat 32 (i 1).val
  let c16_i32_1717 : BitVec 32 := 16#32
  let v2747 : BitVec 32 := Scalar.muli arg1 c16_i32_1717
  let c0_i32 : BitVec 32 := 0#32
  let c16_i32_54 : BitVec 32 := 16#32
  let v62 : BitVec 32 := Scalar.muli c0_i32 c16_i32_54
  let c7_i32_55 : BitVec 32 := 7#32
  let v63 : BitVec 32 := Scalar.addi v62 c7_i32_55
  let v2748 : BitVec 32 := Scalar.addi v2747 v63
  let c4_i32_1718 : BitVec 32 := 4#32
  let v2749 : BitVec 32 := Scalar.subi v2748 c4_i32_1718
  let v2750 : BitVec 32 := Scalar.maxsi c0_i32_1719 v2749
  let v2751 : BitVec 32 := Scalar.minsi c120_i32_1720 v2750
  let c64_i32_1723 : BitVec 32 := 64#32
  let v2756 : BitVec 32 := Scalar.muli v2751 c64_i32_1723
  v2756
def k0_mult65 : BitVec 32 :=
  let c0_i32 : BitVec 32 := 0#32
  let c16_i32_56 : BitVec 32 := 16#32
  let v64 : BitVec 32 := Scalar.muli c0_i32 c16_i32_56
  let c8_i32 : BitVec 32 := 8#32
  let v65 : BitVec 32 := Scalar.addi v64 c8_i32
  let c64_i32_1775 : BitVec 32 := 64#32
  let v2841 : BitVec 32 := Scalar.muli v65 c64_i32_1775
  v2841
def k0_mult66 (i : grid0.Coords) : BitVec 32 :=
  let c120_i32_1773 : BitVec 32 := 120#32
  let c0_i32_1772 : BitVec 32 := 0#32
  let arg1 : BitVec 32 := BitVec.ofNat 32 (i 1).val
  let c16_i32_1770 : BitVec 32 := 16#32
  let v2834 : BitVec 32 := Scalar.muli arg1 c16_i32_1770
  let c0_i32 : BitVec 32 := 0#32
  let c16_i32_56 : BitVec 32 := 16#32
  let v64 : BitVec 32 := Scalar.muli c0_i32 c16_i32_56
  let c8_i32 : BitVec 32 := 8#32
  let v65 : BitVec 32 := Scalar.addi v64 c8_i32
  let v2835 : BitVec 32 := Scalar.addi v2834 v65
  let c4_i32_1771 : BitVec 32 := 4#32
  let v2836 : BitVec 32 := Scalar.subi v2835 c4_i32_1771
  let v2837 : BitVec 32 := Scalar.maxsi c0_i32_1772 v2836
  let v2838 : BitVec 32 := Scalar.minsi c120_i32_1773 v2837
  let c64_i32_1776 : BitVec 32 := 64#32
  let v2843 : BitVec 32 := Scalar.muli v2838 c64_i32_1776
  v2843
def k0_mult67 : BitVec 32 :=
  let c0_i32 : BitVec 32 := 0#32
  let c16_i32_57 : BitVec 32 := 16#32
  let v66 : BitVec 32 := Scalar.muli c0_i32 c16_i32_57
  let c8_i32_58 : BitVec 32 := 8#32
  let v67 : BitVec 32 := Scalar.addi v66 c8_i32_58
  let c64_i32_1828 : BitVec 32 := 64#32
  let v2928 : BitVec 32 := Scalar.muli v67 c64_i32_1828
  v2928
def k0_mult68 (i : grid0.Coords) : BitVec 32 :=
  let c120_i32_1826 : BitVec 32 := 120#32
  let c0_i32_1825 : BitVec 32 := 0#32
  let arg1 : BitVec 32 := BitVec.ofNat 32 (i 1).val
  let c16_i32_1823 : BitVec 32 := 16#32
  let v2921 : BitVec 32 := Scalar.muli arg1 c16_i32_1823
  let c0_i32 : BitVec 32 := 0#32
  let c16_i32_57 : BitVec 32 := 16#32
  let v66 : BitVec 32 := Scalar.muli c0_i32 c16_i32_57
  let c8_i32_58 : BitVec 32 := 8#32
  let v67 : BitVec 32 := Scalar.addi v66 c8_i32_58
  let v2922 : BitVec 32 := Scalar.addi v2921 v67
  let c4_i32_1824 : BitVec 32 := 4#32
  let v2923 : BitVec 32 := Scalar.subi v2922 c4_i32_1824
  let v2924 : BitVec 32 := Scalar.maxsi c0_i32_1825 v2923
  let v2925 : BitVec 32 := Scalar.minsi c120_i32_1826 v2924
  let c64_i32_1829 : BitVec 32 := 64#32
  let v2930 : BitVec 32 := Scalar.muli v2925 c64_i32_1829
  v2930
def k0_mult69 : BitVec 32 :=
  let c0_i32 : BitVec 32 := 0#32
  let c16_i32_59 : BitVec 32 := 16#32
  let v68 : BitVec 32 := Scalar.muli c0_i32 c16_i32_59
  let c8_i32_60 : BitVec 32 := 8#32
  let v69 : BitVec 32 := Scalar.addi v68 c8_i32_60
  let c64_i32_1881 : BitVec 32 := 64#32
  let v3015 : BitVec 32 := Scalar.muli v69 c64_i32_1881
  v3015
def k0_mult70 (i : grid0.Coords) : BitVec 32 :=
  let c120_i32_1879 : BitVec 32 := 120#32
  let c0_i32_1878 : BitVec 32 := 0#32
  let arg1 : BitVec 32 := BitVec.ofNat 32 (i 1).val
  let c16_i32_1876 : BitVec 32 := 16#32
  let v3008 : BitVec 32 := Scalar.muli arg1 c16_i32_1876
  let c0_i32 : BitVec 32 := 0#32
  let c16_i32_59 : BitVec 32 := 16#32
  let v68 : BitVec 32 := Scalar.muli c0_i32 c16_i32_59
  let c8_i32_60 : BitVec 32 := 8#32
  let v69 : BitVec 32 := Scalar.addi v68 c8_i32_60
  let v3009 : BitVec 32 := Scalar.addi v3008 v69
  let c4_i32_1877 : BitVec 32 := 4#32
  let v3010 : BitVec 32 := Scalar.subi v3009 c4_i32_1877
  let v3011 : BitVec 32 := Scalar.maxsi c0_i32_1878 v3010
  let v3012 : BitVec 32 := Scalar.minsi c120_i32_1879 v3011
  let c64_i32_1882 : BitVec 32 := 64#32
  let v3017 : BitVec 32 := Scalar.muli v3012 c64_i32_1882
  v3017
def k0_mult71 : BitVec 32 :=
  let c0_i32 : BitVec 32 := 0#32
  let c16_i32_61 : BitVec 32 := 16#32
  let v70 : BitVec 32 := Scalar.muli c0_i32 c16_i32_61
  let c8_i32_62 : BitVec 32 := 8#32
  let v71 : BitVec 32 := Scalar.addi v70 c8_i32_62
  let c64_i32_1934 : BitVec 32 := 64#32
  let v3102 : BitVec 32 := Scalar.muli v71 c64_i32_1934
  v3102
def k0_mult72 (i : grid0.Coords) : BitVec 32 :=
  let c120_i32_1932 : BitVec 32 := 120#32
  let c0_i32_1931 : BitVec 32 := 0#32
  let arg1 : BitVec 32 := BitVec.ofNat 32 (i 1).val
  let c16_i32_1929 : BitVec 32 := 16#32
  let v3095 : BitVec 32 := Scalar.muli arg1 c16_i32_1929
  let c0_i32 : BitVec 32 := 0#32
  let c16_i32_61 : BitVec 32 := 16#32
  let v70 : BitVec 32 := Scalar.muli c0_i32 c16_i32_61
  let c8_i32_62 : BitVec 32 := 8#32
  let v71 : BitVec 32 := Scalar.addi v70 c8_i32_62
  let v3096 : BitVec 32 := Scalar.addi v3095 v71
  let c4_i32_1930 : BitVec 32 := 4#32
  let v3097 : BitVec 32 := Scalar.subi v3096 c4_i32_1930
  let v3098 : BitVec 32 := Scalar.maxsi c0_i32_1931 v3097
  let v3099 : BitVec 32 := Scalar.minsi c120_i32_1932 v3098
  let c64_i32_1935 : BitVec 32 := 64#32
  let v3104 : BitVec 32 := Scalar.muli v3099 c64_i32_1935
  v3104
def k0_mult73 : BitVec 32 :=
  let c0_i32 : BitVec 32 := 0#32
  let c16_i32_63 : BitVec 32 := 16#32
  let v72 : BitVec 32 := Scalar.muli c0_i32 c16_i32_63
  let c9_i32 : BitVec 32 := 9#32
  let v73 : BitVec 32 := Scalar.addi v72 c9_i32
  let c64_i32_1987 : BitVec 32 := 64#32
  let v3189 : BitVec 32 := Scalar.muli v73 c64_i32_1987
  v3189
def k0_mult74 (i : grid0.Coords) : BitVec 32 :=
  let c120_i32_1985 : BitVec 32 := 120#32
  let c0_i32_1984 : BitVec 32 := 0#32
  let arg1 : BitVec 32 := BitVec.ofNat 32 (i 1).val
  let c16_i32_1982 : BitVec 32 := 16#32
  let v3182 : BitVec 32 := Scalar.muli arg1 c16_i32_1982
  let c0_i32 : BitVec 32 := 0#32
  let c16_i32_63 : BitVec 32 := 16#32
  let v72 : BitVec 32 := Scalar.muli c0_i32 c16_i32_63
  let c9_i32 : BitVec 32 := 9#32
  let v73 : BitVec 32 := Scalar.addi v72 c9_i32
  let v3183 : BitVec 32 := Scalar.addi v3182 v73
  let c4_i32_1983 : BitVec 32 := 4#32
  let v3184 : BitVec 32 := Scalar.subi v3183 c4_i32_1983
  let v3185 : BitVec 32 := Scalar.maxsi c0_i32_1984 v3184
  let v3186 : BitVec 32 := Scalar.minsi c120_i32_1985 v3185
  let c64_i32_1988 : BitVec 32 := 64#32
  let v3191 : BitVec 32 := Scalar.muli v3186 c64_i32_1988
  v3191
def k0_mult75 : BitVec 32 :=
  let c0_i32 : BitVec 32 := 0#32
  let c16_i32_64 : BitVec 32 := 16#32
  let v74 : BitVec 32 := Scalar.muli c0_i32 c16_i32_64
  let c9_i32_65 : BitVec 32 := 9#32
  let v75 : BitVec 32 := Scalar.addi v74 c9_i32_65
  let c64_i32_2040 : BitVec 32 := 64#32
  let v3276 : BitVec 32 := Scalar.muli v75 c64_i32_2040
  v3276
def k0_mult76 (i : grid0.Coords) : BitVec 32 :=
  let c120_i32_2038 : BitVec 32 := 120#32
  let c0_i32_2037 : BitVec 32 := 0#32
  let arg1 : BitVec 32 := BitVec.ofNat 32 (i 1).val
  let c16_i32_2035 : BitVec 32 := 16#32
  let v3269 : BitVec 32 := Scalar.muli arg1 c16_i32_2035
  let c0_i32 : BitVec 32 := 0#32
  let c16_i32_64 : BitVec 32 := 16#32
  let v74 : BitVec 32 := Scalar.muli c0_i32 c16_i32_64
  let c9_i32_65 : BitVec 32 := 9#32
  let v75 : BitVec 32 := Scalar.addi v74 c9_i32_65
  let v3270 : BitVec 32 := Scalar.addi v3269 v75
  let c4_i32_2036 : BitVec 32 := 4#32
  let v3271 : BitVec 32 := Scalar.subi v3270 c4_i32_2036
  let v3272 : BitVec 32 := Scalar.maxsi c0_i32_2037 v3271
  let v3273 : BitVec 32 := Scalar.minsi c120_i32_2038 v3272
  let c64_i32_2041 : BitVec 32 := 64#32
  let v3278 : BitVec 32 := Scalar.muli v3273 c64_i32_2041
  v3278
def k0_mult77 : BitVec 32 :=
  let c0_i32 : BitVec 32 := 0#32
  let c16_i32_66 : BitVec 32 := 16#32
  let v76 : BitVec 32 := Scalar.muli c0_i32 c16_i32_66
  let c9_i32_67 : BitVec 32 := 9#32
  let v77 : BitVec 32 := Scalar.addi v76 c9_i32_67
  let c64_i32_2093 : BitVec 32 := 64#32
  let v3363 : BitVec 32 := Scalar.muli v77 c64_i32_2093
  v3363
def k0_mult78 (i : grid0.Coords) : BitVec 32 :=
  let c120_i32_2091 : BitVec 32 := 120#32
  let c0_i32_2090 : BitVec 32 := 0#32
  let arg1 : BitVec 32 := BitVec.ofNat 32 (i 1).val
  let c16_i32_2088 : BitVec 32 := 16#32
  let v3356 : BitVec 32 := Scalar.muli arg1 c16_i32_2088
  let c0_i32 : BitVec 32 := 0#32
  let c16_i32_66 : BitVec 32 := 16#32
  let v76 : BitVec 32 := Scalar.muli c0_i32 c16_i32_66
  let c9_i32_67 : BitVec 32 := 9#32
  let v77 : BitVec 32 := Scalar.addi v76 c9_i32_67
  let v3357 : BitVec 32 := Scalar.addi v3356 v77
  let c4_i32_2089 : BitVec 32 := 4#32
  let v3358 : BitVec 32 := Scalar.subi v3357 c4_i32_2089
  let v3359 : BitVec 32 := Scalar.maxsi c0_i32_2090 v3358
  let v3360 : BitVec 32 := Scalar.minsi c120_i32_2091 v3359
  let c64_i32_2094 : BitVec 32 := 64#32
  let v3365 : BitVec 32 := Scalar.muli v3360 c64_i32_2094
  v3365
def k0_mult79 : BitVec 32 :=
  let c0_i32 : BitVec 32 := 0#32
  let c16_i32_68 : BitVec 32 := 16#32
  let v78 : BitVec 32 := Scalar.muli c0_i32 c16_i32_68
  let c9_i32_69 : BitVec 32 := 9#32
  let v79 : BitVec 32 := Scalar.addi v78 c9_i32_69
  let c64_i32_2146 : BitVec 32 := 64#32
  let v3450 : BitVec 32 := Scalar.muli v79 c64_i32_2146
  v3450
def k0_mult80 (i : grid0.Coords) : BitVec 32 :=
  let c120_i32_2144 : BitVec 32 := 120#32
  let c0_i32_2143 : BitVec 32 := 0#32
  let arg1 : BitVec 32 := BitVec.ofNat 32 (i 1).val
  let c16_i32_2141 : BitVec 32 := 16#32
  let v3443 : BitVec 32 := Scalar.muli arg1 c16_i32_2141
  let c0_i32 : BitVec 32 := 0#32
  let c16_i32_68 : BitVec 32 := 16#32
  let v78 : BitVec 32 := Scalar.muli c0_i32 c16_i32_68
  let c9_i32_69 : BitVec 32 := 9#32
  let v79 : BitVec 32 := Scalar.addi v78 c9_i32_69
  let v3444 : BitVec 32 := Scalar.addi v3443 v79
  let c4_i32_2142 : BitVec 32 := 4#32
  let v3445 : BitVec 32 := Scalar.subi v3444 c4_i32_2142
  let v3446 : BitVec 32 := Scalar.maxsi c0_i32_2143 v3445
  let v3447 : BitVec 32 := Scalar.minsi c120_i32_2144 v3446
  let c64_i32_2147 : BitVec 32 := 64#32
  let v3452 : BitVec 32 := Scalar.muli v3447 c64_i32_2147
  v3452
def k0_mult81 : BitVec 32 :=
  let c0_i32 : BitVec 32 := 0#32
  let c16_i32_70 : BitVec 32 := 16#32
  let v80 : BitVec 32 := Scalar.muli c0_i32 c16_i32_70
  let c10_i32 : BitVec 32 := 10#32
  let v81 : BitVec 32 := Scalar.addi v80 c10_i32
  let c64_i32_2199 : BitVec 32 := 64#32
  let v3537 : BitVec 32 := Scalar.muli v81 c64_i32_2199
  v3537
def k0_mult82 (i : grid0.Coords) : BitVec 32 :=
  let c120_i32_2197 : BitVec 32 := 120#32
  let c0_i32_2196 : BitVec 32 := 0#32
  let arg1 : BitVec 32 := BitVec.ofNat 32 (i 1).val
  let c16_i32_2194 : BitVec 32 := 16#32
  let v3530 : BitVec 32 := Scalar.muli arg1 c16_i32_2194
  let c0_i32 : BitVec 32 := 0#32
  let c16_i32_70 : BitVec 32 := 16#32
  let v80 : BitVec 32 := Scalar.muli c0_i32 c16_i32_70
  let c10_i32 : BitVec 32 := 10#32
  let v81 : BitVec 32 := Scalar.addi v80 c10_i32
  let v3531 : BitVec 32 := Scalar.addi v3530 v81
  let c4_i32_2195 : BitVec 32 := 4#32
  let v3532 : BitVec 32 := Scalar.subi v3531 c4_i32_2195
  let v3533 : BitVec 32 := Scalar.maxsi c0_i32_2196 v3532
  let v3534 : BitVec 32 := Scalar.minsi c120_i32_2197 v3533
  let c64_i32_2200 : BitVec 32 := 64#32
  let v3539 : BitVec 32 := Scalar.muli v3534 c64_i32_2200
  v3539
def k0_mult83 : BitVec 32 :=
  let c0_i32 : BitVec 32 := 0#32
  let c16_i32_71 : BitVec 32 := 16#32
  let v82 : BitVec 32 := Scalar.muli c0_i32 c16_i32_71
  let c10_i32_72 : BitVec 32 := 10#32
  let v83 : BitVec 32 := Scalar.addi v82 c10_i32_72
  let c64_i32_2252 : BitVec 32 := 64#32
  let v3624 : BitVec 32 := Scalar.muli v83 c64_i32_2252
  v3624
def k0_mult84 (i : grid0.Coords) : BitVec 32 :=
  let c120_i32_2250 : BitVec 32 := 120#32
  let c0_i32_2249 : BitVec 32 := 0#32
  let arg1 : BitVec 32 := BitVec.ofNat 32 (i 1).val
  let c16_i32_2247 : BitVec 32 := 16#32
  let v3617 : BitVec 32 := Scalar.muli arg1 c16_i32_2247
  let c0_i32 : BitVec 32 := 0#32
  let c16_i32_71 : BitVec 32 := 16#32
  let v82 : BitVec 32 := Scalar.muli c0_i32 c16_i32_71
  let c10_i32_72 : BitVec 32 := 10#32
  let v83 : BitVec 32 := Scalar.addi v82 c10_i32_72
  let v3618 : BitVec 32 := Scalar.addi v3617 v83
  let c4_i32_2248 : BitVec 32 := 4#32
  let v3619 : BitVec 32 := Scalar.subi v3618 c4_i32_2248
  let v3620 : BitVec 32 := Scalar.maxsi c0_i32_2249 v3619
  let v3621 : BitVec 32 := Scalar.minsi c120_i32_2250 v3620
  let c64_i32_2253 : BitVec 32 := 64#32
  let v3626 : BitVec 32 := Scalar.muli v3621 c64_i32_2253
  v3626
def k0_mult85 : BitVec 32 :=
  let c0_i32 : BitVec 32 := 0#32
  let c16_i32_73 : BitVec 32 := 16#32
  let v84 : BitVec 32 := Scalar.muli c0_i32 c16_i32_73
  let c10_i32_74 : BitVec 32 := 10#32
  let v85 : BitVec 32 := Scalar.addi v84 c10_i32_74
  let c64_i32_2305 : BitVec 32 := 64#32
  let v3711 : BitVec 32 := Scalar.muli v85 c64_i32_2305
  v3711
def k0_mult86 (i : grid0.Coords) : BitVec 32 :=
  let c120_i32_2303 : BitVec 32 := 120#32
  let c0_i32_2302 : BitVec 32 := 0#32
  let arg1 : BitVec 32 := BitVec.ofNat 32 (i 1).val
  let c16_i32_2300 : BitVec 32 := 16#32
  let v3704 : BitVec 32 := Scalar.muli arg1 c16_i32_2300
  let c0_i32 : BitVec 32 := 0#32
  let c16_i32_73 : BitVec 32 := 16#32
  let v84 : BitVec 32 := Scalar.muli c0_i32 c16_i32_73
  let c10_i32_74 : BitVec 32 := 10#32
  let v85 : BitVec 32 := Scalar.addi v84 c10_i32_74
  let v3705 : BitVec 32 := Scalar.addi v3704 v85
  let c4_i32_2301 : BitVec 32 := 4#32
  let v3706 : BitVec 32 := Scalar.subi v3705 c4_i32_2301
  let v3707 : BitVec 32 := Scalar.maxsi c0_i32_2302 v3706
  let v3708 : BitVec 32 := Scalar.minsi c120_i32_2303 v3707
  let c64_i32_2306 : BitVec 32 := 64#32
  let v3713 : BitVec 32 := Scalar.muli v3708 c64_i32_2306
  v3713
def k0_mult87 : BitVec 32 :=
  let c0_i32 : BitVec 32 := 0#32
  let c16_i32_75 : BitVec 32 := 16#32
  let v86 : BitVec 32 := Scalar.muli c0_i32 c16_i32_75
  let c10_i32_76 : BitVec 32 := 10#32
  let v87 : BitVec 32 := Scalar.addi v86 c10_i32_76
  let c64_i32_2358 : BitVec 32 := 64#32
  let v3798 : BitVec 32 := Scalar.muli v87 c64_i32_2358
  v3798
def k0_mult88 (i : grid0.Coords) : BitVec 32 :=
  let c120_i32_2356 : BitVec 32 := 120#32
  let c0_i32_2355 : BitVec 32 := 0#32
  let arg1 : BitVec 32 := BitVec.ofNat 32 (i 1).val
  let c16_i32_2353 : BitVec 32 := 16#32
  let v3791 : BitVec 32 := Scalar.muli arg1 c16_i32_2353
  let c0_i32 : BitVec 32 := 0#32
  let c16_i32_75 : BitVec 32 := 16#32
  let v86 : BitVec 32 := Scalar.muli c0_i32 c16_i32_75
  let c10_i32_76 : BitVec 32 := 10#32
  let v87 : BitVec 32 := Scalar.addi v86 c10_i32_76
  let v3792 : BitVec 32 := Scalar.addi v3791 v87
  let c4_i32_2354 : BitVec 32 := 4#32
  let v3793 : BitVec 32 := Scalar.subi v3792 c4_i32_2354
  let v3794 : BitVec 32 := Scalar.maxsi c0_i32_2355 v3793
  let v3795 : BitVec 32 := Scalar.minsi c120_i32_2356 v3794
  let c64_i32_2359 : BitVec 32 := 64#32
  let v3800 : BitVec 32 := Scalar.muli v3795 c64_i32_2359
  v3800
def k0_mult89 : BitVec 32 :=
  let c0_i32 : BitVec 32 := 0#32
  let c16_i32_77 : BitVec 32 := 16#32
  let v88 : BitVec 32 := Scalar.muli c0_i32 c16_i32_77
  let c11_i32 : BitVec 32 := 11#32
  let v89 : BitVec 32 := Scalar.addi v88 c11_i32
  let c64_i32_2411 : BitVec 32 := 64#32
  let v3885 : BitVec 32 := Scalar.muli v89 c64_i32_2411
  v3885
def k0_mult90 (i : grid0.Coords) : BitVec 32 :=
  let c120_i32_2409 : BitVec 32 := 120#32
  let c0_i32_2408 : BitVec 32 := 0#32
  let arg1 : BitVec 32 := BitVec.ofNat 32 (i 1).val
  let c16_i32_2406 : BitVec 32 := 16#32
  let v3878 : BitVec 32 := Scalar.muli arg1 c16_i32_2406
  let c0_i32 : BitVec 32 := 0#32
  let c16_i32_77 : BitVec 32 := 16#32
  let v88 : BitVec 32 := Scalar.muli c0_i32 c16_i32_77
  let c11_i32 : BitVec 32 := 11#32
  let v89 : BitVec 32 := Scalar.addi v88 c11_i32
  let v3879 : BitVec 32 := Scalar.addi v3878 v89
  let c4_i32_2407 : BitVec 32 := 4#32
  let v3880 : BitVec 32 := Scalar.subi v3879 c4_i32_2407
  let v3881 : BitVec 32 := Scalar.maxsi c0_i32_2408 v3880
  let v3882 : BitVec 32 := Scalar.minsi c120_i32_2409 v3881
  let c64_i32_2412 : BitVec 32 := 64#32
  let v3887 : BitVec 32 := Scalar.muli v3882 c64_i32_2412
  v3887
def k0_mult91 : BitVec 32 :=
  let c0_i32 : BitVec 32 := 0#32
  let c16_i32_78 : BitVec 32 := 16#32
  let v90 : BitVec 32 := Scalar.muli c0_i32 c16_i32_78
  let c11_i32_79 : BitVec 32 := 11#32
  let v91 : BitVec 32 := Scalar.addi v90 c11_i32_79
  let c64_i32_2464 : BitVec 32 := 64#32
  let v3972 : BitVec 32 := Scalar.muli v91 c64_i32_2464
  v3972
def k0_mult92 (i : grid0.Coords) : BitVec 32 :=
  let c120_i32_2462 : BitVec 32 := 120#32
  let c0_i32_2461 : BitVec 32 := 0#32
  let arg1 : BitVec 32 := BitVec.ofNat 32 (i 1).val
  let c16_i32_2459 : BitVec 32 := 16#32
  let v3965 : BitVec 32 := Scalar.muli arg1 c16_i32_2459
  let c0_i32 : BitVec 32 := 0#32
  let c16_i32_78 : BitVec 32 := 16#32
  let v90 : BitVec 32 := Scalar.muli c0_i32 c16_i32_78
  let c11_i32_79 : BitVec 32 := 11#32
  let v91 : BitVec 32 := Scalar.addi v90 c11_i32_79
  let v3966 : BitVec 32 := Scalar.addi v3965 v91
  let c4_i32_2460 : BitVec 32 := 4#32
  let v3967 : BitVec 32 := Scalar.subi v3966 c4_i32_2460
  let v3968 : BitVec 32 := Scalar.maxsi c0_i32_2461 v3967
  let v3969 : BitVec 32 := Scalar.minsi c120_i32_2462 v3968
  let c64_i32_2465 : BitVec 32 := 64#32
  let v3974 : BitVec 32 := Scalar.muli v3969 c64_i32_2465
  v3974
def k0_mult93 : BitVec 32 :=
  let c0_i32 : BitVec 32 := 0#32
  let c16_i32_80 : BitVec 32 := 16#32
  let v92 : BitVec 32 := Scalar.muli c0_i32 c16_i32_80
  let c11_i32_81 : BitVec 32 := 11#32
  let v93 : BitVec 32 := Scalar.addi v92 c11_i32_81
  let c64_i32_2517 : BitVec 32 := 64#32
  let v4059 : BitVec 32 := Scalar.muli v93 c64_i32_2517
  v4059
def k0_mult94 (i : grid0.Coords) : BitVec 32 :=
  let c120_i32_2515 : BitVec 32 := 120#32
  let c0_i32_2514 : BitVec 32 := 0#32
  let arg1 : BitVec 32 := BitVec.ofNat 32 (i 1).val
  let c16_i32_2512 : BitVec 32 := 16#32
  let v4052 : BitVec 32 := Scalar.muli arg1 c16_i32_2512
  let c0_i32 : BitVec 32 := 0#32
  let c16_i32_80 : BitVec 32 := 16#32
  let v92 : BitVec 32 := Scalar.muli c0_i32 c16_i32_80
  let c11_i32_81 : BitVec 32 := 11#32
  let v93 : BitVec 32 := Scalar.addi v92 c11_i32_81
  let v4053 : BitVec 32 := Scalar.addi v4052 v93
  let c4_i32_2513 : BitVec 32 := 4#32
  let v4054 : BitVec 32 := Scalar.subi v4053 c4_i32_2513
  let v4055 : BitVec 32 := Scalar.maxsi c0_i32_2514 v4054
  let v4056 : BitVec 32 := Scalar.minsi c120_i32_2515 v4055
  let c64_i32_2518 : BitVec 32 := 64#32
  let v4061 : BitVec 32 := Scalar.muli v4056 c64_i32_2518
  v4061
def k0_mult95 : BitVec 32 :=
  let c0_i32 : BitVec 32 := 0#32
  let c16_i32_82 : BitVec 32 := 16#32
  let v94 : BitVec 32 := Scalar.muli c0_i32 c16_i32_82
  let c11_i32_83 : BitVec 32 := 11#32
  let v95 : BitVec 32 := Scalar.addi v94 c11_i32_83
  let c64_i32_2570 : BitVec 32 := 64#32
  let v4146 : BitVec 32 := Scalar.muli v95 c64_i32_2570
  v4146
def k0_mult96 (i : grid0.Coords) : BitVec 32 :=
  let c120_i32_2568 : BitVec 32 := 120#32
  let c0_i32_2567 : BitVec 32 := 0#32
  let arg1 : BitVec 32 := BitVec.ofNat 32 (i 1).val
  let c16_i32_2565 : BitVec 32 := 16#32
  let v4139 : BitVec 32 := Scalar.muli arg1 c16_i32_2565
  let c0_i32 : BitVec 32 := 0#32
  let c16_i32_82 : BitVec 32 := 16#32
  let v94 : BitVec 32 := Scalar.muli c0_i32 c16_i32_82
  let c11_i32_83 : BitVec 32 := 11#32
  let v95 : BitVec 32 := Scalar.addi v94 c11_i32_83
  let v4140 : BitVec 32 := Scalar.addi v4139 v95
  let c4_i32_2566 : BitVec 32 := 4#32
  let v4141 : BitVec 32 := Scalar.subi v4140 c4_i32_2566
  let v4142 : BitVec 32 := Scalar.maxsi c0_i32_2567 v4141
  let v4143 : BitVec 32 := Scalar.minsi c120_i32_2568 v4142
  let c64_i32_2571 : BitVec 32 := 64#32
  let v4148 : BitVec 32 := Scalar.muli v4143 c64_i32_2571
  v4148
def k0_mult97 : BitVec 32 :=
  let c0_i32 : BitVec 32 := 0#32
  let c16_i32_84 : BitVec 32 := 16#32
  let v96 : BitVec 32 := Scalar.muli c0_i32 c16_i32_84
  let c12_i32 : BitVec 32 := 12#32
  let v97 : BitVec 32 := Scalar.addi v96 c12_i32
  let c64_i32_2623 : BitVec 32 := 64#32
  let v4233 : BitVec 32 := Scalar.muli v97 c64_i32_2623
  v4233
def k0_mult98 (i : grid0.Coords) : BitVec 32 :=
  let c120_i32_2621 : BitVec 32 := 120#32
  let c0_i32_2620 : BitVec 32 := 0#32
  let arg1 : BitVec 32 := BitVec.ofNat 32 (i 1).val
  let c16_i32_2618 : BitVec 32 := 16#32
  let v4226 : BitVec 32 := Scalar.muli arg1 c16_i32_2618
  let c0_i32 : BitVec 32 := 0#32
  let c16_i32_84 : BitVec 32 := 16#32
  let v96 : BitVec 32 := Scalar.muli c0_i32 c16_i32_84
  let c12_i32 : BitVec 32 := 12#32
  let v97 : BitVec 32 := Scalar.addi v96 c12_i32
  let v4227 : BitVec 32 := Scalar.addi v4226 v97
  let c4_i32_2619 : BitVec 32 := 4#32
  let v4228 : BitVec 32 := Scalar.subi v4227 c4_i32_2619
  let v4229 : BitVec 32 := Scalar.maxsi c0_i32_2620 v4228
  let v4230 : BitVec 32 := Scalar.minsi c120_i32_2621 v4229
  let c64_i32_2624 : BitVec 32 := 64#32
  let v4235 : BitVec 32 := Scalar.muli v4230 c64_i32_2624
  v4235
def k0_mult99 : BitVec 32 :=
  let c0_i32 : BitVec 32 := 0#32
  let c16_i32_85 : BitVec 32 := 16#32
  let v98 : BitVec 32 := Scalar.muli c0_i32 c16_i32_85
  let c12_i32_86 : BitVec 32 := 12#32
  let v99 : BitVec 32 := Scalar.addi v98 c12_i32_86
  let c64_i32_2676 : BitVec 32 := 64#32
  let v4320 : BitVec 32 := Scalar.muli v99 c64_i32_2676
  v4320
def k0_mult100 (i : grid0.Coords) : BitVec 32 :=
  let c120_i32_2674 : BitVec 32 := 120#32
  let c0_i32_2673 : BitVec 32 := 0#32
  let arg1 : BitVec 32 := BitVec.ofNat 32 (i 1).val
  let c16_i32_2671 : BitVec 32 := 16#32
  let v4313 : BitVec 32 := Scalar.muli arg1 c16_i32_2671
  let c0_i32 : BitVec 32 := 0#32
  let c16_i32_85 : BitVec 32 := 16#32
  let v98 : BitVec 32 := Scalar.muli c0_i32 c16_i32_85
  let c12_i32_86 : BitVec 32 := 12#32
  let v99 : BitVec 32 := Scalar.addi v98 c12_i32_86
  let v4314 : BitVec 32 := Scalar.addi v4313 v99
  let c4_i32_2672 : BitVec 32 := 4#32
  let v4315 : BitVec 32 := Scalar.subi v4314 c4_i32_2672
  let v4316 : BitVec 32 := Scalar.maxsi c0_i32_2673 v4315
  let v4317 : BitVec 32 := Scalar.minsi c120_i32_2674 v4316
  let c64_i32_2677 : BitVec 32 := 64#32
  let v4322 : BitVec 32 := Scalar.muli v4317 c64_i32_2677
  v4322
def k0_mult101 : BitVec 32 :=
  let c0_i32 : BitVec 32 := 0#32
  let c16_i32_87 : BitVec 32 := 16#32
  let v100 : BitVec 32 := Scalar.muli c0_i32 c16_i32_87
  let c12_i32_88 : BitVec 32 := 12#32
  let v101 : BitVec 32 := Scalar.addi v100 c12_i32_88
  let c64_i32_2729 : BitVec 32 := 64#32
  let v4407 : BitVec 32 := Scalar.muli v101 c64_i32_2729
  v4407
def k0_mult102 (i : grid0.Coords) : BitVec 32 :=
  let c120_i32_2727 : BitVec 32 := 120#32
  let c0_i32_2726 : BitVec 32 := 0#32
  let arg1 : BitVec 32 := BitVec.ofNat 32 (i 1).val
  let c16_i32_2724 : BitVec 32 := 16#32
  let v4400 : BitVec 32 := Scalar.muli arg1 c16_i32_2724
  let c0_i32 : BitVec 32 := 0#32
  let c16_i32_87 : BitVec 32 := 16#32
  let v100 : BitVec 32 := Scalar.muli c0_i32 c16_i32_87
  let c12_i32_88 : BitVec 32 := 12#32
  let v101 : BitVec 32 := Scalar.addi v100 c12_i32_88
  let v4401 : BitVec 32 := Scalar.addi v4400 v101
  let c4_i32_2725 : BitVec 32 := 4#32
  let v4402 : BitVec 32 := Scalar.subi v4401 c4_i32_2725
  let v4403 : BitVec 32 := Scalar.maxsi c0_i32_2726 v4402
  let v4404 : BitVec 32 := Scalar.minsi c120_i32_2727 v4403
  let c64_i32_2730 : BitVec 32 := 64#32
  let v4409 : BitVec 32 := Scalar.muli v4404 c64_i32_2730
  v4409
def k0_mult103 : BitVec 32 :=
  let c0_i32 : BitVec 32 := 0#32
  let c16_i32_89 : BitVec 32 := 16#32
  let v102 : BitVec 32 := Scalar.muli c0_i32 c16_i32_89
  let c12_i32_90 : BitVec 32 := 12#32
  let v103 : BitVec 32 := Scalar.addi v102 c12_i32_90
  let c64_i32_2782 : BitVec 32 := 64#32
  let v4494 : BitVec 32 := Scalar.muli v103 c64_i32_2782
  v4494
def k0_mult104 (i : grid0.Coords) : BitVec 32 :=
  let c120_i32_2780 : BitVec 32 := 120#32
  let c0_i32_2779 : BitVec 32 := 0#32
  let arg1 : BitVec 32 := BitVec.ofNat 32 (i 1).val
  let c16_i32_2777 : BitVec 32 := 16#32
  let v4487 : BitVec 32 := Scalar.muli arg1 c16_i32_2777
  let c0_i32 : BitVec 32 := 0#32
  let c16_i32_89 : BitVec 32 := 16#32
  let v102 : BitVec 32 := Scalar.muli c0_i32 c16_i32_89
  let c12_i32_90 : BitVec 32 := 12#32
  let v103 : BitVec 32 := Scalar.addi v102 c12_i32_90
  let v4488 : BitVec 32 := Scalar.addi v4487 v103
  let c4_i32_2778 : BitVec 32 := 4#32
  let v4489 : BitVec 32 := Scalar.subi v4488 c4_i32_2778
  let v4490 : BitVec 32 := Scalar.maxsi c0_i32_2779 v4489
  let v4491 : BitVec 32 := Scalar.minsi c120_i32_2780 v4490
  let c64_i32_2783 : BitVec 32 := 64#32
  let v4496 : BitVec 32 := Scalar.muli v4491 c64_i32_2783
  v4496
def k0_mult105 : BitVec 32 :=
  let c0_i32 : BitVec 32 := 0#32
  let c16_i32_91 : BitVec 32 := 16#32
  let v104 : BitVec 32 := Scalar.muli c0_i32 c16_i32_91
  let c13_i32 : BitVec 32 := 13#32
  let v105 : BitVec 32 := Scalar.addi v104 c13_i32
  let c64_i32_2835 : BitVec 32 := 64#32
  let v4581 : BitVec 32 := Scalar.muli v105 c64_i32_2835
  v4581
def k0_mult106 (i : grid0.Coords) : BitVec 32 :=
  let c120_i32_2833 : BitVec 32 := 120#32
  let c0_i32_2832 : BitVec 32 := 0#32
  let arg1 : BitVec 32 := BitVec.ofNat 32 (i 1).val
  let c16_i32_2830 : BitVec 32 := 16#32
  let v4574 : BitVec 32 := Scalar.muli arg1 c16_i32_2830
  let c0_i32 : BitVec 32 := 0#32
  let c16_i32_91 : BitVec 32 := 16#32
  let v104 : BitVec 32 := Scalar.muli c0_i32 c16_i32_91
  let c13_i32 : BitVec 32 := 13#32
  let v105 : BitVec 32 := Scalar.addi v104 c13_i32
  let v4575 : BitVec 32 := Scalar.addi v4574 v105
  let c4_i32_2831 : BitVec 32 := 4#32
  let v4576 : BitVec 32 := Scalar.subi v4575 c4_i32_2831
  let v4577 : BitVec 32 := Scalar.maxsi c0_i32_2832 v4576
  let v4578 : BitVec 32 := Scalar.minsi c120_i32_2833 v4577
  let c64_i32_2836 : BitVec 32 := 64#32
  let v4583 : BitVec 32 := Scalar.muli v4578 c64_i32_2836
  v4583
def k0_mult107 : BitVec 32 :=
  let c0_i32 : BitVec 32 := 0#32
  let c16_i32_92 : BitVec 32 := 16#32
  let v106 : BitVec 32 := Scalar.muli c0_i32 c16_i32_92
  let c13_i32_93 : BitVec 32 := 13#32
  let v107 : BitVec 32 := Scalar.addi v106 c13_i32_93
  let c64_i32_2888 : BitVec 32 := 64#32
  let v4668 : BitVec 32 := Scalar.muli v107 c64_i32_2888
  v4668
def k0_mult108 (i : grid0.Coords) : BitVec 32 :=
  let c120_i32_2886 : BitVec 32 := 120#32
  let c0_i32_2885 : BitVec 32 := 0#32
  let arg1 : BitVec 32 := BitVec.ofNat 32 (i 1).val
  let c16_i32_2883 : BitVec 32 := 16#32
  let v4661 : BitVec 32 := Scalar.muli arg1 c16_i32_2883
  let c0_i32 : BitVec 32 := 0#32
  let c16_i32_92 : BitVec 32 := 16#32
  let v106 : BitVec 32 := Scalar.muli c0_i32 c16_i32_92
  let c13_i32_93 : BitVec 32 := 13#32
  let v107 : BitVec 32 := Scalar.addi v106 c13_i32_93
  let v4662 : BitVec 32 := Scalar.addi v4661 v107
  let c4_i32_2884 : BitVec 32 := 4#32
  let v4663 : BitVec 32 := Scalar.subi v4662 c4_i32_2884
  let v4664 : BitVec 32 := Scalar.maxsi c0_i32_2885 v4663
  let v4665 : BitVec 32 := Scalar.minsi c120_i32_2886 v4664
  let c64_i32_2889 : BitVec 32 := 64#32
  let v4670 : BitVec 32 := Scalar.muli v4665 c64_i32_2889
  v4670
def k0_mult109 : BitVec 32 :=
  let c0_i32 : BitVec 32 := 0#32
  let c16_i32_94 : BitVec 32 := 16#32
  let v108 : BitVec 32 := Scalar.muli c0_i32 c16_i32_94
  let c13_i32_95 : BitVec 32 := 13#32
  let v109 : BitVec 32 := Scalar.addi v108 c13_i32_95
  let c64_i32_2941 : BitVec 32 := 64#32
  let v4755 : BitVec 32 := Scalar.muli v109 c64_i32_2941
  v4755
def k0_mult110 (i : grid0.Coords) : BitVec 32 :=
  let c120_i32_2939 : BitVec 32 := 120#32
  let c0_i32_2938 : BitVec 32 := 0#32
  let arg1 : BitVec 32 := BitVec.ofNat 32 (i 1).val
  let c16_i32_2936 : BitVec 32 := 16#32
  let v4748 : BitVec 32 := Scalar.muli arg1 c16_i32_2936
  let c0_i32 : BitVec 32 := 0#32
  let c16_i32_94 : BitVec 32 := 16#32
  let v108 : BitVec 32 := Scalar.muli c0_i32 c16_i32_94
  let c13_i32_95 : BitVec 32 := 13#32
  let v109 : BitVec 32 := Scalar.addi v108 c13_i32_95
  let v4749 : BitVec 32 := Scalar.addi v4748 v109
  let c4_i32_2937 : BitVec 32 := 4#32
  let v4750 : BitVec 32 := Scalar.subi v4749 c4_i32_2937
  let v4751 : BitVec 32 := Scalar.maxsi c0_i32_2938 v4750
  let v4752 : BitVec 32 := Scalar.minsi c120_i32_2939 v4751
  let c64_i32_2942 : BitVec 32 := 64#32
  let v4757 : BitVec 32 := Scalar.muli v4752 c64_i32_2942
  v4757
def k0_mult111 : BitVec 32 :=
  let c0_i32 : BitVec 32 := 0#32
  let c16_i32_96 : BitVec 32 := 16#32
  let v110 : BitVec 32 := Scalar.muli c0_i32 c16_i32_96
  let c13_i32_97 : BitVec 32 := 13#32
  let v111 : BitVec 32 := Scalar.addi v110 c13_i32_97
  let c64_i32_2994 : BitVec 32 := 64#32
  let v4842 : BitVec 32 := Scalar.muli v111 c64_i32_2994
  v4842
def k0_mult112 (i : grid0.Coords) : BitVec 32 :=
  let c120_i32_2992 : BitVec 32 := 120#32
  let c0_i32_2991 : BitVec 32 := 0#32
  let arg1 : BitVec 32 := BitVec.ofNat 32 (i 1).val
  let c16_i32_2989 : BitVec 32 := 16#32
  let v4835 : BitVec 32 := Scalar.muli arg1 c16_i32_2989
  let c0_i32 : BitVec 32 := 0#32
  let c16_i32_96 : BitVec 32 := 16#32
  let v110 : BitVec 32 := Scalar.muli c0_i32 c16_i32_96
  let c13_i32_97 : BitVec 32 := 13#32
  let v111 : BitVec 32 := Scalar.addi v110 c13_i32_97
  let v4836 : BitVec 32 := Scalar.addi v4835 v111
  let c4_i32_2990 : BitVec 32 := 4#32
  let v4837 : BitVec 32 := Scalar.subi v4836 c4_i32_2990
  let v4838 : BitVec 32 := Scalar.maxsi c0_i32_2991 v4837
  let v4839 : BitVec 32 := Scalar.minsi c120_i32_2992 v4838
  let c64_i32_2995 : BitVec 32 := 64#32
  let v4844 : BitVec 32 := Scalar.muli v4839 c64_i32_2995
  v4844
def k0_mult113 : BitVec 32 :=
  let c0_i32 : BitVec 32 := 0#32
  let c16_i32_98 : BitVec 32 := 16#32
  let v112 : BitVec 32 := Scalar.muli c0_i32 c16_i32_98
  let c14_i32 : BitVec 32 := 14#32
  let v113 : BitVec 32 := Scalar.addi v112 c14_i32
  let c64_i32_3047 : BitVec 32 := 64#32
  let v4929 : BitVec 32 := Scalar.muli v113 c64_i32_3047
  v4929
def k0_mult114 (i : grid0.Coords) : BitVec 32 :=
  let c120_i32_3045 : BitVec 32 := 120#32
  let c0_i32_3044 : BitVec 32 := 0#32
  let arg1 : BitVec 32 := BitVec.ofNat 32 (i 1).val
  let c16_i32_3042 : BitVec 32 := 16#32
  let v4922 : BitVec 32 := Scalar.muli arg1 c16_i32_3042
  let c0_i32 : BitVec 32 := 0#32
  let c16_i32_98 : BitVec 32 := 16#32
  let v112 : BitVec 32 := Scalar.muli c0_i32 c16_i32_98
  let c14_i32 : BitVec 32 := 14#32
  let v113 : BitVec 32 := Scalar.addi v112 c14_i32
  let v4923 : BitVec 32 := Scalar.addi v4922 v113
  let c4_i32_3043 : BitVec 32 := 4#32
  let v4924 : BitVec 32 := Scalar.subi v4923 c4_i32_3043
  let v4925 : BitVec 32 := Scalar.maxsi c0_i32_3044 v4924
  let v4926 : BitVec 32 := Scalar.minsi c120_i32_3045 v4925
  let c64_i32_3048 : BitVec 32 := 64#32
  let v4931 : BitVec 32 := Scalar.muli v4926 c64_i32_3048
  v4931
def k0_mult115 : BitVec 32 :=
  let c0_i32 : BitVec 32 := 0#32
  let c16_i32_99 : BitVec 32 := 16#32
  let v114 : BitVec 32 := Scalar.muli c0_i32 c16_i32_99
  let c14_i32_100 : BitVec 32 := 14#32
  let v115 : BitVec 32 := Scalar.addi v114 c14_i32_100
  let c64_i32_3100 : BitVec 32 := 64#32
  let v5016 : BitVec 32 := Scalar.muli v115 c64_i32_3100
  v5016
def k0_mult116 (i : grid0.Coords) : BitVec 32 :=
  let c120_i32_3098 : BitVec 32 := 120#32
  let c0_i32_3097 : BitVec 32 := 0#32
  let arg1 : BitVec 32 := BitVec.ofNat 32 (i 1).val
  let c16_i32_3095 : BitVec 32 := 16#32
  let v5009 : BitVec 32 := Scalar.muli arg1 c16_i32_3095
  let c0_i32 : BitVec 32 := 0#32
  let c16_i32_99 : BitVec 32 := 16#32
  let v114 : BitVec 32 := Scalar.muli c0_i32 c16_i32_99
  let c14_i32_100 : BitVec 32 := 14#32
  let v115 : BitVec 32 := Scalar.addi v114 c14_i32_100
  let v5010 : BitVec 32 := Scalar.addi v5009 v115
  let c4_i32_3096 : BitVec 32 := 4#32
  let v5011 : BitVec 32 := Scalar.subi v5010 c4_i32_3096
  let v5012 : BitVec 32 := Scalar.maxsi c0_i32_3097 v5011
  let v5013 : BitVec 32 := Scalar.minsi c120_i32_3098 v5012
  let c64_i32_3101 : BitVec 32 := 64#32
  let v5018 : BitVec 32 := Scalar.muli v5013 c64_i32_3101
  v5018
def k0_mult117 : BitVec 32 :=
  let c0_i32 : BitVec 32 := 0#32
  let c16_i32_101 : BitVec 32 := 16#32
  let v116 : BitVec 32 := Scalar.muli c0_i32 c16_i32_101
  let c14_i32_102 : BitVec 32 := 14#32
  let v117 : BitVec 32 := Scalar.addi v116 c14_i32_102
  let c64_i32_3153 : BitVec 32 := 64#32
  let v5103 : BitVec 32 := Scalar.muli v117 c64_i32_3153
  v5103
def k0_mult118 (i : grid0.Coords) : BitVec 32 :=
  let c120_i32_3151 : BitVec 32 := 120#32
  let c0_i32_3150 : BitVec 32 := 0#32
  let arg1 : BitVec 32 := BitVec.ofNat 32 (i 1).val
  let c16_i32_3148 : BitVec 32 := 16#32
  let v5096 : BitVec 32 := Scalar.muli arg1 c16_i32_3148
  let c0_i32 : BitVec 32 := 0#32
  let c16_i32_101 : BitVec 32 := 16#32
  let v116 : BitVec 32 := Scalar.muli c0_i32 c16_i32_101
  let c14_i32_102 : BitVec 32 := 14#32
  let v117 : BitVec 32 := Scalar.addi v116 c14_i32_102
  let v5097 : BitVec 32 := Scalar.addi v5096 v117
  let c4_i32_3149 : BitVec 32 := 4#32
  let v5098 : BitVec 32 := Scalar.subi v5097 c4_i32_3149
  let v5099 : BitVec 32 := Scalar.maxsi c0_i32_3150 v5098
  let v5100 : BitVec 32 := Scalar.minsi c120_i32_3151 v5099
  let c64_i32_3154 : BitVec 32 := 64#32
  let v5105 : BitVec 32 := Scalar.muli v5100 c64_i32_3154
  v5105
def k0_mult119 : BitVec 32 :=
  let c0_i32 : BitVec 32 := 0#32
  let c16_i32_103 : BitVec 32 := 16#32
  let v118 : BitVec 32 := Scalar.muli c0_i32 c16_i32_103
  let c14_i32_104 : BitVec 32 := 14#32
  let v119 : BitVec 32 := Scalar.addi v118 c14_i32_104
  let c64_i32_3206 : BitVec 32 := 64#32
  let v5190 : BitVec 32 := Scalar.muli v119 c64_i32_3206
  v5190
def k0_mult120 (i : grid0.Coords) : BitVec 32 :=
  let c120_i32_3204 : BitVec 32 := 120#32
  let c0_i32_3203 : BitVec 32 := 0#32
  let arg1 : BitVec 32 := BitVec.ofNat 32 (i 1).val
  let c16_i32_3201 : BitVec 32 := 16#32
  let v5183 : BitVec 32 := Scalar.muli arg1 c16_i32_3201
  let c0_i32 : BitVec 32 := 0#32
  let c16_i32_103 : BitVec 32 := 16#32
  let v118 : BitVec 32 := Scalar.muli c0_i32 c16_i32_103
  let c14_i32_104 : BitVec 32 := 14#32
  let v119 : BitVec 32 := Scalar.addi v118 c14_i32_104
  let v5184 : BitVec 32 := Scalar.addi v5183 v119
  let c4_i32_3202 : BitVec 32 := 4#32
  let v5185 : BitVec 32 := Scalar.subi v5184 c4_i32_3202
  let v5186 : BitVec 32 := Scalar.maxsi c0_i32_3203 v5185
  let v5187 : BitVec 32 := Scalar.minsi c120_i32_3204 v5186
  let c64_i32_3207 : BitVec 32 := 64#32
  let v5192 : BitVec 32 := Scalar.muli v5187 c64_i32_3207
  v5192
def k0_mult121 : BitVec 32 :=
  let c0_i32 : BitVec 32 := 0#32
  let c16_i32_105 : BitVec 32 := 16#32
  let v120 : BitVec 32 := Scalar.muli c0_i32 c16_i32_105
  let c15_i32 : BitVec 32 := 15#32
  let v121 : BitVec 32 := Scalar.addi v120 c15_i32
  let c64_i32_3259 : BitVec 32 := 64#32
  let v5277 : BitVec 32 := Scalar.muli v121 c64_i32_3259
  v5277
def k0_mult122 (i : grid0.Coords) : BitVec 32 :=
  let c120_i32_3257 : BitVec 32 := 120#32
  let c0_i32_3256 : BitVec 32 := 0#32
  let arg1 : BitVec 32 := BitVec.ofNat 32 (i 1).val
  let c16_i32_3254 : BitVec 32 := 16#32
  let v5270 : BitVec 32 := Scalar.muli arg1 c16_i32_3254
  let c0_i32 : BitVec 32 := 0#32
  let c16_i32_105 : BitVec 32 := 16#32
  let v120 : BitVec 32 := Scalar.muli c0_i32 c16_i32_105
  let c15_i32 : BitVec 32 := 15#32
  let v121 : BitVec 32 := Scalar.addi v120 c15_i32
  let v5271 : BitVec 32 := Scalar.addi v5270 v121
  let c4_i32_3255 : BitVec 32 := 4#32
  let v5272 : BitVec 32 := Scalar.subi v5271 c4_i32_3255
  let v5273 : BitVec 32 := Scalar.maxsi c0_i32_3256 v5272
  let v5274 : BitVec 32 := Scalar.minsi c120_i32_3257 v5273
  let c64_i32_3260 : BitVec 32 := 64#32
  let v5279 : BitVec 32 := Scalar.muli v5274 c64_i32_3260
  v5279
def k0_mult123 : BitVec 32 :=
  let c0_i32 : BitVec 32 := 0#32
  let c16_i32_106 : BitVec 32 := 16#32
  let v122 : BitVec 32 := Scalar.muli c0_i32 c16_i32_106
  let c15_i32_107 : BitVec 32 := 15#32
  let v123 : BitVec 32 := Scalar.addi v122 c15_i32_107
  let c64_i32_3312 : BitVec 32 := 64#32
  let v5364 : BitVec 32 := Scalar.muli v123 c64_i32_3312
  v5364
def k0_mult124 (i : grid0.Coords) : BitVec 32 :=
  let c120_i32_3310 : BitVec 32 := 120#32
  let c0_i32_3309 : BitVec 32 := 0#32
  let arg1 : BitVec 32 := BitVec.ofNat 32 (i 1).val
  let c16_i32_3307 : BitVec 32 := 16#32
  let v5357 : BitVec 32 := Scalar.muli arg1 c16_i32_3307
  let c0_i32 : BitVec 32 := 0#32
  let c16_i32_106 : BitVec 32 := 16#32
  let v122 : BitVec 32 := Scalar.muli c0_i32 c16_i32_106
  let c15_i32_107 : BitVec 32 := 15#32
  let v123 : BitVec 32 := Scalar.addi v122 c15_i32_107
  let v5358 : BitVec 32 := Scalar.addi v5357 v123
  let c4_i32_3308 : BitVec 32 := 4#32
  let v5359 : BitVec 32 := Scalar.subi v5358 c4_i32_3308
  let v5360 : BitVec 32 := Scalar.maxsi c0_i32_3309 v5359
  let v5361 : BitVec 32 := Scalar.minsi c120_i32_3310 v5360
  let c64_i32_3313 : BitVec 32 := 64#32
  let v5366 : BitVec 32 := Scalar.muli v5361 c64_i32_3313
  v5366
def k0_mult125 : BitVec 32 :=
  let c0_i32 : BitVec 32 := 0#32
  let c16_i32_108 : BitVec 32 := 16#32
  let v124 : BitVec 32 := Scalar.muli c0_i32 c16_i32_108
  let c15_i32_109 : BitVec 32 := 15#32
  let v125 : BitVec 32 := Scalar.addi v124 c15_i32_109
  let c64_i32_3365 : BitVec 32 := 64#32
  let v5451 : BitVec 32 := Scalar.muli v125 c64_i32_3365
  v5451
def k0_mult126 (i : grid0.Coords) : BitVec 32 :=
  let c120_i32_3363 : BitVec 32 := 120#32
  let c0_i32_3362 : BitVec 32 := 0#32
  let arg1 : BitVec 32 := BitVec.ofNat 32 (i 1).val
  let c16_i32_3360 : BitVec 32 := 16#32
  let v5444 : BitVec 32 := Scalar.muli arg1 c16_i32_3360
  let c0_i32 : BitVec 32 := 0#32
  let c16_i32_108 : BitVec 32 := 16#32
  let v124 : BitVec 32 := Scalar.muli c0_i32 c16_i32_108
  let c15_i32_109 : BitVec 32 := 15#32
  let v125 : BitVec 32 := Scalar.addi v124 c15_i32_109
  let v5445 : BitVec 32 := Scalar.addi v5444 v125
  let c4_i32_3361 : BitVec 32 := 4#32
  let v5446 : BitVec 32 := Scalar.subi v5445 c4_i32_3361
  let v5447 : BitVec 32 := Scalar.maxsi c0_i32_3362 v5446
  let v5448 : BitVec 32 := Scalar.minsi c120_i32_3363 v5447
  let c64_i32_3366 : BitVec 32 := 64#32
  let v5453 : BitVec 32 := Scalar.muli v5448 c64_i32_3366
  v5453
def k0_mult127 : BitVec 32 :=
  let c0_i32 : BitVec 32 := 0#32
  let c16_i32_110 : BitVec 32 := 16#32
  let v126 : BitVec 32 := Scalar.muli c0_i32 c16_i32_110
  let c15_i32_111 : BitVec 32 := 15#32
  let v127 : BitVec 32 := Scalar.addi v126 c15_i32_111
  let c64_i32_3418 : BitVec 32 := 64#32
  let v5538 : BitVec 32 := Scalar.muli v127 c64_i32_3418
  v5538
def k0_mult128 (i : grid0.Coords) : BitVec 32 :=
  let c120_i32_3416 : BitVec 32 := 120#32
  let c0_i32_3415 : BitVec 32 := 0#32
  let arg1 : BitVec 32 := BitVec.ofNat 32 (i 1).val
  let c16_i32_3413 : BitVec 32 := 16#32
  let v5531 : BitVec 32 := Scalar.muli arg1 c16_i32_3413
  let c0_i32 : BitVec 32 := 0#32
  let c16_i32_110 : BitVec 32 := 16#32
  let v126 : BitVec 32 := Scalar.muli c0_i32 c16_i32_110
  let c15_i32_111 : BitVec 32 := 15#32
  let v127 : BitVec 32 := Scalar.addi v126 c15_i32_111
  let v5532 : BitVec 32 := Scalar.addi v5531 v127
  let c4_i32_3414 : BitVec 32 := 4#32
  let v5533 : BitVec 32 := Scalar.subi v5532 c4_i32_3414
  let v5534 : BitVec 32 := Scalar.maxsi c0_i32_3415 v5533
  let v5535 : BitVec 32 := Scalar.minsi c120_i32_3416 v5534
  let c64_i32_3419 : BitVec 32 := 64#32
  let v5540 : BitVec 32 := Scalar.muli v5535 c64_i32_3419
  v5540
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, c0_i32_2.toNat, c0_i32_3.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8192x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x4x14x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S4x8192x1536 : Shape := ⟨3, ![4, 8192, 1536]⟩
abbrev S4x256x1536 : Shape := ⟨3, ![4, 256, 1536]⟩
abbrev S4x8x15x31 : Shape := ⟨4, ![4, 8, 15, 31]⟩
abbrev S4x8192x512 : Shape := ⟨3, ![4, 8192, 512]⟩
abbrev S4x8192x8x64 : Shape := ⟨4, ![4, 8192, 8, 64]⟩
abbrev S_ : Shape := ⟨0, ![]⟩
abbrev S4x256x512 : Shape := ⟨3, ![4, 256, 512]⟩
abbrev S4x256x8x64 : Shape := ⟨4, ![4, 256, 8, 64]⟩
abbrev S4x128x64x8x64 : Shape := ⟨5, ![4, 128, 64, 8, 64]⟩
abbrev S128 : Shape := ⟨1, ![128]⟩
abbrev S64 : Shape := ⟨1, ![64]⟩
abbrev S128x1 : Shape := ⟨2, ![128, 1]⟩
abbrev S8 : Shape := ⟨1, ![8]⟩
abbrev S1x8 : Shape := ⟨2, ![1, 8]⟩
abbrev S128x8 : Shape := ⟨2, ![128, 8]⟩
abbrev S64x1 : Shape := ⟨2, ![64, 1]⟩
abbrev S16 : Shape := ⟨1, ![16]⟩
abbrev S1x16 : Shape := ⟨2, ![1, 16]⟩
abbrev S64x16 : Shape := ⟨2, ![64, 16]⟩
abbrev S128x8x1 : Shape := ⟨3, ![128, 8, 1]⟩
abbrev S4x128x8x64x8x64 : Shape := ⟨6, ![4, 128, 8, 64, 8, 64]⟩
abbrev S64x16x1 : Shape := ⟨3, ![64, 16, 1]⟩
abbrev S4x128x8x64x16x8x64 : Shape := ⟨7, ![4, 128, 8, 64, 16, 8, 64]⟩
abbrev S1x8x15x31 : Shape := ⟨4, ![1, 8, 15, 31]⟩
abbrev S8x15x31 : Shape := ⟨3, ![8, 15, 31]⟩
abbrev S8x15x64x16 : Shape := ⟨4, ![8, 15, 64, 16]⟩
abbrev S8x128x8x64x16 : Shape := ⟨5, ![8, 128, 8, 64, 16]⟩
abbrev S4x8x128x64x8x16 : Shape := ⟨6, ![4, 8, 128, 64, 8, 16]⟩
abbrev S8x128x64x8x16 : Shape := ⟨5, ![8, 128, 64, 8, 16]⟩
abbrev S1x8x128x64x8x16 : Shape := ⟨6, ![1, 8, 128, 64, 8, 16]⟩
abbrev S4x8x128x64x256 : Shape := ⟨5, ![4, 8, 128, 64, 256]⟩
abbrev S4x8x128x64x128 : Shape := ⟨5, ![4, 8, 128, 64, 128]⟩
abbrev S4x8x128x64x384 : Shape := ⟨5, ![4, 8, 128, 64, 384]⟩
abbrev S4x8x128x64 : Shape := ⟨4, ![4, 8, 128, 64]⟩
abbrev S4x8x128x64x1 : Shape := ⟨5, ![4, 8, 128, 64, 1]⟩
abbrev S4x8x64x128x64 : Shape := ⟨5, ![4, 8, 64, 128, 64]⟩

abbrev nBuf : Space → Nat
  | .hbm => 168
  | .vmem => 0
  | .smem => 0
  | _ => 0

abbrev hbmTy0_0 (i : Nat) : BufTy := match i % 128 with
  | 0 => ⟨S4x8192x1536, .bf16⟩
  | 1 => ⟨S4x256x1536, .bf16⟩
  | 2 => ⟨S4x8x15x31, .f32⟩
  | 3 => ⟨S4x8192x512, .bf16⟩
  | 4 => ⟨S4x8192x512, .f32⟩
  | 5 => ⟨S4x8192x8x64, .f32⟩
  | 6 => ⟨S_, .f32⟩
  | 7 => ⟨S_, .f32⟩
  | 8 => ⟨S_, .f32⟩
  | 9 => ⟨S_, .f32⟩
  | 10 => ⟨S4x8192x8x64, .f32⟩
  | 11 => ⟨S4x8192x8x64, .f32⟩
  | 12 => ⟨S4x8192x512, .bf16⟩
  | 13 => ⟨S4x8192x512, .f32⟩
  | 14 => ⟨S4x8192x8x64, .f32⟩
  | 15 => ⟨S4x8192x512, .bf16⟩
  | 16 => ⟨S4x8192x512, .f32⟩
  | 17 => ⟨S4x8192x8x64, .f32⟩
  | 18 => ⟨S4x256x512, .bf16⟩
  | 19 => ⟨S4x256x512, .f32⟩
  | 20 => ⟨S4x256x8x64, .f32⟩
  | 21 => ⟨S4x256x512, .bf16⟩
  | 22 => ⟨S4x256x512, .f32⟩
  | 23 => ⟨S4x256x8x64, .f32⟩
  | 24 => ⟨S4x128x64x8x64, .f32⟩
  | 25 => ⟨S4x128x64x8x64, .f32⟩
  | 26 => ⟨S4x128x64x8x64, .f32⟩
  | 27 => ⟨S128, .i32⟩
  | 28 => ⟨S64, .i32⟩
  | 29 => ⟨S_, .i32⟩
  | 30 => ⟨S128, .i32⟩
  | 31 => ⟨S128, .i32⟩
  | 32 => ⟨S_, .i32⟩
  | 33 => ⟨S_, .i32⟩
  | 34 => ⟨S_, .i32⟩
  | 35 => ⟨S128, .i32⟩
  | 36 => ⟨S128, .i32⟩
  | 37 => ⟨S_, .i32⟩
  | 38 => ⟨S128, .i32⟩
  | 39 => ⟨S128, .i32⟩
  | 40 => ⟨S128x1, .i32⟩
  | 41 => ⟨S8, .i32⟩
  | 42 => ⟨S1x8, .i32⟩
  | 43 => ⟨S128x8, .i32⟩
  | 44 => ⟨S128x8, .i32⟩
  | 45 => ⟨S128x8, .i32⟩
  | 46 => ⟨S_, .i32⟩
  | 47 => ⟨S64, .i32⟩
  | 48 => ⟨S64, .i32⟩
  | 49 => ⟨S_, .i32⟩
  | 50 => ⟨S_, .i32⟩
  | 51 => ⟨S_, .i32⟩
  | 52 => ⟨S64, .i32⟩
  | 53 => ⟨S64, .i32⟩
  | 54 => ⟨S_, .i32⟩
  | 55 => ⟨S64, .i32⟩
  | 56 => ⟨S64, .i32⟩
  | 57 => ⟨S64x1, .i32⟩
  | 58 => ⟨S16, .i32⟩
  | 59 => ⟨S1x16, .i32⟩
  | 60 => ⟨S64x16, .i32⟩
  | 61 => ⟨S64x16, .i32⟩
  | 62 => ⟨S64x16, .i32⟩
  | 63 => ⟨S128x1, .i32⟩
  | 64 => ⟨S128x8, .i32⟩
  | 65 => ⟨S128x8, .i32⟩
  | 66 => ⟨S_, .i32⟩
  | 67 => ⟨S128x8, .i32⟩
  | 68 => ⟨S128x8, .i32⟩
  | 69 => ⟨S64x1, .i32⟩
  | 70 => ⟨S64x16, .i32⟩
  | 71 => ⟨S64x16, .i32⟩
  | 72 => ⟨S_, .i32⟩
  | 73 => ⟨S64x16, .i32⟩
  | 74 => ⟨S64x16, .i32⟩
  | 75 => ⟨S_, .i32⟩
  | 76 => ⟨S128x8, .i32⟩
  | 77 => ⟨S128x8, .i1⟩
  | 78 => ⟨S_, .i32⟩
  | 79 => ⟨S128x8, .i32⟩
  | 80 => ⟨S128x8, .i32⟩
  | 81 => ⟨S128x8, .i32⟩
  | 82 => ⟨S128x8x1, .i32⟩
  | 83 => ⟨S4x128x8x64x8x64, .f32⟩
  | 84 => ⟨S_, .i32⟩
  | 85 => ⟨S64x16, .i32⟩
  | 86 => ⟨S64x16, .i1⟩
  | 87 => ⟨S_, .i32⟩
  | 88 => ⟨S64x16, .i32⟩
  | 89 => ⟨S64x16, .i32⟩
  | 90 => ⟨S64x16, .i32⟩
  | 91 => ⟨S64x16x1, .i32⟩
  | 92 => ⟨S4x128x8x64x16x8x64, .f32⟩
  | 93 => ⟨S_, .i32⟩
  | 94 => ⟨S128x8, .i32⟩
  | 95 => ⟨S128x8, .i1⟩
  | 96 => ⟨S_, .i32⟩
  | 97 => ⟨S128x8, .i32⟩
  | 98 => ⟨S128x8, .i32⟩
  | 99 => ⟨S128x8, .i32⟩
  | 100 => ⟨S128x8x1, .i32⟩
  | 101 => ⟨S4x128x8x64x8x64, .f32⟩
  | 102 => ⟨S_, .i32⟩
  | 103 => ⟨S64x16, .i32⟩
  | 104 => ⟨S64x16, .i1⟩
  | 105 => ⟨S_, .i32⟩
  | 106 => ⟨S64x16, .i32⟩
  | 107 => ⟨S64x16, .i32⟩
  | 108 => ⟨S64x16, .i32⟩
  | 109 => ⟨S64x16x1, .i32⟩
  | 110 => ⟨S4x128x8x64x16x8x64, .f32⟩
  | 111 => ⟨S1x8x15x31, .f32⟩
  | 112 => ⟨S8x15x31, .f32⟩
  | 113 => ⟨S_, .i32⟩
  | 114 => ⟨S64x16, .i32⟩
  | 115 => ⟨S64x16, .i1⟩
  | 116 => ⟨S_, .i32⟩
  | 117 => ⟨S64x16, .i32⟩
  | 118 => ⟨S64x16, .i32⟩
  | 119 => ⟨S64x16, .i32⟩
  | 120 => ⟨S64x16x1, .i32⟩
  | 121 => ⟨S8x15x64x16, .f32⟩
  | 122 => ⟨S_, .i32⟩
  | 123 => ⟨S128x8, .i32⟩
  | 124 => ⟨S128x8, .i1⟩
  | 125 => ⟨S_, .i32⟩
  | 126 => ⟨S128x8, .i32⟩
  | 127 => ⟨S128x8, .i32⟩
  | _ => ⟨S4x8192x1536, .bf16⟩

abbrev hbmTy0_1 (i : Nat) : BufTy := match i % 128 with
  | 0 => ⟨S128x8, .i32⟩
  | 1 => ⟨S128x8x1, .i32⟩
  | 2 => ⟨S8x128x8x64x16, .f32⟩
  | 3 => ⟨S4x8x128x64x8x16, .f32⟩
  | 4 => ⟨S_, .f32⟩
  | 5 => ⟨S4x8x128x64x8x16, .f32⟩
  | 6 => ⟨S4x8x128x64x8x16, .f32⟩
  | 7 => ⟨S8x128x64x8x16, .f32⟩
  | 8 => ⟨S1x8x128x64x8x16, .f32⟩
  | 9 => ⟨S4x8x128x64x8x16, .f32⟩
  | 10 => ⟨S4x8x128x64x8x16, .f32⟩
  | 11 => ⟨S4x8x128x64x256, .f32⟩
  | 12 => ⟨S_, .f32⟩
  | 13 => ⟨S4x8x128x64x256, .f32⟩
  | 14 => ⟨S4x8x128x64x256, .f32⟩
  | 15 => ⟨S4x8x128x64x128, .f32⟩
  | 16 => ⟨S4x8x128x64x384, .f32⟩
  | 17 => ⟨S_, .f32⟩
  | 18 => ⟨S4x8x128x64, .f32⟩
  | 19 => ⟨S_, .f32⟩
  | 20 => ⟨S4x8x128x64, .f32⟩
  | 21 => ⟨S4x8x128x64, .f32⟩
  | 22 => ⟨S4x8x128x64x1, .f32⟩
  | 23 => ⟨S4x8x128x64x384, .f32⟩
  | 24 => ⟨S4x8x128x64x384, .f32⟩
  | 25 => ⟨S4x8x128x64x384, .f32⟩
  | 26 => ⟨S_, .f32⟩
  | 27 => ⟨S4x8x128x64, .f32⟩
  | 28 => ⟨S4x8x128x64x1, .f32⟩
  | 29 => ⟨S4x8x128x64x384, .f32⟩
  | 30 => ⟨S4x8x128x64x384, .f32⟩
  | 31 => ⟨S4x8x128x64x128, .f32⟩
  | 32 => ⟨S4x8x128x64x8x16, .f32⟩
  | 33 => ⟨S4x8x128x64x256, .f32⟩
  | 34 => ⟨S4x128x64x8x64, .f32⟩
  | 35 => ⟨S4x8x64x128x64, .f32⟩
  | 36 => ⟨S4x128x64x8x64, .f32⟩
  | 37 => ⟨S4x128x64x8x64, .f32⟩
  | 38 => ⟨S4x8192x512, .f32⟩
  | 39 => ⟨S4x8192x512, .bf16⟩
  | _ => ⟨S4x8192x1536, .bf16⟩

abbrev hbmTy (i : Nat) : BufTy := match i / 128 with
  | 0 => hbmTy0_0 i
  | 1 => hbmTy0_1 i
  | _ => ⟨S4x8192x1536, .bf16⟩

abbrev bufTy : (tb : Table) → Fin (tcTables nBuf tb) → BufTy
  | .hbm, ⟨i, _⟩ => hbmTy i
  | _, _ => ⟨S4x8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_c : Ref sig .tc := ⟨.hbm, 29, rfl⟩
abbrev main_v24 : Ref sig .tc := ⟨.hbm, 30, rfl⟩
abbrev main_v25 : Ref sig .tc := ⟨.hbm, 31, rfl⟩
abbrev main_c_1 : Ref sig .tc := ⟨.hbm, 32, rfl⟩
abbrev main_c_2 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_3 : Ref sig .tc := ⟨.hbm, 46, rfl⟩
abbrev main_v33 : Ref sig .tc := ⟨.hbm, 47, rfl⟩
abbrev main_v34 : Ref sig .tc := ⟨.hbm, 48, rfl⟩
abbrev main_c_4 : Ref sig .tc := ⟨.hbm, 49, rfl⟩
abbrev main_c_5 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_c_6 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_c_7 : Ref sig .tc := ⟨.hbm, 72, rfl⟩
abbrev main_v50 : Ref sig .tc := ⟨.hbm, 73, rfl⟩
abbrev main_v51 : Ref sig .tc := ⟨.hbm, 74, rfl⟩
abbrev main_c_8 : Ref sig .tc := ⟨.hbm, 75, rfl⟩
abbrev main_v52 : Ref sig .tc := ⟨.hbm, 76, rfl⟩
abbrev main_v53 : Ref sig .tc := ⟨.hbm, 77, rfl⟩
abbrev main_c_9 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_c_10 : Ref sig .tc := ⟨.hbm, 84, rfl⟩
abbrev main_v59 : Ref sig .tc := ⟨.hbm, 85, rfl⟩
abbrev main_v60 : Ref sig .tc := ⟨.hbm, 86, rfl⟩
abbrev main_c_11 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_c_12 : Ref sig .tc := ⟨.hbm, 93, rfl⟩
abbrev main_v66 : Ref sig .tc := ⟨.hbm, 94, rfl⟩
abbrev main_v67 : Ref sig .tc := ⟨.hbm, 95, rfl⟩
abbrev main_c_13 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_c_14 : Ref sig .tc := ⟨.hbm, 102, rfl⟩
abbrev main_v73 : Ref sig .tc := ⟨.hbm, 103, rfl⟩
abbrev main_v74 : Ref sig .tc := ⟨.hbm, 104, rfl⟩
abbrev main_c_15 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_c_16 : Ref sig .tc := ⟨.hbm, 113, rfl⟩
abbrev main_v82 : Ref sig .tc := ⟨.hbm, 114, rfl⟩
abbrev main_v83 : Ref sig .tc := ⟨.hbm, 115, rfl⟩
abbrev main_c_17 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_c_18 : Ref sig .tc := ⟨.hbm, 122, rfl⟩
abbrev main_v89 : Ref sig .tc := ⟨.hbm, 123, rfl⟩
abbrev main_v90 : Ref sig .tc := ⟨.hbm, 124, rfl⟩
abbrev main_c_19 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_cst_20 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_cst_21 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_cst_22 : Ref sig .tc := ⟨.hbm, 145, rfl⟩
abbrev main_v108 : Ref sig .tc := ⟨.hbm, 146, rfl⟩
abbrev main_cst_23 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_cst_24 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩

abbrev nD : Nat := 1
abbrev τ : Topo := Topo.v7x

variable {F : FTy → Type} [FloatOps F]
-- ==== Kernel2.lean ====
abbrev S4x8192x1024 : Shape := ⟨3, ![4, 8192, 1024]⟩
abbrev S4x1024 : Shape := ⟨2, ![4, 1024]⟩
abbrev S4x8x6144 : Shape := ⟨3, ![4, 8, 6144]⟩
abbrev S4x1024x4096 : Shape := ⟨3, ![4, 1024, 4096]⟩
abbrev S4x4096x1024 : Shape := ⟨3, ![4, 4096, 1024]⟩
abbrev S1024 : Shape := ⟨1, ![1024]⟩
abbrev S4x1x1024 : Shape := ⟨3, ![4, 1, 1024]⟩
abbrev S1x32768x1024 : Shape := ⟨3, ![1, 32768, 1024]⟩
abbrev S1x1024 : Shape := ⟨2, ![1, 1024]⟩
abbrev S1x512x1024 : Shape := ⟨3, ![1, 512, 1024]⟩
abbrev S1x1x1024 : Shape := ⟨3, ![1, 1, 1024]⟩
abbrev S1x8x1024 : Shape := ⟨3, ![1, 8, 1024]⟩
abbrev S1x1024x4096 : Shape := ⟨3, ![1, 1024, 4096]⟩
abbrev S1x4096x1024 : Shape := ⟨3, ![1, 4096, 1024]⟩
abbrev S512x1024 : Shape := ⟨2, ![512, 1024]⟩
abbrev S512 : Shape := ⟨1, ![512]⟩
abbrev S512x1 : Shape := ⟨2, ![512, 1]⟩
abbrev S1x1024x1024 : Shape := ⟨3, ![1, 1024, 1024]⟩
abbrev S1024x1024 : Shape := ⟨2, ![1024, 1024]⟩

abbrev nBuf : Space → Nat
  | .hbm => 12
  | .vmem => 15
  | .smem => 0
  | _ => 0

abbrev bufTy : (tb : Table) → Fin (tcTables nBuf tb) → BufTy
  | .hbm, ⟨0, _⟩ => ⟨S4x8192x1024, .f32⟩
  | .hbm, ⟨1, _⟩ => ⟨S4x1024, .f32⟩
  | .hbm, ⟨2, _⟩ => ⟨S4x8x6144, .f32⟩
  | .hbm, ⟨3, _⟩ => ⟨S4x1024x4096, .f32⟩
  | .hbm, ⟨4, _⟩ => ⟨S4x4096x1024, .f32⟩
  | .hbm, ⟨5, _⟩ => ⟨S1024, .f32⟩
  | .hbm, ⟨6, _⟩ => ⟨S4x1x1024, .f32⟩
  | .hbm, ⟨7, _⟩ => ⟨S4x1024x4096, .bf16⟩
  | .hbm, ⟨8, _⟩ => ⟨S4x4096x1024, .bf16⟩
  | .hbm, ⟨9, _⟩ => ⟨S1x32768x1024, .f32⟩
  | .hbm, ⟨10, _⟩ => ⟨S1x1024, .f32⟩
  | .hbm, ⟨11, _⟩ => ⟨S1x32768x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | .local _ .vmem, ⟨7, _⟩ => ⟨S1x8x1024, .f32⟩
  | .local _ .vmem, ⟨8, _⟩ => ⟨S1x1024x4096, .bf16⟩
  | .local _ .vmem, ⟨9, _⟩ => ⟨S1x4096x1024, .bf16⟩
  | .local _ .vmem, ⟨10, _⟩ => ⟨S1x1024, .f32⟩
  | .local _ .vmem, ⟨11, _⟩ => ⟨S1x512x1024, .f32⟩
  | .local _ .vmem, ⟨12, _⟩ => ⟨S1x512x1024, .f32⟩
  | .local _ .vmem, ⟨13, _⟩ => ⟨S512x1024, .bf16⟩
  | .local _ .vmem, ⟨14, _⟩ => ⟨S512x1024, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v14 : BitVec 32 := Scalar.extui v13
  let c0_i32_6 : BitVec 32 := 0#32
  let v15 : BitVec 1 := Scalar.cmpi .ne v14 c0_i32_6
  v15

def k0_off1 (i : grid0.Coords) : Fin 3 → Nat :=
  let c0_32 : Index := 0#32
  let arg0 : BitVec 32 := BitVec.ofNat 32 (i 0).val
  let c1_i32_19 : BitVec 32 := 1#32
  let v33 : BitVec 32 := Scalar.addi arg0 c1_i32_19
  let c63_i32 : BitVec 32 := 63#32
  let v34 : BitVec 32 := Scalar.minsi v33 c63_i32
  let c0_i32_20 : BitVec 32 := 0#32
  let v36 : BitVec 1 := Scalar.cmpi .sgt v34 c0_i32_20
  let v37 : BitVec 32 := Scalar.extui v36
  let c0_i32_21 : BitVec 32 := 0#32
  let v38 : BitVec 1 := Scalar.cmpi .slt v34 c0_i32_21
  let v39 : BitVec 32 := Scalar.extui v38
  let v40 : BitVec 32 := Scalar.subi v37 v39
  let c16_i32 : BitVec 32 := 16#32
  let c0_i32_22 : BitVec 32 := 0#32
  let v41 : BitVec 1 := Scalar.cmpi .sgt c16_i32 c0_i32_22
  let v42 : BitVec 32 := Scalar.extui v41
  let c0_i32_23 : BitVec 32 := 0#32
  let v43 : BitVec 1 := Scalar.cmpi .slt c16_i32 c0_i32_23
  let v44 : BitVec 32 := Scalar.extui v43
  let v45 : BitVec 32 := Scalar.subi v42 v44
  let v46 : BitVec 1 := Scalar.cmpi .ne v40 v45
  let v47 : BitVec 32 := Scalar.remsi v34 c16_i32
  let c0_i32_24 : BitVec 32 := 0#32
  let v48 : BitVec 1 := Scalar.cmpi .ne v47 c0_i32_24
  let v49 : BitVec 1 := Scalar.andi v46 v48
  let v35 : BitVec 32 := Scalar.divsi v34 c16_i32
  let c1_i32_25 : BitVec 32 := 1#32
  let v50 : BitVec 32 := Scalar.subi v35 c1_i32_25
  let v51 : BitVec 32 := Scalar.select v49 v50 v35
  let v56 : Index := Scalar.indexCast v51
  let c0_33 : Index := 0#32
  ![0, v56.toNat, 0]
def k0_off2 (i : grid0.Coords) : Fin 3 → Nat :=
  let c0_87 : Index := 0#32
  let arg0 : BitVec 32 := BitVec.ofNat 32 (i 0).val
  let c0_i32_78 : BitVec 32 := 0#32
  let v128 : BitVec 1 := Scalar.cmpi .sgt arg0 c0_i32_78
  let v129 : BitVec 32 := Scalar.extui v128
  let c0_i32_79 : BitVec 32 := 0#32
  let v130 : BitVec 1 := Scalar.cmpi .slt arg0 c0_i32_79
  let v131 : BitVec 32 := Scalar.extui v130
  let v132 : BitVec 32 := Scalar.subi v129 v131
  let c16_i32_77 : BitVec 32 := 16#32
  let c0_i32_80 : BitVec 32 := 0#32
  let v133 : BitVec 1 := Scalar.cmpi .sgt c16_i32_77 c0_i32_80
  let v134 : BitVec 32 := Scalar.extui v133
  let c0_i32_81 : BitVec 32 := 0#32
  let v135 : BitVec 1 := Scalar.cmpi .slt c16_i32_77 c0_i32_81
  let v136 : BitVec 32 := Scalar.extui v135
  let v137 : BitVec 32 := Scalar.subi v134 v136
  let v138 : BitVec 1 := Scalar.cmpi .ne v132 v137
  let v139 : BitVec 32 := Scalar.remsi arg0 c16_i32_77
  let c0_i32_82 : BitVec 32 := 0#32
  let v140 : BitVec 1 := Scalar.cmpi .ne v139 c0_i32_82
  let v141 : BitVec 1 := Scalar.andi v138 v140
  let v127 : BitVec 32 := Scalar.divsi arg0 c16_i32_77
  let c1_i32_83 : BitVec 32 := 1#32
  let v142 : BitVec 32 := Scalar.subi v127 c1_i32_83
  let v143 : BitVec 32 := Scalar.select v141 v142 v127
  let v146 : Index := Scalar.indexCast v143
  let c0_88 : Index := 0#32
  ![0, v146.toNat, 0]
def k0_cond3 (i : grid0.Coords) : BitVec 1 :=
  let arg0 : BitVec 32 := BitVec.ofNat 32 (i 0).val
  let c2_i32_7 : BitVec 32 := 2#32
  let c0_i32_8 : BitVec 32 := 0#32
  let v16 : BitVec 1 := Scalar.cmpi .eq c2_i32_7 c0_i32_8
  let c1_i32_9 : BitVec 32 := 1#32
  let v17 : BitVec 32 := Scalar.select v16 c1_i32_9 c2_i32_7
  let v18 : BitVec 32 := Scalar.remsi arg0 v17
  let c0_i32_11 : BitVec 32 := 0#32
  let v20 : BitVec 1 := Scalar.cmpi .slt v18 c0_i32_11
  let c0_i32_12 : BitVec 32 := 0#32
  let v21 : BitVec 1 := Scalar.cmpi .slt v17 c0_i32_12
  let v22 : BitVec 1 := Scalar.xori v20 v21
  let c0_i32_10 : BitVec 32 := 0#32
  let v19 : BitVec 1 := Scalar.cmpi .ne v18 c0_i32_10
  let v23 : BitVec 1 := Scalar.andi v22 v19
  let v24 : BitVec 32 := Scalar.addi v18 v17
  let v25 : BitVec 32 := Scalar.select v23 v24 v18
  let c1_i32_13 : BitVec 32 := 1#32
  let v26 : BitVec 1 := Scalar.cmpi .eq v25 c1_i32_13
  let v27 : BitVec 32 := Scalar.extui v26
  let c0_i32_14 : BitVec 32 := 0#32
  let v28 : BitVec 1 := Scalar.cmpi .ne v27 c0_i32_14
  v28

def k0_off3 (i : grid0.Coords) : Fin 3 → Nat :=
  let c0_32 : Index := 0#32
  let arg0 : BitVec 32 := BitVec.ofNat 32 (i 0).val
  let c1_i32_19 : BitVec 32 := 1#32
  let v33 : BitVec 32 := Scalar.addi arg0 c1_i32_19
  let c63_i32 : BitVec 32 := 63#32
  let v34 : BitVec 32 := Scalar.minsi v33 c63_i32
  let c0_i32_20 : BitVec 32 := 0#32
  let v36 : BitVec 1 := Scalar.cmpi .sgt v34 c0_i32_20
  let v37 : BitVec 32 := Scalar.extui v36
  let c0_i32_21 : BitVec 32 := 0#32
  let v38 : BitVec 1 := Scalar.cmpi .slt v34 c0_i32_21
  let v39 : BitVec 32 := Scalar.extui v38
  let v40 : BitVec 32 := Scalar.subi v37 v39
  let c16_i32 : BitVec 32 := 16#32
  let c0_i32_22 : BitVec 32 := 0#32
  let v41 : BitVec 1 := Scalar.cmpi .sgt c16_i32 c0_i32_22
  let v42 : BitVec 32 := Scalar.extui v41
  let c0_i32_23 : BitVec 32 := 0#32
  let v43 : BitVec 1 := Scalar.cmpi .slt c16_i32 c0_i32_23
  let v44 : BitVec 32 := Scalar.extui v43
  let v45 : BitVec 32 := Scalar.subi v42 v44
  let v46 : BitVec 1 := Scalar.cmpi .ne v40 v45
  let v47 : BitVec 32 := Scalar.remsi v34 c16_i32
  let c0_i32_24 : BitVec 32 := 0#32
  let v48 : BitVec 1 := Scalar.cmpi .ne v47 c0_i32_24
  let v49 : BitVec 1 := Scalar.andi v46 v48
  let v35 : BitVec 32 := Scalar.divsi v34 c16_i32
  let c1_i32_25 : BitVec 32 := 1#32
  let v50 : BitVec 32 := Scalar.subi v35 c1_i32_25
  let v51 : BitVec 32 := Scalar.select v49 v50 v35
  let v56 : Index := Scalar.indexCast v51
  let c0_33 : Index := 0#32
  ![0, v56.toNat, 0]
def k0_off4 (i : grid0.Coords) : Fin 3 → Nat :=
  let c0_87 : Index := 0#32
  let arg0 : BitVec 32 := BitVec.ofNat 32 (i 0).val
  let c0_i32_78 : BitVec 32 := 0#32
  let v128 : BitVec 1 := Scalar.cmpi .sgt arg0 c0_i32_78
  let v129 : BitVec 32 := Scalar.extui v128
  let c0_i32_79 : BitVec 32 := 0#32
  let v130 : BitVec 1 := Scalar.cmpi .slt arg0 c0_i32_79
  let v131 : BitVec 32 := Scalar.extui v130
  let v132 : BitVec 32 := Scalar.subi v129 v131
  let c16_i32_77 : BitVec 32 := 16#32
  let c0_i32_80 : BitVec 32 := 0#32
  let v133 : BitVec 1 := Scalar.cmpi .sgt c16_i32_77 c0_i32_80
  let v134 : BitVec 32 := Scalar.extui v133
  let c0_i32_81 : BitVec 32 := 0#32
  let v135 : BitVec 1 := Scalar.cmpi .slt c16_i32_77 c0_i32_81
  let v136 : BitVec 32 := Scalar.extui v135
  let v137 : BitVec 32 := Scalar.subi v134 v136
  let v138 : BitVec 1 := Scalar.cmpi .ne v132 v137
  let v139 : BitVec 32 := Scalar.remsi arg0 c16_i32_77
  let c0_i32_82 : BitVec 32 := 0#32
  let v140 : BitVec 1 := Scalar.cmpi .ne v139 c0_i32_82
  let v141 : BitVec 1 := Scalar.andi v138 v140
  let v127 : BitVec 32 := Scalar.divsi arg0 c16_i32_77
  let c1_i32_83 : BitVec 32 := 1#32
  let v142 : BitVec 32 := Scalar.subi v127 c1_i32_83
  let v143 : BitVec 32 := Scalar.select v141 v142 v127
  let v146 : Index := Scalar.indexCast v143
  let c0_88 : Index := 0#32
  ![0, v146.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let v0 : BitVec 32 := Scalar.addi arg0 c1_i32
  let c63_i32 : BitVec 32 := 63#32
  let v1 : BitVec 32 := Scalar.minsi v0 c63_i32
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 3 → Nat :=
  let arg0 : BitVec 32 := BitVec.ofNat 32 (i 0).val
  let c3_i32 : BitVec 32 := 3#32
  let c0_i32 : BitVec 32 := 0#32
  let c3_i32_0 : BitVec 32 := 3#32
  let c0_i32_1 : BitVec 32 := 0#32
  ![c3_i32.toNat, c0_i32.toNat, c3_i32_0.toNat]

def cc0_transform_4 (i : grid0.Coords) : Fin 3 → Nat :=
  let arg0 : BitVec 32 := BitVec.ofNat 32 (i 0).val
  let c3_i32 : BitVec 32 := 3#32
  let c0_i32 : BitVec 32 := 0#32
  let c4_i32 : BitVec 32 := 4#32
  let c0_i32_0 : BitVec 32 := 0#32
  ![c3_i32.toNat, c0_i32.toNat, c4_i32.toNat]

def cc0_transform_5 (i : grid0.Coords) : Fin 3 → Nat :=
  let arg0 : BitVec 32 := BitVec.ofNat 32 (i 0).val
  let c3_i32 : BitVec 32 := 3#32
  let c0_i32 : BitVec 32 := 0#32
  let c5_i32 : BitVec 32 := 5#32
  let c0_i32_0 : BitVec 32 := 0#32
  ![c3_i32.toNat, c0_i32.toNat, c5_i32.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S4x8192x1024 : Shape := ⟨3, ![4, 8192, 1024]⟩
abbrev S4x1024 : Shape := ⟨2, ![4, 1024]⟩
abbrev S4x8x6144 : Shape := ⟨3, ![4, 8, 6144]⟩
abbrev S4x1024x4096 : Shape := ⟨3, ![4, 1024, 4096]⟩
abbrev S4x4096x1024 : Shape := ⟨3, ![4, 4096, 1024]⟩
abbrev S1024 : Shape := ⟨1, ![1024]⟩
abbrev S1x4x1024 : Shape := ⟨3, ![1, 4, 1024]⟩
abbrev S4x1x1024 : Shape := ⟨3, ![4, 1, 1024]⟩
abbrev S1x1024 : Shape := ⟨2, ![1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S4x8192x4096 : Shape := ⟨3, ![4, 8192, 4096]⟩
abbrev S1x4096x1024 : Shape := ⟨3, ![1, 4096, 1024]⟩
abbrev S4096x1024 : Shape := ⟨2, ![4096, 1024]⟩
abbrev S1x32768x1024 : Shape := ⟨3, ![1, 32768, 1024]⟩

abbrev nBuf : Space → Nat
  | .hbm => 70
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x1024, .f32⟩
  | .hbm, ⟨2, _⟩ => ⟨S4x8x6144, .f32⟩
  | .hbm, ⟨3, _⟩ => ⟨S4x1024x4096, .f32⟩
  | .hbm, ⟨4, _⟩ => ⟨S4x4096x1024, .f32⟩
  | .hbm, ⟨5, _⟩ => ⟨S1024, .f32⟩
  | .hbm, ⟨6, _⟩ => ⟨S1x4x1024, .f32⟩
  | .hbm, ⟨7, _⟩ => ⟨S4x1024, .f32⟩
  | .hbm, ⟨8, _⟩ => ⟨S4x1x1024, .f32⟩
  | .hbm, ⟨9, _⟩ => ⟨S1x4x1024, .f32⟩
  | .hbm, ⟨10, _⟩ => ⟨S4x1024, .f32⟩
  | .hbm, ⟨11, _⟩ => ⟨S4x1x1024, .f32⟩
  | .hbm, ⟨12, _⟩ => ⟨S1x4x1024, .f32⟩
  | .hbm, ⟨13, _⟩ => ⟨S4x1024, .f32⟩
  | .hbm, ⟨14, _⟩ => ⟨S4x1x1024, .f32⟩
  | .hbm, ⟨15, _⟩ => ⟨S1x1024, .f32⟩
  | .hbm, ⟨16, _⟩ => ⟨S1024, .f32⟩
  | .hbm, ⟨17, _⟩ => ⟨S4x8192x1024, .f32⟩
  | .hbm, ⟨18, _⟩ => ⟨S_, .f32⟩
  | .hbm, ⟨19, _⟩ => ⟨S4x8192, .f32⟩
  | .hbm, ⟨20, _⟩ => ⟨S4x8192x1, .f32⟩
  | .hbm, ⟨21, _⟩ => ⟨S_, .f32⟩
  | .hbm, ⟨22, _⟩ => ⟨S4x8192x1, .f32⟩
  | .hbm, ⟨23, _⟩ => ⟨S4x8192x1, .f32⟩
  | .hbm, ⟨24, _⟩ => ⟨S_, .f32⟩
  | .hbm, ⟨25, _⟩ => ⟨S4x8192x1, .f32⟩
  | .hbm, ⟨26, _⟩ => ⟨S4x8192x1, .f32⟩
  | .hbm, ⟨27, _⟩ => ⟨S4x8192x1, .f32⟩
  | .hbm, ⟨28, _⟩ => ⟨S4x8192x1024, .f32⟩
  | .hbm, ⟨29, _⟩ => ⟨S4x8192x1024, .f32⟩
  | .hbm, ⟨30, _⟩ => ⟨S1x1x1024, .f32⟩
  | .hbm, ⟨31, _⟩ => ⟨S4x8192x1024, .f32⟩
  | .hbm, ⟨32, _⟩ => ⟨S4x8192x1024, .f32⟩
  | .hbm, ⟨33, _⟩ => ⟨S_, .f32⟩
  | .hbm, ⟨34, _⟩ => ⟨S4x1x1024, .f32⟩
  | .hbm, ⟨35, _⟩ => ⟨S4x1x1024, .f32⟩
  | .hbm, ⟨36, _⟩ => ⟨S4x8192x1024, .f32⟩
  | .hbm, ⟨37, _⟩ => ⟨S4x8192x1024, .f32⟩
  | .hbm, ⟨38, _⟩ => ⟨S4x8192x1024, .f32⟩
  | .hbm, ⟨39, _⟩ => ⟨S4x8192x1024, .f32⟩
  | .hbm, ⟨40, _⟩ => ⟨S1x1024x4096, .f32⟩
  | .hbm, ⟨41, _⟩ => ⟨S1024x4096, .f32⟩
  | .hbm, ⟨42, _⟩ => ⟨S4x8192x4096, .f32⟩
  | .hbm, ⟨43, _⟩ => ⟨S_, .f32⟩
  | .hbm, ⟨44, _⟩ => ⟨S4x8192x4096, .f32⟩
  | .hbm, ⟨45, _⟩ => ⟨S4x8192x4096, .f32⟩
  | .hbm, ⟨46, _⟩ => ⟨S4x8192x4096, .f32⟩
  | .hbm, ⟨47, _⟩ => ⟨S1x4096x1024, .f32⟩
  | .hbm, ⟨48, _⟩ => ⟨S4096x1024, .f32⟩
  | .hbm, ⟨49, _⟩ => ⟨S4x8192x1024, .f32⟩
  | .hbm, ⟨50, _⟩ => ⟨S4x8192x1024, .f32⟩
  | .hbm, ⟨51, _⟩ => ⟨S4x8192x1024, .f32⟩
  | .hbm, ⟨52, _⟩ => ⟨S4x8192x1024, .f32⟩
  | .hbm, ⟨53, _⟩ => ⟨S4x8192x1024, .f32⟩
  | .hbm, ⟨54, _⟩ => ⟨S_, .f32⟩
  | .hbm, ⟨55, _⟩ => ⟨S4x8192, .f32⟩
  | .hbm, ⟨56, _⟩ => ⟨S4x8192x1, .f32⟩
  | .hbm, ⟨57, _⟩ => ⟨S_, .f32⟩
  | .hbm, ⟨58, _⟩ => ⟨S4x8192x1, .f32⟩
  | .hbm, ⟨59, _⟩ => ⟨S4x8192x1, .f32⟩
  | .hbm, ⟨60, _⟩ => ⟨S_, .f32⟩
  | .hbm, ⟨61, _⟩ => ⟨S4x8192x1, .f32⟩
  | .hbm, ⟨62, _⟩ => ⟨S4x8192x1, .f32⟩
  | .hbm, ⟨63, _⟩ => ⟨S4x8192x1, .f32⟩
  | .hbm, ⟨64, _⟩ => ⟨S4x8192x1024, .f32⟩
  | .hbm, ⟨65, _⟩ => ⟨S4x8192x1024, .f32⟩
  | .hbm, ⟨66, _⟩ => ⟨S1x1x1024, .f32⟩
  | .hbm, ⟨67, _⟩ => ⟨S4x8192x1024, .f32⟩
  | .hbm, ⟨68, _⟩ => ⟨S4x8192x1024, .f32⟩
  | .hbm, ⟨69, _⟩ => ⟨S1x32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_call0_cst : Ref sig .tc := ⟨.hbm, 43, rfl⟩
abbrev main_call0_v0 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_3 : Ref sig .tc := ⟨.hbm, 54, rfl⟩
abbrev main_v42 : Ref sig .tc := ⟨.hbm, 55, rfl⟩
abbrev main_v43 : Ref sig .tc := ⟨.hbm, 56, rfl⟩
abbrev main_cst_4 : Ref sig .tc := ⟨.hbm, 57, rfl⟩
abbrev main_v44 : Ref sig .tc := ⟨.hbm, 58, rfl⟩
abbrev main_v45 : Ref sig .tc := ⟨.hbm, 59, rfl⟩
abbrev main_cst_5 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩

abbrev nD : Nat := 1
abbrev τ : Topo := Topo.v7x

variable {F : FTy → Type} [FloatOps F]
-- ==== Kernel3.lean ====
abbrev S4x8192x1024 : Shape := ⟨3, ![4, 8192, 1024]⟩
abbrev S4x1024 : Shape := ⟨2, ![4, 1024]⟩
abbrev S4x8x6144 : Shape := ⟨3, ![4, 8, 6144]⟩
abbrev S4x1024x6656 : Shape := ⟨3, ![4, 1024, 6656]⟩
abbrev S8192 : Shape := ⟨1, ![8192]⟩
abbrev S_ : Shape := ⟨0, ![]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S4x1x1024 : Shape := ⟨3, ![4, 1, 1024]⟩
abbrev S1x32768x1024 : Shape := ⟨3, ![1, 32768, 1024]⟩
abbrev S1x32768x1536 : Shape := ⟨3, ![1, 32768, 1536]⟩
abbrev S1x32768x768 : Shape := ⟨3, ![1, 32768, 768]⟩
abbrev S1x32768x4096 : Shape := ⟨3, ![1, 32768, 4096]⟩
abbrev S1x512x1024 : Shape := ⟨3, ![1, 512, 1024]⟩
abbrev S1x1x1024 : Shape := ⟨3, ![1, 1, 1024]⟩
abbrev S1x8x1024 : Shape := ⟨3, ![1, 8, 1024]⟩
abbrev S512x128 : Shape := ⟨2, ![512, 128]⟩
abbrev S1x1024x6656 : Shape := ⟨3, ![1, 1024, 6656]⟩
abbrev S1x512x1536 : Shape := ⟨3, ![1, 512, 1536]⟩
abbrev S1x512x768 : Shape := ⟨3, ![1, 512, 768]⟩
abbrev S1x512x4096 : Shape := ⟨3, ![1, 512, 4096]⟩
abbrev S512x1024 : Shape := ⟨2, ![512, 1024]⟩
abbrev S1x1024 : Shape := ⟨2, ![1, 1024]⟩
abbrev S512 : Shape := ⟨1, ![512]⟩
abbrev S512x1 : Shape := ⟨2, ![512, 1]⟩
abbrev S1x1024x1024 : Shape := ⟨3, ![1, 1024, 1024]⟩
abbrev S1024x1024 : Shape := ⟨2, ![1024, 1024]⟩
abbrev S512x512 : Shape := ⟨2, ![512, 512]⟩
abbrev S1x512x128 : Shape := ⟨3, ![1, 512, 128]⟩
abbrev S1x512x512 : Shape := ⟨3, ![1, 512, 512]⟩
abbrev S512x256 : Shape := ⟨2, ![512, 256]⟩
abbrev S1x512x256 : Shape := ⟨3, ![1, 512, 256]⟩
abbrev S1x1024x512 : Shape := ⟨3, ![1, 1024, 512]⟩
abbrev S1024x512 : Shape := ⟨2, ![1024, 512]⟩

abbrev nBuf : Space → Nat
  | .hbm => 91
  | .vmem => 19
  | .smem => 0
  | _ => 0

abbrev bufTy : (tb : Table) → Fin (tcTables nBuf tb) → BufTy
  | .hbm, ⟨0, _⟩ => ⟨S4x8192x1024, .f32⟩
  | .hbm, ⟨1, _⟩ => ⟨S4x1024, .f32⟩
  | .hbm, ⟨2, _⟩ => ⟨S4x8x6144, .f32⟩
  | .hbm, ⟨3, _⟩ => ⟨S4x1024x6656, .f32⟩
  | .hbm, ⟨4, _⟩ => ⟨S8192, .i32⟩
  | .hbm, ⟨5, _⟩ => ⟨S_, .i32⟩
  | .hbm, ⟨6, _⟩ => ⟨S_, .i32⟩
  | .hbm, ⟨7, _⟩ => ⟨S8192, .i32⟩
  | .hbm, ⟨8, _⟩ => ⟨S8192, .i32⟩
  | .hbm, ⟨9, _⟩ => ⟨S8192, .i32⟩
  | .hbm, ⟨10, _⟩ => ⟨S_, .i32⟩
  | .hbm, ⟨11, _⟩ => ⟨S8192, .i32⟩
  | .hbm, ⟨12, _⟩ => ⟨S8192, .i1⟩
  | .hbm, ⟨13, _⟩ => ⟨S8192, .i32⟩
  | .hbm, ⟨14, _⟩ => ⟨S8192, .i32⟩
  | .hbm, ⟨15, _⟩ => ⟨S_, .i32⟩
  | .hbm, ⟨16, _⟩ => ⟨S8192, .i32⟩
  | .hbm, ⟨17, _⟩ => ⟨S8192, .i1⟩
  | .hbm, ⟨18, _⟩ => ⟨S8192, .i1⟩
  | .hbm, ⟨19, _⟩ => ⟨S_, .i32⟩
  | .hbm, ⟨20, _⟩ => ⟨S8192, .i32⟩
  | .hbm, ⟨21, _⟩ => ⟨S8192, .i32⟩
  | .hbm, ⟨22, _⟩ => ⟨S8192, .i32⟩
  | .hbm, ⟨23, _⟩ => ⟨S8192, .f32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S8192, .i32⟩
  | .hbm, ⟨31, _⟩ => ⟨S8192, .i32⟩
  | .hbm, ⟨32, _⟩ => ⟨S_, .i32⟩
  | .hbm, ⟨33, _⟩ => ⟨S8192, .i32⟩
  | .hbm, ⟨34, _⟩ => ⟨S8192, .i1⟩
  | .hbm, ⟨35, _⟩ => ⟨S_, .i32⟩
  | .hbm, ⟨36, _⟩ => ⟨S8192, .i32⟩
  | .hbm, ⟨37, _⟩ => ⟨S8192, .i1⟩
  | .hbm, ⟨38, _⟩ => ⟨S_, .i32⟩
  | .hbm, ⟨39, _⟩ => ⟨S_, .i1⟩
  | .hbm, ⟨40, _⟩ => ⟨S8192, .i1⟩
  | .hbm, ⟨41, _⟩ => ⟨S8192, .i1⟩
  | .hbm, ⟨42, _⟩ => ⟨S8192, .i1⟩
  | .hbm, ⟨43, _⟩ => ⟨S8192, .i32⟩
  | .hbm, ⟨44, _⟩ => ⟨S8192, .i32⟩
  | .hbm, ⟨45, _⟩ => ⟨S8192, .i32⟩
  | .hbm, ⟨46, _⟩ => ⟨S8192, .f32⟩
  | .hbm, ⟨47, _⟩ => ⟨S16, .f32⟩
  | .hbm, ⟨48, _⟩ => ⟨S_, .f32⟩
  | .hbm, ⟨49, _⟩ => ⟨S16, .f32⟩
  | .hbm, ⟨50, _⟩ => ⟨S16, .f32⟩
  | .hbm, ⟨51, _⟩ => ⟨S_, .f32⟩
  | .hbm, ⟨52, _⟩ => ⟨S16, .f32⟩
  | .hbm, ⟨53, _⟩ => ⟨S16, .f32⟩
  | .hbm, ⟨54, _⟩ => ⟨S16, .f32⟩
  | .hbm, ⟨55, _⟩ => ⟨S_, .f32⟩
  | .hbm, ⟨56, _⟩ => ⟨S16, .f32⟩
  | .hbm, ⟨57, _⟩ => ⟨S16, .f32⟩
  | .hbm, ⟨58, _⟩ => ⟨S_, .f32⟩
  | .hbm, ⟨59, _⟩ => ⟨S16, .f32⟩
  | .hbm, ⟨60, _⟩ => ⟨S16, .f32⟩
  | .hbm, ⟨61, _⟩ => ⟨S8192x1, .f32⟩
  | .hbm, ⟨62, _⟩ => ⟨S1x16, .f32⟩
  | .hbm, ⟨63, _⟩ => ⟨S8192x16, .f32⟩
  | .hbm, ⟨64, _⟩ => ⟨S8192x16, .f32⟩
  | .hbm, ⟨65, _⟩ => ⟨S8192x16, .f32⟩
  | .hbm, ⟨66, _⟩ => ⟨S8192x1, .f32⟩
  | .hbm, ⟨67, _⟩ => ⟨S1x16, .f32⟩
  | .hbm, ⟨68, _⟩ => ⟨S8192x16, .f32⟩
  | .hbm, ⟨69, _⟩ => ⟨S8192x16, .f32⟩
  | .hbm, ⟨70, _⟩ => ⟨S8192x16, .f32⟩
  | .hbm, ⟨71, _⟩ => ⟨S8192x16, .f32⟩
  | .hbm, ⟨72, _⟩ => ⟨S8192x16, .f32⟩
  | .hbm, ⟨73, _⟩ => ⟨S8192x16, .f32⟩
  | .hbm, ⟨74, _⟩ => ⟨S8192x16, .f32⟩
  | .hbm, ⟨75, _⟩ => ⟨S8192x64, .f32⟩
  | .hbm, ⟨76, _⟩ => ⟨S8192x16, .f32⟩
  | .hbm, ⟨77, _⟩ => ⟨S8192x16, .f32⟩
  | .hbm, ⟨78, _⟩ => ⟨S8192x64, .f32⟩
  | .hbm, ⟨79, _⟩ => ⟨S1x8192x1x64, .f32⟩
  | .hbm, ⟨80, _⟩ => ⟨S1x8192x2x64, .f32⟩
  | .hbm, ⟨81, _⟩ => ⟨S8192x128, .f32⟩
  | .hbm, ⟨82, _⟩ => ⟨S1x8192x1x64, .f32⟩
  | .hbm, ⟨83, _⟩ => ⟨S1x8192x2x64, .f32⟩
  | .hbm, ⟨84, _⟩ => ⟨S8192x128, .f32⟩
  | .hbm, ⟨85, _⟩ => ⟨S4x1x1024, .f32⟩
  | .hbm, ⟨86, _⟩ => ⟨S4x1024x6656, .bf16⟩
  | .hbm, ⟨87, _⟩ => ⟨S1x32768x1024, .f32⟩
  | .hbm, ⟨88, _⟩ => ⟨S1x32768x1536, .bf16⟩
  | .hbm, ⟨89, _⟩ => ⟨S1x32768x768, .f32⟩
  | .hbm, ⟨90, _⟩ => ⟨S1x32768x4096, .bf16⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x1x1024, .f32⟩
  | .local _ .vmem, ⟨4, _⟩ => ⟨S1x8x1024, .f32⟩
  | .local _ .vmem, ⟨5, _⟩ => ⟨S1x8x1024, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S1x1024x6656, .bf16⟩
  | .local _ .vmem, ⟨11, _⟩ => ⟨S1x512x1536, .bf16⟩
  | .local _ .vmem, ⟨12, _⟩ => ⟨S1x512x1536, .bf16⟩
  | .local _ .vmem, ⟨13, _⟩ => ⟨S1x512x768, .f32⟩
  | .local _ .vmem, ⟨14, _⟩ => ⟨S1x512x768, .f32⟩
  | .local _ .vmem, ⟨15, _⟩ => ⟨S1x512x4096, .bf16⟩
  | .local _ .vmem, ⟨16, _⟩ => ⟨S1x512x4096, .bf16⟩
  | .local _ .vmem, ⟨17, _⟩ => ⟨S512x1024, .bf16⟩
  | .local _ .vmem, ⟨18, _⟩ => ⟨S512x1024, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v1 : Ref sig .tc := ⟨.hbm, 22, rfl⟩
abbrev main_v2 : Ref sig .tc := ⟨.hbm, 23, rfl⟩
abbrev main_c_0 : Ref sig .tc := ⟨.hbm, 24, rfl⟩
abbrev main_call1_v0 : Ref sig .tc := ⟨.hbm, 25, rfl⟩
abbrev main_call1_c : Ref sig .tc := ⟨.hbm, 26, rfl⟩
abbrev main_call1_v1 : Ref sig .tc := ⟨.hbm, 27, rfl⟩
abbrev main_call1_c_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_c_1 : Ref sig .tc := ⟨.hbm, 32, rfl⟩
abbrev main_call1_v5 : Ref sig .tc := ⟨.hbm, 33, rfl⟩
abbrev main_call1_v6 : Ref sig .tc := ⟨.hbm, 34, rfl⟩
abbrev main_call1_c_2 : Ref sig .tc := ⟨.hbm, 35, rfl⟩
abbrev main_call1_v7 : Ref sig .tc := ⟨.hbm, 36, rfl⟩
abbrev main_call1_v8 : Ref sig .tc := ⟨.hbm, 37, rfl⟩
abbrev main_call1_c_3 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_v12 : Ref sig .tc := ⟨.hbm, 42, rfl⟩
abbrev main_call1_v13 : Ref sig .tc := ⟨.hbm, 43, rfl⟩
abbrev main_call1_v14 : Ref sig .tc := ⟨.hbm, 44, rfl⟩
abbrev main_v3 : Ref sig .tc := ⟨.hbm, 45, rfl⟩
abbrev main_v4 : Ref sig .tc := ⟨.hbm, 46, rfl⟩
abbrev main_v5 : Ref sig .tc := ⟨.hbm, 47, rfl⟩
abbrev main_cst : Ref sig .tc := ⟨.hbm, 48, rfl⟩
abbrev main_v6 : Ref sig .tc := ⟨.hbm, 49, rfl⟩
abbrev main_v7 : Ref sig .tc := ⟨.hbm, 50, rfl⟩
abbrev main_cst_1 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_cst_2 : Ref sig .tc := ⟨.hbm, 55, rfl⟩
abbrev main_v11 : Ref sig .tc := ⟨.hbm, 56, rfl⟩
abbrev main_v12 : Ref sig .tc := ⟨.hbm, 57, rfl⟩
abbrev main_cst_3 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42_0 : Ref sig .tc := ⟨.hbm, 88, rfl⟩
abbrev main_v42_1 : Ref sig .tc := ⟨.hbm, 89, rfl⟩
abbrev main_v42_2 : Ref sig .tc := ⟨.hbm, 90, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v14 : BitVec 32 := Scalar.extui v13
  let c0_i32_6 : BitVec 32 := 0#32
  let v15 : BitVec 1 := Scalar.cmpi .ne v14 c0_i32_6
  v15

def k0_off1 (i : grid0.Coords) : Fin 3 → Nat :=
  let c0_32 : Index := 0#32
  let arg0 : BitVec 32 := BitVec.ofNat 32 (i 0).val
  let c1_i32_19 : BitVec 32 := 1#32
  let v33 : BitVec 32 := Scalar.addi arg0 c1_i32_19
  let c63_i32 : BitVec 32 := 63#32
  let v34 : BitVec 32 := Scalar.minsi v33 c63_i32
  let c0_i32_20 : BitVec 32 := 0#32
  let v36 : BitVec 1 := Scalar.cmpi .sgt v34 c0_i32_20
  let v37 : BitVec 32 := Scalar.extui v36
  let c0_i32_21 : BitVec 32 := 0#32
  let v38 : BitVec 1 := Scalar.cmpi .slt v34 c0_i32_21
  let v39 : BitVec 32 := Scalar.extui v38
  let v40 : BitVec 32 := Scalar.subi v37 v39
  let c16_i32 : BitVec 32 := 16#32
  let c0_i32_22 : BitVec 32 := 0#32
  let v41 : BitVec 1 := Scalar.cmpi .sgt c16_i32 c0_i32_22
  let v42 : BitVec 32 := Scalar.extui v41
  let c0_i32_23 : BitVec 32 := 0#32
  let v43 : BitVec 1 := Scalar.cmpi .slt c16_i32 c0_i32_23
  let v44 : BitVec 32 := Scalar.extui v43
  let v45 : BitVec 32 := Scalar.subi v42 v44
  let v46 : BitVec 1 := Scalar.cmpi .ne v40 v45
  let v47 : BitVec 32 := Scalar.remsi v34 c16_i32
  let c0_i32_24 : BitVec 32 := 0#32
  let v48 : BitVec 1 := Scalar.cmpi .ne v47 c0_i32_24
  let v49 : BitVec 1 := Scalar.andi v46 v48
  let v35 : BitVec 32 := Scalar.divsi v34 c16_i32
  let c1_i32_25 : BitVec 32 := 1#32
  let v50 : BitVec 32 := Scalar.subi v35 c1_i32_25
  let v51 : BitVec 32 := Scalar.select v49 v50 v35
  let v56 : Index := Scalar.indexCast v51
  let c0_33 : Index := 0#32
  ![0, v56.toNat, 0]
def k0_cond3 (i : grid0.Coords) : BitVec 1 :=
  let arg0 : BitVec 32 := BitVec.ofNat 32 (i 0).val
  let c2_i32_7 : BitVec 32 := 2#32
  let c0_i32_8 : BitVec 32 := 0#32
  let v16 : BitVec 1 := Scalar.cmpi .eq c2_i32_7 c0_i32_8
  let c1_i32_9 : BitVec 32 := 1#32
  let v17 : BitVec 32 := Scalar.select v16 c1_i32_9 c2_i32_7
  let v18 : BitVec 32 := Scalar.remsi arg0 v17
  let c0_i32_11 : BitVec 32 := 0#32
  let v20 : BitVec 1 := Scalar.cmpi .slt v18 c0_i32_11
  let c0_i32_12 : BitVec 32 := 0#32
  let v21 : BitVec 1 := Scalar.cmpi .slt v17 c0_i32_12
  let v22 : BitVec 1 := Scalar.xori v20 v21
  let c0_i32_10 : BitVec 32 := 0#32
  let v19 : BitVec 1 := Scalar.cmpi .ne v18 c0_i32_10
  let v23 : BitVec 1 := Scalar.andi v22 v19
  let v24 : BitVec 32 := Scalar.addi v18 v17
  let v25 : BitVec 32 := Scalar.select v23 v24 v18
  let c1_i32_13 : BitVec 32 := 1#32
  let v26 : BitVec 1 := Scalar.cmpi .eq v25 c1_i32_13
  let v27 : BitVec 32 := Scalar.extui v26
  let c0_i32_14 : BitVec 32 := 0#32
  let v28 : BitVec 1 := Scalar.cmpi .ne v27 c0_i32_14
  v28

def k0_off2 (i : grid0.Coords) : Fin 3 → Nat :=
  let c0_32 : Index := 0#32
  let arg0 : BitVec 32 := BitVec.ofNat 32 (i 0).val
  let c1_i32_19 : BitVec 32 := 1#32
  let v33 : BitVec 32 := Scalar.addi arg0 c1_i32_19
  let c63_i32 : BitVec 32 := 63#32
  let v34 : BitVec 32 := Scalar.minsi v33 c63_i32
  let c0_i32_20 : BitVec 32 := 0#32
  let v36 : BitVec 1 := Scalar.cmpi .sgt v34 c0_i32_20
  let v37 : BitVec 32 := Scalar.extui v36
  let c0_i32_21 : BitVec 32 := 0#32
  let v38 : BitVec 1 := Scalar.cmpi .slt v34 c0_i32_21
  let v39 : BitVec 32 := Scalar.extui v38
  let v40 : BitVec 32 := Scalar.subi v37 v39
  let c16_i32 : BitVec 32 := 16#32
  let c0_i32_22 : BitVec 32 := 0#32
  let v41 : BitVec 1 := Scalar.cmpi .sgt c16_i32 c0_i32_22
  let v42 : BitVec 32 := Scalar.extui v41
  let c0_i32_23 : BitVec 32 := 0#32
  let v43 : BitVec 1 := Scalar.cmpi .slt c16_i32 c0_i32_23
  let v44 : BitVec 32 := Scalar.extui v43
  let v45 : BitVec 32 := Scalar.subi v42 v44
  let v46 : BitVec 1 := Scalar.cmpi .ne v40 v45
  let v47 : BitVec 32 := Scalar.remsi v34 c16_i32
  let c0_i32_24 : BitVec 32 := 0#32
  let v48 : BitVec 1 := Scalar.cmpi .ne v47 c0_i32_24
  let v49 : BitVec 1 := Scalar.andi v46 v48
  let v35 : BitVec 32 := Scalar.divsi v34 c16_i32
  let c1_i32_25 : BitVec 32 := 1#32
  let v50 : BitVec 32 := Scalar.subi v35 c1_i32_25
  let v51 : BitVec 32 := Scalar.select v49 v50 v35
  let v56 : Index := Scalar.indexCast v51
  let c0_33 : Index := 0#32
  ![0, v56.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c1_i32 : BitVec 32 := 1#32
  let v0 : BitVec 32 := Scalar.addi arg0 c1_i32
  let c63_i32 : BitVec 32 := 63#32
  let v1 : BitVec 32 := Scalar.minsi v0 c63_i32
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c1_i32 : BitVec 32 := 1#32
  let c0_i32_1 : BitVec 32 := 0#32
  ![c0_i32.toNat, c0_i32_0.toNat, c1_i32.toNat]

def cc0_transform_5 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024x6656 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x512x1536 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x512x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S4x8192x1024 : Shape := ⟨3, ![4, 8192, 1024]⟩
abbrev S4x1024 : Shape := ⟨2, ![4, 1024]⟩
abbrev S4x8x6144 : Shape := ⟨3, ![4, 8, 6144]⟩
abbrev S4x1024x6656 : Shape := ⟨3, ![4, 1024, 6656]⟩
abbrev S1x4x1024 : Shape := ⟨3, ![1, 4, 1024]⟩
abbrev S4x1x1024 : Shape := ⟨3, ![4, 1, 1024]⟩
abbrev S_ : Shape := ⟨0, ![]⟩
abbrev S4x8192 : Shape := ⟨2, ![4, 8192]⟩
abbrev S4x8192x1 : Shape := ⟨3, ![4, 8192, 1]⟩
abbrev S1x1024 : Shape := ⟨2, ![1, 1024]⟩
abbrev S1024 : Shape := ⟨1, ![1024]⟩
abbrev S1x1x1024 : Shape := ⟨3, ![1, 1, 1024]⟩
abbrev S1x1024x6656 : Shape := ⟨3, ![1, 1024, 6656]⟩
abbrev S1024x6656 : Shape := ⟨2, ![1024, 6656]⟩
abbrev S4x8192x6656 : Shape := ⟨3, ![4, 8192, 6656]⟩
abbrev S8192 : Shape := ⟨1, ![8192]⟩
abbrev S16 : Shape := ⟨1, ![16]⟩
abbrev S8192x1 : Shape := ⟨2, ![8192, 1]⟩
abbrev S8192x2 : Shape := ⟨2, ![8192, 2]⟩
abbrev S8192x2x1 : Shape := ⟨3, ![8192, 2, 1]⟩
abbrev S1x1x16 : Shape := ⟨3, ![1, 1, 16]⟩
abbrev S8192x2x16 : Shape := ⟨3, ![8192, 2, 16]⟩
abbrev S1x8192x1x2x16 : Shape := ⟨5, ![1, 8192, 1, 2, 16]⟩
abbrev S4x8192x512 : Shape := ⟨3, ![4, 8192, 512]⟩
abbrev S4x8192x8x2x2x16 : Shape := ⟨6, ![4, 8192, 8, 2, 2, 16]⟩
abbrev S4x8192x8x2x1x16 : Shape := ⟨6, ![4, 8192, 8, 2, 1, 16]⟩
abbrev S4x8192x8x2x16 : Shape := ⟨5, ![4, 8192, 8, 2, 16]⟩
abbrev S4x8192x256 : Shape := ⟨3, ![4, 8192, 256]⟩
abbrev S4x8192x4096 : Shape := ⟨3, ![4, 8192, 4096]⟩
abbrev S4x8192x1536 : Shape := ⟨3, ![4, 8192, 1536]⟩
abbrev S1x32768x1536 : Shape := ⟨3, ![1, 32768, 1536]⟩
abbrev S4x8192x768 : Shape := ⟨3, ![4, 8192, 768]⟩
abbrev S1x32768x768 : Shape := ⟨3, ![1, 32768, 768]⟩
abbrev S1x32768x4096 : Shape := ⟨3, ![1, 32768, 4096]⟩

abbrev nBuf : Space → Nat
  | .hbm => 179
  | .vmem => 0
  | .smem => 0
  | _ => 0

abbrev hbmTy0_0 (i : Nat) : BufTy := match i % 128 with
  | 0 => ⟨S4x8192x1024, .f32⟩
  | 1 => ⟨S4x1024, .f32⟩
  | 2 => ⟨S4x8x6144, .f32⟩
  | 3 => ⟨S4x1024x6656, .f32⟩
  | 4 => ⟨S1x4x1024, .f32⟩
  | 5 => ⟨S4x1024, .f32⟩
  | 6 => ⟨S4x1x1024, .f32⟩
  | 7 => ⟨S1x4x1024, .f32⟩
  | 8 => ⟨S4x1024, .f32⟩
  | 9 => ⟨S4x1x1024, .f32⟩
  | 10 => ⟨S4x8192x1024, .f32⟩
  | 11 => ⟨S_, .f32⟩
  | 12 => ⟨S4x8192, .f32⟩
  | 13 => ⟨S4x8192x1, .f32⟩
  | 14 => ⟨S_, .f32⟩
  | 15 => ⟨S4x8192x1, .f32⟩
  | 16 => ⟨S4x8192x1, .f32⟩
  | 17 => ⟨S_, .f32⟩
  | 18 => ⟨S4x8192x1, .f32⟩
  | 19 => ⟨S4x8192x1, .f32⟩
  | 20 => ⟨S4x8192x1, .f32⟩
  | 21 => ⟨S4x8192x1024, .f32⟩
  | 22 => ⟨S4x8192x1024, .f32⟩
  | 23 => ⟨S1x1024, .f32⟩
  | 24 => ⟨S1024, .f32⟩
  | 25 => ⟨S1x1x1024, .f32⟩
  | 26 => ⟨S4x8192x1024, .f32⟩
  | 27 => ⟨S4x8192x1024, .f32⟩
  | 28 => ⟨S_, .f32⟩
  | 29 => ⟨S4x1x1024, .f32⟩
  | 30 => ⟨S4x1x1024, .f32⟩
  | 31 => ⟨S4x8192x1024, .f32⟩
  | 32 => ⟨S4x8192x1024, .f32⟩
  | 33 => ⟨S4x8192x1024, .f32⟩
  | 34 => ⟨S4x8192x1024, .f32⟩
  | 35 => ⟨S1x1024x6656, .f32⟩
  | 36 => ⟨S1024x6656, .f32⟩
  | 37 => ⟨S4x8192x6656, .f32⟩
  | 38 => ⟨S8192, .i32⟩
  | 39 => ⟨S16, .f32⟩
  | 40 => ⟨S_, .f32⟩
  | 41 => ⟨S16, .f32⟩
  | 42 => ⟨S16, .f32⟩
  | 43 => ⟨S_, .f32⟩
  | 44 => ⟨S16, .f32⟩
  | 45 => ⟨S16, .f32⟩
  | 46 => ⟨S16, .f32⟩
  | 47 => ⟨S_, .f32⟩
  | 48 => ⟨S16, .f32⟩
  | 49 => ⟨S16, .f32⟩
  | 50 => ⟨S_, .f32⟩
  | 51 => ⟨S16, .f32⟩
  | 52 => ⟨S16, .f32⟩
  | 53 => ⟨S_, .i32⟩
  | 54 => ⟨S_, .i32⟩
  | 55 => ⟨S8192, .i32⟩
  | 56 => ⟨S8192, .i32⟩
  | 57 => ⟨S8192, .i32⟩
  | 58 => ⟨S_, .i32⟩
  | 59 => ⟨S8192, .i32⟩
  | 60 => ⟨S8192, .i1⟩
  | 61 => ⟨S8192, .i32⟩
  | 62 => ⟨S8192, .i32⟩
  | 63 => ⟨S_, .i32⟩
  | 64 => ⟨S8192, .i32⟩
  | 65 => ⟨S8192, .i1⟩
  | 66 => ⟨S8192, .i1⟩
  | 67 => ⟨S_, .i32⟩
  | 68 => ⟨S8192, .i32⟩
  | 69 => ⟨S8192, .i32⟩
  | 70 => ⟨S8192, .i32⟩
  | 71 => ⟨S8192, .f32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S8192, .i32⟩
  | 79 => ⟨S8192, .i32⟩
  | 80 => ⟨S_, .i32⟩
  | 81 => ⟨S8192, .i32⟩
  | 82 => ⟨S8192, .i1⟩
  | 83 => ⟨S_, .i32⟩
  | 84 => ⟨S8192, .i32⟩
  | 85 => ⟨S8192, .i1⟩
  | 86 => ⟨S_, .i32⟩
  | 87 => ⟨S_, .i1⟩
  | 88 => ⟨S8192, .i1⟩
  | 89 => ⟨S8192, .i1⟩
  | 90 => ⟨S8192, .i1⟩
  | 91 => ⟨S8192, .i32⟩
  | 92 => ⟨S8192, .i32⟩
  | 93 => ⟨S8192, .i32⟩
  | 94 => ⟨S8192, .f32⟩
  | 95 => ⟨S8192x1, .f32⟩
  | 96 => ⟨S8192x1, .f32⟩
  | 97 => ⟨S8192x2, .f32⟩
  | 98 => ⟨S8192x2x1, .f32⟩
  | 99 => ⟨S1x1x16, .f32⟩
  | 100 => ⟨S8192x2x16, .f32⟩
  | 101 => ⟨S8192x2x16, .f32⟩
  | 102 => ⟨S8192x2x16, .f32⟩
  | 103 => ⟨S8192x2x16, .f32⟩
  | 104 => ⟨S1x8192x1x2x16, .f32⟩
  | 105 => ⟨S8192x2x16, .f32⟩
  | 106 => ⟨S1x8192x1x2x16, .f32⟩
  | 107 => ⟨S4x8192x512, .f32⟩
  | 108 => ⟨S_, .f32⟩
  | 109 => ⟨S4x8192x512, .f32⟩
  | 110 => ⟨S4x8192x512, .f32⟩
  | 111 => ⟨S4x8192x8x2x2x16, .f32⟩
  | 112 => ⟨S4x8192x8x2x1x16, .f32⟩
  | 113 => ⟨S4x8192x8x2x16, .f32⟩
  | 114 => ⟨S4x8192x8x2x1x16, .f32⟩
  | 115 => ⟨S4x8192x8x2x16, .f32⟩
  | 116 => ⟨S4x8192x8x2x16, .f32⟩
  | 117 => ⟨S4x8192x8x2x16, .f32⟩
  | 118 => ⟨S4x8192x8x2x16, .f32⟩
  | 119 => ⟨S4x8192x8x2x16, .f32⟩
  | 120 => ⟨S4x8192x8x2x16, .f32⟩
  | 121 => ⟨S4x8192x8x2x16, .f32⟩
  | 122 => ⟨S4x8192x8x2x16, .f32⟩
  | 123 => ⟨S4x8192x8x2x16, .f32⟩
  | 124 => ⟨S4x8192x8x2x16, .f32⟩
  | 125 => ⟨S4x8192x8x2x16, .f32⟩
  | 126 => ⟨S4x8192x8x2x1x16, .f32⟩
  | 127 => ⟨S4x8192x8x2x1x16, .f32⟩
  | _ => ⟨S4x8192x1024, .f32⟩

abbrev hbmTy0_1 (i : Nat) : BufTy := match i % 128 with
  | 0 => ⟨S4x8192x8x2x2x16, .f32⟩
  | 1 => ⟨S4x8192x512, .f32⟩
  | 2 => ⟨S4x8192x512, .f32⟩
  | 3 => ⟨S4x8192x8x2x2x16, .f32⟩
  | 4 => ⟨S4x8192x8x2x1x16, .f32⟩
  | 5 => ⟨S4x8192x8x2x16, .f32⟩
  | 6 => ⟨S4x8192x8x2x1x16, .f32⟩
  | 7 => ⟨S4x8192x8x2x16, .f32⟩
  | 8 => ⟨S4x8192x8x2x16, .f32⟩
  | 9 => ⟨S4x8192x8x2x16, .f32⟩
  | 10 => ⟨S4x8192x8x2x16, .f32⟩
  | 11 => ⟨S4x8192x8x2x16, .f32⟩
  | 12 => ⟨S4x8192x8x2x16, .f32⟩
  | 13 => ⟨S4x8192x8x2x16, .f32⟩
  | 14 => ⟨S4x8192x8x2x16, .f32⟩
  | 15 => ⟨S4x8192x8x2x16, .f32⟩
  | 16 => ⟨S4x8192x8x2x16, .f32⟩
  | 17 => ⟨S4x8192x8x2x16, .f32⟩
  | 18 => ⟨S4x8192x8x2x1x16, .f32⟩
  | 19 => ⟨S4x8192x8x2x1x16, .f32⟩
  | 20 => ⟨S4x8192x8x2x2x16, .f32⟩
  | 21 => ⟨S4x8192x512, .f32⟩
  | 22 => ⟨S4x8192x512, .f32⟩
  | 23 => ⟨S4x8192x256, .f32⟩
  | 24 => ⟨S4x8192x256, .f32⟩
  | 25 => ⟨S4x8192x256, .f32⟩
  | 26 => ⟨S4x8192x256, .f32⟩
  | 27 => ⟨S_, .f32⟩
  | 28 => ⟨S4x8192x256, .f32⟩
  | 29 => ⟨S4x8192x256, .f32⟩
  | 30 => ⟨S_, .f32⟩
  | 31 => ⟨S4x8192x256, .f32⟩
  | 32 => ⟨S4x8192x256, .f32⟩
  | 33 => ⟨S4x8192x256, .f32⟩
  | 34 => ⟨S4x8192x4096, .f32⟩
  | 35 => ⟨S4x8192x4096, .f32⟩
  | 36 => ⟨S4x8192x4096, .f32⟩
  | 37 => ⟨S_, .f32⟩
  | 38 => ⟨S4x8192x4096, .f32⟩
  | 39 => ⟨S4x8192x4096, .f32⟩
  | 40 => ⟨S_, .f32⟩
  | 41 => ⟨S4x8192x4096, .f32⟩
  | 42 => ⟨S4x8192x4096, .f32⟩
  | 43 => ⟨S4x8192x1536, .f32⟩
  | 44 => ⟨S1x32768x1536, .f32⟩
  | 45 => ⟨S1x32768x1536, .bf16⟩
  | 46 => ⟨S4x8192x512, .f32⟩
  | 47 => ⟨S4x8192x768, .f32⟩
  | 48 => ⟨S1x32768x768, .f32⟩
  | 49 => ⟨S1x32768x4096, .f32⟩
  | 50 => ⟨S1x32768x4096, .bf16⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_3 : Ref sig .tc := ⟨.hbm, 40, rfl⟩
abbrev main_v32 : Ref sig .tc := ⟨.hbm, 41, rfl⟩
abbrev main_v33 : Ref sig .tc := ⟨.hbm, 42, rfl⟩
abbrev main_cst_4 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_5 : Ref sig .tc := ⟨.hbm, 47, rfl⟩
abbrev main_v37 : Ref sig .tc := ⟨.hbm, 48, rfl⟩
abbrev main_v38 : Ref sig .tc := ⟨.hbm, 49, rfl⟩
abbrev main_cst_6 : Ref sig .tc := ⟨.hbm, 50, rfl⟩
abbrev main_v39 : Ref sig .tc := ⟨.hbm, 51, rfl⟩
abbrev main_v40 : Ref sig .tc := ⟨.hbm, 52, rfl⟩
abbrev main_c : Ref sig .tc := ⟨.hbm, 53, rfl⟩
abbrev main_call0_v0 : Ref sig .tc := ⟨.hbm, 54, rfl⟩
abbrev main_call0_v1 : Ref sig .tc := ⟨.hbm, 55, rfl⟩
abbrev main_call0_v2 : Ref sig .tc := ⟨.hbm, 56, rfl⟩
abbrev main_call0_v3 : Ref sig .tc := ⟨.hbm, 57, rfl⟩
abbrev main_call0_v4 : Ref sig .tc := ⟨.hbm, 58, rfl⟩
abbrev main_call0_v5 : Ref sig .tc := ⟨.hbm, 59, rfl⟩
abbrev main_call0_v6 : Ref sig .tc := ⟨.hbm, 60, rfl⟩
abbrev main_call0_v7 : Ref sig .tc := ⟨.hbm, 61, rfl⟩
abbrev main_call0_v8 : Ref sig .tc := ⟨.hbm, 62, rfl⟩
abbrev main_call0_c : Ref sig .tc := ⟨.hbm, 63, rfl⟩
abbrev main_call0_v9 : Ref sig .tc := ⟨.hbm, 64, rfl⟩
abbrev main_call0_v10 : Ref sig .tc := ⟨.hbm, 65, rfl⟩
abbrev main_call0_v11 : Ref sig .tc := ⟨.hbm, 66, rfl⟩
abbrev main_call0_c_0 : Ref sig .tc := ⟨.hbm, 67, rfl⟩
abbrev main_call0_v12 : Ref sig .tc := ⟨.hbm, 68, rfl⟩
abbrev main_call0_v13 : Ref sig .tc := ⟨.hbm, 69, rfl⟩
abbrev main_v41 : Ref sig .tc := ⟨.hbm, 70, rfl⟩
abbrev main_v42 : Ref sig .tc := ⟨.hbm, 71, rfl⟩
abbrev main_c_7 : Ref sig .tc := ⟨.hbm, 72, rfl⟩
abbrev main_call1_v0 : Ref sig .tc := ⟨.hbm, 73, rfl⟩
abbrev main_call1_c : Ref sig .tc := ⟨.hbm, 74, rfl⟩
abbrev main_call1_v1 : Ref sig .tc := ⟨.hbm, 75, rfl⟩
abbrev main_call1_c_0 : Ref sig .tc := ⟨.hbm, 76, rfl⟩
abbrev main_call1_v2 : Ref sig .tc := ⟨.hbm, 77, rfl⟩
abbrev main_call1_v3 : Ref sig .tc := ⟨.hbm, 78, rfl⟩
abbrev main_call1_v4 : Ref sig .tc := ⟨.hbm, 79, rfl⟩
abbrev main_call1_c_1 : Ref sig .tc := ⟨.hbm, 80, rfl⟩
abbrev main_call1_v5 : Ref sig .tc := ⟨.hbm, 81, rfl⟩
abbrev main_call1_v6 : Ref sig .tc := ⟨.hbm, 82, rfl⟩
abbrev main_call1_c_2 : Ref sig .tc := ⟨.hbm, 83, rfl⟩
abbrev main_call1_v7 : Ref sig .tc := ⟨.hbm, 84, rfl⟩
abbrev main_call1_v8 : Ref sig .tc := ⟨.hbm, 85, rfl⟩
abbrev main_call1_c_3 : Ref sig .tc := ⟨.hbm, 86, rfl⟩
abbrev main_call1_v9 : Ref sig .tc := ⟨.hbm, 87, rfl⟩
abbrev main_call1_v10 : Ref sig .tc := ⟨.hbm, 88, rfl⟩
abbrev main_call1_v11 : Ref sig .tc := ⟨.hbm, 89, rfl⟩
abbrev main_call1_v12 : Ref sig .tc := ⟨.hbm, 90, rfl⟩
abbrev main_call1_v13 : Ref sig .tc := ⟨.hbm, 91, rfl⟩
abbrev main_call1_v14 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_cst_8 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_cst_9 : Ref sig .tc := ⟨.hbm, 155, rfl⟩
abbrev main_v104 : Ref sig .tc := ⟨.hbm, 156, rfl⟩
abbrev main_v105 : Ref sig .tc := ⟨.hbm, 157, rfl⟩
abbrev main_cst_10 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_cst_11 : Ref sig .tc := ⟨.hbm, 165, rfl⟩
abbrev main_v112 : Ref sig .tc := ⟨.hbm, 166, rfl⟩
abbrev main_v113 : Ref sig .tc := ⟨.hbm, 167, rfl⟩
abbrev main_cst_12 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩

abbrev nD : Nat := 1
abbrev τ : Topo := Topo.v7x

variable {F : FTy → Type} [FloatOps F]
-- ==== Proof.Attn.Unit.lean ====
/- What one unit of the attention body computes: one grid row of 64 queries and one pair of heads (128 lanes).
   The body repeats it for the sixteen rows of its block and the four pairs of heads; here it is written once, as a
   function of the slices it loads. -/
module

public import proofs.«01_k».proof.Proof.Gen.KernelIdeal.Frame
public import Idealize.ShloMosaic.PureOps.Ideal.Laws

@[expose] public section

noncomputable section

namespace Cert.KernelIdeal.Attn

open Cert.KernelIdeal Cert.KernelIdeal.Gen Idealize.ShloMosaic Idealize.ShloMosaic.TcCoe Idealize.ShloMosaic.Tactic

/-- Which lanes belong to the first head of the pair. -/
def firstHead : IVec S64x128 1 :=
  cmpi .slt (iota .tc S64x128 32 [1] iota_S64x128_d1_w32) (broadcast S64x128 64#32)

/-- The queries of the two heads of a pair stacked: rows below 64 keep the first head's lanes, the rest the second's. -/
def stacked (q : Vec Ideal S1x64x128 .bf16) : FVec Ideal S128x128 .bf16 :=
  let z : FVec Ideal S64x128 .bf16 := broadcast S64x128 (Scalar.ofBits .bf16 0x0000#16)
  let q' : FVec Ideal S64x128 .bf16 := shapeCast S64x128 q shapeCasts_S1x64x128_S64x128
  concatenate S128x128 0 [⟨S64x128, select firstHead q' z⟩, ⟨S64x128, select firstHead z q'⟩]
    concatenates_S64x128_S64x128_S128x128_d0

/-- The bias of the 512 keys of the window, from the table's four planes of 128 keys. -/
def biasRow (b : Fin 4 → Vec Ideal S1x1x1x128x128 .f32) : FVec Ideal S128x512 .f32 :=
  concatenate S128x512 1
    [⟨S128x128, shapeCast S128x128 (b 0) shapeCasts_S1x1x1x128x128_S128x128⟩,
     ⟨S128x128, shapeCast S128x128 (b 1) shapeCasts_S1x1x1x128x128_S128x128⟩,
     ⟨S128x128, shapeCast S128x128 (b 2) shapeCasts_S1x1x1x128x128_S128x128⟩,
     ⟨S128x128, shapeCast S128x128 (b 3) shapeCasts_S1x1x1x128x128_S128x128⟩]
    concatenates_S128x128_S128x128_S128x128_S128x128_S128x512_d1

/-- The scores against the window's keys. -/
def winScores (q : Vec Ideal S1x64x128 .bf16) (k : Vec Ideal S1x512x128 .bf16)
    (b : Fin 4 → Vec Ideal S1x1x1x128x128 .f32) : FVec Ideal S128x512 .f32 :=
  addf (matmul (φ₂ := .bf16) dot_S128x128_S512x128_S128x512_1_1_0_0_n_n none (stacked q)
      (shapeCast S512x128 k shapeCasts_S1x512x128_S512x128) (constant S128x512 .f32 0x00000000#32)) (biasRow b)

/-- The scores against the context's keys. -/
def ctxScores (q : Vec Ideal S1x64x128 .bf16) (kc : Vec Ideal S1x256x128 .bf16) : FVec Ideal S128x256 .f32 :=
  matmul (φ₂ := .bf16) dot_S128x128_S256x128_S128x256_1_1_0_0_n_n none (stacked q)
    (shapeCast S256x128 kc shapeCasts_S1x256x128_S256x128) (constant S128x256 .f32 0x00000000#32)

/-- The greatest score of each stacked query. -/
def greatest (sw : FVec Ideal S128x512 .f32) (sc : FVec Ideal S128x256 .f32) : FVec Ideal S128x1 .f32 :=
  maximumf
    (shapeCast S128x1 (multiReduction .maximumf [1] S128 sw 0xFF800000#32 reduces_S128x512_S128 (.inl rfl) rfl) shapeCasts_S128_S128x1)
    (shapeCast S128x1 (multiReduction .maximumf [1] S128 sc 0xFF800000#32 reduces_S128x256_S128 (.inl rfl) rfl) shapeCasts_S128_S128x1)

/-- The window's unnormalised weights. -/
def winWeights (sw : FVec Ideal S128x512 .f32) (sc : FVec Ideal S128x256 .f32) : FVec Ideal S128x512 .f32 :=
  exp2 (subf sw (broadcastTo S128x512 (greatest sw sc) broadcasts_S128x1_S128x512))

/-- The context's unnormalised weights. -/
def ctxWeights (sw : FVec Ideal S128x512 .f32) (sc : FVec Ideal S128x256 .f32) : FVec Ideal S128x256 .f32 :=
  exp2 (subf sc (broadcastTo S128x256 (greatest sw sc) broadcasts_S128x1_S128x256))

/-- The sum of the weights. -/
def total (pw : FVec Ideal S128x512 .f32) (pc : FVec Ideal S128x256 .f32) : FVec Ideal S128x1 .f32 :=
  addf
    (shapeCast S128x1 (multiReduction .add [1] S128 pw 0x00000000#32 reduces_S128x512_S128 (.inl rfl) rfl) shapeCasts_S128_S128x1)
    (shapeCast S128x1 (multiReduction .add [1] S128 pc 0x00000000#32 reduces_S128x256_S128 (.inl rfl) rfl) shapeCasts_S128_S128x1)

/-- The weighted sum of the values over the sum of the weights, for every stacked query and every lane. -/
def averaged (pw : FVec Ideal S128x512 .f32) (pc : FVec Ideal S128x256 .f32) (v : Vec Ideal S1x512x128 .bf16)
    (vc : Vec Ideal S1x256x128 .bf16) : FVec Ideal S128x128 .f32 :=
  divf
    (addf
      (matmul (φ₁ := .bf16) (φ₂ := .bf16) dot_S128x512_S512x128_S128x128_1_0_0_1_n_n none (truncf .bf16 pw bitsLt_bf16_f32)
        (shapeCast S512x128 v shapeCasts_S1x512x128_S512x128) (constant S128x128 .f32 0x00000000#32))
      (matmul (φ₁ := .bf16) (φ₂ := .bf16) dot_S128x256_S256x128_S128x128_1_0_0_1_n_n none (truncf .bf16 pc bitsLt_bf16_f32)
        (shapeCast S256x128 vc shapeCasts_S1x256x128_S256x128) (constant S128x128 .f32 0x00000000#32)))
    (broadcastTo S128x128 (total pw pc) broadcasts_S128x1_S128x128)

/-- The two heads' rows put back beside one another. -/
def unstacked (o : FVec Ideal S128x128 .f32) : FVec Ideal S1x64x128 .bf16 :=
  shapeCast S1x64x128
    (truncf .bf16
      (select firstHead (extractStridedSlice S64x128 ![0, 0] o slices_S128x128_o0_0_S64x128)
        (extractStridedSlice S64x128 ![64, 0] o slices_S128x128_o64_0_S64x128)) bitsLt_bf16_f32)
    shapeCasts_S64x128_S1x64x128

/-- One unit: the attention of one grid row of queries for one pair of heads. -/
def unit (q : Vec Ideal S1x64x128 .bf16) (k v : Vec Ideal S1x512x128 .bf16) (kc vc : Vec Ideal S1x256x128 .bf16)
    (b : Fin 4 → Vec Ideal S1x1x1x128x128 .f32) : FVec Ideal S1x64x128 .bf16 :=
  unstacked (averaged (winWeights (winScores q k b) (ctxScores q kc)) (ctxWeights (winScores q k b) (ctxScores q kc)) v vc)

/-! ## Where a unit reads and writes -/

/-- A unit's queries (and results) in their block: row `r`'s 64 positions, pair `p`'s 128 lanes. -/
def qOff (r : Fin 16) (p : Fin 4) : Fin 3 → ℕ := ![0, 64 * r.val, 128 * p.val]

/-- A unit's keys (and values) in the batch's sequence. -/
def kOff (i : grid0.Coords) (r : Fin 16) (p : Fin 4) : Fin 3 → ℕ := ![0, k0_off2 i (BitVec.ofNat 32 r.val) 1, 128 * p.val]

/-- A pair's lanes of the context. -/
def cOff (p : Fin 4) : Fin 3 → ℕ := ![0, 0, 128 * p.val]

/-- The plane of the bias table a unit reads for the `j`-th 128 keys of its window. -/
def bOff (i : grid0.Coords) (r : Fin 16) (p : Fin 4) (j : Fin 4) : Fin 5 → ℕ :=
  ![0, p.val, k0_off3 i (BitVec.ofNat 32 r.val) (BitVec.ofNat 32 (2 * j.val)) 2, 0, 0]

theorem qOff_inb (r : Fin 16) (p : Fin 4) : ∀ a, qOff r p a + S1x64x128.size a ≤ S1x1024x512.size a := by
  revert r p; decide +kernel

theorem kOff_inb (i : grid0.Coords) (r : Fin 16) (p : Fin 4) : ∀ a, kOff i r p a + S1x512x128.size a ≤ S1x8192x512.size a := by
  intro a
  have h := k0_off2_inb i r 1
  match a with
  | ⟨0, _⟩ => exact Nat.le_refl 1
  | ⟨1, _⟩ => exact h
  | ⟨2, _⟩ => show 128 * p.val + 128 ≤ 512; omega

theorem cOff_inb (p : Fin 4) : ∀ a, cOff p a + S1x256x128.size a ≤ S1x256x512.size a := by
  revert p; decide +kernel

theorem bOff_inb (i : grid0.Coords) (r : Fin 16) (p : Fin 4) (j : Fin 4) :
    ∀ a, bOff i r p j a + S1x1x1x128x128.size a ≤ S1x4x14x128x128.size a := by
  intro a
  have h := k0_off3_inb i r j 2
  match a with
  | ⟨0, _⟩ => exact Nat.le_refl 1
  | ⟨1, _⟩ => show p.val + 1 ≤ 4; omega
  | ⟨2, _⟩ => exact h
  | ⟨3, _⟩ => exact Nat.le_refl 128
  | ⟨4, _⟩ => exact Nat.le_refl 128

section pieces

variable (c : Dev nD) (i : grid0.Coords) (arg2 : Memref sig .tc .vmem S1x1024x512 .bf16) (harg2 : arg2.IsWhole) (arg3 : Memref sig .tc .vmem S1x8192x512 .bf16) (harg3 : arg3.IsWhole) (arg4 : Memref sig .tc .vmem S1x8192x512 .bf16) (harg4 : arg4.IsWhole) (arg5 : Memref sig .tc .vmem S1x256x512 .bf16) (harg5 : arg5.IsWhole) (arg6 : Memref sig .tc .vmem S1x256x512 .bf16) (harg6 : arg6.IsWhole) (arg7 : Memref sig .tc .vmem S1x4x14x128x128 .f32) (harg7 : arg7.IsWhole) (arg8 : Memref sig .tc .vmem S1x1024x512 .bf16) (harg8 : arg8.IsWhole)
  (x0 : Vec Ideal S1x1024x512 .bf16) (x1 : Vec Ideal S1x8192x512 .bf16) (x2 : Vec Ideal S1x8192x512 .bf16) (x3 : Vec Ideal S1x256x512 .bf16) (x4 : Vec Ideal S1x256x512 .bf16) (x5 : Vec Ideal S1x4x14x128x128 .f32)

/-- What the unit of row `r` and pair `p` stores, and where. -/
def piece (r : Fin 16) (p : Fin 4) : View.Piece (Elt Ideal) S1x1024x512 .bf16 :=
  ⟨Rect.unit (s := S1x1024x512) (qOff r p) S1x64x128.size (qOff_inb r p),
    unit (arg2.view.readAt (Elt Ideal) (Rect.unit (s := S1x1024x512) (qOff r p) S1x64x128.size (qOff_inb r p)).toLoadRect (harg2.unread x0))
      (arg3.view.readAt (Elt Ideal) (Rect.unit (s := S1x8192x512) (kOff i r p) S1x512x128.size (kOff_inb i r p)).toLoadRect (harg3.unread x1))
      (arg4.view.readAt (Elt Ideal) (Rect.unit (s := S1x8192x512) (kOff i r p) S1x512x128.size (kOff_inb i r p)).toLoadRect (harg4.unread x2))
      (arg5.view.readAt (Elt Ideal) (Rect.unit (s := S1x256x512) (cOff p) S1x256x128.size (cOff_inb p)).toLoadRect (harg5.unread x3))
      (arg6.view.readAt (Elt Ideal) (Rect.unit (s := S1x256x512) (cOff p) S1x256x128.size (cOff_inb p)).toLoadRect (harg6.unread x4))
      (fun j => arg7.view.readAt (Elt Ideal) (Rect.unit (s := S1x4x14x128x128) (bOff i r p j) S1x1x1x128x128.size (bOff_inb i r p j)).toLoadRect (harg7.unread x5))⟩

/-- All the stores of the body, last first. -/
def pieces : List (View.Piece (Elt Ideal) S1x1024x512 .bf16) :=
  ([15, 14, 13, 12, 11, 10, 9, 8, 7, 6, 5, 4, 3, 2, 1, 0] : List (Fin 16)).flatMap fun r =>
    ([3, 2, 1, 0] : List (Fin 4)).map fun p =>
      piece i arg2 harg2 arg3 harg3 arg4 harg4 arg5 harg5 arg6 harg6 arg7 harg7 x0 x1 x2 x3 x4 x5 r p

/-- The body's stores are the sixty-four units'. -/
theorem run_eq_pieces :
    (kernelRun0_A (F := Ideal) c i arg2 harg2 arg3 harg3 arg4 harg4 arg5 harg5 arg6 harg6 arg7 harg7 arg8 harg8 x0 x1 x2 x3 x4 x5).1
      = pieces i arg2 harg2 arg3 harg3 arg4 harg4 arg5 harg5 arg6 harg6 arg7 harg7 x0 x1 x2 x3 x4 x5 := by
  sl_kernel_rfl

end pieces

end Cert.KernelIdeal.Attn

end
-- ==== Proof.Attn.Softmax.lean ====
/- The softmax average over the extended reals: with finite scores (or scores `⊥` of masked keys) subtracting the
   greatest score changes nothing, so the kernel's quotient and the reference's weights are both plain real quotients. -/
module

public import Idealize.ShloMosaic.PureOps.Ideal.Laws

@[expose] public section

noncomputable section

namespace Cert.Attn

open Idealize.ShloMosaic

/-- `2 ^ t` as a real number: zero at `⊥`. -/
def pow2 (t : EReal) : ℝ := (Ideal.exp2 t).toReal

theorem pow2_bot : pow2 ⊥ = 0 := rfl

theorem pow2_coe (r : ℝ) : pow2 (r : EReal) = (2 : ℝ) ^ r := rfl

theorem pow2_nonneg (t : EReal) : 0 ≤ pow2 t := by
  induction t with
  | bot => exact le_rfl
  | top => exact le_rfl
  | coe r => rw [pow2_coe]; positivity

/-- A shift of the exponent is a factor. -/
theorem exp2_sub (t : EReal) (ht : t ≠ ⊤) (μ : ℝ) :
    Ideal.exp2 (t - (μ : EReal)) = ((pow2 t * (2 : ℝ) ^ (-μ) : ℝ) : EReal) := by
  induction t with
  | bot => simp [pow2_bot]
  | top => exact absurd rfl ht
  | coe r =>
    rw [← EReal.coe_sub, Ideal.exp2_coe, pow2_coe, ← Real.rpow_add (by norm_num : (0 : ℝ) < 2), ← sub_eq_add_neg]
    rfl

/-- A finite sum of real numbers, read in the extended reals. -/
theorem coe_sum {ι : Type*} (s : Finset ι) (f : ι → ℝ) : ((∑ i ∈ s, f i : ℝ) : EReal) = ∑ i ∈ s, (f i : EReal) :=
  map_sum (⟨⟨fun r : ℝ => (r : EReal), rfl⟩, EReal.coe_add⟩ : ℝ →+ EReal) f s

/-- The greatest of finitely many scores is below `⊤` if all are. -/
theorem fold_max_ne_top {ι : Type*} [Fintype ι] (t : ι → EReal) (ht : ∀ i, t i ≠ ⊤) :
    (Finset.univ : Finset ι).fold max ⊥ t ≠ ⊤ := by
  refine ne_of_lt ((Finset.fold_max_lt _).2 ⟨bot_lt_top, fun i _ => lt_top_iff_ne_top.2 (ht i)⟩)

/-- The greatest of finitely many scores, one of them finite, is a real number. -/
theorem fold_max_eq_coe {ι : Type*} [Fintype ι] (t : ι → EReal) (ht : ∀ i, t i ≠ ⊤) (i₀ : ι) (h₀ : t i₀ ≠ ⊥) :
    ∃ μ : ℝ, (Finset.univ : Finset ι).fold max ⊥ t = (μ : EReal) := by
  have h1 := fold_max_ne_top t ht
  have h2 : t i₀ ≤ (Finset.univ : Finset ι).fold max ⊥ t := (Finset.le_fold_max _).2 (Or.inr ⟨i₀, Finset.mem_univ _, le_rfl⟩)
  have h3 : (Finset.univ : Finset ι).fold max ⊥ t ≠ ⊥ := fun h => h₀ (le_bot_iff.1 (h ▸ h2))
  exact ⟨_, (EReal.coe_toReal h1 h3).symm⟩

/-- Scores in two parts, one of the second part's finite: the kernel's quotient of weighted values by weights. -/
theorem average_eq {ι κ : Type*} [Fintype ι] [Fintype κ] (t : ι → EReal) (ht : ∀ i, t i ≠ ⊤) (u : κ → ℝ) (k₀ : κ)
    (v : ι → ℝ) (w : κ → ℝ) (M : EReal)
    (hM : M = max ((Finset.univ : Finset ι).fold max ⊥ t) ((Finset.univ : Finset κ).fold max ⊥ fun k => (u k : EReal))) :
    Ideal.div ((∑ i, Ideal.exp2 (t i - M) * (v i : EReal)) + ∑ k, Ideal.exp2 ((u k : EReal) - M) * (w k : EReal))
        ((∑ i, Ideal.exp2 (t i - M)) + ∑ k, Ideal.exp2 ((u k : EReal) - M))
      = (((∑ i, pow2 (t i) * v i) + ∑ k, (2 : ℝ) ^ u k * w k) / ((∑ i, pow2 (t i)) + ∑ k, (2 : ℝ) ^ u k) : ℝ) := by
  obtain ⟨μ, hμ⟩ : ∃ μ : ℝ, M = (μ : EReal) := by
    obtain ⟨ν, hν⟩ := fold_max_eq_coe (fun k => (u k : EReal)) (fun k => EReal.coe_ne_top _) k₀ (EReal.coe_ne_bot _)
    have h1 : M ≠ ⊤ := by
      rw [hM, hν]
      exact ne_of_lt (max_lt (lt_top_iff_ne_top.2 (fold_max_ne_top t ht)) (EReal.coe_lt_top _))
    have h2 : M ≠ ⊥ := by
      rw [hM, hν]
      exact ne_of_gt (lt_of_lt_of_le (EReal.bot_lt_coe _) (le_max_right _ _))
    exact ⟨_, (EReal.coe_toReal h1 h2).symm⟩
  subst hμ
  have hA : ∀ i, Ideal.exp2 (t i - (μ : EReal)) = ((pow2 (t i) * (2 : ℝ) ^ (-μ) : ℝ) : EReal) := fun i => exp2_sub _ (ht i) μ
  have hB : ∀ k, Ideal.exp2 ((u k : EReal) - (μ : EReal)) = (((2 : ℝ) ^ u k * (2 : ℝ) ^ (-μ) : ℝ) : EReal) :=
    fun k => exp2_sub _ (EReal.coe_ne_top _) μ
  simp only [hA, hB, ← EReal.coe_mul, ← coe_sum, ← EReal.coe_add]
  have hc : (0 : ℝ) < (2 : ℝ) ^ (-μ) := by positivity
  have hD : (∑ i, pow2 (t i) * (2 : ℝ) ^ (-μ)) + ∑ k, (2 : ℝ) ^ u k * (2 : ℝ) ^ (-μ)
      = ((∑ i, pow2 (t i)) + ∑ k, (2 : ℝ) ^ u k) * (2 : ℝ) ^ (-μ) := by
    rw [add_mul, Finset.sum_mul, Finset.sum_mul]
  have hpos : 0 < (∑ i, pow2 (t i)) + ∑ k, (2 : ℝ) ^ u k := by
    have h1 : 0 ≤ ∑ i, pow2 (t i) := Finset.sum_nonneg fun i _ => pow2_nonneg _
    have h2 : 0 < ∑ k, (2 : ℝ) ^ u k := Finset.sum_pos (fun k _ => by positivity) ⟨k₀, Finset.mem_univ _⟩
    linarith
  have hN : (∑ i, pow2 (t i) * (2 : ℝ) ^ (-μ) * v i) + ∑ k, (2 : ℝ) ^ u k * (2 : ℝ) ^ (-μ) * w k
      = ((∑ i, pow2 (t i) * v i) + ∑ k, (2 : ℝ) ^ u k * w k) * (2 : ℝ) ^ (-μ) := by
    rw [add_mul, Finset.sum_mul, Finset.sum_mul]
    congr 1 <;> exact Finset.sum_congr rfl fun _ _ => by ring
  rw [hD, hN, Ideal.div_coe (by positivity), ← EReal.coe_mul, EReal.coe_eq_coe_iff]
  field_simp

/-- The reference's weight of one key: its exponential over the sum of all, whatever real number was subtracted. -/
theorem weight_eq {ι : Type*} [Fintype ι] (s : ι → ℝ) (i : ι) (M : EReal)
    (hM : M = (Finset.univ : Finset ι).fold max ⊥ fun k => (s k : EReal)) :
    Ideal.div (Ideal.exp ((s i : EReal) - M)) (∑ k, Ideal.exp ((s k : EReal) - M))
      = ((Real.exp (s i) / ∑ k, Real.exp (s k) : ℝ) : EReal) := by
  obtain ⟨μ, hμ⟩ := fold_max_eq_coe (fun k => (s k : EReal)) (fun k => EReal.coe_ne_top _) i (EReal.coe_ne_bot _)
  rw [hμ] at hM; subst hM
  have hA : ∀ k, Ideal.exp ((s k : EReal) - (μ : EReal)) = ((Real.exp (s k) * Real.exp (-μ) : ℝ) : EReal) := fun k => by
    rw [← EReal.coe_sub, Ideal.exp_coe, ← Real.exp_add, sub_eq_add_neg]
  simp only [hA, ← coe_sum]
  have hS : 0 < ∑ k, Real.exp (s k) := Finset.sum_pos (fun k _ => Real.exp_pos _) ⟨i, Finset.mem_univ _⟩
  have hc : 0 < Real.exp (-μ) := Real.exp_pos _
  rw [← Finset.sum_mul, Ideal.div_coe (by positivity), ← EReal.coe_mul, EReal.coe_eq_coe_iff]
  field_simp

end Cert.Attn

end
-- ==== Proof.Attn.UnitValue.lean ====
/- A unit read at an index: the scores, the weights and the averaged values of one row of queries and one pair of heads,
   as sums over keys, for finite queries, keys and values. -/
module

public import proofs.«01_k».proof.Proof.Attn.Unit
public import proofs.«01_k».proof.Proof.Attn.Softmax
public import Idealize.ShloMosaic.Lib.ValueIdx
public import Idealize.ShloMosaic.Lib.Pipeline.Value

@[expose] public section

noncomputable section

namespace Cert.KernelIdeal.Attn

open Cert.KernelIdeal Cert.KernelIdeal.Gen Cert.Attn Idealize.ShloMosaic Idealize.ShloMosaic.ValueIdx

theorem firstHead_apply (y : Fin 64) (l : Fin 128) : firstHead (ix2 y l) = if l.val < 64 then 1#1 else 0#1 := by
  unfold firstHead
  show IntOp.cmpi .slt (iota .tc S64x128 32 [1] iota_S64x128_d1_w32 (ix2 y l)) 64#32 = _
  rw [iota_single_apply]
  show IntOp.cmpi .slt (BitVec.ofNat 32 l.val) 64#32 = _
  revert l; decide +kernel

/-- The half of the stacked rows a row lies in is its head. -/
theorem stacked_apply (q : Vec Ideal S1x64x128 .bf16) (h : Fin 2) (y : Fin 64) (l : Fin 128) (s : Fin 128)
    (hs : s.val = 64 * h.val + y.val) :
    stacked q (ix2 s l) = if l.val / 64 = h.val then q (ix3 0 y l) else (0 : EReal) := by
  have hz : (Scalar.ofBits .bf16 0x0000#16 : Ideal .bf16) = (0 : EReal) := by
    show Ideal.ofBits .bf16 0x0000#16 = 0
    simp [Ideal.ofBits, Ideal.ieee]
  have hq : shapeCast S64x128 q shapeCasts_S1x64x128_S64x128 (ix2 y l) = q (ix3 0 y l) := by
    refine shapeCast_apply q _ _ _ ?_
    rw [Shape.rowMajor_val_three, Shape.rowMajor_val_two]
    show (0 * 64 + y.val) * 128 + l.val = y.val * 128 + l.val
    omega
  have hh : h.val = 0 ∨ h.val = 1 := by omega
  unfold stacked
  rcases hh with h0 | h1
  · rw [concatenate_pair_apply_left (t := S128x128) (s₁ := S64x128) (s₂ := S64x128) 0 _ _ _ _ rfl (ix2 y l) (fun b => by
      match b with
      | ⟨0, _⟩ => show y.val = s.val; omega
      | ⟨1, _⟩ => rfl)]
    rw [select_apply, firstHead_apply, hq]
    have := l.isLt
    by_cases hl : l.val < 64
    · rw [if_pos hl, select_one, if_pos (by omega)]
    · rw [if_neg hl, select_zero, if_neg (by omega)]; exact hz
  · rw [concatenate_pair_apply_right (t := S128x128) (s₁ := S64x128) (s₂ := S64x128) 0 _ _ _ _ rfl rfl (ix2 y l) (fun b => by
      match b with
      | ⟨0, _⟩ => intro h; exact absurd rfl h
      | ⟨1, _⟩ => intro _; rfl) (by show y.val + 64 = s.val; omega)]
    rw [select_apply, firstHead_apply, hq]
    have := l.isLt
    by_cases hl : l.val < 64
    · rw [if_pos hl, select_one, if_neg (by omega)]; exact hz
    · rw [if_neg hl, select_zero, if_pos (by omega)]

/-- The window's bias: plane `κ / 128`, column `κ % 128`. -/
theorem biasRow_apply (b : Fin 4 → Vec Ideal S1x1x1x128x128 .f32) (s : Fin 128) (κ : Fin 512) :
    biasRow b (ix2 s κ) = b ⟨κ.val / 128, by omega⟩ (ix5 0 0 0 s ⟨κ.val % 128, Nat.mod_lt _ (by norm_num)⟩) := by
  have hb : ∀ (x : Vec Ideal S1x1x1x128x128 .f32) (t u : Fin 128),
      shapeCast S128x128 x shapeCasts_S1x1x1x128x128_S128x128 (ix2 t u) = x (ix5 0 0 0 t u) := fun x t u => by
    refine shapeCast_apply x _ _ _ ?_
    rw [Shape.rowMajor_val_five, Shape.rowMajor_val_two]
    show (((0 * 1 + 0) * 1 + 0) * 128 + t.val) * 128 + u.val = t.val * 128 + u.val
    omega
  have hk : κ.val / 128 = 0 ∨ κ.val / 128 = 1 ∨ κ.val / 128 = 2 ∨ κ.val / 128 = 3 := by omega
  have hi : ∀ j : Fin 4, κ.val / 128 = j.val →
      biasRow b (ix2 s κ) = shapeCast S128x128 (b j) shapeCasts_S1x1x1x128x128_S128x128
        (ix2 s ⟨κ.val % 128, Nat.mod_lt _ (by norm_num)⟩) := fun j hj => by
    unfold biasRow
    refine concatenate_apply_piece (t := S128x512) 1 _ _ (ix2 s κ) j.val (by show j.val < 4; omega) S128x128
      (shapeCast S128x128 (b j) shapeCasts_S1x1x1x128x128_S128x128) ?_ rfl (128 * j.val) ?_ _ ?_ ?_
    · revert j; intro j _; fin_cases j <;> rfl
    · revert j; intro j _; fin_cases j <;> rfl
    · intro a ha
      match a with
      | ⟨0, _⟩ => rfl
      | ⟨1, _⟩ => exact absurd rfl ha
    · show 128 * j.val + κ.val % 128 = κ.val
      omega
  rw [hi ⟨κ.val / 128, by omega⟩ rfl, hb]

/-! ## The products -/

/-- Rows times columns of a transposed right operand, over 128 lanes. -/
theorem winProduct_apply (x : FVec Ideal S128x128 .bf16) (y : FVec Ideal S512x128 .bf16) (s : Fin 128) (κ : Fin 512) :
    matmul dot_S128x128_S512x128_S128x512_1_1_0_0_n_n none x y (constant S128x512 .f32 0x00000000#32) (ix2 s κ)
      = ∑ l : Fin 128, (x (ix2 s l) : EReal) * y (ix2 κ l) := by
  simp only [matmul]
  rw [Ideal.matmul_constant_zero_apply,
    ← Equiv.sum_comp (contrEquiv1 dot_S128x128_S512x128_S128x512_1_1_0_0_n_n 128 rfl rfl).symm]
  refine Finset.sum_congr rfl fun l _ => ?_
  have hl := contrEquiv1_symm_val dot_S128x128_S512x128_S128x512_1_1_0_0_n_n 128 rfl rfl l
  congr 2
  · funext a; apply Fin.ext
    match a with
    | ⟨0, _⟩ => rfl
    | ⟨1, _⟩ => exact hl
  · funext a; apply Fin.ext
    match a with
    | ⟨0, _⟩ => rfl
    | ⟨1, _⟩ => exact hl

theorem ctxProduct_apply (x : FVec Ideal S128x128 .bf16) (y : FVec Ideal S256x128 .bf16) (s : Fin 128) (κ : Fin 256) :
    matmul dot_S128x128_S256x128_S128x256_1_1_0_0_n_n none x y (constant S128x256 .f32 0x00000000#32) (ix2 s κ)
      = ∑ l : Fin 128, (x (ix2 s l) : EReal) * y (ix2 κ l) := by
  simp only [matmul]
  rw [Ideal.matmul_constant_zero_apply,
    ← Equiv.sum_comp (contrEquiv1 dot_S128x128_S256x128_S128x256_1_1_0_0_n_n 128 rfl rfl).symm]
  refine Finset.sum_congr rfl fun l _ => ?_
  have hl := contrEquiv1_symm_val dot_S128x128_S256x128_S128x256_1_1_0_0_n_n 128 rfl rfl l
  congr 2
  · funext a; apply Fin.ext
    match a with
    | ⟨0, _⟩ => rfl
    | ⟨1, _⟩ => exact hl
  · funext a; apply Fin.ext
    match a with
    | ⟨0, _⟩ => rfl
    | ⟨1, _⟩ => exact hl

theorem winValues_apply (x : FVec Ideal S128x512 .bf16) (y : FVec Ideal S512x128 .bf16) (s l : Fin 128) :
    matmul dot_S128x512_S512x128_S128x128_1_0_0_1_n_n none x y (constant S128x128 .f32 0x00000000#32) (ix2 s l)
      = ∑ κ : Fin 512, (x (ix2 s κ) : EReal) * y (ix2 κ l) := by
  simp only [matmul]
  rw [Ideal.matmul_constant_zero_apply,
    ← Equiv.sum_comp (contrEquiv1 dot_S128x512_S512x128_S128x128_1_0_0_1_n_n 512 rfl rfl).symm]
  refine Finset.sum_congr rfl fun κ _ => ?_
  have hl := contrEquiv1_symm_val dot_S128x512_S512x128_S128x128_1_0_0_1_n_n 512 rfl rfl κ
  congr 2
  · funext a; apply Fin.ext
    match a with
    | ⟨0, _⟩ => rfl
    | ⟨1, _⟩ => exact hl
  · funext a; apply Fin.ext
    match a with
    | ⟨0, _⟩ => exact hl
    | ⟨1, _⟩ => rfl

theorem ctxValues_apply (x : FVec Ideal S128x256 .bf16) (y : FVec Ideal S256x128 .bf16) (s l : Fin 128) :
    matmul dot_S128x256_S256x128_S128x128_1_0_0_1_n_n none x y (constant S128x128 .f32 0x00000000#32) (ix2 s l)
      = ∑ κ : Fin 256, (x (ix2 s κ) : EReal) * y (ix2 κ l) := by
  simp only [matmul]
  rw [Ideal.matmul_constant_zero_apply,
    ← Equiv.sum_comp (contrEquiv1 dot_S128x256_S256x128_S128x128_1_0_0_1_n_n 256 rfl rfl).symm]
  refine Finset.sum_congr rfl fun κ _ => ?_
  have hl := contrEquiv1_symm_val dot_S128x256_S256x128_S128x128_1_0_0_1_n_n 256 rfl rfl κ
  congr 2
  · funext a; apply Fin.ext
    match a with
    | ⟨0, _⟩ => rfl
    | ⟨1, _⟩ => exact hl
  · funext a; apply Fin.ext
    match a with
    | ⟨0, _⟩ => exact hl
    | ⟨1, _⟩ => rfl

/-- A product in which the left operand keeps one head's lanes is that head's product. -/
theorem sum_head (h : Fin 2) (f g : Fin 128 → ℝ) :
    ∑ l : Fin 128, (if l.val / 64 = h.val then (f l : EReal) else 0) * (g l : EReal)
      = ((∑ d : Fin 64, f ⟨64 * h.val + d.val, by omega⟩ * g ⟨64 * h.val + d.val, by omega⟩ : ℝ) : EReal) := by
  have h1 : ∀ l : Fin 128, (if l.val / 64 = h.val then (f l : EReal) else 0) * (g l : EReal)
      = (((if l.val / 64 = h.val then f l * g l else 0) : ℝ) : EReal) := fun l => by
    split_ifs <;> simp
  simp only [h1, ← coe_sum, EReal.coe_eq_coe_iff]
  rw [show (∑ l : Fin 128, if l.val / 64 = h.val then f l * g l else 0)
      = ∑ l : Fin (64 + 64), (fun l : Fin 128 => if l.val / 64 = h.val then f l * g l else 0) l from rfl, Fin.sum_univ_add]
  have e0 : ∀ d : Fin 64, (Fin.castAdd 64 d : Fin 128).val / 64 = 0 := fun d => by simp
  have e1 : ∀ d : Fin 64, (Fin.natAdd 64 d : Fin 128).val / 64 = 1 := fun d => by simp
  simp only [e0, e1]
  fin_cases h
  · simp
    exact Finset.sum_congr rfl fun d _ => by congr 2 <;> exact Fin.ext (by simp)
  · simp
    exact Finset.sum_congr rfl fun d _ => by congr 2 <;> exact Fin.ext (by simp; omega)

end Cert.KernelIdeal.Attn

end
-- ==== Proof.Attn.UnitSum.lean ====
/- What a unit stores, for finite queries, keys and values: at every query and lane the real quotient of the weighted
   values of its head by the sum of the weights. -/
module

public import proofs.«01_k».proof.Proof.Attn.UnitValue

@[expose] public section

noncomputable section

namespace Cert.Attn

open Idealize.ShloMosaic

/-- The quotient of the weighted values by the weights, over window keys with scores `t` and context keys with scores `u`. -/
def average {ι κ : Type*} [Fintype ι] [Fintype κ] (t : ι → EReal) (u : κ → ℝ) (v : ι → ℝ) (w : κ → ℝ) : ℝ :=
  ((∑ i, pow2 (t i) * v i) + ∑ k, (2 : ℝ) ^ u k * w k) / ((∑ i, pow2 (t i)) + ∑ k, (2 : ℝ) ^ u k)

/-- The product of a query with a key over the lanes of head `h` of a pair. -/
def score (h : Fin 2) (q k : Fin 128 → ℝ) : ℝ :=
  ∑ d : Fin 64, q ⟨64 * h.val + d.val, by omega⟩ * k ⟨64 * h.val + d.val, by omega⟩

end Cert.Attn

namespace Cert.KernelIdeal.Attn

open Cert.KernelIdeal Cert.KernelIdeal.Gen Cert.Attn Idealize.ShloMosaic Idealize.ShloMosaic.ValueIdx

/-- The row of the stacked block that holds query `y` of head `h`. -/
def stackRow (h : Fin 2) (y : Fin 64) : Fin 128 := ⟨64 * h.val + y.val, by omega⟩

section

variable (q : Vec Ideal S1x64x128 .bf16) (k v : Vec Ideal S1x512x128 .bf16) (kc vc : Vec Ideal S1x256x128 .bf16)
  (b : Fin 4 → Vec Ideal S1x1x1x128x128 .f32)
  (Q : Fin 64 → Fin 128 → ℝ) (K V : Fin 512 → Fin 128 → ℝ) (Kc Vc : Fin 256 → Fin 128 → ℝ)

theorem keys_apply (x : Vec Ideal S1x512x128 .bf16) (κ : Fin 512) (l : Fin 128) :
    shapeCast S512x128 x shapeCasts_S1x512x128_S512x128 (ix2 κ l) = x (ix3 0 κ l) := by
  refine shapeCast_apply x _ _ _ ?_
  rw [Shape.rowMajor_val_three, Shape.rowMajor_val_two]
  show (0 * 512 + κ.val) * 128 + l.val = κ.val * 128 + l.val
  omega

theorem ctxKeys_apply (x : Vec Ideal S1x256x128 .bf16) (κ : Fin 256) (l : Fin 128) :
    shapeCast S256x128 x shapeCasts_S1x256x128_S256x128 (ix2 κ l) = x (ix3 0 κ l) := by
  refine shapeCast_apply x _ _ _ ?_
  rw [Shape.rowMajor_val_three, Shape.rowMajor_val_two]
  show (0 * 256 + κ.val) * 128 + l.val = κ.val * 128 + l.val
  omega

theorem winScores_apply (hq : ∀ y l, q (ix3 0 y l) = (Q y l : EReal)) (hk : ∀ κ l, k (ix3 0 κ l) = (K κ l : EReal))
    (h : Fin 2) (y : Fin 64) (κ : Fin 512) :
    winScores q k b (ix2 (stackRow h y) κ) = (score h (Q y) (K κ) : EReal) + biasRow b (ix2 (stackRow h y) κ) := by
  unfold winScores
  rw [addf_apply, winProduct_apply]
  congr 1
  rw [score, ← sum_head h (Q y) (K κ)]
  refine Finset.sum_congr rfl fun l _ => ?_
  rw [stacked_apply q h y l _ rfl, keys_apply, hk, hq]

theorem ctxScores_apply (hq : ∀ y l, q (ix3 0 y l) = (Q y l : EReal)) (hk : ∀ κ l, kc (ix3 0 κ l) = (Kc κ l : EReal))
    (h : Fin 2) (y : Fin 64) (κ : Fin 256) :
    ctxScores q kc (ix2 (stackRow h y) κ) = (score h (Q y) (Kc κ) : EReal) := by
  unfold ctxScores
  rw [ctxProduct_apply, score, ← sum_head h (Q y) (Kc κ)]
  refine Finset.sum_congr rfl fun l _ => ?_
  rw [stacked_apply q h y l _ rfl, ctxKeys_apply, hk, hq]

end

section

variable (sw : FVec Ideal S128x512 .f32) (sc : FVec Ideal S128x256 .f32)

/-- A column of row values read at a row. -/
theorem column_apply (x : FVec Ideal S128 .f32) (s : Fin 128) (z : Fin 1) :
    shapeCast S128x1 x shapeCasts_S128_S128x1 (ix2 s z) = x (ix1 s) := by
  refine shapeCast_apply x _ _ _ ?_
  rw [Shape.rowMajor_val_one, Shape.rowMajor_val_two]
  show s.val = s.val * 1 + z.val
  omega

theorem negInf_eq : (FloatOps.ofBits .f32 0xFF800000#32 : Ideal .f32) = (⊥ : EReal) := by
  show Ideal.ofBits .f32 0xFF800000#32 = ⊥
  simp [Ideal.ofBits, Ideal.ieee]

theorem winMax_apply (s : Fin 128) :
    multiReduction .maximumf [1] S128 sw 0xFF800000#32 reduces_S128x512_S128 (.inl rfl) rfl (ix1 s)
      = (Finset.univ : Finset (Fin 512)).fold max (⊥ : EReal) fun κ => sw (ix2 s κ) := by
  refine (Ideal.multiReduction_maximumf_single _ _ _ _ _ _).trans ?_
  rw [negInf_eq]
  refine Finset.fold_congr fun κ _ => congrArg sw ?_
  funext a
  match a with
  | ⟨0, _⟩ => rfl
  | ⟨1, _⟩ => rfl

theorem ctxMax_apply (s : Fin 128) :
    multiReduction .maximumf [1] S128 sc 0xFF800000#32 reduces_S128x256_S128 (.inl rfl) rfl (ix1 s)
      = (Finset.univ : Finset (Fin 256)).fold max (⊥ : EReal) fun κ => sc (ix2 s κ) := by
  refine (Ideal.multiReduction_maximumf_single _ _ _ _ _ _).trans ?_
  rw [negInf_eq]
  refine Finset.fold_congr fun κ _ => congrArg sc ?_
  funext a
  match a with
  | ⟨0, _⟩ => rfl
  | ⟨1, _⟩ => rfl

theorem greatest_apply (s : Fin 128) (z : Fin 1) :
    greatest sw sc (ix2 s z) = max ((Finset.univ : Finset (Fin 512)).fold max (⊥ : EReal) fun κ => sw (ix2 s κ))
      ((Finset.univ : Finset (Fin 256)).fold max (⊥ : EReal) fun κ => sc (ix2 s κ)) := by
  unfold greatest
  rw [maximumf_apply, column_apply, column_apply, winMax_apply, ctxMax_apply]

theorem winWeights_apply (s : Fin 128) (κ : Fin 512) :
    winWeights sw sc (ix2 s κ) = Ideal.exp2 (sw (ix2 s κ) - greatest sw sc (ix2 s 0)) := by
  unfold winWeights
  show Ideal.exp2 (sw (ix2 s κ) - broadcastTo S128x512 (greatest sw sc) broadcasts_S128x1_S128x512 (ix2 s κ)) = _
  rw [broadcastTo_apply (greatest sw sc) _ (ix2 s κ) (ix2 s 0) (fun a => by
    match a with
    | ⟨0, _⟩ => rfl
    | ⟨1, _⟩ => rfl)]

theorem ctxWeights_apply (s : Fin 128) (κ : Fin 256) :
    ctxWeights sw sc (ix2 s κ) = Ideal.exp2 (sc (ix2 s κ) - greatest sw sc (ix2 s 0)) := by
  unfold ctxWeights
  show Ideal.exp2 (sc (ix2 s κ) - broadcastTo S128x256 (greatest sw sc) broadcasts_S128x1_S128x256 (ix2 s κ)) = _
  rw [broadcastTo_apply (greatest sw sc) _ (ix2 s κ) (ix2 s 0) (fun a => by
    match a with
    | ⟨0, _⟩ => rfl
    | ⟨1, _⟩ => rfl)]

theorem total_apply (s : Fin 128) (z : Fin 1) :
    total sw sc (ix2 s z) = (∑ κ : Fin 512, (sw (ix2 s κ) : EReal)) + ∑ κ : Fin 256, (sc (ix2 s κ) : EReal) := by
  unfold total
  rw [addf_apply, column_apply, column_apply]
  refine congrArg₂ (· + ·) ((Ideal.multiReduction_add_single _ _ _ _ _ _).trans ?_)
    ((Ideal.multiReduction_add_single _ _ _ _ _ _).trans ?_)
  · refine Finset.sum_congr rfl fun κ _ => ?_
    congr 1
    funext a
    match a with
    | ⟨0, _⟩ => rfl
    | ⟨1, _⟩ => rfl
  · refine Finset.sum_congr rfl fun κ _ => ?_
    congr 1
    funext a
    match a with
    | ⟨0, _⟩ => rfl
    | ⟨1, _⟩ => rfl

theorem averaged_apply (v : Vec Ideal S1x512x128 .bf16) (vc : Vec Ideal S1x256x128 .bf16) (s l : Fin 128) :
    averaged sw sc v vc (ix2 s l)
      = Ideal.div ((∑ κ : Fin 512, (sw (ix2 s κ) : EReal) * v (ix3 0 κ l)) + ∑ κ : Fin 256, (sc (ix2 s κ) : EReal) * vc (ix3 0 κ l))
          ((∑ κ : Fin 512, (sw (ix2 s κ) : EReal)) + ∑ κ : Fin 256, (sc (ix2 s κ) : EReal)) := by
  unfold averaged
  rw [divf_apply, addf_apply, winValues_apply, ctxValues_apply,
    broadcastTo_apply (total sw sc) _ (ix2 s l) (ix2 s 0) (fun a => by
      match a with
      | ⟨0, _⟩ => rfl
      | ⟨1, _⟩ => rfl), total_apply]
  exact congrArg₂ Ideal.div (congrArg₂ (· + ·)
    (Finset.sum_congr rfl fun κ _ => congrArg (fun e : EReal => (sw (ix2 s κ) : EReal) * e) (keys_apply v κ l))
    (Finset.sum_congr rfl fun κ _ => congrArg (fun e : EReal => (sc (ix2 s κ) : EReal) * e) (ctxKeys_apply vc κ l))) rfl

theorem unstacked_apply (o : FVec Ideal S128x128 .f32) (h : Fin 2) (y : Fin 64) (l : Fin 128) (hl : l.val / 64 = h.val) :
    unstacked o (ix3 0 y l) = o (ix2 (stackRow h y) l) := by
  unfold unstacked
  rw [shapeCast_apply _ _ (ix3 0 y l) (ix2 y l) (by
    rw [Shape.rowMajor_val_three, Shape.rowMajor_val_two]
    show y.val * 128 + l.val = (0 * 64 + y.val) * 128 + l.val
    omega)]
  show select firstHead _ _ (ix2 y l) = _
  rw [select_apply, firstHead_apply]
  have hh : h.val = 0 ∨ h.val = 1 := by omega
  rcases hh with h0 | h1
  · rw [if_pos (by omega), select_one, extractStridedSlice_apply _ _ _ (ix2 y l) (ix2 (stackRow h y) l) (fun a => by
      match a with
      | ⟨0, _⟩ => show 64 * h.val + y.val = 0 + y.val; omega
      | ⟨1, _⟩ => show l.val = 0 + l.val; omega)]
  · rw [if_neg (by omega), select_zero, extractStridedSlice_apply _ _ _ (ix2 y l) (ix2 (stackRow h y) l) (fun a => by
      match a with
      | ⟨0, _⟩ => show 64 * h.val + y.val = 64 + y.val; omega
      | ⟨1, _⟩ => show l.val = 0 + l.val; omega)]

end

/-- One unit at query `y` and lane `l` of head `h`. -/
theorem unit_apply (q : Vec Ideal S1x64x128 .bf16) (k v : Vec Ideal S1x512x128 .bf16) (kc vc : Vec Ideal S1x256x128 .bf16)
    (b : Fin 4 → Vec Ideal S1x1x1x128x128 .f32)
    (Q : Fin 64 → Fin 128 → ℝ) (K V : Fin 512 → Fin 128 → ℝ) (Kc Vc : Fin 256 → Fin 128 → ℝ)
    (hq : ∀ y l, q (ix3 0 y l) = (Q y l : EReal)) (hk : ∀ κ l, k (ix3 0 κ l) = (K κ l : EReal))
    (hv : ∀ κ l, v (ix3 0 κ l) = (V κ l : EReal)) (hkc : ∀ κ l, kc (ix3 0 κ l) = (Kc κ l : EReal))
    (hvc : ∀ κ l, vc (ix3 0 κ l) = (Vc κ l : EReal))
    (h : Fin 2) (y : Fin 64) (l : Fin 128) (hl : l.val / 64 = h.val)
    (hb : ∀ κ, biasRow b (ix2 (stackRow h y) κ) ≠ (⊤ : EReal)) :
    unit q k v kc vc b (ix3 0 y l)
      = ((average (fun κ => (score h (Q y) (K κ) : EReal) + biasRow b (ix2 (stackRow h y) κ)) (fun κ => score h (Q y) (Kc κ))
          (fun κ => V κ l) (fun κ => Vc κ l) : ℝ) : EReal) := by
  unfold unit
  rw [unstacked_apply _ h y l hl, averaged_apply]
  simp only [winWeights_apply, ctxWeights_apply, greatest_apply, hv, hvc,
    winScores_apply q k b Q K hq hk, ctxScores_apply q kc Q Kc hq hkc]
  refine average_eq _ (fun κ => ?_) _ 0 _ _ _ rfl
  exact ne_of_lt (EReal.add_lt_top (EReal.coe_ne_top _) (hb κ))

end Cert.KernelIdeal.Attn

end
-- ==== Proof.Attn.Block.lean ====
/- What the body leaves in its output block: at every query and lane the attention over the query's window of eight grid
   rows and over the context. -/
module

public import proofs.«01_k».proof.Proof.Attn.UnitSum
public import Idealize.ShloMosaic.Lib.Pipeline.ValueKit.Tiles

@[expose] public section

noncomputable section

namespace Cert.Attn

/-- The first grid row of the window of row `R`: four rows back, kept inside the grid. -/
def winRow (R : ℕ) : ℕ := min (R - 4) 120

/-- The product of a query with a key over the 64 lanes of head `H`. -/
def lanes (H : ℕ) (q k : ℕ → ℝ) : ℝ := ∑ d : Fin 64, q (64 * H + d.val) * k (64 * H + d.val)

/-- The attention at column `x` of grid row `R`, lane `l`: the query's lanes `q`, the keys and values of the sequence and of
    the context by position and lane, and the bias table `T` by pair of heads, plane, stacked query and key. -/
def attend (q : ℕ → ℝ) (k v kc vc : ℕ → ℕ → ℝ) (T : ℕ → ℕ → ℕ → ℕ → EReal) (R x l : ℕ) : ℝ :=
  average
    (fun κ : Fin 512 => (lanes (l / 64) q (k (64 * winRow R + κ.val)) : EReal)
      + T (l / 128) (winRow R + 7 + 2 * (κ.val / 128) - R) (64 * (l / 64 % 2) + x) (κ.val % 128))
    (fun κ : Fin 256 => lanes (l / 64) q (kc κ.val))
    (fun κ => v (64 * winRow R + κ.val) l) (fun κ => vc κ.val l)

end Cert.Attn

namespace Cert.KernelIdeal.Attn

open Cert.KernelIdeal Cert.KernelIdeal.Gen Cert.Attn Idealize.ShloMosaic Idealize.ShloMosaic.ValueIdx
open Idealize.ShloMosaic.TcCoe

/-- Where a row's window starts in the sequence. -/
theorem keyStart_eq (i : grid0.Coords) (r : Fin 16) :
    k0_off2 i (BitVec.ofNat 32 r.val) 1 = 64 * winRow (16 * (i 1).val + r.val) := by
  have h : ∀ (a : Fin 8) (r : Fin 16), (BitVec.toNat (Scalar.indexCast (Scalar.muli (Scalar.minsi 120#32 (Scalar.maxsi 0#32
      (Scalar.subi (Scalar.addi (Scalar.muli (BitVec.ofNat 32 a.val) 16#32)
        (Scalar.addi (Scalar.muli 0#32 16#32) (BitVec.ofNat 32 r.val))) 4#32))) 64#32) : Index)) = 64 * winRow (16 * a.val + r.val) := by
    unfold winRow; decide +kernel
  exact h (i 1) r

/-- The plane of the bias table that goes with the `j`-th two rows of the window. -/
theorem plane_eq (i : grid0.Coords) (r : Fin 16) (j : Fin 4) :
    k0_off3 i (BitVec.ofNat 32 r.val) (BitVec.ofNat 32 (2 * j.val)) 2
      = winRow (16 * (i 1).val + r.val) + 7 + 2 * j.val - (16 * (i 1).val + r.val) := by
  have h : ∀ (a : Fin 8) (r : Fin 16) (j : Fin 4), (BitVec.toNat (Scalar.indexCast (Scalar.addi (Scalar.addi (Scalar.subi
      (Scalar.minsi 120#32 (Scalar.maxsi 0#32
      (Scalar.subi (Scalar.addi (Scalar.muli (BitVec.ofNat 32 a.val) 16#32)
        (Scalar.addi (Scalar.muli 0#32 16#32) (BitVec.ofNat 32 r.val))) 4#32)))
      (Scalar.addi (Scalar.muli (BitVec.ofNat 32 a.val) 16#32)
        (Scalar.addi (Scalar.muli 0#32 16#32) (BitVec.ofNat 32 r.val)))) 7#32) (BitVec.ofNat 32 (2 * j.val))) : Index))
        = winRow (16 * a.val + r.val) + 7 + 2 * j.val - (16 * a.val + r.val) := by
    unfold winRow; decide +kernel
  exact h (i 1) r j

section

variable (c : Dev nD) (i : grid0.Coords) (arg2 : Memref sig .tc .vmem S1x1024x512 .bf16) (harg2 : arg2.IsWhole) (arg3 : Memref sig .tc .vmem S1x8192x512 .bf16) (harg3 : arg3.IsWhole) (arg4 : Memref sig .tc .vmem S1x8192x512 .bf16) (harg4 : arg4.IsWhole) (arg5 : Memref sig .tc .vmem S1x256x512 .bf16) (harg5 : arg5.IsWhole) (arg6 : Memref sig .tc .vmem S1x256x512 .bf16) (harg6 : arg6.IsWhole) (arg7 : Memref sig .tc .vmem S1x4x14x128x128 .f32) (harg7 : arg7.IsWhole) (arg8 : Memref sig .tc .vmem S1x1024x512 .bf16) (harg8 : arg8.IsWhole)
  (x0 : Vec Ideal S1x1024x512 .bf16) (x1 : Vec Ideal S1x8192x512 .bf16) (x2 : Vec Ideal S1x8192x512 .bf16) (x3 : Vec Ideal S1x256x512 .bf16) (x4 : Vec Ideal S1x256x512 .bf16) (x5 : Vec Ideal S1x4x14x128x128 .f32)
  (X0 X1 X2 X3 X4 : ℕ → ℕ → ℝ) (T : ℕ → ℕ → ℕ → ℕ → EReal)
  (h0 : ∀ n l, x0 (ix3 0 n l) = (X0 n.val l.val : EReal)) (h1 : ∀ n l, x1 (ix3 0 n l) = (X1 n.val l.val : EReal))
  (h2 : ∀ n l, x2 (ix3 0 n l) = (X2 n.val l.val : EReal)) (h3 : ∀ n l, x3 (ix3 0 n l) = (X3 n.val l.val : EReal))
  (h4 : ∀ n l, x4 (ix3 0 n l) = (X4 n.val l.val : EReal))
  (h5 : ∀ p d s κ, x5 (ix5 0 p d s κ) = T p.val d.val s.val κ.val) (hT : ∀ p d s κ, T p d s κ ≠ ⊤)

include h0 h1 h2 h3 h4 h5 hT

/-- A unit's payload at an index. -/
theorem piece_apply (r : Fin 16) (p : Fin 4) (y : Fin 64) (l : Fin 128) :
    (piece i arg2 harg2 arg3 harg3 arg4 harg4 arg5 harg5 arg6 harg6 arg7 harg7 x0 x1 x2 x3 x4 x5 r p).2 (ix3 0 y l)
      = ((attend (X0 (64 * r.val + y.val)) X1 X2 X3 X4 T (16 * (i 1).val + r.val) y.val (128 * p.val + l.val) : ℝ) : EReal) := by
  have hk := keyStart_eq i r
  have hp : (128 * p.val + l.val) / 128 = p.val := by omega
  have hh : (128 * p.val + l.val) / 64 % 2 = l.val / 64 := by omega
  have hH : (128 * p.val + l.val) / 64 = 2 * p.val + l.val / 64 := by omega
  have hwin : 64 * winRow (16 * (i 1).val + r.val) + 512 ≤ 8192 := by unfold winRow; omega
  have hpl : ∀ j : Fin 4, winRow (16 * (i 1).val + r.val) + 7 + 2 * j.val - (16 * (i 1).val + r.val) < 14 := fun j => by
    have h := bOff_inb i r p j 2
    rw [← plane_eq i r j]
    exact h
  have hb : ∀ (h : Fin 2) (κ : Fin 512), biasRow (fun j => arg7.view.readAt (Elt Ideal) (Rect.unit (s := S1x4x14x128x128) (bOff i r p j) S1x1x1x128x128.size (bOff_inb i r p j)).toLoadRect (harg7.unread x5)) (ix2 (stackRow h y) κ)
      = T p.val (winRow (16 * (i 1).val + r.val) + 7 + 2 * (κ.val / 128) - (16 * (i 1).val + r.val)) (64 * h.val + y.val) (κ.val % 128) := fun h κ => by
    rw [biasRow_apply]
    refine (View.ld_unit_apply_of _ _ _ _ _ (ix5 0 p ⟨_, hpl ⟨κ.val / 128, by omega⟩⟩ (stackRow h y) ⟨κ.val % 128, Nat.mod_lt _ (by norm_num)⟩) (fun a => ?_)).trans
      ((congrFun (harg7.read_unread x5) _).trans (h5 _ _ _ _))
    match a with
    | ⟨0, _⟩ => rfl
    | ⟨1, _⟩ => rfl
    | ⟨2, _⟩ => exact (plane_eq i r ⟨κ.val / 128, by omega⟩).symm
    | ⟨3, _⟩ => exact (Nat.zero_add _).symm
    | ⟨4, _⟩ => exact (Nat.zero_add _).symm
  refine (unit_apply _ _ _ _ _ _ (fun y l => X0 (64 * r.val + y.val) (128 * p.val + l.val))
    (fun κ l => X1 (64 * winRow (16 * (i 1).val + r.val) + κ.val) (128 * p.val + l.val))
    (fun κ l => X2 (64 * winRow (16 * (i 1).val + r.val) + κ.val) (128 * p.val + l.val))
    (fun κ l => X3 κ.val (128 * p.val + l.val)) (fun κ l => X4 κ.val (128 * p.val + l.val))
    (fun y l => ?_) (fun κ l => ?_) (fun κ l => ?_) (fun κ l => ?_) (fun κ l => ?_) ⟨l.val / 64, by omega⟩ y l rfl (fun κ => ?_)).trans ?_
  · refine (View.ld_unit_apply_of _ _ _ _ _ (ix3 0 ⟨64 * r.val + y.val, by omega⟩ ⟨128 * p.val + l.val, by omega⟩) (fun a => ?_)).trans
      ((congrFun (harg2.read_unread x0) _).trans (h0 _ _))
    match a with
    | ⟨0, _⟩ => rfl
    | ⟨1, _⟩ => rfl
    | ⟨2, _⟩ => rfl
  · refine (View.ld_unit_apply_of _ _ _ _ _ (ix3 0 ⟨64 * winRow (16 * (i 1).val + r.val) + κ.val, by omega⟩ ⟨128 * p.val + l.val, by omega⟩) (fun a => ?_)).trans
      ((congrFun (harg3.read_unread x1) _).trans (h1 _ _))
    match a with
    | ⟨0, _⟩ => rfl
    | ⟨1, _⟩ => exact congrArg (· + κ.val) hk.symm
    | ⟨2, _⟩ => rfl
  · refine (View.ld_unit_apply_of _ _ _ _ _ (ix3 0 ⟨64 * winRow (16 * (i 1).val + r.val) + κ.val, by omega⟩ ⟨128 * p.val + l.val, by omega⟩) (fun a => ?_)).trans
      ((congrFun (harg4.read_unread x2) _).trans (h2 _ _))
    match a with
    | ⟨0, _⟩ => rfl
    | ⟨1, _⟩ => exact congrArg (· + κ.val) hk.symm
    | ⟨2, _⟩ => rfl
  · refine (View.ld_unit_apply_of _ _ _ _ _ (ix3 0 κ ⟨128 * p.val + l.val, by omega⟩) (fun a => ?_)).trans
      ((congrFun (harg5.read_unread x3) _).trans (h3 _ _))
    match a with
    | ⟨0, _⟩ => rfl
    | ⟨1, _⟩ => exact (Nat.zero_add _).symm
    | ⟨2, _⟩ => rfl
  · refine (View.ld_unit_apply_of _ _ _ _ _ (ix3 0 κ ⟨128 * p.val + l.val, by omega⟩) (fun a => ?_)).trans
      ((congrFun (harg6.read_unread x4) _).trans (h4 _ _))
    match a with
    | ⟨0, _⟩ => rfl
    | ⟨1, _⟩ => exact (Nat.zero_add _).symm
    | ⟨2, _⟩ => rfl
  · rw [hb]; exact hT _ _ _ _
  · have hs : ∀ q k : ℕ → ℝ, score ⟨l.val / 64, by omega⟩ (fun l' => q (128 * p.val + l'.val)) (fun l' => k (128 * p.val + l'.val))
        = lanes ((128 * p.val + l.val) / 64) q k := fun q k => by
      unfold score lanes
      refine Finset.sum_congr rfl fun d _ => ?_
      have e : 128 * p.val + (64 * (l.val / 64) + d.val) = 64 * ((128 * p.val + l.val) / 64) + d.val := by omega
      simp only [e]
    unfold attend
    simp only [hb, hs, hp, hh]

/-- The output block after the body, at an index. -/
theorem out_apply (n : Fin 1024) (l : Fin 512) :
    out0_A_6 (F := Ideal) c i arg2 harg2 arg3 harg3 arg4 harg4 arg5 harg5 arg6 harg6 arg7 harg7 arg8 harg8 x0 x1 x2 x3 x4 x5 (ix3 0 n l)
      = ((attend (X0 n.val) X1 X2 X3 X4 T (16 * (i 1).val + n.val / 64) (n.val % 64) l.val : ℝ) : EReal) := by
  unfold out0_A_6
  rw [View.read_writes_junk_eq_canon]
  refine (View.canon_apply_of_pieces (S := S1x1024x512) (Val := Elt Ideal) (e := .bf16)
    (fun z => ((attend (X0 (z 1).val) X1 X2 X3 X4 T (16 * (i 1).val + (z 1).val / 64) ((z 1).val % 64) (z 2).val : ℝ) : EReal)) _ ?_ _
    (cover0_A_6 c i arg2 harg2 arg3 harg3 arg4 harg4 arg5 harg5 arg6 harg6 arg7 harg7 arg8 harg8 x0 x1 x2 x3 x4 x5 _)).trans rfl
  rw [run_eq_pieces]
  intro pc hpc
  unfold pieces at hpc
  obtain ⟨r, -, hpc⟩ := List.mem_flatMap.1 hpc
  obtain ⟨p, -, rfl⟩ := List.mem_map.1 hpc
  intro x
  obtain ⟨z, y, l, rfl⟩ : ∃ (z : Fin 1) (y : Fin 64) (l : Fin 128), x = ix3 z y l := ⟨x 0, x 1, x 2, by
    funext a
    match a with
    | ⟨0, _⟩ => rfl
    | ⟨1, _⟩ => rfl
    | ⟨2, _⟩ => rfl⟩
  obtain rfl : z = 0 := Subsingleton.elim _ _
  rw [piece_apply i arg2 harg2 arg3 harg3 arg4 harg4 arg5 harg5 arg6 harg6 arg7 harg7 x0 x1 x2 x3 x4 x5 X0 X1 X2 X3 X4 T h0 h1 h2 h3 h4 h5 hT]
  have e1 : ((piece i arg2 harg2 arg3 harg3 arg4 harg4 arg5 harg5 arg6 harg6 arg7 harg7 x0 x1 x2 x3 x4 x5 r p).1.emb (ix3 0 y l) 1).val = 64 * r.val + y.val := by
    show 64 * r.val + 1 * y.val = _; omega
  have e2 : ((piece i arg2 harg2 arg3 harg3 arg4 harg4 arg5 harg5 arg6 harg6 arg7 harg7 x0 x1 x2 x3 x4 x5 r p).1.emb (ix3 0 y l) 2).val = 128 * p.val + l.val := by
    show 128 * p.val + 1 * l.val = _; omega
  simp only [e1, e2]
  rw [show (64 * r.val + y.val) / 64 = r.val by omega, show (64 * r.val + y.val) % 64 = y.val by omega]

end

end Cert.KernelIdeal.Attn

end
-- ==== Proof.Attn.Array.lean ====
/- The kernel's whole result array: the thirty-two blocks, four batches by eight blocks of sixteen grid rows, put together. -/
module

public import proofs.«01_k».proof.Proof.Attn.Block
public import proofs.«01_k».proof.Proof.Gen.KernelIdeal.Value

@[expose] public section

noncomputable section

namespace Cert.KernelIdeal.Attn

open Cert.KernelIdeal Cert.KernelIdeal.Gen Cert.Attn Idealize.ShloMosaic.ValueIdx
open Idealize.ShloMosaic
open Idealize.ShloMosaic.TcCoe Idealize.SL.Sem
open Idealize.ShloMosaic.Pipeline (Dat)

variable (m : (ℓ : Loc nD τ sig) → Buf (Elt Ideal) ℓ)

/-- Which block each window stages at a point. -/
theorem idx (t : Fin cfg0.N) :
    win0_0.index t = ![(grid0.coords t 0).val, (grid0.coords t 1).val, 0]
    ∧ win0_1.index t = ![(grid0.coords t 0).val, 0, 1] ∧ win0_2.index t = ![(grid0.coords t 0).val, 0, 2]
    ∧ win0_3.index t = ![(grid0.coords t 0).val, 0, 1] ∧ win0_4.index t = ![(grid0.coords t 0).val, 0, 2]
    ∧ win0_5.index t = ![0, 0, 0, 0, 0]
    ∧ win0_6.index t = ![(grid0.coords t 0).val, (grid0.coords t 1).val, 0] := by
  revert t
  exact (by decide +kernel : ∀ t : Fin grid0.N,
    win0_0.index t = ![(grid0.coords t 0).val, (grid0.coords t 1).val, 0]
    ∧ win0_1.index t = ![(grid0.coords t 0).val, 0, 1] ∧ win0_2.index t = ![(grid0.coords t 0).val, 0, 2]
    ∧ win0_3.index t = ![(grid0.coords t 0).val, 0, 1] ∧ win0_4.index t = ![(grid0.coords t 0).val, 0, 2]
    ∧ win0_5.index t = ![0, 0, 0, 0, 0]
    ∧ win0_6.index t = ![(grid0.coords t 0).val, (grid0.coords t 1).val, 0])

section

variable (c : Dev nD) (X C : ℕ → ℕ → ℕ → ℝ) (T : ℕ → ℕ → ℕ → ℕ → EReal)
  (hX : ∀ b n l, m ((c : Thread nD τ).loc main_arg0) (ix3 b n l) = (X b.val n.val l.val : EReal))
  (hC : ∀ b n l, m ((c : Thread nD τ).loc main_arg1) (ix3 b n l) = (C b.val n.val l.val : EReal))
  (hT : ∀ p d s κ, V m c main_v50 (ix5 0 p d s κ) = T p.val d.val s.val κ.val) (hT' : ∀ p d s κ, T p d s κ ≠ ⊤)

/-- The result array by batch, position and lane. -/
def result (X C : ℕ → ℕ → ℕ → ℝ) (T : ℕ → ℕ → ℕ → ℕ → EReal) (b n l : ℕ) : ℝ :=
  attend (X b n) (fun k l => X b k (512 + l)) (fun k l => X b k (1024 + l)) (fun k l => C b k (512 + l))
    (fun k l => C b k (1024 + l)) T (n / 64) (n % 64) l

include hX in
theorem blk0 (t : Fin cfg0.N) (n : Fin 1024) (l : Fin 512) :
    iblk m c 0 t (ix3 0 n l) = (X (grid0.coords t 0).val (1024 * (grid0.coords t 1).val + n.val) l.val : EReal) := by
  have h1 : (grid0.coords t 1).val < 8 := (grid0.coords t 1).isLt
  refine (congrArg (V m c main_arg0) (funext fun a => Fin.ext ?_)).trans ((congrFun (V_main_arg0 m c) _).trans
    (hX ⟨(grid0.coords t 0).val, (grid0.coords t 0).isLt⟩ ⟨1024 * (grid0.coords t 1).val + n.val, by omega⟩ ⟨l.val, by omega⟩))
  refine (Pipeline.Window.rect_emb_val win0_0 t (ix3 0 n l) a).trans ?_
  rw [(idx t).1]
  match a with
  | ⟨0, _⟩ => show (grid0.coords t 0).val * 1 + 0 = (grid0.coords t 0).val; omega
  | ⟨1, _⟩ => show (grid0.coords t 1).val * 1024 + n.val = 1024 * (grid0.coords t 1).val + n.val; omega
  | ⟨2, _⟩ => show 0 * 512 + l.val = l.val; omega

include hX in
theorem blk1 (t : Fin cfg0.N) (n : Fin 8192) (l : Fin 512) :
    iblk m c 1 t (ix3 0 n l) = (X (grid0.coords t 0).val n.val (512 + l.val) : EReal) := by
  refine (congrArg (V m c main_arg0) (funext fun a => Fin.ext ?_)).trans ((congrFun (V_main_arg0 m c) _).trans
    (hX ⟨(grid0.coords t 0).val, (grid0.coords t 0).isLt⟩ n ⟨512 + l.val, by omega⟩))
  refine (Pipeline.Window.rect_emb_val win0_1 t (ix3 0 n l) a).trans ?_
  rw [(idx t).2.1]
  match a with
  | ⟨0, _⟩ => show (grid0.coords t 0).val * 1 + 0 = (grid0.coords t 0).val; omega
  | ⟨1, _⟩ => show 0 * 8192 + n.val = n.val; omega
  | ⟨2, _⟩ => show 1 * 512 + l.val = 512 + l.val; omega

include hX in
theorem blk2 (t : Fin cfg0.N) (n : Fin 8192) (l : Fin 512) :
    iblk m c 2 t (ix3 0 n l) = (X (grid0.coords t 0).val n.val (1024 + l.val) : EReal) := by
  refine (congrArg (V m c main_arg0) (funext fun a => Fin.ext ?_)).trans ((congrFun (V_main_arg0 m c) _).trans
    (hX ⟨(grid0.coords t 0).val, (grid0.coords t 0).isLt⟩ n ⟨1024 + l.val, by omega⟩))
  refine (Pipeline.Window.rect_emb_val win0_2 t (ix3 0 n l) a).trans ?_
  rw [(idx t).2.2.1]
  match a with
  | ⟨0, _⟩ => show (grid0.coords t 0).val * 1 + 0 = (grid0.coords t 0).val; omega
  | ⟨1, _⟩ => show 0 * 8192 + n.val = n.val; omega
  | ⟨2, _⟩ => show 2 * 512 + l.val = 1024 + l.val; omega

include hC in
theorem blk3 (t : Fin cfg0.N) (n : Fin 256) (l : Fin 512) :
    iblk m c 3 t (ix3 0 n l) = (C (grid0.coords t 0).val n.val (512 + l.val) : EReal) := by
  refine (congrArg (V m c main_arg1) (funext fun a => Fin.ext ?_)).trans ((congrFun (V_main_arg1 m c) _).trans
    (hC ⟨(grid0.coords t 0).val, (grid0.coords t 0).isLt⟩ n ⟨512 + l.val, by omega⟩))
  refine (Pipeline.Window.rect_emb_val win0_3 t (ix3 0 n l) a).trans ?_
  rw [(idx t).2.2.2.1]
  match a with
  | ⟨0, _⟩ => show (grid0.coords t 0).val * 1 + 0 = (grid0.coords t 0).val; omega
  | ⟨1, _⟩ => show 0 * 256 + n.val = n.val; omega
  | ⟨2, _⟩ => show 1 * 512 + l.val = 512 + l.val; omega

include hC in
theorem blk4 (t : Fin cfg0.N) (n : Fin 256) (l : Fin 512) :
    iblk m c 4 t (ix3 0 n l) = (C (grid0.coords t 0).val n.val (1024 + l.val) : EReal) := by
  refine (congrArg (V m c main_arg1) (funext fun a => Fin.ext ?_)).trans ((congrFun (V_main_arg1 m c) _).trans
    (hC ⟨(grid0.coords t 0).val, (grid0.coords t 0).isLt⟩ n ⟨1024 + l.val, by omega⟩))
  refine (Pipeline.Window.rect_emb_val win0_4 t (ix3 0 n l) a).trans ?_
  rw [(idx t).2.2.2.2.1]
  match a with
  | ⟨0, _⟩ => show (grid0.coords t 0).val * 1 + 0 = (grid0.coords t 0).val; omega
  | ⟨1, _⟩ => show 0 * 256 + n.val = n.val; omega
  | ⟨2, _⟩ => show 2 * 512 + l.val = 1024 + l.val; omega

include hT in
theorem blk5 (t : Fin cfg0.N) (p : Fin 4) (d : Fin 14) (s κ : Fin 128) :
    iblk m c 5 t (ix5 0 p d s κ) = T p.val d.val s.val κ.val := by
  refine (congrArg (V m c main_v50) (funext fun a => Fin.ext ?_)).trans (hT p d s κ)
  refine (Pipeline.Window.rect_emb_val win0_5 t (ix5 0 p d s κ) a).trans ?_
  rw [(idx t).2.2.2.2.2.1]
  match a with
  | ⟨0, _⟩ => rfl
  | ⟨1, _⟩ => show 0 * 4 + p.val = p.val; omega
  | ⟨2, _⟩ => show 0 * 14 + d.val = d.val; omega
  | ⟨3, _⟩ => show 0 * 128 + s.val = s.val; omega
  | ⟨4, _⟩ => show 0 * 128 + κ.val = κ.val; omega

/-- The point of batch `b` and of the `j`-th sixteen grid rows. -/
def pointOf (b : Fin 4) (j : Fin 8) : Fin cfg0.N := ⟨8 * b.val + j.val, by show 8 * b.val + j.val < 32; omega⟩

theorem coords_pointOf (b : Fin 4) (j : Fin 8) :
    (grid0.coords (pointOf b j) 0).val = b.val ∧ (grid0.coords (pointOf b j) 1).val = j.val := by
  revert b j
  decide +kernel

include hX hC hT hT' in
/-- The result array at an index. -/
theorem final_apply (b : Fin 4) (n : Fin 8192) (l : Fin 512) :
    (dats m 0 c).arrAt 6 cfg0.N (ix3 b n l) = ((result X C T b.val n.val l.val : ℝ) : EReal) := by
  obtain ⟨e0, e1⟩ := coords_pointOf b ⟨n.val / 1024, by omega⟩
  generalize pointOf b ⟨n.val / 1024, by omega⟩ = t at e0 e1
  have hblk := congrFun (Cert.KernelIdeal.Value.blocks6 m c t (flush0_6 t)) (ix3 0 ⟨n.val % 1024, Nat.mod_lt _ (by norm_num)⟩ l)
  rw [Cert.KernelIdeal.Value.flushed6_A] at hblk
  refine Eq.trans (congrArg ((dats m 0 c).arrAt 6 cfg0.N) (funext fun a => Fin.ext ?_)) (hblk.trans
    ((out_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t) (iblk m c 5 t)
      (fun n l => X (grid0.coords t 0).val (1024 * (grid0.coords t 1).val + n) l) (fun n l => X (grid0.coords t 0).val n (512 + l))
      (fun n l => X (grid0.coords t 0).val n (1024 + l)) (fun n l => C (grid0.coords t 0).val n (512 + l))
      (fun n l => C (grid0.coords t 0).val n (1024 + l)) T (blk0 m c X hX t) (blk1 m c X hX t) (blk2 m c X hX t) (blk3 m c C hC t)
      (blk4 m c C hC t) (blk5 m c T hT t) hT' ⟨n.val % 1024, Nat.mod_lt _ (by norm_num)⟩ l).trans ?_))
  · refine Eq.symm ((Pipeline.Window.rect_emb_val win0_6 t (ix3 0 ⟨n.val % 1024, Nat.mod_lt _ (by norm_num)⟩ l) a).trans ?_)
    rw [(idx t).2.2.2.2.2.2]
    match a with
    | ⟨0, _⟩ => show (grid0.coords t 0).val * 1 + 0 = b.val; omega
    | ⟨1, _⟩ => show (grid0.coords t 1).val * 1024 + n.val % 1024 = n.val; rw [e1]; show n.val / 1024 * 1024 + n.val % 1024 = n.val; omega
    | ⟨2, _⟩ => show 0 * 512 + l.val = l.val; omega
  · rw [e0, e1]
    unfold result
    show ((attend (X b.val (1024 * (n.val / 1024) + n.val % 1024)) _ _ _ _ T (16 * (n.val / 1024) + n.val % 1024 / 64) (n.val % 1024 % 64) l.val : ℝ) : EReal) = _
    rw [show 1024 * (n.val / 1024) + n.val % 1024 = n.val by omega,
      show 16 * (n.val / 1024) + n.val % 1024 / 64 = n.val / 64 by omega, show n.val % 1024 % 64 = n.val % 64 by omega]

end

end Cert.KernelIdeal.Attn

end
-- ==== Proof.Attn.Table.lean ====
/- The bias table the host hands the kernel: for every pair of heads and every two neighbouring grid rows of the window, the
   relative-position bias over `log 2` where the key's column lies in the query's window of sixteen columns, and `⊥` outside. -/
module

public import proofs.«01_k».proof.Proof.Gen.KernelIdeal.Frame
public import Idealize.ShloMosaic.Lib.Claim
public import Idealize.ShloMosaic.Lib.ValueIdx
public import Idealize.ShloMosaic.Lib.ValueIdxRank6
public import Idealize.ShloMosaic.Lib.IdealHost
public import Idealize.ShloMosaic.PureOps.Ideal.Laws

@[expose] public section

noncomputable section

namespace Cert.KernelIdeal.Attn

open Cert.KernelIdeal Cert.KernelIdeal.Gen Idealize.ShloMosaic Idealize.ShloMosaic.ValueIdx
open Idealize.ShloMosaic.TcCoe

/-- The first column of each query column's window. -/
def colStart : IVec S64 32 :=
  minsi (broadcastInDim S64 ![] bcast_S_S64 (constantI S_ 32 48#32))
    (maxsi (broadcastInDim S64 ![] bcast_S_S64 (constantI S_ 32 0#32))
      (subi (iotaInDim S64 32 0) (broadcastInDim S64 ![] bcast_S_S64 (constantI S_ 32 8#32))))

/-- A column's number along the rows of a square, and along its columns. -/
def along (x : IVec S64 32) : IVec S64x64 32 := broadcastInDim S64x64 ![0, 1] bcast_S1x64_S64x64_0_1 (broadcastInDim S1x64 ![1] bcast_S64_S1x64_1 x)
def down (x : IVec S64 32) : IVec S64x64 32 := broadcastInDim S64x64 ![0, 1] bcast_S64x1_S64x64_0_1 (broadcastInDim S64x1 ![0] bcast_S64_S64x1_0 x)

/-- Which key columns lie in which query column's window. -/
def inWindow : IVec S64x64 1 :=
  andi (cmpi .sge (along (iotaInDim S64 32 0)) (down colStart))
    (cmpi .slt (along (iotaInDim S64 32 0))
      (broadcastInDim S64x64 ![0, 1] bcast_S64x1_S64x64_0_1
        (addi (broadcastInDim S64x1 ![0] bcast_S64_S64x1_0 colStart) (broadcastInDim S64x1 ![] bcast_S_S64x1 (constantI S_ 32 16#32)))))

/-- The relative column plus fifteen. -/
def relCol : IVec S64x64 32 :=
  addi (subi (along (iotaInDim S64 32 0)) (down (iotaInDim S64 32 0))) (broadcastInDim S64x64 ![] bcast_S_S64x64 (constantI S_ 32 15#32))

/-- One for the relative column of a key column in the window, zero elsewhere. -/
def pick : IVec S64x64x31 1 :=
  andi (broadcastInDim S64x64x31 ![0, 1, 2] bcast_S64x64x1_S64x64x31_0_1_2 (broadcastInDim S64x64x1 ![0, 1] bcast_S64x64_S64x64x1_0_1 inWindow))
    (cmpi .eq (broadcastInDim S64x64x31 ![0, 1, 2] bcast_S64x64x1_S64x64x31_0_1_2 (broadcastInDim S64x64x1 ![0, 1] bcast_S64x64_S64x64x1_0_1 relCol))
      (broadcastInDim S64x64x31 ![0, 1, 2] bcast_S1x1x31_S64x64x31_0_1_2 (broadcastInDim S1x1x31 ![2] bcast_S31_S1x1x31_2 (iotaInDim S31 32 0))))

/-- One over the logarithm of two. -/
def log2e : FVec Ideal S_ .f32 := Host.divf (constant S_ .f32 0x3F800000#32) (Host.log (constant S_ .f32 0x40000000#32))

/-- Zero in the window, `⊥` outside. -/
def mask : FVec Ideal S64x64 .f32 :=
  select inWindow (broadcastInDim S64x64 ![] bcast_S_S64x64 (constant S_ .f32 0x00000000#32))
    (broadcastInDim S64x64 ![] bcast_S_S64x64 (constant S_ .f32 0xFF800000#32))

/-- The bias by layer, head, relative row, query column and key column. -/
def plane (x : FVec Ideal S4x8x15x31 .f32) : FVec Ideal S4x8x15x64x64 .f32 :=
  addf (mulf (Host.dotGeneral dot_S4x8x15x31_S64x64x31_S4x8x15x64x64_3_2_012_01_n_n (some .fp32) x (uitofp .f32 pick))
      (broadcastInDim S4x8x15x64x64 ![] bcast_S_S4x8x15x64x64 log2e))
    (broadcastInDim S4x8x15x64x64 ![0, 1, 2, 3, 4] bcast_S1x1x1x64x64_S4x8x15x64x64_0_1_2_3_4
      (broadcastInDim S1x1x1x64x64 ![3, 4] bcast_S64x64_S1x1x1x64x64_3_4 mask))

/-- Two neighbouring relative rows side by side. -/
def twoRows (x : FVec Ideal S4x8x15x64x64 .f32) : FVec Ideal S4x8x14x64x128 .f32 :=
  concatenate S4x8x14x64x128 4
    [⟨S4x8x14x64x64, extractStridedSlice S4x8x14x64x64 ![0, 0, 0, 0, 0] x slices_S4x8x15x64x64_S4x8x14x64x64_0_0_0_0_0⟩,
     ⟨S4x8x14x64x64, extractStridedSlice S4x8x14x64x64 ![0, 0, 1, 0, 0] x slices_S4x8x15x64x64_S4x8x14x64x64_0_0_1_0_0⟩]
    concatenates_S4x8x14x64x64_S4x8x14x64x64_S4x8x14x64x128_d4

/-- The two heads of a pair stacked. -/
def pairHeads (x : FVec Ideal S4x8x14x64x128 .f32) : FVec Ideal S4x4x14x128x128 .f32 :=
  shapeCast S4x4x14x128x128
    (transpose S4x4x14x2x64x128 [0, 1, 3, 2, 4, 5] (shapeCast S4x4x2x14x64x128 x shapeCasts_S4x8x14x64x128_S4x4x2x14x64x128)
      transposes_S4x4x2x14x64x128_S4x4x14x2x64x128_0_1_3_2_4_5) shapeCasts_S4x4x14x2x64x128_S4x4x14x128x128

variable (m : (ℓ : Loc nD τ sig) → Buf (Elt Ideal) ℓ)

/-- What the kernel's sixth operand holds when the kernel starts. -/
theorem V_table (c : Dev nD) : V m c main_v50 = pairHeads (twoRows (plane (m ((c : Thread nD τ).loc main_arg2)))) := by
  show StableHlo.after [hostOps0, hostOps0_1, hostOps0_2, hostOps0_3, hostOps0_4].flatten (fun b => m (c, b)) main_v50 = _
  simp only [List.flatten_cons, List.flatten_nil, List.append_nil, hostOps0, hostOps0_1, hostOps0_2, hostOps0_3, hostOps0_4,
    List.cons_append, List.nil_append]
  entry_read
  unfold pairHeads twoRows plane mask log2e pick relCol inWindow along down colStart
  rfl

end Cert.KernelIdeal.Attn

end
-- ==== Proof.Attn.TableValue.lean ====
/- The bias table read at an index, for a finite bias: `rpb / log 2` at the key's relative row and column in the window, `⊥`
   outside. -/
module

public import proofs.«01_k».proof.Proof.Attn.Table
public import proofs.«01_k».proof.Proof.Attn.Softmax
public import Idealize.ShloMosaic.Lib.Pipeline.Value

@[expose] public section

noncomputable section

namespace Cert.Attn

open Idealize.ShloMosaic

/-- The first column of a query column's window. -/
def firstCol (x : ℕ) : ℕ := min (x - 8) 48

/-- The table for a bias `Z` by head, relative row and relative column: pair `p`, plane `d`, stacked query `s`, key `κ`. -/
def biasTable (Z : ℕ → ℕ → ℕ → ℝ) (p d s κ : ℕ) : EReal :=
  if firstCol (s % 64) ≤ κ % 64 ∧ κ % 64 < firstCol (s % 64) + 16 then
    ((Z (2 * p + s / 64) (d + κ / 64) (κ % 64 + 15 - s % 64) * (1 / Real.log 2) : ℝ) : EReal)
  else ⊥

end Cert.Attn

namespace Cert.KernelIdeal.Attn

open Cert.KernelIdeal Cert.KernelIdeal.Gen Cert.Attn Idealize.ShloMosaic Idealize.ShloMosaic.ValueIdx
open Idealize.ShloMosaic.TcCoe

theorem inWindow_apply (x k : Fin 64) :
    inWindow (ix2 x k) = if firstCol x.val ≤ k.val ∧ k.val < firstCol x.val + 16 then 1#1 else 0#1 := by
  revert x k; decide +kernel

theorem relCol_apply (x k : Fin 64) : relCol (ix2 x k) = BitVec.ofNat 32 (k.val + 15 + (2 ^ 32 - x.val)) := by
  revert x k; decide +kernel

theorem log2e_apply (j : S_.Idx) : log2e j = ((1 / Real.log 2 : ℝ) : EReal) := by
  have h1 : (Scalar.ofBits .f32 0x3F800000#32 : Ideal .f32) = ((1 : ℝ) : EReal) := by
    show Ideal.ofBits .f32 0x3F800000#32 = _
    simp [Ideal.ofBits, Ideal.ieee, ← EReal.coe_mul]; norm_num
  have h2 : (Scalar.ofBits .f32 0x40000000#32 : Ideal .f32) = ((2 : ℝ) : EReal) := by
    show Ideal.ofBits .f32 0x40000000#32 = _
    simp [Ideal.ofBits, Ideal.ieee, ← EReal.coe_mul]; norm_num
  show Ideal.div (Scalar.ofBits .f32 0x3F800000#32 : Ideal .f32) (Ideal.log (Scalar.ofBits .f32 0x40000000#32 : Ideal .f32)) = _
  rw [h1, h2, show Ideal.log ((2 : ℝ) : EReal) = ((Real.log 2 : ℝ) : EReal) from (Ideal.log_coe 2).trans (if_neg (by norm_num)),
    Ideal.div_coe (Real.log_pos (by norm_num)).ne', ← EReal.coe_mul, one_mul]

theorem mask_apply (x k : Fin 64) :
    mask (ix2 x k) = if firstCol x.val ≤ k.val ∧ k.val < firstCol x.val + 16 then (0 : EReal) else ⊥ := by
  have h0 : (Scalar.ofBits .f32 0x00000000#32 : Ideal .f32) = (0 : EReal) := by
    show Ideal.ofBits .f32 0x00000000#32 = _
    simp [Ideal.ofBits, Ideal.ieee]
  have hb : (Scalar.ofBits .f32 0xFF800000#32 : Ideal .f32) = (⊥ : EReal) := by
    show Ideal.ofBits .f32 0xFF800000#32 = _
    simp [Ideal.ofBits, Ideal.ieee]
  unfold mask
  rw [select_apply, inWindow_apply]
  split
  · exact (select_one _ _).trans h0
  · exact (select_zero _ _).trans hb

/-- In the window, the picking array keeps the one relative column. -/
theorem pick_apply (x k : Fin 64) (d : Fin 31) (h : firstCol x.val ≤ k.val ∧ k.val < firstCol x.val + 16) :
    (pick (ix3 x k d)).toNat = if d.val = k.val + 15 - x.val then 1 else 0 := by
  have hp : pick (ix3 x k d) = IntOp.andi (inWindow (ix2 x k)) (IntOp.cmpi .eq (relCol (ix2 x k)) (BitVec.ofNat 32 d.val)) := rfl
  have hk := k.isLt; have hx := x.isLt; have hd := d.isLt
  have h' := h
  unfold firstCol at h'
  rw [hp, inWindow_apply, if_pos h, relCol_apply]
  by_cases hc : d.val = k.val + 15 - x.val
  · rw [if_pos hc, show BitVec.ofNat 32 (k.val + 15 + (2 ^ 32 - x.val)) = BitVec.ofNat 32 d.val from by
      apply BitVec.eq_of_toNat_eq
      simp only [BitVec.toNat_ofNat]
      omega]
    simp [IntOp.andi, IntOp.cmpi]
  · rw [if_neg hc]
    have hne : BitVec.ofNat 32 (k.val + 15 + (4294967296 - x.val)) ≠ BitVec.ofNat 32 d.val := fun e => hc (by
      have := congrArg BitVec.toNat e
      simp only [BitVec.toNat_ofNat] at this
      omega)
    simp [IntOp.andi, IntOp.cmpi, beq_eq_false_iff_ne.mpr hne]

/-- One relative row of the bias at a query and a key column. -/
theorem plane_apply (x : FVec Ideal S4x8x15x31 .f32) (Z : ℕ → ℕ → ℕ → ℝ)
    (hZ : ∀ h r d, x (ix4 0 h r d) = ((Z h.val r.val d.val : ℝ) : EReal)) (h : Fin 8) (r : Fin 15) (q k : Fin 64) :
    plane x (ix5 0 h r q k) = if firstCol q.val ≤ k.val ∧ k.val < firstCol q.val + 16 then
      ((Z h.val r.val (k.val + 15 - q.val) * (1 / Real.log 2) : ℝ) : EReal) else ⊥ := by
  have hd : Host.dotGeneral dot_S4x8x15x31_S64x64x31_S4x8x15x64x64_3_2_012_01_n_n (some .fp32) x
      (uitofp .f32 pick : FVec Ideal S64x64x31 .f32) (ix5 0 h r q k)
      = ((∑ d : Fin 31, Z h.val r.val d.val * ((pick (ix3 q k d)).toNat : ℝ) : ℝ) : EReal) := by
    unfold Host.dotGeneral
    rw [Ideal.dotGeneral_apply,
      ← Equiv.sum_comp (contrEquiv1 dot_S4x8x15x31_S64x64x31_S4x8x15x64x64_3_2_012_01_n_n 31 rfl rfl).symm, coe_sum]
    refine Finset.sum_congr rfl fun d _ => ?_
    have hl := contrEquiv1_symm_val dot_S4x8x15x31_S64x64x31_S4x8x15x64x64_3_2_012_01_n_n 31 rfl rfl d
    rw [EReal.coe_mul, ← hZ h r d]
    refine congrArg₂ (· * ·) (congrArg x ?_) ?_
    · funext a; apply Fin.ext
      match a with
      | ⟨0, _⟩ => rfl
      | ⟨1, _⟩ => rfl
      | ⟨2, _⟩ => rfl
      | ⟨3, _⟩ => exact hl
    · refine (congrArg (uitofp .f32 pick : FVec Ideal S64x64x31 .f32) (?_ : _ = ix3 q k d)).trans rfl
      funext a; apply Fin.ext
      match a with
      | ⟨0, _⟩ => rfl
      | ⟨1, _⟩ => rfl
      | ⟨2, _⟩ => exact hl
  have hm : broadcastInDim S4x8x15x64x64 ![0, 1, 2, 3, 4] bcast_S1x1x1x64x64_S4x8x15x64x64_0_1_2_3_4
      (broadcastInDim S1x1x1x64x64 ![3, 4] bcast_S64x64_S1x1x1x64x64_3_4 mask) (ix5 0 h r q k) = mask (ix2 q k) :=
    congrArg mask (by funext a; apply Fin.ext; match a with | ⟨0, _⟩ => rfl | ⟨1, _⟩ => rfl)
  have hl : broadcastInDim S4x8x15x64x64 ![] bcast_S_S4x8x15x64x64 log2e (ix5 0 h r q k) = ((1 / Real.log 2 : ℝ) : EReal) :=
    log2e_apply _
  unfold plane
  rw [addf_apply, mulf_apply, hd, hl, hm, mask_apply, ← EReal.coe_mul]
  split
  · rename_i hw
    have hw' := hw; unfold firstCol at hw'
    have hk := k.isLt; have hq := q.isLt
    rw [add_zero]
    congr 2
    rw [Finset.sum_eq_single (⟨k.val + 15 - q.val, by omega⟩ : Fin 31)]
    · rw [pick_apply _ _ _ hw, if_pos rfl]; simp
    · intro d _ hne
      rw [pick_apply _ _ _ hw, if_neg (fun e => hne (Fin.ext e))]; simp
    · intro hne; exact absurd (Finset.mem_univ _) hne
  · exact EReal.add_bot _

/-- Two relative rows side by side: the key's half says which. -/
theorem twoRows_apply (x : FVec Ideal S4x8x15x64x64 .f32) (h : Fin 8) (d : Fin 14) (q : Fin 64) (κ : Fin 128) :
    twoRows x (ix5 0 h d q κ)
      = x (ix5 0 h ⟨d.val + κ.val / 64, by omega⟩ q ⟨κ.val % 64, Nat.mod_lt _ (by norm_num)⟩) := by
  have hs : ∀ (o : Fin 2) (hf : S4x8x15x64x64.Slices ![0, 0, o.val, 0, 0] S4x8x14x64x64) (y : Fin 64),
      extractStridedSlice S4x8x14x64x64 ![0, 0, o.val, 0, 0] x hf (ix5 0 h d q y) = x (ix5 0 h ⟨d.val + o.val, by omega⟩ q y) :=
    fun o hf y => by
      refine extractStridedSlice_apply _ _ _ _ _ fun a => ?_
      match a with
      | ⟨0, _⟩ => rfl
      | ⟨1, _⟩ => show h.val = 0 + h.val; omega
      | ⟨2, _⟩ => show d.val + o.val = o.val + d.val; omega
      | ⟨3, _⟩ => show q.val = 0 + q.val; omega
      | ⟨4, _⟩ => show y.val = 0 + y.val; omega
  have hκ := κ.isLt
  unfold twoRows
  by_cases hk : κ.val < 64
  · rw [concatenate_pair_apply_left (t := S4x8x14x64x128) (s₁ := S4x8x14x64x64) (s₂ := S4x8x14x64x64) 4 _ _ _ _ rfl
      (ix5 0 h d q ⟨κ.val, hk⟩) (fun b => by
        match b with
        | ⟨0, _⟩ => rfl
        | ⟨1, _⟩ => rfl
        | ⟨2, _⟩ => rfl
        | ⟨3, _⟩ => rfl
        | ⟨4, _⟩ => rfl)]
    refine (hs 0 _ _).trans (congrArg x ?_)
    funext a; apply Fin.ext
    match a with
    | ⟨0, _⟩ => rfl
    | ⟨1, _⟩ => rfl
    | ⟨2, _⟩ => show d.val + 0 = d.val + κ.val / 64; omega
    | ⟨3, _⟩ => rfl
    | ⟨4, _⟩ => show κ.val = κ.val % 64; omega
  · rw [concatenate_pair_apply_right (t := S4x8x14x64x128) (s₁ := S4x8x14x64x64) (s₂ := S4x8x14x64x64) 4 _ _ _ _ rfl rfl
      (ix5 0 h d q ⟨κ.val - 64, by omega⟩) (fun b => by
        match b with
        | ⟨0, _⟩ => intro _; rfl
        | ⟨1, _⟩ => intro _; rfl
        | ⟨2, _⟩ => intro _; rfl
        | ⟨3, _⟩ => intro _; rfl
        | ⟨4, _⟩ => intro h; exact absurd rfl h) (by show κ.val - 64 + 64 = κ.val; omega)]
    refine (hs 1 _ _).trans (congrArg x ?_)
    funext a; apply Fin.ext
    match a with
    | ⟨0, _⟩ => rfl
    | ⟨1, _⟩ => rfl
    | ⟨2, _⟩ => show d.val + 1 = d.val + κ.val / 64; omega
    | ⟨3, _⟩ => rfl
    | ⟨4, _⟩ => show κ.val - 64 = κ.val % 64; omega

/-- The stacked rows of a pair: the half says which head. -/
theorem pairHeads_apply (x : FVec Ideal S4x8x14x64x128 .f32) (p : Fin 4) (d : Fin 14) (s κ : Fin 128) :
    pairHeads x (ix5 0 p d s κ)
      = x (ix5 0 ⟨2 * p.val + s.val / 64, by omega⟩ d ⟨s.val % 64, Nat.mod_lt _ (by norm_num)⟩ κ) := by
  have hs := s.isLt
  unfold pairHeads
  rw [shapeCast_apply _ _ _ (ix6 0 p d (⟨s.val / 64, by omega⟩ : Fin 2) (⟨s.val % 64, Nat.mod_lt _ (by norm_num)⟩ : Fin 64) κ) (by
      rw [Shape.rowMajor_val_six, Shape.rowMajor_val_five]
      show ((((0 * 4 + p.val) * 14 + d.val) * 2 + s.val / 64) * 64 + s.val % 64) * 128 + κ.val
        = (((0 * 4 + p.val) * 14 + d.val) * 128 + s.val) * 128 + κ.val
      omega)]
  refine (transpose_apply (s := S4x4x2x14x64x128) (t := S4x4x14x2x64x128) _ _ _ _
    (ix6 (n0 := 4) 0 p (⟨s.val / 64, by omega⟩ : Fin 2) d (⟨s.val % 64, Nat.mod_lt _ (by norm_num)⟩ : Fin 64) κ) (fun b => by
    match b with
    | ⟨0, _⟩ => rfl
    | ⟨1, _⟩ => rfl
    | ⟨2, _⟩ => rfl
    | ⟨3, _⟩ => rfl
    | ⟨4, _⟩ => rfl
    | ⟨5, _⟩ => rfl)).trans ?_
  refine shapeCast_apply x _ _ _ ?_
  rw [Shape.rowMajor_val_six, Shape.rowMajor_val_five]
  show (((0 * 8 + (2 * p.val + s.val / 64)) * 14 + d.val) * 64 + s.val % 64) * 128 + κ.val
    = ((((0 * 4 + p.val) * 2 + s.val / 64) * 14 + d.val) * 64 + s.val % 64) * 128 + κ.val
  omega

/-- The table the kernel reads. -/
theorem table_apply (m : (ℓ : Loc nD τ sig) → Buf (Elt Ideal) ℓ) (c : Dev nD) (Z : ℕ → ℕ → ℕ → ℝ)
    (hZ : ∀ (h : Fin 8) (r : Fin 15) (d : Fin 31),
      m ((c : Thread nD τ).loc main_arg2) (ix4 0 h r d) = ((Z h.val r.val d.val : ℝ) : EReal))
    (p : Fin 4) (d : Fin 14) (s κ : Fin 128) :
    V m c main_v50 (ix5 0 p d s κ) = biasTable Z p.val d.val s.val κ.val := by
  rw [V_table, pairHeads_apply, twoRows_apply, plane_apply _ Z hZ]
  rfl

end Cert.KernelIdeal.Attn

end
-- ==== Proof.Attn.RefWindow.lean ====
/- The reference's windows: which row and column of the grid, and which entry of the bias, each gathered element is. -/
module

public import proofs.«01_k».proof.Proof.Gen.ReferenceIdeal.Read
public import proofs.«01_k».proof.Proof.Attn.Block
public import proofs.«01_k».proof.Proof.Attn.TableValue
public import Idealize.ShloMosaic.Lib.ValueIdx
public import Idealize.ShloMosaic.Lib.ValueIdxRank6

@[expose] public section

noncomputable section

namespace Cert.ReferenceIdeal.Attn

open Cert.ReferenceIdeal Cert.ReferenceIdeal.Gen Cert.ReferenceIdeal.Read Cert.Attn Idealize.ShloMosaic Idealize.ShloMosaic.ValueIdx
open Idealize.ShloMosaic.TcCoe

/-! ## The index arrays -/

theorem rowIndex (r : Fin 128) (a : Fin 8) : (val_main_v57 (F := Ideal) (ix3 r a 0)).toInt.toNat = winRow r.val + a.val := by
  revert r a; decide +kernel

theorem colIndex (x : Fin 64) (w : Fin 16) : (val_main_v64 (F := Ideal) (ix3 x w 0)).toInt.toNat = firstCol x.val + w.val := by
  revert x w; decide +kernel

theorem relRowIndex (r : Fin 128) (a : Fin 8) :
    (val_main_v94 (F := Ideal) (ix3 r a 0)).toInt.toNat = winRow r.val + a.val + 7 - r.val := by
  revert r a; decide +kernel

theorem relColIndex (x : Fin 64) (w : Fin 16) :
    (val_main_v87 (F := Ideal) (ix3 x w 0)).toInt.toNat = firstCol x.val + w.val + 15 - x.val := by
  revert x w; decide +kernel

/-! ## Reading a gather -/

variable {α : Type}

/-- Rows of the grid. -/
theorem gatherRows_apply (y : S4x128x64x8x64.Idx → α) (idx : IVec S128x8x1 32) (b : Fin 4) (r : Fin 128) (a : Fin 8) (x : Fin 64)
    (h : Fin 8) (d : Fin 64) (ρ : Fin 128) (hρ : (idx (ix3 r a 0)).toInt.toNat = ρ.val) :
    Host.gather gather_S4x128x64x8x64_S128x8x1_S4x128x8x64x8x64_0345_1_n_n_1_2_4164864 y idx (ix6 b r a x h d) = y (ix5 b ρ x h d) := by
  unfold Host.gather
  refine congrArg y (funext fun k => Fin.ext ?_)
  match k with
  | ⟨0, _⟩ => show 0 + 0 + b.val = b.val; omega
  | ⟨1, _⟩ =>
    show gather_S4x128x64x8x64_S128x8x1_S4x128x8x64x8x64_0345_1_n_n_1_2_4164864.start _ idx 1 + 0 + 0 = ρ.val
    unfold GatherDims.start
    rw [dif_pos (by decide)]
    rw [show gather_S4x128x64x8x64_S128x8x1_S4x128x8x64x8x64_0345_1_n_n_1_2_4164864.siIdx (ix6 b r a x h d) _ = ix3 r a 0 from by
      funext k; apply Fin.ext
      match k with
      | ⟨0, _⟩ => rfl
      | ⟨1, _⟩ => rfl
      | ⟨2, _⟩ => rfl, hρ]
    show min ρ.val 127 + 0 + 0 = ρ.val
    have := ρ.isLt
    omega
  | ⟨2, _⟩ => show 0 + 0 + x.val = x.val; omega
  | ⟨3, _⟩ => show 0 + 0 + h.val = h.val; omega
  | ⟨4, _⟩ => show 0 + 0 + d.val = d.val; omega

/-- Columns of the grid. -/
theorem gatherCols_apply (y : S4x128x8x64x8x64.Idx → α) (idx : IVec S64x16x1 32) (i : S4x128x8x64x16x8x64.Idx) (ρ : Fin 64)
    (hρ : (idx (ix3 (n0 := 64) (n1 := 16) (i 3) (i 4) 0)).toInt.toNat = ρ.val) :
    Host.gather gather_S4x128x8x64x8x64_S64x16x1_S4x128x8x64x16x8x64_01256_3_n_n_3_2_412881864 y idx i
      = y (ix6 (n0 := 4) (n1 := 128) (n2 := 8) (n4 := 8) (n5 := 64) (i 0) (i 1) (i 2) ρ (i 5) (i 6)) := by
  unfold Host.gather
  refine congrArg y (funext fun k => Fin.ext ?_)
  match k with
  | ⟨0, _⟩ => show 0 + 0 + (i 0).val = (i 0).val; omega
  | ⟨1, _⟩ => show 0 + 0 + (i 1).val = (i 1).val; omega
  | ⟨2, _⟩ => show 0 + 0 + (i 2).val = (i 2).val; omega
  | ⟨3, _⟩ =>
    show gather_S4x128x8x64x8x64_S64x16x1_S4x128x8x64x16x8x64_01256_3_n_n_3_2_412881864.start i idx 3 + 0 + 0 = ρ.val
    unfold GatherDims.start
    rw [dif_pos (by decide)]
    rw [show gather_S4x128x8x64x8x64_S64x16x1_S4x128x8x64x16x8x64_01256_3_n_n_3_2_412881864.siIdx i _
        = ix3 (n0 := 64) (n1 := 16) (i 3) (i 4) 0 from by
      funext k; apply Fin.ext
      match k with
      | ⟨0, _⟩ => rfl
      | ⟨1, _⟩ => rfl
      | ⟨2, _⟩ => rfl, hρ]
    show min ρ.val 63 + 0 + 0 = ρ.val
    have := ρ.isLt
    omega
  | ⟨4, _⟩ => show 0 + 0 + (i 5).val = (i 5).val; omega
  | ⟨5, _⟩ => show 0 + 0 + (i 6).val = (i 6).val; omega

/-- Relative columns of the bias. -/
theorem gatherRelCols_apply (y : S8x15x31.Idx → α) (idx : IVec S64x16x1 32) (h : Fin 8) (r : Fin 15) (x : Fin 64) (w : Fin 16)
    (ρ : Fin 31) (hρ : (idx (ix3 x w 0)).toInt.toNat = ρ.val) :
    Host.gather gather_S8x15x31_S64x16x1_S8x15x64x16_01_2_n_n_2_2_8151 y idx (ix4 h r x w) = y (ix3 h r ρ) := by
  unfold Host.gather
  refine congrArg y (funext fun k => Fin.ext ?_)
  match k with
  | ⟨0, _⟩ => show 0 + 0 + h.val = h.val; omega
  | ⟨1, _⟩ => show 0 + 0 + r.val = r.val; omega
  | ⟨2, _⟩ =>
    show gather_S8x15x31_S64x16x1_S8x15x64x16_01_2_n_n_2_2_8151.start _ idx 2 + 0 + 0 = ρ.val
    unfold GatherDims.start
    rw [dif_pos (by decide)]
    rw [show gather_S8x15x31_S64x16x1_S8x15x64x16_01_2_n_n_2_2_8151.siIdx (ix4 h r x w) _ = ix3 x w 0 from by
      funext k; apply Fin.ext
      match k with
      | ⟨0, _⟩ => rfl
      | ⟨1, _⟩ => rfl
      | ⟨2, _⟩ => rfl, hρ]
    show min ρ.val 30 + 0 + 0 = ρ.val
    have := ρ.isLt
    omega

/-- Relative rows of the bias. -/
theorem gatherRelRows_apply (y : S8x15x64x16.Idx → α) (idx : IVec S128x8x1 32) (h : Fin 8) (r : Fin 128) (a : Fin 8) (x : Fin 64)
    (w : Fin 16) (ρ : Fin 15) (hρ : (idx (ix3 r a 0)).toInt.toNat = ρ.val) :
    Host.gather gather_S8x15x64x16_S128x8x1_S8x128x8x64x16_034_1_n_n_1_2_816416 y idx (ix5 h r a x w) = y (ix4 h ρ x w) := by
  unfold Host.gather
  refine congrArg y (funext fun k => Fin.ext ?_)
  match k with
  | ⟨0, _⟩ => show 0 + 0 + h.val = h.val; omega
  | ⟨1, _⟩ =>
    show gather_S8x15x64x16_S128x8x1_S8x128x8x64x16_034_1_n_n_1_2_816416.start _ idx 1 + 0 + 0 = ρ.val
    unfold GatherDims.start
    rw [dif_pos (by decide)]
    rw [show gather_S8x15x64x16_S128x8x1_S8x128x8x64x16_034_1_n_n_1_2_816416.siIdx (ix5 h r a x w) _ = ix3 r a 0 from by
      funext k; apply Fin.ext
      match k with
      | ⟨0, _⟩ => rfl
      | ⟨1, _⟩ => rfl
      | ⟨2, _⟩ => rfl, hρ]
    show min ρ.val 14 + 0 + 0 = ρ.val
    have := ρ.isLt
    omega
  | ⟨2, _⟩ => show 0 + 0 + x.val = x.val; omega
  | ⟨3, _⟩ => show 0 + 0 + w.val = w.val; omega

/-! ## The window's keys, values and bias -/

theorem winRow_le (r : ℕ) (a : Fin 8) : winRow r + a.val < 128 := by unfold winRow; omega
theorem firstCol_le (x : ℕ) (w : Fin 16) : firstCol x + w.val < 64 := by unfold firstCol; omega

/-- Rows, then columns, of one array over the grid. -/
theorem window_apply (y : S4x128x64x8x64.Idx → α) (i : S4x128x8x64x16x8x64.Idx) :
    Host.gather gather_S4x128x8x64x8x64_S64x16x1_S4x128x8x64x16x8x64_01256_3_n_n_3_2_412881864
      (Host.gather gather_S4x128x64x8x64_S128x8x1_S4x128x8x64x8x64_0345_1_n_n_1_2_4164864 y (val_main_v57 (F := Ideal)))
      (val_main_v64 (F := Ideal)) i
      = y (ix5 (n0 := 4) (n3 := 8) (n4 := 64) (i 0) (⟨winRow (i 1).val + (i 2).val, winRow_le _ (i 2)⟩ : Fin 128)
          (⟨firstCol (i 3).val + (i 4).val, firstCol_le _ (i 4)⟩ : Fin 64) (i 5) (i 6)) := by
  rw [gatherCols_apply _ _ i ⟨firstCol (i 3).val + (i 4).val, firstCol_le _ (i 4)⟩ (colIndex (i 3) (i 4))]
  exact gatherRows_apply _ _ _ _ _ _ _ _ _ (rowIndex (i 1) (i 2))

/-- The bias of one layer, gathered. -/
theorem bias_apply (y : S8x15x31.Idx → α) (h : Fin 8) (r : Fin 128) (a : Fin 8) (x : Fin 64) (w : Fin 16) :
    Host.gather gather_S8x15x64x16_S128x8x1_S8x128x8x64x16_034_1_n_n_1_2_816416
      (Host.gather gather_S8x15x31_S64x16x1_S8x15x64x16_01_2_n_n_2_2_8151 y (val_main_v87 (F := Ideal)))
      (val_main_v94 (F := Ideal)) (ix5 h r a x w)
      = y (ix3 h (⟨winRow r.val + a.val + 7 - r.val, by unfold winRow; omega⟩ : Fin 15)
          (⟨firstCol x.val + w.val + 15 - x.val, by unfold firstCol; omega⟩ : Fin 31)) := by
  rw [gatherRelRows_apply _ _ _ _ _ _ _ ⟨winRow r.val + a.val + 7 - r.val, by unfold winRow; omega⟩ (relRowIndex r a)]
  exact gatherRelCols_apply _ _ _ _ _ _ _ (relColIndex x w)

end Cert.ReferenceIdeal.Attn

end
-- ==== Proof.Attn.RefScore.lean ====
/- The reference's scores, as real numbers. -/
module

public import proofs.«01_k».proof.Proof.Attn.RefWindow

@[expose] public section

noncomputable section

namespace Cert.Attn

/-- The score of window key `(a, w)` for head `h` of the query at row `r` and column `x`. -/
def winScore (X : ℕ → ℕ → ℝ) (Z : ℕ → ℕ → ℕ → ℝ) (h r x a w : ℕ) : ℝ :=
  Real.log 2 * lanes h (X (64 * r + x)) (fun l => X (64 * (winRow r + a) + (firstCol x + w)) (512 + l))
    + Z h (winRow r + a + 7 - r) (firstCol x + w + 15 - x)

/-- The score of context key `c`. -/
def ctxScore (X C : ℕ → ℕ → ℝ) (h r x c : ℕ) : ℝ :=
  Real.log 2 * lanes h (X (64 * r + x)) (fun l => C c (512 + l))

/-- Both, window first. -/
def scoreAt (X C : ℕ → ℕ → ℝ) (Z : ℕ → ℕ → ℕ → ℝ) (h r x j : ℕ) : ℝ :=
  if j < 128 then winScore X Z h r x (j / 16) (j % 16) else ctxScore X C h r x (j - 128)

end Cert.Attn

namespace Cert.ReferenceIdeal.Attn

open Cert.ReferenceIdeal Cert.ReferenceIdeal.Gen Cert.ReferenceIdeal.Read Cert.Attn Idealize.ShloMosaic Idealize.ShloMosaic.ValueIdx
open Idealize.ShloMosaic.TcCoe

variable (x0 : FVec Ideal S4x8192x1536 .bf16) (x1 : FVec Ideal S4x256x1536 .bf16) (x2 : FVec Ideal S4x8x15x31 .f32)
variable (X C : ℕ → ℕ → ℕ → ℝ) (Z : ℕ → ℕ → ℕ → ℝ)
variable (hX : ∀ i, x0 i = ((X (i 0).val (i 1).val (i 2).val : ℝ) : EReal))
variable (hC : ∀ i, x1 i = ((C (i 0).val (i 1).val (i 2).val : ℝ) : EReal))
variable (hZ : ∀ (h : Fin 8) (r : Fin 15) (d : Fin 31), x2 (ix4 0 h r d) = ((Z h.val r.val d.val : ℝ) : EReal))

theorem ofBits_two (j : S_.Idx) : val_main_cst (F := Ideal) j = ((2 : ℝ) : EReal) := by
  show Ideal.ofBits .f32 0x40000000#32 = _
  simp [Ideal.ofBits, Ideal.ieee, ← EReal.coe_mul]; norm_num

theorem ofBits_eight (j : S_.Idx) : val_main_cst_0 (F := Ideal) j = ((8 : ℝ) : EReal) := by
  show Ideal.ofBits .f32 0x41000000#32 = _
  simp [Ideal.ofBits, Ideal.ieee, ← EReal.coe_mul]; norm_num

theorem ofBits_eighth : Ideal.ofBits .f32 0x3E000000#32 = (((1 : ℝ) / 8 : ℝ) : EReal) := by
  simp [Ideal.ofBits, Ideal.ieee, ← EReal.coe_mul]; norm_num

/-- The factor the query is multiplied by. -/
theorem factor_apply (i : S4x8192x8x64.Idx) : val_main_v5 (F := Ideal) i = ((8 * Real.log 2 : ℝ) : EReal) := by
  rw [val_main_v5_apply, val_main_v4_apply, val_main_v3_apply, ofBits_two, ofBits_eight]
  show ((8 : ℝ) : EReal) * Ideal.log ((2 : ℝ) : EReal) = _
  rw [show Ideal.log ((2 : ℝ) : EReal) = ((Real.log 2 : ℝ) : EReal) from (Ideal.log_coe 2).trans (if_neg (by norm_num)),
    ← EReal.coe_mul]

/-- A scaled product of a query and a key is `log 2` times the sum over the head's lanes. -/
theorem scaled (H : ℕ) (q k : ℕ → ℝ) :
    (∑ d : Fin 64, ((q (64 * H + d.val) * (8 * Real.log 2) : ℝ) : EReal) * ((k (64 * H + d.val) : ℝ) : EReal)) * (((1 : ℝ) / 8 : ℝ) : EReal)
      = ((Real.log 2 * lanes H q k : ℝ) : EReal) := by
  simp only [← EReal.coe_mul, ← coe_sum]
  congr 1
  unfold lanes
  rw [Finset.sum_mul, Finset.mul_sum]
  exact Finset.sum_congr rfl fun d _ => by ring

include hZ in
theorem layer_apply (h : Fin 8) (R : Fin 15) (D : Fin 31) : val_main_v81 (F := Ideal) x2 (ix3 h R D) = ((Z h.val R.val D.val : ℝ) : EReal) := by
  have hh := h.isLt; have hR := R.isLt; have hD := D.isLt
  rw [val_main_v81_apply, val_main_v80_apply]
  refine (congrArg x2 ?_).trans (hZ h R D)
  funext k; apply Fin.ext
  match k with
  | ⟨0, _⟩ => rfl
  | ⟨1, _⟩ => show ((h.val * 15 + R.val) * 31 + D.val) / 465 % 8 = h.val; omega
  | ⟨2, _⟩ => show ((h.val * 15 + R.val) * 31 + D.val) / 31 % 15 = R.val; omega
  | ⟨3, _⟩ => show ((h.val * 15 + R.val) * 31 + D.val) % 31 = D.val; omega

include hX

theorem query_apply (i : S4x128x64x8x64.Idx) : val_main_v19 (F := Ideal) x0 i
    = ((X (i 0).val (64 * (i 1).val + (i 2).val) (64 * (i 3).val + (i 4).val) * (8 * Real.log 2) : ℝ) : EReal) := by
  have h0 : (i 0).val < 4 := (i 0).isLt; have h1 : (i 1).val < 128 := (i 1).isLt; have h2 : (i 2).val < 64 := (i 2).isLt
  have h3 : (i 3).val < 8 := (i 3).isLt; have h4 : (i 4).val < 64 := (i 4).isLt
  rw [val_main_v19_apply, val_main_v6_apply, factor_apply, val_main_v2_apply, val_main_v1_apply, val_main_v0_apply]
  refine Eq.trans ?_ (EReal.coe_mul _ _).symm
  refine congrArg (fun y : EReal => y * ((8 * Real.log 2 : ℝ) : EReal)) ((hX _).trans ?_)
  congr 2
  all_goals dsimp only
  all_goals omega

theorem key_apply (i : S4x128x64x8x64.Idx) : val_main_v20 (F := Ideal) x0 i
    = ((X (i 0).val (64 * (i 1).val + (i 2).val) (512 + (64 * (i 3).val + (i 4).val)) : ℝ) : EReal) := by
  have h0 : (i 0).val < 4 := (i 0).isLt; have h1 : (i 1).val < 128 := (i 1).isLt; have h2 : (i 2).val < 64 := (i 2).isLt
  have h3 : (i 3).val < 8 := (i 3).isLt; have h4 : (i 4).val < 64 := (i 4).isLt
  rw [val_main_v20_apply, val_main_v9_apply, val_main_v8_apply, val_main_v7_apply]
  refine (hX _).trans ?_
  congr 2
  all_goals dsimp only
  all_goals omega

theorem value_apply (i : S4x128x64x8x64.Idx) : val_main_v21 (F := Ideal) x0 i
    = ((X (i 0).val (64 * (i 1).val + (i 2).val) (1024 + (64 * (i 3).val + (i 4).val)) : ℝ) : EReal) := by
  have h0 : (i 0).val < 4 := (i 0).isLt; have h1 : (i 1).val < 128 := (i 1).isLt; have h2 : (i 2).val < 64 := (i 2).isLt
  have h3 : (i 3).val < 8 := (i 3).isLt; have h4 : (i 4).val < 64 := (i 4).isLt
  rw [val_main_v21_apply, val_main_v12_apply, val_main_v11_apply, val_main_v10_apply]
  refine (hX _).trans ?_
  congr 2
  all_goals dsimp only
  all_goals omega

theorem winKey_apply (i : S4x128x8x64x16x8x64.Idx) : val_main_v65 (F := Ideal) x0 i
    = ((X (i 0).val (64 * (winRow (i 1).val + (i 2).val) + (firstCol (i 3).val + (i 4).val)) (512 + (64 * (i 5).val + (i 6).val)) : ℝ) : EReal) :=
  (window_apply (val_main_v20 (F := Ideal) x0) i).trans (key_apply x0 X hX _)

theorem winValue_apply (i : S4x128x8x64x16x8x64.Idx) : val_main_v79 (F := Ideal) x0 i
    = ((X (i 0).val (64 * (winRow (i 1).val + (i 2).val) + (firstCol (i 3).val + (i 4).val)) (1024 + (64 * (i 5).val + (i 6).val)) : ℝ) : EReal) :=
  (window_apply (val_main_v21 (F := Ideal) x0) i).trans (value_apply x0 X hX _)

omit hX
include hC

theorem ctxKey_apply (i : S4x256x8x64.Idx) : val_main_v15 (F := Ideal) x1 i
    = ((C (i 0).val (i 1).val (512 + (64 * (i 2).val + (i 3).val)) : ℝ) : EReal) := by
  have h0 : (i 0).val < 4 := (i 0).isLt; have h1 : (i 1).val < 256 := (i 1).isLt; have h2 : (i 2).val < 8 := (i 2).isLt
  have h3 : (i 3).val < 64 := (i 3).isLt
  rw [val_main_v15_apply, val_main_v14_apply, val_main_v13_apply]
  refine (hC _).trans ?_
  congr 2
  all_goals dsimp only
  all_goals omega

theorem ctxValue_apply (i : S4x256x8x64.Idx) : val_main_v18 (F := Ideal) x1 i
    = ((C (i 0).val (i 1).val (1024 + (64 * (i 2).val + (i 3).val)) : ℝ) : EReal) := by
  have h0 : (i 0).val < 4 := (i 0).isLt; have h1 : (i 1).val < 256 := (i 1).isLt; have h2 : (i 2).val < 8 := (i 2).isLt
  have h3 : (i 3).val < 64 := (i 3).isLt
  rw [val_main_v18_apply, val_main_v17_apply, val_main_v16_apply]
  refine (hC _).trans ?_
  congr 2
  all_goals dsimp only
  all_goals omega

include hX

theorem ctxScore_apply (i : S4x8x128x64x256.Idx) : val_main_v105 (F := Ideal) x0 x1 i
    = ((ctxScore (X (i 0).val) (C (i 0).val) (i 1).val (i 2).val (i 3).val (i 4).val : ℝ) : EReal) := by
  rw [val_main_v105_apply, val_main_v103_apply, val_main_v104_apply]
  simp only [query_apply x0 X hX, ctxKey_apply x1 C hC]
  exact (congrArg (_ * ·) ofBits_eighth).trans (scaled (i 1).val (X (i 0).val (64 * (i 2).val + (i 3).val)) (fun l => C (i 0).val (i 4).val (512 + l)))

omit hC
include hZ

theorem winScore_apply (b : Fin 4) (h : Fin 8) (r : Fin 128) (x : Fin 64) (a : Fin 8) (w : Fin 16) :
    val_main_v102 (F := Ideal) x0 x2 (ix6 b h r x a w) = ((winScore (X b.val) Z h.val r.val x.val a.val w.val : ℝ) : EReal) := by
  have hb : val_main_v101 (F := Ideal) x2 (ix6 b h r x a w)
      = ((Z h.val (winRow r.val + a.val + 7 - r.val) (firstCol x.val + w.val + 15 - x.val) : ℝ) : EReal) := by
    rw [val_main_v101_apply, val_main_v100_apply, val_main_v99_apply]
    refine (congrArg (val_main_v95 (F := Ideal) x2) (?_ : _ = ix5 h r a x w)).trans ((bias_apply (val_main_v81 (F := Ideal) x2) h r a x w).trans ?_)
    · funext k; apply Fin.ext
      match k with
      | ⟨0, _⟩ => rfl
      | ⟨1, _⟩ => rfl
      | ⟨2, _⟩ => rfl
      | ⟨3, _⟩ => rfl
      | ⟨4, _⟩ => rfl
    · exact layer_apply x2 Z hZ h _ _
  rw [val_main_v102_apply, val_main_v98_apply, val_main_v96_apply, val_main_v97_apply, hb]
  simp only [query_apply x0 X hX, winKey_apply x0 X hX]
  unfold winScore
  rw [EReal.coe_add]
  exact congrArg (· + _) ((congrArg (_ * ·) ofBits_eighth).trans (scaled h.val (X b.val (64 * r.val + x.val))
    (fun l => X b.val (64 * (winRow r.val + a.val) + (firstCol x.val + w.val)) (512 + l))))

include hC

/-- The joined scores. -/
theorem score_apply (b : Fin 4) (h : Fin 8) (r : Fin 128) (x : Fin 64) (j : Fin 384) :
    val_main_v107 (F := Ideal) x0 x1 x2 (ix5 b h r x j)
      = ((scoreAt (X b.val) (C b.val) Z h.val r.val x.val j.val : ℝ) : EReal) := by
  have hj := j.isLt
  unfold val_main_v107 scoreAt
  by_cases hlt : j.val < 128
  · rw [if_pos hlt]
    rw [concatenate_pair_apply_left (t := S4x8x128x64x384) (s₁ := S4x8x128x64x128) (s₂ := S4x8x128x64x256) 4 _ _ _ _ rfl
      (ix5 b h r x ⟨j.val, hlt⟩) (fun b => by
        match b with
        | ⟨0, _⟩ => rfl
        | ⟨1, _⟩ => rfl
        | ⟨2, _⟩ => rfl
        | ⟨3, _⟩ => rfl
        | ⟨4, _⟩ => rfl)]
    unfold val_main_v106
    refine (shapeCast_apply _ _ _ (ix6 b h r x (⟨j.val / 16, by omega⟩ : Fin 8) (⟨j.val % 16, Nat.mod_lt _ (by norm_num)⟩ : Fin 16)) ?_).trans
      (winScore_apply x0 x2 X Z hX hZ _ _ _ _ _ _)
    rw [Shape.rowMajor_val_six, Shape.rowMajor_val_five]
    show ((((b.val * 8 + h.val) * 128 + r.val) * 64 + x.val) * 8 + j.val / 16) * 16 + j.val % 16
      = (((b.val * 8 + h.val) * 128 + r.val) * 64 + x.val) * 128 + j.val
    omega
  · rw [if_neg hlt]
    rw [concatenate_pair_apply_right (t := S4x8x128x64x384) (s₁ := S4x8x128x64x128) (s₂ := S4x8x128x64x256) 4 _ _ _ _ rfl rfl
      (ix5 b h r x ⟨j.val - 128, by omega⟩) (fun b => by
        match b with
        | ⟨0, _⟩ => intro _; rfl
        | ⟨1, _⟩ => intro _; rfl
        | ⟨2, _⟩ => intro _; rfl
        | ⟨3, _⟩ => intro _; rfl
        | ⟨4, _⟩ => intro h; exact absurd rfl h) (by show j.val - 128 + 128 = j.val; omega)]
    exact ctxScore_apply x0 x1 X C hX hC _

end Cert.ReferenceIdeal.Attn

end
-- ==== Proof.Attn.RefValue.lean ====
/- The reference's softmax weights and its result, as real numbers. -/
module

public import proofs.«01_k».proof.Proof.Attn.RefScore
public import Idealize.ShloMosaic.Lib.KernelVsHost
public import Idealize.ShloMosaic.Lib.TwoAxisContraction

@[expose] public section

noncomputable section

namespace Cert.Attn

/-- The weight of key `j`: its exponential over the sum of all. -/
def weightAt (X C : ℕ → ℕ → ℝ) (Z : ℕ → ℕ → ℕ → ℝ) (h r x j : ℕ) : ℝ :=
  Real.exp (scoreAt X C Z h r x j) / ∑ k : Fin 384, Real.exp (scoreAt X C Z h r x k.val)

/-- The weighted values of head `h`, lane `d`, for the query at row `r` and column `x`. -/
def weighted (X C : ℕ → ℕ → ℝ) (Z : ℕ → ℕ → ℕ → ℝ) (r x h d : ℕ) : ℝ :=
  (∑ a : Fin 8, ∑ w : Fin 16, weightAt X C Z h r x (16 * a.val + w.val)
      * X (64 * (winRow r + a.val) + (firstCol x + w.val)) (1024 + (64 * h + d)))
    + ∑ c : Fin 256, C c.val (1024 + (64 * h + d)) * weightAt X C Z h r x (128 + c.val)

end Cert.Attn

namespace Cert.ReferenceIdeal.Attn

open Cert.ReferenceIdeal Cert.ReferenceIdeal.Gen Cert.ReferenceIdeal.Read Cert.Attn Idealize.ShloMosaic Idealize.ShloMosaic.ValueIdx
open Idealize.ShloMosaic.TcCoe

variable (x0 : FVec Ideal S4x8192x1536 .bf16) (x1 : FVec Ideal S4x256x1536 .bf16) (x2 : FVec Ideal S4x8x15x31 .f32)
variable (X C : ℕ → ℕ → ℕ → ℝ) (Z : ℕ → ℕ → ℕ → ℝ)
variable (hX : ∀ i, x0 i = ((X (i 0).val (i 1).val (i 2).val : ℝ) : EReal))
variable (hC : ∀ i, x1 i = ((C (i 0).val (i 1).val (i 2).val : ℝ) : EReal))
variable (hZ : ∀ (h : Fin 8) (r : Fin 15) (d : Fin 31), x2 (ix4 0 h r d) = ((Z h.val r.val d.val : ℝ) : EReal))

theorem ofBits_negInf : Ideal.ofBits .f32 0xFF800000#32 = (⊥ : EReal) := by
  simp [Ideal.ofBits, Ideal.ieee]

/-- The greatest score of one query. -/
theorem greatest_apply (b : Fin 4) (h : Fin 8) (r : Fin 128) (x : Fin 64) :
    val_main_v108 (F := Ideal) x0 x1 x2 (ix4 b h r x)
      = (Finset.univ : Finset (Fin 384)).fold max (⊥ : EReal) fun k => val_main_v107 (F := Ideal) x0 x1 x2 (ix5 b h r x k) := by
  unfold val_main_v108
  generalize val_main_v107 (F := Ideal) x0 x1 x2 = y
  have e := congrFun (hostReduce_maximumf_eq_multiReduction (F := Ideal) y (0xFF800000#32 : BitVec (FTy.bits .f32))
    reducesTo_S4x8x128x64x384_S4x8x128x64_d4 h_S_ (by decide) (.inl rfl) rfl) (ix4 b h r x)
  refine e.trans ((Ideal.multiReduction_maximumf_single _ _ _ _ _ _).trans ?_)
  rw [show (FloatOps.ofBits .f32 0xFF800000#32 : Ideal .f32) = (⊥ : EReal) from ofBits_negInf]
  refine Finset.fold_congr fun κ _ => congrArg y ?_
  funext a
  match a with
  | ⟨0, _⟩ => rfl
  | ⟨1, _⟩ => rfl
  | ⟨2, _⟩ => rfl
  | ⟨3, _⟩ => rfl
  | ⟨4, _⟩ => rfl

include hX hC hZ

/-- The exponential of a score less the greatest. -/
theorem exp_apply (b : Fin 4) (h : Fin 8) (r : Fin 128) (x : Fin 64) (j : Fin 384) :
    val_main_v114 (F := Ideal) x0 x1 x2 (ix5 b h r x j)
      = Ideal.exp (((scoreAt (X b.val) (C b.val) Z h.val r.val x.val j.val : ℝ) : EReal)
          - val_main_v108 (F := Ideal) x0 x1 x2 (ix4 b h r x)) := by
  rw [val_main_v114_apply, val_main_v113_apply, val_main_v112_apply, val_main_v111_apply, val_main_v110_apply,
    val_main_v109_apply, score_apply x0 x1 x2 X C Z hX hC hZ]
  have e : idx_main_v111 (idx_main_v112 (ix5 b h r x j)) = ix4 b h r x := by
    funext k; apply Fin.ext
    match k with
    | ⟨0, _⟩ => rfl
    | ⟨1, _⟩ => rfl
    | ⟨2, _⟩ => rfl
    | ⟨3, _⟩ => rfl
  rw [e]
  generalize val_main_v108 (F := Ideal) x0 x1 x2 (ix4 b h r x) = M
  show Ideal.exp (_ - max (Ideal.ofBits .f32 0xFF800000#32) _) = _
  rw [ofBits_negInf, max_eq_right bot_le]

/-- The weights. -/
theorem weight_apply (b : Fin 4) (h : Fin 8) (r : Fin 128) (x : Fin 64) (j : Fin 384) :
    val_main_v118 (F := Ideal) x0 x1 x2 (ix5 b h r x j)
      = ((weightAt (X b.val) (C b.val) Z h.val r.val x.val j.val : ℝ) : EReal) := by
  rw [val_main_v118_apply, val_main_v117_apply, val_main_v116_apply, val_main_v115_apply]
  have e (k : Fin 384) : idx_main_v115 (idx_main_v116 (idx_main_v117 (ix5 b h r x j))) k = ix5 b h r x k := by
    funext q; apply Fin.ext
    match q with
    | ⟨0, _⟩ => rfl
    | ⟨1, _⟩ => rfl
    | ⟨2, _⟩ => rfl
    | ⟨3, _⟩ => rfl
    | ⟨4, _⟩ => rfl
  simp only [e, exp_apply x0 x1 x2 X C Z hX hC hZ]
  have z : val_main_cst_24 (F := Ideal) (Shape.Idx.first h_S_) = (0 : EReal) := by
    show Ideal.ofBits .f32 0x00000000#32 = _
    simp [Ideal.ofBits, Ideal.ieee]
  rw [z, zero_add]
  refine weight_eq (fun k : Fin 384 => scoreAt (X b.val) (C b.val) Z h.val r.val x.val k.val) j _ ?_
  rw [greatest_apply]
  simp only [score_apply x0 x1 x2 X C Z hX hC hZ]

/-- The weights of the window keys, by row and column of the window. -/
theorem winWeight_apply (b : Fin 4) (h : Fin 8) (r : Fin 128) (x : Fin 64) (a : Fin 8) (w : Fin 16) :
    val_main_v120 (F := Ideal) x0 x1 x2 (ix6 b h r x a w)
      = ((weightAt (X b.val) (C b.val) Z h.val r.val x.val (16 * a.val + w.val) : ℝ) : EReal) := by
  have ha := a.isLt; have hw := w.isLt
  have e : val_main_v119 (F := Ideal) x0 x1 x2 (ix5 b h r x (⟨16 * a.val + w.val, by omega⟩ : Fin 128))
      = ((weightAt (X b.val) (C b.val) Z h.val r.val x.val (16 * a.val + w.val) : ℝ) : EReal) := by
    rw [val_main_v119_apply]
    refine (congrArg (val_main_v118 (F := Ideal) x0 x1 x2) (?_ : _ = ix5 b h r x ⟨16 * a.val + w.val, by omega⟩)).trans
      (weight_apply x0 x1 x2 X C Z hX hC hZ b h r x _)
    funext k; apply Fin.ext
    match k with
    | ⟨0, _⟩ => rfl
    | ⟨1, _⟩ => rfl
    | ⟨2, _⟩ => rfl
    | ⟨3, _⟩ => rfl
    | ⟨4, _⟩ => rfl
  unfold val_main_v120
  generalize val_main_v119 (F := Ideal) x0 x1 x2 = y at e
  refine (shapeCast_apply y _ _ _ ?_).trans e
  rw [Shape.rowMajor_val_six, Shape.rowMajor_val_five]
  show (((b.val * 8 + h.val) * 128 + r.val) * 64 + x.val) * 128 + (16 * a.val + w.val)
    = ((((b.val * 8 + h.val) * 128 + r.val) * 64 + x.val) * 8 + a.val) * 16 + w.val
  omega

/-- The window keys' weighted values. -/
theorem winPart_apply (b : Fin 4) (r : Fin 128) (x : Fin 64) (h : Fin 8) (d : Fin 64) :
    val_main_v122 (F := Ideal) x0 x1 x2 (ix5 b r x h d)
      = ((∑ a : Fin 8, ∑ w : Fin 16, weightAt (X b.val) (C b.val) Z h.val r.val x.val (16 * a.val + w.val)
          * X b.val (64 * (winRow r.val + a.val) + (firstCol x.val + w.val)) (1024 + (64 * h.val + d.val)) : ℝ) : EReal) := by
  unfold val_main_v122 Host.dotGeneral
  rw [Ideal.dotGeneral_apply, sum_contr2 _ 8 16 rfl rfl rfl, coe_sum]
  refine Finset.sum_congr rfl fun a _ => ?_
  rw [coe_sum]
  refine Finset.sum_congr rfl fun w _ => ?_
  have h0 := contrEquiv2_symm_val0 dot_S4x8x128x64x8x16_S4x128x8x64x16x8x64_S4x128x64x8x64_45_24_n_6_0231_0135 8 16 rfl rfl rfl (a, w)
  have h1 := contrEquiv2_symm_val1 dot_S4x8x128x64x8x16_S4x128x8x64x16x8x64_S4x128x64x8x64_45_24_n_6_0231_0135 8 16 rfl rfl rfl (a, w)
  rw [EReal.coe_mul, winValue_apply x0 X hX]
  refine congrArg₂ (· * ·) ((congrArg (val_main_v120 (F := Ideal) x0 x1 x2) (?_ : _ = ix6 b h r x a w)).trans
    (winWeight_apply x0 x1 x2 X C Z hX hC hZ b h r x a w)) ?_
  · funext k; apply Fin.ext
    match k with
    | ⟨0, _⟩ => rfl
    | ⟨1, _⟩ => rfl
    | ⟨2, _⟩ => rfl
    | ⟨3, _⟩ => rfl
    | ⟨4, _⟩ => exact h0
    | ⟨5, _⟩ => exact h1
  · refine congrArg (fun y : ℝ => (y : EReal)) (congrArg₂ (X b.val) ?_ rfl)
    exact congrArg₂ (fun p q : ℕ => 64 * (winRow r.val + p) + (firstCol x.val + q)) h0 h1

/-- The reference's result at one query, head and lane. -/
theorem heads_apply (b : Fin 4) (r : Fin 128) (x : Fin 64) (h : Fin 8) (d : Fin 64) :
    val_main_v125 (F := Ideal) x0 x1 x2 (ix5 b r x h d)
      = ((weighted (X b.val) (C b.val) Z r.val x.val h.val d.val : ℝ) : EReal) := by
  rw [val_main_v125_apply, val_main_v124_apply, val_main_v123_apply, winPart_apply x0 x1 x2 X C Z hX hC hZ]
  unfold weighted
  rw [EReal.coe_add]
  refine congrArg (_ + ·) (Eq.trans (Finset.sum_congr rfl fun c _ => ?_) (coe_sum _ _).symm)
  rw [EReal.coe_mul, val_main_v121_apply, ctxValue_apply x1 C hC]
  refine congrArg (_ * ·) ((congrArg (val_main_v118 (F := Ideal) x0 x1 x2)
    (?_ : _ = ix5 b h r x ⟨128 + c.val, by have := c.isLt; omega⟩)).trans (weight_apply x0 x1 x2 X C Z hX hC hZ b h r x _))
  funext k; apply Fin.ext
  match k with
  | ⟨0, _⟩ => rfl
  | ⟨1, _⟩ => rfl
  | ⟨2, _⟩ => rfl
  | ⟨3, _⟩ => rfl
  | ⟨4, _⟩ => rfl

/-- The reference's result. -/
theorem result_apply (b : Fin 4) (n : Fin 8192) (l : Fin 512) :
    val_main_v127 (F := Ideal) x0 x1 x2 (ix3 b n l)
      = ((weighted (X b.val) (C b.val) Z (n.val / 64) (n.val % 64) (l.val / 64) (l.val % 64) : ℝ) : EReal) := by
  have hb := b.isLt; have hn := n.isLt; have hl := l.isLt
  rw [val_main_v127_apply, val_main_v126_apply]
  refine (congrArg (val_main_v125 (F := Ideal) x0 x1 x2) (?_ : _ = ix5 b (⟨n.val / 64, by omega⟩ : Fin 128)
    (⟨n.val % 64, by omega⟩ : Fin 64) (⟨l.val / 64, by omega⟩ : Fin 8) (⟨l.val % 64, by omega⟩ : Fin 64))).trans
    (heads_apply x0 x1 x2 X C Z hX hC hZ _ _ _ _ _)
  funext k; apply Fin.ext
  match k with
  | ⟨0, _⟩ => show ((b.val * 8192 + n.val) * 512 + l.val) / 4194304 = b.val; omega
  | ⟨1, _⟩ => show ((b.val * 8192 + n.val) * 512 + l.val) / 32768 % 128 = n.val / 64; omega
  | ⟨2, _⟩ => show ((b.val * 8192 + n.val) * 512 + l.val) / 512 % 64 = n.val % 64; omega
  | ⟨3, _⟩ => show ((b.val * 8192 + n.val) * 512 + l.val) / 64 % 8 = l.val / 64; omega
  | ⟨4, _⟩ => show ((b.val * 8192 + n.val) * 512 + l.val) % 64 = l.val % 64; omega

end Cert.ReferenceIdeal.Attn

end
-- ==== Proof.Attn.Equation.lean ====
/- The kernel's quotient over eight whole rows, with the keys outside the window masked, is the reference's weighted sum over
   the window. -/
module

public import proofs.«01_k».proof.Proof.Attn.Block
public import proofs.«01_k».proof.Proof.Attn.TableValue
public import proofs.«01_k».proof.Proof.Attn.RefValue

@[expose] public section

noncomputable section

namespace Cert.Attn

/-- A sum over a row of 64 that vanishes outside sixteen columns is the sum over those. -/
theorem row_sum (f : ℕ → ℝ) (c : ℕ) (hc : c ≤ 48) :
    (∑ y : Fin 64, if c ≤ y.val ∧ y.val < c + 16 then f y.val else 0) = ∑ w : Fin 16, f (c + w.val) := by
  rw [Fin.sum_univ_eq_sum_range (fun y => if c ≤ y ∧ y < c + 16 then f y else 0) 64,
    Fin.sum_univ_eq_sum_range (fun w => f (c + w)) 16, ← Finset.sum_filter]
  have e : (Finset.range 64).filter (fun y => c ≤ y ∧ y < c + 16) = Finset.Ico c (c + 16) := by
    ext y; simp only [Finset.mem_filter, Finset.mem_range, Finset.mem_Ico]; omega
  rw [e, Finset.sum_Ico_eq_sum_range]
  simp

/-- A sum over `m * n` is the sum over `m` rows of `n`. -/
theorem sum_rows (m n : ℕ) (f : ℕ → ℝ) :
    (∑ κ : Fin (m * n), f κ.val) = ∑ a : Fin m, ∑ y : Fin n, f (n * a.val + y.val) := by
  rw [← Equiv.sum_comp finProdFinEquiv, Fintype.sum_prod_type]
  refine Finset.sum_congr rfl fun a _ => Finset.sum_congr rfl fun y _ => congrArg f ?_
  show y.val + n * a.val = n * a.val + y.val
  omega

/-- A sum over all keys: the window's, by row and column, and the context's. -/
theorem sum_keys (f : ℕ → ℝ) :
    (∑ k : Fin 384, f k.val) = (∑ a : Fin 8, ∑ w : Fin 16, f (16 * a.val + w.val)) + ∑ c : Fin 256, f (128 + c.val) := by
  rw [← sum_rows 8 16 f]
  exact Fin.sum_univ_add (a := 128) (b := 256) fun k => f k.val

/-- A power of two of a score over `log 2` is the exponential of the score. -/
theorem two_rpow (s z : ℝ) : (2 : ℝ) ^ (s + z * (1 / Real.log 2)) = Real.exp (Real.log 2 * s + z) := by
  have h : Real.log 2 ≠ 0 := (Real.log_pos (by norm_num)).ne'
  rw [Real.rpow_def_of_pos (by norm_num)]
  congr 1
  field_simp

/-- The table never holds `⊤`. -/
theorem biasTable_ne_top (Z : ℕ → ℕ → ℕ → ℝ) (p d s κ : ℕ) : biasTable Z p d s κ ≠ ⊤ := by
  unfold biasTable
  split
  · exact EReal.coe_ne_top _
  · exact bot_ne_top

theorem firstCol_bound (x : ℕ) : firstCol x ≤ 48 := min_le_right _ _

/-- The weight of key `κ` of the eight rows: zero outside the window, the exponential of the reference's score inside. -/
theorem key_weight (X : ℕ → ℕ → ℝ) (Z : ℕ → ℕ → ℕ → ℝ) (R x l : ℕ) (hx : x < 64) (a : ℕ) (ha : a < 8)
    (hR : R ≤ winRow R + 7) (y : ℕ) (hy : y < 64) :
    pow2 ((lanes (l / 64) (X (64 * R + x)) (fun i => X (64 * winRow R + (64 * a + y)) (512 + i)) : EReal)
        + biasTable Z (l / 128) (winRow R + 7 + 2 * ((64 * a + y) / 128) - R) (64 * (l / 64 % 2) + x) ((64 * a + y) % 128))
      = if firstCol x ≤ y ∧ y < firstCol x + 16 then
          Real.exp (Real.log 2 * lanes (l / 64) (X (64 * R + x)) (fun i => X (64 * (winRow R + a) + y) (512 + i))
            + Z (l / 64) (winRow R + a + 7 - R) (y + 15 - x)) else 0 := by
  unfold biasTable
  have e1 : (64 * (l / 64 % 2) + x) % 64 = x := by omega
  have e2 : (64 * a + y) % 128 % 64 = y := by omega
  have e3 : 2 * (l / 128) + (64 * (l / 64 % 2) + x) / 64 = l / 64 := by omega
  have e4 : winRow R + 7 + 2 * ((64 * a + y) / 128) - R + (64 * a + y) % 128 / 64 = winRow R + a + 7 - R := by omega
  have e5 : 64 * winRow R + (64 * a + y) = 64 * (winRow R + a) + y := by omega
  rw [e1, e2, e3, e4, e5]
  split
  · rw [← EReal.coe_add, pow2_coe, two_rpow]
  · rw [EReal.add_bot, pow2_bot]

/-- A sum over the 512 keys of the eight rows, weighted as the kernel does, is a sum over the window. -/
theorem window_sum (X : ℕ → ℕ → ℝ) (Z : ℕ → ℕ → ℕ → ℝ) (R x l : ℕ) (hx : x < 64) (hR : R ≤ winRow R + 7) (g : ℕ → ℝ) :
    (∑ κ : Fin 512, pow2 ((lanes (l / 64) (X (64 * R + x)) (fun i => X (64 * winRow R + κ.val) (512 + i)) : EReal)
        + biasTable Z (l / 128) (winRow R + 7 + 2 * (κ.val / 128) - R) (64 * (l / 64 % 2) + x) (κ.val % 128))
        * g (64 * winRow R + κ.val))
      = ∑ a : Fin 8, ∑ w : Fin 16, Real.exp (winScore X Z (l / 64) R x a.val w.val)
          * g (64 * (winRow R + a.val) + (firstCol x + w.val)) := by
  refine (sum_rows 8 64 fun κ => pow2 ((lanes (l / 64) (X (64 * R + x)) (fun i => X (64 * winRow R + κ) (512 + i)) : EReal)
        + biasTable Z (l / 128) (winRow R + 7 + 2 * (κ / 128) - R) (64 * (l / 64 % 2) + x) (κ % 128))
        * g (64 * winRow R + κ)).trans (Finset.sum_congr rfl fun a _ => ?_)
  refine Eq.trans (Finset.sum_congr rfl fun y _ => ?_) (row_sum (fun y =>
    Real.exp (Real.log 2 * lanes (l / 64) (X (64 * R + x)) (fun i => X (64 * (winRow R + a.val) + y) (512 + i))
            + Z (l / 64) (winRow R + a.val + 7 - R) (y + 15 - x)) * g (64 * (winRow R + a.val) + y)) (firstCol x) (firstCol_bound x))
  rw [key_weight X Z R x l hx a.val a.isLt hR y.val y.isLt, ite_mul, zero_mul,
    show 64 * winRow R + (64 * a.val + y.val) = 64 * (winRow R + a.val) + y.val by omega]

theorem score_window (X C : ℕ → ℕ → ℝ) (Z : ℕ → ℕ → ℕ → ℝ) (h r x : ℕ) (a : Fin 8) (w : Fin 16) :
    scoreAt X C Z h r x (16 * a.val + w.val) = winScore X Z h r x a.val w.val := by
  have ha := a.isLt; have hw := w.isLt
  unfold scoreAt
  rw [if_pos (by omega), show (16 * a.val + w.val) / 16 = a.val by omega, show (16 * a.val + w.val) % 16 = w.val by omega]

theorem score_context (X C : ℕ → ℕ → ℝ) (Z : ℕ → ℕ → ℕ → ℝ) (h r x c : ℕ) :
    scoreAt X C Z h r x (128 + c) = ctxScore X C h r x c := by
  unfold scoreAt
  rw [if_neg (by omega), show 128 + c - 128 = c by omega]

/-- A power of two of a context score is the exponential of the reference's. -/
theorem ctx_weight (X C : ℕ → ℕ → ℝ) (h r x c : ℕ) :
    (2 : ℝ) ^ lanes h (X (64 * r + x)) (fun l => C c (512 + l)) = Real.exp (ctxScore X C h r x c) := by
  unfold ctxScore
  rw [Real.rpow_def_of_pos (by norm_num)]

/-- The kernel's quotient is the reference's weighted sum. -/
theorem attend_eq (X C : ℕ → ℕ → ℝ) (Z : ℕ → ℕ → ℕ → ℝ) (R x l : ℕ) (hx : x < 64) (hR : R < 128) :
    attend (X (64 * R + x)) (fun k i => X k (512 + i)) (fun k i => X k (1024 + i)) (fun k i => C k (512 + i))
        (fun k i => C k (1024 + i)) (biasTable Z) R x l
      = weighted X C Z R x (l / 64) (l % 64) := by
  have hw : R ≤ winRow R + 7 := by unfold winRow; omega
  have hl : 64 * (l / 64) + l % 64 = l := by omega
  unfold attend average weighted weightAt
  rw [window_sum X Z R x l hx hw fun k => X k (1024 + l)]
  have hden := window_sum X Z R x l hx hw fun _ => 1
  simp only [mul_one] at hden
  rw [hden]
  simp only [ctx_weight, hl]
  rw [sum_keys fun k => Real.exp (scoreAt X C Z (l / 64) R x k)]
  simp only [score_window, score_context]
  rw [add_div, Finset.sum_div, Finset.sum_div]
  refine congrArg₂ (· + ·) (Finset.sum_congr rfl fun a _ => ?_) (Finset.sum_congr rfl fun c _ => ?_)
  · rw [Finset.sum_div]
    exact Finset.sum_congr rfl fun w _ => (div_mul_eq_mul_div _ _ _).symm
  · rw [mul_comm, ← mul_div_assoc]

end Cert.Attn

end
-- ==== Proof.Attn.Input.lean ====
/- What the precondition says: every input is a real number. -/
module

public import proofs.«01_k».proof.Pre_finite
public import Idealize.ShloMosaic.Lib.KernelVsHost
public import Idealize.ShloMosaic.Lib.ValueIdxCore
public import Idealize.ShloMosaic.Lib.Pipeline.Value

@[expose] public section

noncomputable section

namespace Cert.Pre_finite.Gen

open Idealize.ShloMosaic Cert.Pre_finite

theorem facts : Cert.Pre_finite.Facts where
  bitsLt_bf16_f32 := by decide
  bcast_S_S4x8192x1536 := by decide
  bcast_S_S4x256x1536 := by decide
  bcast_S_S4x8x15x31 := by decide

end Cert.Pre_finite.Gen

namespace Cert.Attn

open Idealize.ShloMosaic

theorem ofBits_inf : Ideal.ofBits .f32 0x7F800000#32 = (⊤ : EReal) := by
  simp [Ideal.ofBits, Ideal.ieee]

/-- A value whose absolute value is below infinity is a real number. -/
theorem real_of_abs_lt (x : EReal) (h : Ideal.cmp .olt (max x (-x)) ⊤ = 1#1) : x = ((x.toReal : ℝ) : EReal) := by
  have h' : max x (-x) < ⊤ := by
    by_contra hn
    rw [show Ideal.cmp .olt (max x (-x)) ⊤ = BitVec.ofBool (decide (max x (-x) < ⊤)) from rfl, decide_eq_false hn] at h
    exact absurd h (by decide)
  refine (EReal.coe_toReal (fun e => ?_) (fun e => ?_)).symm
  · subst e; exact absurd h' (by simp)
  · subst e; exact absurd h' (by simp)

section

variable [Cert.Pre_finite.Facts] (x0 : FVec Ideal Cert.Pre_finite.S4x8192x1536 .bf16)
variable (x1 : FVec Ideal Cert.Pre_finite.S4x256x1536 .bf16) (x2 : FVec Ideal Cert.Pre_finite.S4x8x15x31 .f32)

theorem real_latent (h : (Cert.Pre_finite.fn x0 x1 x2).1 = fun _ => 1#1) (i) : x0 i = (((x0 i).toReal : ℝ) : EReal) := by
  have e := congrFun h i
  refine real_of_abs_lt _ (Eq.trans ?_ e)
  exact congrArg (Ideal.cmp .olt _) ofBits_inf.symm

theorem real_context (h : (Cert.Pre_finite.fn x0 x1 x2).2.1 = fun _ => 1#1) (i) : x1 i = (((x1 i).toReal : ℝ) : EReal) := by
  have e := congrFun h i
  refine real_of_abs_lt _ (Eq.trans ?_ e)
  exact congrArg (Ideal.cmp .olt _) ofBits_inf.symm

theorem real_bias (h : (Cert.Pre_finite.fn x0 x1 x2).2.2 = fun _ => 1#1) (i) : x2 i = (((x2 i).toReal : ℝ) : EReal) := by
  have e := congrFun h i
  refine real_of_abs_lt _ (Eq.trans ?_ e)
  exact congrArg (Ideal.cmp .olt _) ofBits_inf.symm

end

end Cert.Attn

end
-- ==== Proof.Attn.Agree.lean ====
/- The claims about the attention: both programs run, and their results agree on real inputs. -/
module

public import proofs.«01_k».proof.Defs
public import proofs.«01_k».proof.Proof.Attn.Array
public import proofs.«01_k».proof.Proof.Attn.Equation
public import proofs.«01_k».proof.Proof.Attn.Input
public import proofs.«01_k».proof.Proof.Gen.KernelIdeal.Frame
public import Idealize.ShloMosaic.Lib.Quiescent

@[expose] public section

noncomputable section

namespace Cert.Attn

open Idealize.ShloMosaic Idealize.ShloMosaic.ValueIdx Idealize.SL.Sem
open Idealize.ShloMosaic.TcCoe

/-- An array of rank three, read at natural numbers. -/
def nat3 {n0 n1 n2 : ℕ} (x : (⟨3, ![n0, n1, n2]⟩ : Shape).Idx → EReal) (i j k : ℕ) : ℝ :=
  if h : i < n0 ∧ j < n1 ∧ k < n2 then (x (ix3 ⟨i, h.1⟩ ⟨j, h.2.1⟩ ⟨k, h.2.2⟩)).toReal else 0

theorem nat3_apply {n0 n1 n2 : ℕ} (x : (⟨3, ![n0, n1, n2]⟩ : Shape).Idx → EReal) (h : ∀ i, x i = (((x i).toReal : ℝ) : EReal))
    (i : (⟨3, ![n0, n1, n2]⟩ : Shape).Idx) : x i = ((nat3 x (i 0).val (i 1).val (i 2).val : ℝ) : EReal) := by
  unfold nat3
  rw [dif_pos ⟨(i 0).isLt, (i 1).isLt, (i 2).isLt⟩]
  refine (h i).trans (congrArg (fun y => (((x y).toReal : ℝ) : EReal)) ?_)
  funext a
  match a with
  | ⟨0, _⟩ => rfl
  | ⟨1, _⟩ => rfl
  | ⟨2, _⟩ => rfl

/-- The first layer of an array of rank four, read at natural numbers. -/
def layer4 {n0 n1 n2 n3 : ℕ} [NeZero n0] (x : (⟨4, ![n0, n1, n2, n3]⟩ : Shape).Idx → EReal) (i j k : ℕ) : ℝ :=
  if h : i < n1 ∧ j < n2 ∧ k < n3 then (x (ix4 0 ⟨i, h.1⟩ ⟨j, h.2.1⟩ ⟨k, h.2.2⟩)).toReal else 0

theorem layer4_apply {n0 n1 n2 n3 : ℕ} [NeZero n0] (x : (⟨4, ![n0, n1, n2, n3]⟩ : Shape).Idx → EReal)
    (h : ∀ i, x i = (((x i).toReal : ℝ) : EReal)) (i : Fin n1) (j : Fin n2) (k : Fin n3) :
    x (ix4 0 i j k) = ((layer4 x i.val j.val k.val : ℝ) : EReal) := by
  unfold layer4
  rw [dif_pos ⟨i.isLt, j.isLt, k.isLt⟩]
  exact h _

/-- The reference runs, keeps its arguments and leaves every counter at zero. -/
theorem reference_frame (m) (g) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
        ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m g)

/-- The two results agree. -/
theorem results_eq [Cert.Pre_finite.Facts]
    (m : (ℓ : Loc Cert.KernelIdeal.nD Cert.KernelIdeal.τ Cert.KernelIdeal.sig) → Buf (Elt Ideal) ℓ) (hm : Cert.Pre_KernelIdeal_finite m)
    (c : Dev Cert.KernelIdeal.nD) :
    Cert.ReferenceIdeal.Read.val_main_v127 (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
      = (Cert.KernelIdeal.Gen.dats m 0 c).arrAt 6 Cert.KernelIdeal.cfg0.N := by
  obtain ⟨h0, h1, h2⟩ := hm c
  have r0 := real_latent _ _ _ h0
  have r1 := real_context _ _ _ h1
  have r2 := real_bias _ _ _ h2
  funext i
  have e : i = ix3 (i 0) (i 1) (i 2) := by
    funext a
    match a with
    | ⟨0, _⟩ => rfl
    | ⟨1, _⟩ => rfl
    | ⟨2, _⟩ => rfl
  generalize i 0 = b at e
  generalize i 1 = n at e
  generalize i 2 = l at e
  subst e
  refine (Cert.ReferenceIdeal.Attn.result_apply _ _ _ _ _ _ (nat3_apply _ r0) (nat3_apply _ r1) (layer4_apply _ r2) b n l).trans ?_
  refine Eq.trans ?_ (Cert.KernelIdeal.Attn.final_apply m c _ _ (biasTable _) (fun b n l => nat3_apply _ r0 (ix3 b n l))
    (fun b n l => nat3_apply _ r1 (ix3 b n l)) (Cert.KernelIdeal.Attn.table_apply m c _ (layer4_apply _ r2))
    (biasTable_ne_top _) b n l).symm
  unfold Cert.KernelIdeal.Attn.result
  have hn : n.val < 8192 := n.isLt
  refine congrArg (fun y : ℝ => (y : EReal)) (Eq.trans (attend_eq _ _ _ (n.val / 64) (n.val % 64) l.val (by omega) (by omega)).symm ?_)
  rw [show 64 * (n.val / 64) + n.val % 64 = n.val by omega]

/-- The kernel computes the reference's attention. -/
theorem algebraic [Cert.Pre_finite.Facts] :
    Cert.algebraic_KernelIdeal_ReferenceIdeal_pre_finite (hKernelIdeal := Cert.KernelIdeal.Gen.facts)
      (hReferenceIdeal := Cert.ReferenceIdeal.Gen.facts) := by
  intro m g m' g' hpre hagree
  refine ⟨fun c => (Cert.KernelIdeal.Gen.dats m 0 c).arrAt 6 Cert.KernelIdeal.cfg0.N, Cert.KernelIdeal.Value.run_blocks (F := Ideal) m g, ?_⟩
  refine (θ_run Cert.ReferenceIdeal.defs _ _).mono (fun _ h c => ⟨(h c).1.trans ?_, (h c).2⟩) (Cert.ReferenceIdeal.Value.run (F := Ideal) m' g')
  rw [Cert.ReferenceIdeal.Read.val_main_v127_eq]
  obtain ⟨a0, a1, a2⟩ := hagree c
  rw [a0, a1, a2]
  exact results_eq m hpre c

end Cert.Attn

end
-- ==== Proof.Mlp.Row.lean ====
/- The feed-forward block of one row of 1024 lanes over the extended reals: the normalised and modulated row, the squared
   rectified hidden lanes, the gated residual and the final normalisation. No input need be finite. -/
module

public import Idealize.ShloMosaic.Lib.ValueIdx
public import Idealize.ShloMosaic.PureOps.Ideal.Laws

@[expose] public section

noncomputable section

namespace Cert.Mlp

open Idealize.ShloMosaic Idealize.ShloMosaic.ValueIdx

/-- One over the root of the mean square of a row, the small constant added under the root. -/
def invNorm (v : Fin 1024 → EReal) : EReal :=
  Ideal.rsqrt (Ideal.div (∑ d, v d * v d) (Ideal.ofBits .f32 0x44800000#32) + Ideal.ofBits .f32 0x358637BD#32)

/-- The normalised row times the weights `g`. -/
def normed (v g : Fin 1024 → EReal) (d : Fin 1024) : EReal := v d * invNorm v * g d

/-- The normalised row, scaled and shifted. -/
def modulated (v g sh sc : Fin 1024 → EReal) (d : Fin 1024) : EReal :=
  normed v g d * (Ideal.ofBits .f32 0x3F800000#32 + sc d) + sh d

/-- The square of the rectified value. -/
def sqRelu (t : EReal) : EReal := max t (Ideal.ofBits .f32 0x00000000#32) * max t (Ideal.ofBits .f32 0x00000000#32)

/-- A hidden lane. -/
def hiddenLane {n : ℕ} (h : Fin 1024 → EReal) (w : Fin 1024 → Fin n → EReal) (f : Fin n) : EReal := sqRelu (∑ d, h d * w d f)

/-- The two products with the hidden lanes between them. -/
def feed (h : Fin 1024 → EReal) (w₁ : Fin 1024 → Fin 4096 → EReal) (w₂ : Fin 4096 → Fin 1024 → EReal) (e : Fin 1024) : EReal :=
  ∑ f, hiddenLane h w₁ f * w₂ f e

/-- The row plus its gated feed-forward. -/
def residual (x h gt : Fin 1024 → EReal) (w₁ : Fin 1024 → Fin 4096 → EReal) (w₂ : Fin 4096 → Fin 1024 → EReal) (e : Fin 1024) : EReal :=
  x e + gt e * feed h w₁ w₂ e

/-- The whole block of one row. -/
def block (x g sh sc gt gf : Fin 1024 → EReal) (w₁ : Fin 1024 → Fin 4096 → EReal) (w₂ : Fin 4096 → Fin 1024 → EReal) :
    Fin 1024 → EReal :=
  normed (residual x (modulated x g sh sc) gt w₁ w₂) gf

/-- The row of batch `b` at position `n`, from the arrays of the call: the latent, the norm's weights, the modulation table
    (shift, scale and gate in its last three sixths), the two weights and the final norm's weights, each of its last layer. -/
def layer (a₀ : (⟨3, ![4, 8192, 1024]⟩ : Shape).Idx → EReal) (a₁ : (⟨2, ![4, 1024]⟩ : Shape).Idx → EReal)
    (a₂ : (⟨3, ![4, 8, 6144]⟩ : Shape).Idx → EReal) (a₃ : (⟨3, ![4, 1024, 4096]⟩ : Shape).Idx → EReal)
    (a₄ : (⟨3, ![4, 4096, 1024]⟩ : Shape).Idx → EReal) (a₅ : (⟨1, ![1024]⟩ : Shape).Idx → EReal) (b : Fin 4) (n : Fin 8192) :
    Fin 1024 → EReal :=
  block (fun d => a₀ (ix3 b n d)) (fun d => a₁ (ix2 3 d)) (fun d => a₂ (ix3 3 ⟨b.val, by omega⟩ ⟨3072 + d.val, by omega⟩))
    (fun d => a₂ (ix3 3 ⟨b.val, by omega⟩ ⟨4096 + d.val, by omega⟩)) (fun d => a₂ (ix3 3 ⟨b.val, by omega⟩ ⟨5120 + d.val, by omega⟩))
    (fun d => a₅ (ix1 d)) (fun d f => a₃ (ix3 3 d f)) (fun f e => a₄ (ix3 3 f e))

/-- The `j`-th quarter of the hidden lanes. -/
def lane (j : Fin 4) (f : Fin 1024) : Fin 4096 := ⟨1024 * j.val + f.val, by omega⟩

/-- A sum over the hidden lanes is the sum over its four quarters. -/
theorem sum_quarters (t : Fin 4096 → EReal) :
    ∑ f, t f = ((∑ f, t (lane 0 f) + ∑ f, t (lane 1 f)) + ∑ f, t (lane 2 f)) + ∑ f, t (lane 3 f) := by
  have e : ∀ j : Fin 4, ∀ f : Fin 1024, lane j f = (finProdFinEquiv (j, f) : Fin (4 * 1024)) := fun j f =>
    Fin.ext (by show 1024 * j.val + f.val = f.val + 1024 * j.val; omega)
  have h : ∑ f, t f = ∑ j : Fin 4, ∑ f : Fin 1024, t (lane j f) := by
    rw [← Fintype.sum_prod_type']
    refine (Fintype.sum_equiv (finProdFinEquiv (m := 4) (n := 1024)) _ _ fun p => ?_).symm
    exact congrArg t (e p.1 p.2)
  rw [h, Fin.sum_univ_four]

/-- The feed-forward of one row, the hidden lanes taken a quarter at a time. -/
theorem feed_eq (h : Fin 1024 → EReal) (w₁ : Fin 1024 → Fin 4096 → EReal) (w₂ : Fin 4096 → Fin 1024 → EReal) (e : Fin 1024) :
    ((∑ f, hiddenLane h (fun d f => w₁ d (lane 0 f)) f * w₂ (lane 0 f) e + ∑ f, hiddenLane h (fun d f => w₁ d (lane 1 f)) f * w₂ (lane 1 f) e)
        + ∑ f, hiddenLane h (fun d f => w₁ d (lane 2 f)) f * w₂ (lane 2 f) e)
      + ∑ f, hiddenLane h (fun d f => w₁ d (lane 3 f)) f * w₂ (lane 3 f) e = feed h w₁ w₂ e :=
  (sum_quarters fun f => hiddenLane h w₁ f * w₂ f e).symm

end Cert.Mlp

end
-- ==== Proof.Mlp.Tile.lean ====
/- What one grid point computes from the blocks it reads, at an index: a normalised and modulated tile of 512 rows, the
   four quarters of the feed-forward added up, and the tile of results. -/
module

public import proofs.«01_k».proof.Proof.Mlp.Row
public import proofs.«01_k».proof.Proof.Gen.Kernel2Ideal.Skeleton
public import Idealize.ShloMosaic.Lib.ValueIdx
public import Idealize.ShloMosaic.Lib.Pipeline.Value

@[expose] public section

noncomputable section

namespace Cert.Kernel2Ideal.Mlp

open Cert.Kernel2Ideal Cert.Kernel2Ideal.Gen Cert.Mlp Idealize.ShloMosaic Idealize.ShloMosaic.ValueIdx

/-! ## Changes of shape and rows repeated -/

theorem cast_rows {α : Type} (x : S1x512x1024.Idx → α) (r : Fin 512) (d : Fin 1024) :
    shapeCast S512x1024 x shapeCasts_S1x512x1024_S512x1024 (ix2 r d) = x (ix3 0 r d) := by
  refine shapeCast_apply x _ _ _ ?_
  rw [Shape.rowMajor_val_three, Shape.rowMajor_val_two]
  show (0 * 512 + r.val) * 1024 + d.val = r.val * 1024 + d.val
  omega

theorem cast_out {α : Type} (x : S512x1024.Idx → α) (r : Fin 512) (d : Fin 1024) :
    shapeCast S1x512x1024 x shapeCasts_S512x1024_S1x512x1024 (ix3 0 r d) = x (ix2 r d) := by
  refine shapeCast_apply x _ _ _ ?_
  rw [Shape.rowMajor_val_three, Shape.rowMajor_val_two]
  show r.val * 1024 + d.val = (0 * 512 + r.val) * 1024 + d.val
  omega

theorem cast_lane {α : Type} (x : S1x1x1024.Idx → α) (d : Fin 1024) :
    shapeCast S1x1024 x shapeCasts_S1x1x1024_S1x1024 (ix2 0 d) = x (ix3 0 0 d) := by
  refine shapeCast_apply x _ _ _ ?_
  rw [Shape.rowMajor_val_three, Shape.rowMajor_val_two]
  rfl

theorem cast_weights {α : Type} (x : S1x1024x1024.Idx → α) (d e : Fin 1024) :
    shapeCast S1024x1024 x shapeCasts_S1x1024x1024_S1024x1024 (ix2 d e) = x (ix3 0 d e) := by
  refine shapeCast_apply x _ _ _ ?_
  rw [Shape.rowMajor_val_three, Shape.rowMajor_val_two]
  show (0 * 1024 + d.val) * 1024 + e.val = d.val * 1024 + e.val
  omega

theorem cast_column {α : Type} (x : S512.Idx → α) (r : Fin 512) :
    shapeCast S512x1 x shapeCasts_S512_S512x1 (ix2 r 0) = x (ix1 r) := by
  refine shapeCast_apply x _ _ _ ?_
  rw [Shape.rowMajor_val_two, Shape.rowMajor_val_one]
  show r.val = r.val * 1 + 0
  omega

theorem repeat_row {α : Type} (x : S1x1024.Idx → α) (r : Fin 512) (d : Fin 1024) :
    broadcastTo S512x1024 x broadcasts_S1x1024_S512x1024 (ix2 r d) = x (ix2 0 d) := by
  refine broadcastTo_apply x _ _ _ fun a => ?_
  match a with
  | ⟨0, _⟩ => rfl
  | ⟨1, _⟩ => rfl

theorem repeat_column {α : Type} (x : S512x1.Idx → α) (r : Fin 512) (d : Fin 1024) :
    broadcastTo S512x1024 x broadcasts_S512x1_S512x1024 (ix2 r d) = x (ix2 r 0) := by
  refine broadcastTo_apply x _ _ _ fun a => ?_
  match a with
  | ⟨0, _⟩ => rfl
  | ⟨1, _⟩ => rfl

/-! ## The normalised tile -/

/-- A tile times the inverse norms of its rows. -/
def scaled (y : FVec Ideal S512x1024 .f32) : FVec Ideal S512x1024 .f32 :=
  mulf y (broadcastTo S512x1024
    (rsqrt (addf (divf (shapeCast S512x1
          (multiReduction .add [1] S512 (mulf y y) 0x00000000#32 reduces_S512x1024_S512 (.inl rfl) rfl) shapeCasts_S512_S512x1)
        (broadcast S512x1 (Scalar.ofBits .f32 0x44800000#32))) (broadcast S512x1 (Scalar.ofBits .f32 0x358637BD#32))))
    broadcasts_S512x1_S512x1024)

theorem sum_row (y : FVec Ideal S512x1024 .f32) (r : Fin 512) :
    multiReduction .add [1] S512 y 0x00000000#32 reduces_S512x1024_S512 (.inl rfl) rfl (ix1 r)
      = ∑ d : Fin 1024, (y (ix2 r d) : EReal) := by
  refine (Ideal.multiReduction_add_single _ _ _ _ _ _).trans ?_
  refine Finset.sum_congr rfl fun d _ => ?_
  congr 1
  funext a
  match a with
  | ⟨0, _⟩ => rfl
  | ⟨1, _⟩ => rfl

theorem scaled_apply (y : FVec Ideal S512x1024 .f32) (v : Fin 1024 → EReal) (r : Fin 512) (h : ∀ d, y (ix2 r d) = v d) (d : Fin 1024) :
    (scaled y (ix2 r d) : EReal) = v d * invNorm v := by
  unfold scaled
  rw [mulf_apply, repeat_column]
  show (y (ix2 r d) : EReal) * Ideal.rsqrt (Ideal.div (shapeCast S512x1 _ _ (ix2 r 0)) _ + _) = _
  rw [cast_column, sum_row, h]
  have hs : ∑ d : Fin 1024, (mulf y y (ix2 r d) : EReal) = ∑ d, v d * v d :=
    Finset.sum_congr rfl fun d _ => by rw [mulf_apply, h]
  rw [hs]
  rfl

/-- The stored tile of normalised rows. -/
theorem norm_apply (x : Vec Ideal S1x512x1024 .f32) (g sh sc : Vec Ideal S1x1x1024 .f32) (v : Fin 1024 → EReal) (r : Fin 512)
    (h : ∀ d, x (ix3 0 r d) = v d) (d : Fin 1024) :
    (k0_pay1 (F := Ideal) x g sh sc (ix2 r d) : EReal)
      = modulated v (fun d => g (ix3 0 0 d)) (fun d => sh (ix3 0 0 d)) (fun d => sc (ix3 0 0 d)) d := by
  have e : k0_pay1 (F := Ideal) x g sh sc = shapeCast S512x1024 (truncf .bf16
      (addf (mulf (mulf (scaled (shapeCast S512x1024 x shapeCasts_S1x512x1024_S512x1024))
          (broadcastTo S512x1024 (shapeCast S1x1024 g shapeCasts_S1x1x1024_S1x1024) broadcasts_S1x1024_S512x1024))
        (broadcastTo S512x1024 (addf (broadcast S1x1024 (Scalar.ofBits .f32 0x3F800000#32))
          (shapeCast S1x1024 sc shapeCasts_S1x1x1024_S1x1024)) broadcasts_S1x1024_S512x1024))
        (broadcastTo S512x1024 (shapeCast S1x1024 sh shapeCasts_S1x1x1024_S1x1024) broadcasts_S1x1024_S512x1024))
      bitsLt_bf16_f32) shapeCasts_S512x1024_S512x1024 := rfl
  rw [e, shapeCast_self]
  show (addf (F := Ideal) (mulf (mulf (scaled _) _) _) _ (ix2 r d) : EReal) = _
  rw [addf_apply, mulf_apply, mulf_apply, repeat_row, repeat_row, repeat_row, addf_apply, cast_lane, cast_lane, cast_lane,
    scaled_apply _ v r (fun d => by rw [cast_rows, h])]
  rfl

/-! ## The feed-forward -/

theorem product_apply (x : FVec Ideal S512x1024 .bf16) (w : FVec Ideal S1024x1024 .bf16) (r : Fin 512) (e : Fin 1024) :
    matmul dot_S512x1024_S1024x1024_S512x1024_1_0_0_1_n_n none x w (constant S512x1024 .f32 0x00000000#32) (ix2 r e)
      = ∑ d : Fin 1024, (x (ix2 r d) : EReal) * w (ix2 d e) := by
  simp only [matmul]
  rw [Ideal.matmul_constant_zero_apply,
    ← Equiv.sum_comp (contrEquiv1 dot_S512x1024_S1024x1024_S512x1024_1_0_0_1_n_n 1024 rfl rfl).symm]
  refine Finset.sum_congr rfl fun d _ => ?_
  have hd := contrEquiv1_symm_val dot_S512x1024_S1024x1024_S512x1024_1_0_0_1_n_n 1024 rfl rfl d
  congr 2
  · funext a; apply Fin.ext
    match a with
    | ⟨0, _⟩ => rfl
    | ⟨1, _⟩ => exact hd
  · funext a; apply Fin.ext
    match a with
    | ⟨0, _⟩ => exact hd
    | ⟨1, _⟩ => rfl

/-- A quarter of the first product. -/
def up (h : FVec Ideal S512x1024 .bf16) (w : FVec Ideal S1x1024x1024 .bf16) : FVec Ideal S512x1024 .f32 :=
  matmul (F := Ideal) dot_S512x1024_S1024x1024_S512x1024_1_0_0_1_n_n none h
    (shapeCast S1024x1024 w shapeCasts_S1x1024x1024_S1024x1024) (constant S512x1024 .f32 0x00000000#32)

/-- The second product of a quarter of the hidden lanes. -/
def down (t : FVec Ideal S512x1024 .f32) (w : FVec Ideal S1x1024x1024 .bf16) : FVec Ideal S512x1024 .f32 :=
  matmul (F := Ideal) dot_S512x1024_S1024x1024_S512x1024_1_0_0_1_n_n none
    (truncf .bf16 (mulf (maximumf t (broadcast S512x1024 (Scalar.ofBits .f32 0x00000000#32)))
      (maximumf t (broadcast S512x1024 (Scalar.ofBits .f32 0x00000000#32)))) bitsLt_bf16_f32)
    (shapeCast S1024x1024 w shapeCasts_S1x1024x1024_S1024x1024) (constant S512x1024 .f32 0x00000000#32)

/-- The feed-forward of a tile, from the four column blocks of the first weights and the four row blocks of the second. -/
def feedTile (h : FVec Ideal S512x1024 .bf16) (w₁ w₂ : Fin 4 → FVec Ideal S1x1024x1024 .bf16) : FVec Ideal S512x1024 .f32 :=
  addf (addf (addf (down (up h (w₁ 0)) (w₂ 0)) (down (up h (w₁ 1)) (w₂ 1))) (down (up h (w₁ 2)) (w₂ 2))) (down (up h (w₁ 3)) (w₂ 3))

theorem down_apply (h : FVec Ideal S512x1024 .bf16) (w₁ w₂ : FVec Ideal S1x1024x1024 .bf16) (v : Fin 1024 → EReal) (r : Fin 512)
    (hv : ∀ d, h (ix2 r d) = v d) (e : Fin 1024) :
    (down (up h w₁) w₂ (ix2 r e) : EReal) = ∑ f : Fin 1024, hiddenLane v (fun d f => w₁ (ix3 0 d f)) f * w₂ (ix3 0 f e) := by
  unfold down
  rw [product_apply]
  refine Finset.sum_congr rfl fun f _ => ?_
  rw [cast_weights]
  refine congrArg (· * (w₂ (ix3 0 f e) : EReal)) ?_
  have hu : (up h w₁ (ix2 r f) : EReal) = ∑ d, v d * w₁ (ix3 0 d f) := by
    unfold up
    rw [product_apply]
    exact Finset.sum_congr rfl fun d _ => by rw [cast_weights, hv]
  show sqRelu (up h w₁ (ix2 r f)) = _
  rw [hu]
  rfl

/-- The feed-forward of a tile at an index, the blocks of weights being those of the two arrays. -/
theorem feedTile_apply (h : FVec Ideal S512x1024 .bf16) (b₁ b₂ : Fin 4 → FVec Ideal S1x1024x1024 .bf16) (v : Fin 1024 → EReal)
    (w₁ : Fin 1024 → Fin 4096 → EReal) (w₂ : Fin 4096 → Fin 1024 → EReal) (r : Fin 512) (hv : ∀ d, h (ix2 r d) = v d)
    (h₁ : ∀ j d f, b₁ j (ix3 0 d f) = w₁ d (lane j f)) (h₂ : ∀ j f e, b₂ j (ix3 0 f e) = w₂ (lane j f) e) (e : Fin 1024) :
    (feedTile h b₁ b₂ (ix2 r e) : EReal) = feed v w₁ w₂ e := by
  have hq : ∀ j, (down (up h (b₁ j)) (b₂ j) (ix2 r e) : EReal)
      = ∑ f : Fin 1024, hiddenLane v (fun d f => w₁ d (lane j f)) f * w₂ (lane j f) e := fun j => by
    rw [down_apply h _ _ v r hv]
    refine Finset.sum_congr rfl fun f _ => ?_
    rw [h₂]
    refine congrArg (· * w₂ (lane j f) e) ?_
    unfold hiddenLane
    exact congrArg sqRelu (Finset.sum_congr rfl fun d _ => congrArg (v d * ·) (h₁ j d f))
  rw [← feed_eq]
  unfold feedTile
  rw [addf_apply, addf_apply, addf_apply, hq, hq, hq, hq]

/-! ## The tile of results -/

/-- The tile of results at an index: the gated residual, normalised. -/
theorem result_apply (y : FVec Ideal S512x1024 .f32) (x : Vec Ideal S1x512x1024 .f32) (gt : Vec Ideal S1x1x1024 .f32)
    (gf : Vec Ideal S1x1024 .f32) (v : Fin 1024 → EReal) (r : Fin 512)
    (hv : ∀ d, (x (ix3 0 r d) : EReal) + gt (ix3 0 0 d) * y (ix2 r d) = v d) (e : Fin 1024) :
    (k0_pay2 (F := Ideal) y x gt gf (ix3 0 r e) : EReal) = normed v (fun d => gf (ix2 0 d)) e := by
  have e' : k0_pay2 (F := Ideal) y x gt gf = shapeCast S1x512x1024
      (mulf (scaled (addf (shapeCast S512x1024 x shapeCasts_S1x512x1024_S512x1024)
          (mulf (broadcastTo S512x1024 (shapeCast S1x1024 gt shapeCasts_S1x1x1024_S1x1024) broadcasts_S1x1024_S512x1024) y)))
        (broadcastTo S512x1024 (shapeCast S1x1024 gf shapeCasts_S1x1024_S1x1024) broadcasts_S1x1024_S512x1024))
      shapeCasts_S512x1024_S1x512x1024 := rfl
  rw [e', cast_out, mulf_apply, repeat_row, shapeCast_self, scaled_apply _ v r (fun d => by
    rw [addf_apply, mulf_apply, repeat_row, cast_rows, cast_lane]; exact hv d)]
  rfl

end Cert.Kernel2Ideal.Mlp

end
-- ==== Proof.Mlp.Block.lean ====
/- What a grid point leaves in its output block and in the two buffers kept between points: the tile of results of the rows
   normalised before, and the normalised rows of the next tile. -/
module

public import proofs.«01_k».proof.Proof.Mlp.Tile
public import proofs.«01_k».proof.Proof.Gen.Kernel2Ideal.Frame
public import Idealize.ShloMosaic.Lib.VecWindow
public import Idealize.ShloMosaic.Lib.Pipeline.ValueKit.Tiles

@[expose] public section

noncomputable section

namespace Cert.Kernel2Ideal.Mlp

open Cert.Kernel2Ideal Cert.Kernel2Ideal.Gen Cert.Mlp Idealize.ShloMosaic Idealize.ShloMosaic.ValueIdx
open Idealize.ShloMosaic.TcCoe

/-! ## What the body reads -/

/-- A row of the modulation table's block. -/
def row (x : Vec Ideal S1x8x1024 .f32) (b : Fin 8) : Vec Ideal S1x1x1024 .f32 := fun y => x (ix3 0 b (y 2))

/-- A block of 1024 columns of the first weights. -/
def columns (w : Vec Ideal S1x1024x4096 .bf16) (j : Fin 4) : Vec Ideal S1x1024x1024 .bf16 := fun y => w (ix3 0 (y 1) (lane j (y 2)))

/-- A block of 1024 rows of the second weights. -/
def rows (w : Vec Ideal S1x4096x1024 .bf16) (j : Fin 4) : Vec Ideal S1x1024x1024 .bf16 := fun y => w (ix3 0 (lane j (y 1)) (y 2))

theorem read_all {s : Shape} {e : EltTy} (arg : Memref sig .tc .vmem s e) (harg : arg.IsWhole) (x : Vec Ideal s e)
    {off : Fin s.rank → ℕ} (inb : ∀ a, off a + s.size a ≤ s.size a) :
    arg.view.readAt (Elt Ideal) (Rect.unit off s.size inb).toLoadRect (harg.unread x) = x := by
  rw [View.readAt_full, harg.read_unread]

theorem read_row (arg : Memref sig .tc .vmem S1x8x1024 .f32) (harg : arg.IsWhole) (x : Vec Ideal S1x8x1024 .f32) (b : Fin 8)
    {off : Fin 3 → ℕ} (h : off = ![0, b.val, 0]) (inb : ∀ a, off a + S1x1x1024.size a ≤ S1x8x1024.size a) :
    arg.view.readAt (Elt Ideal) (Rect.unit (s := S1x8x1024) off S1x1x1024.size inb).toLoadRect (harg.unread x) = row x b := by
  subst h
  funext y
  refine (View.ld_unit_apply_of _ _ _ _ _ (ix3 0 b (y 2)) (fun a => ?_)).trans (congrFun (harg.read_unread x) _)
  match a with
  | ⟨0, _⟩ => show 0 = 0 + (y 0).val; have : (y 0).val < 1 := (y 0).isLt; omega
  | ⟨1, _⟩ => show b.val = b.val + (y 1).val; have : (y 1).val < 1 := (y 1).isLt; omega
  | ⟨2, _⟩ => show (y 2).val = 0 + (y 2).val; omega

theorem read_columns (arg : Memref sig .tc .vmem S1x1024x4096 .bf16) (harg : arg.IsWhole) (x : Vec Ideal S1x1024x4096 .bf16) (j : Fin 4)
    {off : Fin 3 → ℕ} (h : off = ![0, 0, 1024 * j.val]) (inb : ∀ a, off a + S1x1024x1024.size a ≤ S1x1024x4096.size a) :
    arg.view.readAt (Elt Ideal) (Rect.unit (s := S1x1024x4096) off S1x1024x1024.size inb).toLoadRect (harg.unread x) = columns x j := by
  subst h
  funext y
  refine (View.ld_unit_apply_of _ _ _ _ _ (ix3 0 (y 1) (lane j (y 2))) (fun a => ?_)).trans (congrFun (harg.read_unread x) _)
  match a with
  | ⟨0, _⟩ => show 0 = 0 + (y 0).val; have : (y 0).val < 1 := (y 0).isLt; omega
  | ⟨1, _⟩ => show (y 1).val = 0 + (y 1).val; omega
  | ⟨2, _⟩ => rfl

theorem read_rows (arg : Memref sig .tc .vmem S1x4096x1024 .bf16) (harg : arg.IsWhole) (x : Vec Ideal S1x4096x1024 .bf16) (j : Fin 4)
    {off : Fin 3 → ℕ} (h : off = ![0, 1024 * j.val, 0]) (inb : ∀ a, off a + S1x1024x1024.size a ≤ S1x4096x1024.size a) :
    arg.view.readAt (Elt Ideal) (Rect.unit (s := S1x4096x1024) off S1x1024x1024.size inb).toLoadRect (harg.unread x) = rows x j := by
  subst h
  funext y
  refine (View.ld_unit_apply_of _ _ _ _ _ (ix3 0 (lane j (y 1)) (y 2)) (fun a => ?_)).trans (congrFun (harg.read_unread x) _)
  match a with
  | ⟨0, _⟩ => show 0 = 0 + (y 0).val; have : (y 0).val < 1 := (y 0).isLt; omega
  | ⟨1, _⟩ => rfl
  | ⟨2, _⟩ => show (y 2).val = 0 + (y 2).val; omega

/-- A grid point is its one coordinate. -/
def single (a : Fin 64) : grid0.Coords := fun d => match d with | ⟨0, _⟩ => a

theorem coords_eq (i : grid0.Coords) : ∃ a, i = single a := ⟨i 0, funext fun d => match d with | ⟨0, _⟩ => rfl⟩

/-- The batch of a point's tile. -/
def here (i : grid0.Coords) : Fin 8 := ⟨(i 0).val / 16, by have : (i 0).val < 64 := (i 0).isLt; omega⟩

/-- The batch of the next point's tile; the last point's own for the last. -/
def after (i : grid0.Coords) : Fin 8 := ⟨min ((i 0).val + 1) 63 / 16, by omega⟩

theorem gate_row (i : grid0.Coords) : k0_off2 i = ![0, (here i).val, 0] ∧ k0_off4 i = ![0, (here i).val, 0] := by
  obtain ⟨a, rfl⟩ := coords_eq i
  revert a
  decide +kernel

theorem next_row (i : grid0.Coords) : k0_off1 i = ![0, (after i).val, 0] ∧ k0_off3 i = ![0, (after i).val, 0] := by
  obtain ⟨a, rfl⟩ := coords_eq i
  revert a
  decide +kernel

/-! ## What it stores -/

/-- The normalised rows of a tile. -/
def normTile (x : Vec Ideal S1x512x1024 .f32) (g : Vec Ideal S1x1x1024 .f32) (sh sc : Vec Ideal S1x8x1024 .f32) (b : Fin 8) :
    FVec Ideal S512x1024 .bf16 :=
  k0_pay1 (F := Ideal) x g (row sh b) (row sc b)

/-- The tile of results from the normalised rows `h`. -/
def outTile (h : FVec Ideal S512x1024 .bf16) (x : Vec Ideal S1x512x1024 .f32) (gt : Vec Ideal S1x8x1024 .f32) (w₁ : Vec Ideal S1x1024x4096 .bf16)
    (w₂ : Vec Ideal S1x4096x1024 .bf16) (gf : Vec Ideal S1x1024 .f32) (b : Fin 8) : FVec Ideal S1x512x1024 .f32 :=
  k0_pay2 (F := Ideal) (feedTile h (columns w₁) (rows w₂)) x (row gt b) gf

/-- The parts of the feed-forward as the body names them, at an even point and at an odd one. -/
theorem feed_even {H h : FVec Ideal S512x1024 .bf16} {A₀ A₁ A₂ A₃ B₀ B₁ B₂ B₃ : Vec Ideal S1x1024x1024 .bf16}
    {w₁ w₂ : Fin 4 → Vec Ideal S1x1024x1024 .bf16} (hh : H = h) (a₀ : A₀ = w₁ 0) (a₁ : A₁ = w₁ 1) (a₂ : A₂ = w₁ 2) (a₃ : A₃ = w₁ 3)
    (b₀ : B₀ = w₂ 0) (b₁ : B₁ = w₂ 1) (b₂ : B₂ = w₂ 2) (b₃ : B₃ = w₂ 3) :
    k0_pay14 (F := Ideal) (k0_pay11 H A₁) (k0_pay12 (k0_pay4 H A₀) B₀) (k0_pay13 H A₂) (Scalar.ofBits .f32 0x00000000#32) B₁ H A₃ B₂ B₃
      = feedTile h w₁ w₂ := by
  subst hh a₀ a₁ a₂ a₃ b₀ b₁ b₂ b₃; rfl

theorem feed_odd {H h : FVec Ideal S512x1024 .bf16} {A₀ A₁ A₂ A₃ B₀ B₁ B₂ B₃ : Vec Ideal S1x1024x1024 .bf16}
    {w₁ w₂ : Fin 4 → Vec Ideal S1x1024x1024 .bf16} (hh : H = h) (a₀ : A₀ = w₁ 0) (a₁ : A₁ = w₁ 1) (a₂ : A₂ = w₁ 2) (a₃ : A₃ = w₁ 3)
    (b₀ : B₀ = w₂ 0) (b₁ : B₁ = w₂ 1) (b₂ : B₂ = w₂ 2) (b₃ : B₃ = w₂ 3) :
    k0_pay25 (F := Ideal) (k0_pay22 H A₁) (k0_pay23 (k0_pay15 H A₀) B₀) (k0_pay24 H A₂) (Scalar.ofBits .f32 0x00000000#32) B₁ H A₃ B₂ B₃
      = feedTile h w₁ w₂ := by
  subst hh a₀ a₁ a₂ a₃ b₀ b₁ b₂ b₃; rfl

/-- Equal operands give equal tiles. -/
theorem norm_congr {X x : Vec Ideal S1x512x1024 .f32} {G g : Vec Ideal S1x1x1024 .f32} {SH SC : Vec Ideal S1x1x1024 .f32}
    {sh sc : Vec Ideal S1x8x1024 .f32} {b : Fin 8} (hx : X = x) (hg : G = g) (hsh : SH = row sh b) (hsc : SC = row sc b) :
    k0_pay1 X G SH SC = normTile x g sh sc b := by
  subst hx hg hsh hsc; rfl

theorem store_congr {Y y : Vec Ideal S512x1024 .f32} {X x : Vec Ideal S1x512x1024 .f32} {GT gt : Vec Ideal S1x1x1024 .f32}
    {GF gf : Vec Ideal S1x1024 .f32} (hy : Y = y) (hx : X = x) (hgt : GT = gt) (hgf : GF = gf) :
    k0_pay2 Y X GT GF = k0_pay2 y x gt gf := by
  subst hy hx hgt hgf; rfl

section

variable (c : Dev nD) (i : grid0.Coords) (arg1 : Memref sig .tc .vmem S1x512x1024 .f32) (harg1 : arg1.IsWhole) (arg2 : Memref sig .tc .vmem S1x512x1024 .f32) (harg2 : arg2.IsWhole) (arg3 : Memref sig .tc .vmem S1x1x1024 .f32) (harg3 : arg3.IsWhole) (arg4 : Memref sig .tc .vmem S1x8x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x1024x4096 .bf16) (harg7 : arg7.IsWhole) (arg8 : Memref sig .tc .vmem S1x4096x1024 .bf16) (harg8 : arg8.IsWhole) (arg9 : Memref sig .tc .vmem S1x1024 .f32) (harg9 : arg9.IsWhole) (arg10 : Memref sig .tc .vmem S1x512x1024 .f32) (harg10 : arg10.IsWhole) (arg11 : Memref sig .tc .vmem S512x1024 .bf16) (harg11 : arg11.IsWhole) (arg12 : Memref sig .tc .vmem S512x1024 .bf16) (harg12 : arg12.IsWhole)
  (x0 : Vec Ideal S1x512x1024 .f32) (x1 : Vec Ideal S1x512x1024 .f32) (x2 : Vec Ideal S1x1x1024 .f32) (x3 : Vec Ideal S1x8x1024 .f32) (x4 : Vec Ideal S1x8x1024 .f32) (x5 : Vec Ideal S1x8x1024 .f32) (x6 : Vec Ideal S1x1024x4096 .bf16) (x7 : Vec Ideal S1x4096x1024 .bf16) (x8 : Vec Ideal S1x1024 .f32)

/-- The output block after the first point. -/
theorem out_A (hc0 : cond0_0 i) (hc1 : cond0_1 i) (hc2 : ¬cond0_2 i) :
    out0_A_9 (F := Ideal) c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8
      = outTile (normTile x0 x2 x3 x4 0) x0 x5 x6 x7 x8 (here i) := by
  have hr : kernelRun0_A.sl.v29 (F := Ideal) c arg1 harg1 arg3 harg3 arg4 harg4 arg5 harg5 arg11 x0 x2 x3 x4 = normTile x0 x2 x3 x4 0 := by
    delta kernelRun0_A.sl.v29 kernelRun0_A.sl.HS0_1
    refine (View.readCov_full _ _ _ _ _).trans ?_
    exact norm_congr (read_all arg1 harg1 x0 _) (read_all arg3 harg3 x2 _) (read_row (off := ![0, 0, 0]) arg4 harg4 x3 0 rfl _)
      (read_row (off := ![0, 0, 0]) arg5 harg5 x4 0 rfl _)
  refine (View.read_writes_full _ _ _ _ _).trans ?_
  refine store_congr ?_ (read_all arg1 harg1 x0 _) (read_row arg6 harg6 x5 (here i) (gate_row i).1 _) (read_all arg9 harg9 x8 _)
  delta kernelRun0_A.sl.r_9 kernelRun0_A.sl.r kernelRun0_A.sl.r_6 kernelRun0_A.sl.r_7 kernelRun0_A.sl.r_8 kernelRun0_A.sl.cst_57
  exact feed_even (w₁ := columns x6) (w₂ := rows x7) hr
    (read_columns (off := ![0, 0, 0]) arg7 harg7 x6 0 rfl _) (read_columns (off := ![0, 0, 1024]) arg7 harg7 x6 1 rfl _)
    (read_columns (off := ![0, 0, 2048]) arg7 harg7 x6 2 rfl _) (read_columns (off := ![0, 0, 3072]) arg7 harg7 x6 3 rfl _)
    (read_rows (off := ![0, 0, 0]) arg8 harg8 x7 0 rfl _) (read_rows (off := ![0, 1024, 0]) arg8 harg8 x7 1 rfl _)
    (read_rows (off := ![0, 2048, 0]) arg8 harg8 x7 2 rfl _) (read_rows (off := ![0, 3072, 0]) arg8 harg8 x7 3 rfl _)

/-- The buffer the first point fills for the next. -/
theorem next_A (hc0 : cond0_0 i) (hc1 : cond0_1 i) (hc2 : ¬cond0_2 i) :
    sout0_A_1 (F := Ideal) c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8
      = normTile x1 x2 x3 x4 (after i) := by
  refine (View.read_writes_full _ _ _ _ _).trans ?_
  delta kernelRun0_A.sl.r_1 kernelRun0_A.sl.r_2 kernelRun0_A.sl.r_3 kernelRun0_A.sl.r_4 kernelRun0_A.sl.r_5
  exact norm_congr (read_all arg2 harg2 x1 _) (read_all arg3 harg3 x2 _) (read_row arg4 harg4 x3 (after i) (next_row i).1 _)
    (read_row arg5 harg5 x4 (after i) (next_row i).1 _)

/-- The output block after an odd point. -/
theorem out_B (hc0 : ¬cond0_0 i) (hc1 : ¬cond0_1 i) (hc2 : cond0_2 i) (h : Vec Ideal S512x1024 .bf16) :
    out0_B_9 (F := Ideal) c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 h
      = outTile h x0 x5 x6 x7 x8 (here i) := by
  have hr := read_all arg12 harg12 h inb_S512x1024_S512x1024_0_0
  refine (View.read_writes_full _ _ _ _ _).trans ?_
  refine store_congr ?_ (read_all arg1 harg1 x0 _) (read_row arg6 harg6 x5 (here i) (gate_row i).2 _) (read_all arg9 harg9 x8 _)
  delta kernelRun0_B.sl.r_9 kernelRun0_B.sl.r kernelRun0_B.sl.r_6 kernelRun0_B.sl.r_7 kernelRun0_B.sl.r_8 kernelRun0_B.sl.cst_57
  exact feed_odd (w₁ := columns x6) (w₂ := rows x7) hr
    (read_columns (off := ![0, 0, 0]) arg7 harg7 x6 0 rfl _) (read_columns (off := ![0, 0, 1024]) arg7 harg7 x6 1 rfl _)
    (read_columns (off := ![0, 0, 2048]) arg7 harg7 x6 2 rfl _) (read_columns (off := ![0, 0, 3072]) arg7 harg7 x6 3 rfl _)
    (read_rows (off := ![0, 0, 0]) arg8 harg8 x7 0 rfl _) (read_rows (off := ![0, 1024, 0]) arg8 harg8 x7 1 rfl _)
    (read_rows (off := ![0, 2048, 0]) arg8 harg8 x7 2 rfl _) (read_rows (off := ![0, 3072, 0]) arg8 harg8 x7 3 rfl _)

/-- The buffer an odd point fills for the next. -/
theorem next_B (hc0 : ¬cond0_0 i) (hc1 : ¬cond0_1 i) (hc2 : cond0_2 i) (h : Vec Ideal S512x1024 .bf16) :
    sout0_B_0 (F := Ideal) c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 h
      = normTile x1 x2 x3 x4 (after i) := by
  refine (View.read_writes_full _ _ _ _ _).trans ?_
  delta kernelRun0_B.sl.r_1 kernelRun0_B.sl.r_2 kernelRun0_B.sl.r_3 kernelRun0_B.sl.r_4 kernelRun0_B.sl.r_5
  exact norm_congr (read_all arg2 harg2 x1 _) (read_all arg3 harg3 x2 _) (read_row arg4 harg4 x3 (after i) (next_row i).2 _)
    (read_row arg5 harg5 x4 (after i) (next_row i).2 _)

/-- The output block after a later even point. -/
theorem out_C (hc0 : ¬cond0_0 i) (hc1 : cond0_1 i) (hc2 : ¬cond0_2 i) (h : Vec Ideal S512x1024 .bf16) :
    out0_C_9 (F := Ideal) c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 h
      = outTile h x0 x5 x6 x7 x8 (here i) := by
  have hr := read_all arg11 harg11 h inb_S512x1024_S512x1024_0_0
  refine (View.read_writes_full _ _ _ _ _).trans ?_
  refine store_congr ?_ (read_all arg1 harg1 x0 _) (read_row arg6 harg6 x5 (here i) (gate_row i).1 _) (read_all arg9 harg9 x8 _)
  delta kernelRun0_C.sl.r_9 kernelRun0_C.sl.r kernelRun0_C.sl.r_6 kernelRun0_C.sl.r_7 kernelRun0_C.sl.r_8 kernelRun0_C.sl.cst_57
  exact feed_even (w₁ := columns x6) (w₂ := rows x7) hr
    (read_columns (off := ![0, 0, 0]) arg7 harg7 x6 0 rfl _) (read_columns (off := ![0, 0, 1024]) arg7 harg7 x6 1 rfl _)
    (read_columns (off := ![0, 0, 2048]) arg7 harg7 x6 2 rfl _) (read_columns (off := ![0, 0, 3072]) arg7 harg7 x6 3 rfl _)
    (read_rows (off := ![0, 0, 0]) arg8 harg8 x7 0 rfl _) (read_rows (off := ![0, 1024, 0]) arg8 harg8 x7 1 rfl _)
    (read_rows (off := ![0, 2048, 0]) arg8 harg8 x7 2 rfl _) (read_rows (off := ![0, 3072, 0]) arg8 harg8 x7 3 rfl _)

/-- The buffer a later even point fills for the next. -/
theorem next_C (hc0 : ¬cond0_0 i) (hc1 : cond0_1 i) (hc2 : ¬cond0_2 i) (h : Vec Ideal S512x1024 .bf16) :
    sout0_C_1 (F := Ideal) c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 h
      = normTile x1 x2 x3 x4 (after i) := by
  refine (View.read_writes_full _ _ _ _ _).trans ?_
  delta kernelRun0_C.sl.r_1 kernelRun0_C.sl.r_2 kernelRun0_C.sl.r_3 kernelRun0_C.sl.r_4 kernelRun0_C.sl.r_5
  exact norm_congr (read_all arg2 harg2 x1 _) (read_all arg3 harg3 x2 _) (read_row arg4 harg4 x3 (after i) (next_row i).1 _)
    (read_row arg5 harg5 x4 (after i) (next_row i).1 _)

end

end Cert.Kernel2Ideal.Mlp

end
-- ==== Proof.Mlp.Run.lean ====
/- The feed-forward kernel's run: its result array, block by block, and its arguments unchanged. -/
module

public import proofs.«01_k».proof.Proof.Gen.Kernel2Ideal.Frame
public import Idealize.ShloMosaic.Lib.Pipeline.Value
public import Idealize.ShloMosaic.PureOps.Ideal.Laws

@[expose] public section

noncomputable section

namespace Cert.Kernel2Ideal.Mlp

open Cert.Kernel2Ideal Cert.Kernel2Ideal.Gen Idealize.ShloMosaic
open Idealize.ShloMosaic.TcCoe Idealize.SL.Sem

variable (m : (ℓ : Loc nD τ sig) → Buf (Elt Ideal) ℓ)

/-- No two points write the same block. -/
theorem separate (t t' : Fin cfg0.N) (h : win0_9.index t = win0_9.index t') : t = t' :=
  (by decide +kernel : ∀ t t' : Fin grid0.N, win0_9.index t = win0_9.index t' → t = t') t t' h

/-- A point's block of the final array is what that point left. -/
theorem stored (c : Dev nD) (t : Fin cfg0.N) :
    ((cfg0.win 9).blk t).view.read (Elt Ideal) ((dats m 0 c).arrAt 9 cfg0.N)
      = (cfg0.win 9).cut (grid0.coords t) (outsAt0 m c t.val t.isLt).1 := by
  refine ((dats m 0 c).read_blk_arrAt_eq_flushed 9 (fun t t' _ _ hne => (cfg0.win 9).disjoint_blk fun h => hne (separate t t' h))
    cfg0.N t t.isLt (flush0_9 t)).trans ?_
  show (cfg0.win 9).cut (grid0.coords t) ((dats m 0 c).after 9 t) = _
  rw [after0_9]

/-- The run ends with that array as its result and the arguments as they were. -/
theorem run (ρ) : θ_run defs (onTc (τ := τ) (main (F := Ideal))) ⟨m, fun _ => 0, ρ⟩ fun r => ∀ c : Dev nD,
      r.2.mem ((c : Thread nD τ).loc main_v5) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h.1 c).1 9, h.2 c⟩) (θ_run_and (run_main m ρ) (unchanged m ρ))

end Cert.Kernel2Ideal.Mlp

end
-- ==== Proof.Mlp.Array.lean ====
/- The feed-forward kernel's result array: each of its rows is the block of `Row` at the row's batch and position. -/
module

public import proofs.«01_k».proof.Proof.Mlp.Block
public import proofs.«01_k».proof.Proof.Mlp.Run
public import Idealize.ShloMosaic.Lib.Claim

@[expose] public section

noncomputable section

namespace Cert.Kernel2Ideal.Mlp

open Cert.Kernel2Ideal Cert.Kernel2Ideal.Gen Cert.Mlp Idealize.ShloMosaic Idealize.ShloMosaic.ValueIdx
open Idealize.ShloMosaic.TcCoe Idealize.SL.Sem

variable (m : (ℓ : Loc nD τ sig) → Buf (Elt Ideal) ℓ) (c : Dev nD)

/-! ## What the arrays hold when the kernel starts -/

theorem cast_latent {α : Type} (x : S4x8192x1024.Idx → α) (k : Fin 32768) (d : Fin 1024) :
    shapeCast S1x32768x1024 x shapeCasts_S4x8192x1024_S1x32768x1024 (ix3 0 k d)
      = x (ix3 ⟨k.val / 8192, by omega⟩ ⟨k.val % 8192, by omega⟩ d) := by
  refine shapeCast_apply x _ _ _ ?_
  rw [Shape.rowMajor_val_three, Shape.rowMajor_val_three]
  show (k.val / 8192 * 8192 + k.val % 8192) * 1024 + d.val = (0 * 32768 + k.val) * 1024 + d.val
  omega

theorem cast_scale {α : Type} (x : S4x1024.Idx → α) (d : Fin 1024) :
    shapeCast S4x1x1024 x shapeCasts_S4x1024_S4x1x1024 (ix3 3 0 d) = x (ix2 3 d) := by
  refine shapeCast_apply x _ _ _ ?_
  rw [Shape.rowMajor_val_three, Shape.rowMajor_val_two]
  show 3 * 1024 + d.val = (3 * 1 + 0) * 1024 + d.val
  omega

theorem cast_final_scale {α : Type} (x : S1024.Idx → α) (d : Fin 1024) :
    shapeCast S1x1024 x shapeCasts_S1024_S1x1024 (ix2 0 d) = x (ix1 d) := by
  refine shapeCast_apply x _ _ _ ?_
  rw [Shape.rowMajor_val_two, Shape.rowMajor_val_one]
  show d.val = 0 * 1024 + d.val
  omega

/-- Row `k` of the 32768 is the row of batch `k / 8192` at position `k % 8192`. -/
theorem rows_apply (k : Fin 32768) (d : Fin 1024) :
    V m c main_v3 (ix3 0 k d) = m ((c : Thread nD τ).loc main_arg0) (ix3 ⟨k.val / 8192, by omega⟩ ⟨k.val % 8192, by omega⟩ d) := by
  have e : V m c main_v3 = shapeCast S1x32768x1024 (m ((c : Thread nD τ).loc main_arg0)) shapeCasts_S4x8192x1024_S1x32768x1024 := by
    entry_read
    rfl
  exact (congrFun e _).trans (cast_latent _ k d)

theorem scale_apply (d : Fin 1024) : V m c main_v0 (ix3 3 0 d) = m ((c : Thread nD τ).loc main_arg1) (ix2 3 d) := by
  have e : V m c main_v0 = shapeCast S4x1x1024 (m ((c : Thread nD τ).loc main_arg1)) shapeCasts_S4x1024_S4x1x1024 := by
    entry_read
    rfl
  exact (congrFun e _).trans (cast_scale _ d)

theorem final_scale_apply (d : Fin 1024) : V m c main_v4 (ix2 0 d) = m ((c : Thread nD τ).loc main_arg5) (ix1 d) := by
  have e : V m c main_v4 = shapeCast S1x1024 (m ((c : Thread nD τ).loc main_arg5)) shapeCasts_S1024_S1x1024 := by
    entry_read
    rfl
  exact (congrFun e _).trans (cast_final_scale _ d)

theorem up_apply (d : Fin 1024) (f : Fin 4096) : V m c main_v1 (ix3 3 d f) = m ((c : Thread nD τ).loc main_arg3) (ix3 3 d f) := by
  have e : V m c main_v1 = truncf (F := Ideal) .bf16 (m ((c : Thread nD τ).loc main_arg3)) bitsLt_bf16_f32 := by
    entry_read
    rfl
  rw [e]
  rfl

theorem down_apply' (f : Fin 4096) (d : Fin 1024) : V m c main_v2 (ix3 3 f d) = m ((c : Thread nD τ).loc main_arg4) (ix3 3 f d) := by
  have e : V m c main_v2 = truncf (F := Ideal) .bf16 (m ((c : Thread nD τ).loc main_arg4)) bitsLt_bf16_f32 := by
    entry_read
    rfl
  rw [e]
  rfl

/-! ## What a point reads -/

/-- The one coordinate of a point, and the block each window stages there. -/
theorem idx (t : Fin cfg0.N) :
    (grid0.coords t 0).val = t.val ∧ win0_0.index t = ![0, t.val, 0] ∧ win0_1.index t = ![0, min (t.val + 1) 63, 0]
    ∧ win0_2.index t = ![3, 0, 0] ∧ win0_3.index t = ![3, 0, 3] ∧ win0_4.index t = ![3, 0, 4] ∧ win0_5.index t = ![3, 0, 5]
    ∧ win0_6.index t = ![3, 0, 0] ∧ win0_7.index t = ![3, 0, 0] ∧ win0_8.index t = ![0, 0] ∧ win0_9.index t = ![0, t.val, 0] := by
  revert t
  exact (by decide +kernel : ∀ t : Fin grid0.N,
    (grid0.coords t 0).val = t.val ∧ win0_0.index t = ![0, t.val, 0] ∧ win0_1.index t = ![0, min (t.val + 1) 63, 0]
    ∧ win0_2.index t = ![3, 0, 0] ∧ win0_3.index t = ![3, 0, 3] ∧ win0_4.index t = ![3, 0, 4] ∧ win0_5.index t = ![3, 0, 5]
    ∧ win0_6.index t = ![3, 0, 0] ∧ win0_7.index t = ![3, 0, 0] ∧ win0_8.index t = ![0, 0] ∧ win0_9.index t = ![0, t.val, 0])

theorem lt_64 (t : Fin cfg0.N) : t.val < 64 := lt_of_lt_of_eq t.isLt N_0

/-- Row `r` of tile `s`. -/
def rowAt (s : ℕ) (hs : s < 64) (r : Fin 512) : Fin 32768 := ⟨512 * s + r.val, by omega⟩

theorem blk0 (t : Fin cfg0.N) (r : Fin 512) (d : Fin 1024) :
    iblk m c 0 t (ix3 0 r d) = V m c main_v3 (ix3 0 (rowAt t.val (lt_64 t) r) d) := by
  refine congrArg (V m c main_v3) (funext fun a => Fin.ext ?_)
  refine (Pipeline.Window.rect_emb_val win0_0 t (ix3 0 r d) a).trans ?_
  rw [(idx t).2.1]
  match a with
  | ⟨0, _⟩ => rfl
  | ⟨1, _⟩ => show t.val * 512 + r.val = 512 * t.val + r.val; omega
  | ⟨2, _⟩ => show 0 * 1024 + d.val = d.val; omega

theorem blk1 (t : Fin cfg0.N) (r : Fin 512) (d : Fin 1024) :
    iblk m c 1 t (ix3 0 r d) = V m c main_v3 (ix3 0 (rowAt (min (t.val + 1) 63) (by omega) r) d) := by
  refine congrArg (V m c main_v3) (funext fun a => Fin.ext ?_)
  refine (Pipeline.Window.rect_emb_val win0_1 t (ix3 0 r d) a).trans ?_
  rw [(idx t).2.2.1]
  match a with
  | ⟨0, _⟩ => rfl
  | ⟨1, _⟩ => show min (t.val + 1) 63 * 512 + r.val = 512 * min (t.val + 1) 63 + r.val; omega
  | ⟨2, _⟩ => show 0 * 1024 + d.val = d.val; omega

theorem blk2 (t : Fin cfg0.N) (d : Fin 1024) :
    iblk m c 2 t (ix3 0 0 d) = m ((c : Thread nD τ).loc main_arg1) (ix2 3 d) := by
  refine (congrArg (V m c main_v0) (funext fun a => Fin.ext ?_)).trans (scale_apply m c d)
  refine (Pipeline.Window.rect_emb_val win0_2 t (ix3 0 0 d) a).trans ?_
  rw [(idx t).2.2.2.1]
  match a with
  | ⟨0, _⟩ => rfl
  | ⟨1, _⟩ => rfl
  | ⟨2, _⟩ => show 0 * 1024 + d.val = d.val; omega

theorem blk3 (t : Fin cfg0.N) (b : Fin 8) (d : Fin 1024) :
    iblk m c 3 t (ix3 0 b d) = m ((c : Thread nD τ).loc main_arg2) (ix3 3 b ⟨3072 + d.val, by omega⟩) := by
  refine (congrArg (V m c main_arg2) (funext fun a => Fin.ext ?_)).trans (congrFun (V_main_arg2 m c) _)
  refine (Pipeline.Window.rect_emb_val win0_3 t (ix3 0 b d) a).trans ?_
  rw [(idx t).2.2.2.2.1]
  match a with
  | ⟨0, _⟩ => rfl
  | ⟨1, _⟩ => show 0 * 8 + b.val = b.val; omega
  | ⟨2, _⟩ => show 3 * 1024 + d.val = 3072 + d.val; omega

theorem blk4 (t : Fin cfg0.N) (b : Fin 8) (d : Fin 1024) :
    iblk m c 4 t (ix3 0 b d) = m ((c : Thread nD τ).loc main_arg2) (ix3 3 b ⟨4096 + d.val, by omega⟩) := by
  refine (congrArg (V m c main_arg2) (funext fun a => Fin.ext ?_)).trans (congrFun (V_main_arg2 m c) _)
  refine (Pipeline.Window.rect_emb_val win0_4 t (ix3 0 b d) a).trans ?_
  rw [(idx t).2.2.2.2.2.1]
  match a with
  | ⟨0, _⟩ => rfl
  | ⟨1, _⟩ => show 0 * 8 + b.val = b.val; omega
  | ⟨2, _⟩ => show 4 * 1024 + d.val = 4096 + d.val; omega

theorem blk5 (t : Fin cfg0.N) (b : Fin 8) (d : Fin 1024) :
    iblk m c 5 t (ix3 0 b d) = m ((c : Thread nD τ).loc main_arg2) (ix3 3 b ⟨5120 + d.val, by omega⟩) := by
  refine (congrArg (V m c main_arg2) (funext fun a => Fin.ext ?_)).trans (congrFun (V_main_arg2 m c) _)
  refine (Pipeline.Window.rect_emb_val win0_5 t (ix3 0 b d) a).trans ?_
  rw [(idx t).2.2.2.2.2.2.1]
  match a with
  | ⟨0, _⟩ => rfl
  | ⟨1, _⟩ => show 0 * 8 + b.val = b.val; omega
  | ⟨2, _⟩ => show 5 * 1024 + d.val = 5120 + d.val; omega

theorem blk6 (t : Fin cfg0.N) (d : Fin 1024) (f : Fin 4096) :
    iblk m c 6 t (ix3 0 d f) = m ((c : Thread nD τ).loc main_arg3) (ix3 3 d f) := by
  refine (congrArg (V m c main_v1) (funext fun a => Fin.ext ?_)).trans (up_apply m c d f)
  refine (Pipeline.Window.rect_emb_val win0_6 t (ix3 0 d f) a).trans ?_
  rw [(idx t).2.2.2.2.2.2.2.1]
  match a with
  | ⟨0, _⟩ => rfl
  | ⟨1, _⟩ => show 0 * 1024 + d.val = d.val; omega
  | ⟨2, _⟩ => show 0 * 4096 + f.val = f.val; omega

theorem blk7 (t : Fin cfg0.N) (f : Fin 4096) (d : Fin 1024) :
    iblk m c 7 t (ix3 0 f d) = m ((c : Thread nD τ).loc main_arg4) (ix3 3 f d) := by
  refine (congrArg (V m c main_v2) (funext fun a => Fin.ext ?_)).trans (down_apply' m c f d)
  refine (Pipeline.Window.rect_emb_val win0_7 t (ix3 0 f d) a).trans ?_
  rw [(idx t).2.2.2.2.2.2.2.2.1]
  match a with
  | ⟨0, _⟩ => rfl
  | ⟨1, _⟩ => show 0 * 4096 + f.val = f.val; omega
  | ⟨2, _⟩ => show 0 * 1024 + d.val = d.val; omega

theorem blk8 (t : Fin cfg0.N) (d : Fin 1024) :
    iblk m c 8 t (ix2 0 d) = m ((c : Thread nD τ).loc main_arg5) (ix1 d) := by
  refine (congrArg (V m c main_v4) (funext fun a => Fin.ext ?_)).trans (final_scale_apply m c d)
  refine (Pipeline.Window.rect_emb_val win0_8 t (ix2 0 d) a).trans ?_
  rw [(idx t).2.2.2.2.2.2.2.2.2.1]
  match a with
  | ⟨0, _⟩ => rfl
  | ⟨1, _⟩ => show 0 * 1024 + d.val = d.val; omega

/-! ## What a point leaves -/

/-- The normalised and modulated row `k`. -/
def normalRow (k : Fin 32768) : Fin 1024 → EReal :=
  modulated (fun d => V m c main_v3 (ix3 0 k d)) (fun d => m ((c : Thread nD τ).loc main_arg1) (ix2 3 d))
    (fun d => m ((c : Thread nD τ).loc main_arg2) (ix3 3 ⟨k.val / 8192, by omega⟩ ⟨3072 + d.val, by omega⟩))
    (fun d => m ((c : Thread nD τ).loc main_arg2) (ix3 3 ⟨k.val / 8192, by omega⟩ ⟨4096 + d.val, by omega⟩))

/-- A tile of normalised rows, from the block of rows and the batch it belongs to. -/
theorem normTile_apply (t : Fin cfg0.N) (x : Vec Ideal S1x512x1024 .f32) (b : Fin 8) (k : Fin 32768) (r : Fin 512)
    (hx : ∀ d, x (ix3 0 r d) = V m c main_v3 (ix3 0 k d)) (hb : b.val = k.val / 8192) (d : Fin 1024) :
    (normTile x (iblk m c 2 t) (iblk m c 3 t) (iblk m c 4 t) b (ix2 r d) : EReal) = normalRow m c k d := by
  have hk : k.val / 8192 < 8 := by clear hb; omega
  obtain rfl : b = ⟨k.val / 8192, hk⟩ := Fin.ext hb
  refine (norm_apply x (iblk m c 2 t) (row (iblk m c 3 t) _) (row (iblk m c 4 t) _) _ r hx d).trans ?_
  unfold normalRow
  rw [show (fun d : Fin 1024 => (iblk m c 2 t (ix3 0 0 d) : EReal)) = fun d => m ((c : Thread nD τ).loc main_arg1) (ix2 3 d) from
      funext fun d => blk2 m c t d]
  rw [show (fun d : Fin 1024 => (row (iblk m c 3 t) ⟨k.val / 8192, by omega⟩ (ix3 0 0 d) : EReal))
      = fun d => m ((c : Thread nD τ).loc main_arg2) (ix3 3 ⟨k.val / 8192, by omega⟩ ⟨3072 + d.val, by omega⟩) from
      funext fun d => blk3 m c t _ d]
  rw [show (fun d : Fin 1024 => (row (iblk m c 4 t) ⟨k.val / 8192, by omega⟩ (ix3 0 0 d) : EReal))
      = fun d => m ((c : Thread nD τ).loc main_arg2) (ix3 3 ⟨k.val / 8192, by omega⟩ ⟨4096 + d.val, by omega⟩) from
      funext fun d => blk4 m c t _ d]

/-- The tile a point normalises for the next. -/
def ahead (t : Fin cfg0.N) : Vec Ideal S512x1024 .bf16 :=
  normTile (iblk m c 1 t) (iblk m c 2 t) (iblk m c 3 t) (iblk m c 4 t) (after (grid0.coords t))

theorem ahead_apply (t : Fin cfg0.N) (r : Fin 512) (d : Fin 1024) :
    (ahead m c t (ix2 r d) : EReal) = normalRow m c (rowAt (min (t.val + 1) 63) (by omega) r) d := by
  refine normTile_apply m c t _ _ _ r (blk1 m c t r) ?_ d
  show min ((grid0.coords t 0).val + 1) 63 / 16 = (512 * min (t.val + 1) 63 + r.val) / 8192
  rw [(idx t).1]
  omega

/-- An even point leaves it in the second buffer. -/
theorem left_even (t : Fin cfg0.N) (h : t.val % 2 = 0) : (outsAt0 m c t.val t.isLt).2.2 = ahead m c t := by
  have h2 : ¬t.val % 2 = 1 := by omega
  by_cases h0 : t.val % 64 = 0
  · rw [outsAt0_A m c t h0 h h2, next_A]
    rfl
  · rw [outsAt0_C m c t h0 h h2, next_C]
    rfl

/-- An odd point leaves it in the first. -/
theorem left_odd (t : Fin cfg0.N) (h : t.val % 2 = 1) : (outsAt0 m c t.val t.isLt).2.1 = ahead m c t := by
  have h0 : ¬t.val % 64 = 0 := by omega
  have h1 : ¬t.val % 2 = 0 := by omega
  rw [outsAt0_B m c t h0 h1 h, next_B]
  rfl

/-- The first point's results, over the tile it normalises itself. -/
theorem out_first (t : Fin cfg0.N) (h0 : t.val % 64 = 0) :
    (outsAt0 m c t.val t.isLt).1
      = outTile (normTile (iblk m c 0 t) (iblk m c 2 t) (iblk m c 3 t) (iblk m c 4 t) 0) (iblk m c 0 t) (iblk m c 5 t) (iblk m c 6 t)
          (iblk m c 7 t) (iblk m c 8 t) (here (grid0.coords t)) := by
  have h1 : t.val % 2 = 0 := by omega
  have h2 : ¬t.val % 2 = 1 := by omega
  rw [outsAt0_A m c t h0 h1 h2, out_A]

/-- A later point's results, over the tile the point before it left. -/
theorem out_later (t : Fin cfg0.N) (h0 : ¬t.val % 64 = 0) (hp : t.val - 1 < cfg0.N) :
    (outsAt0 m c t.val t.isLt).1
      = outTile (ahead m c ⟨t.val - 1, hp⟩) (iblk m c 0 t) (iblk m c 5 t) (iblk m c 6 t) (iblk m c 7 t) (iblk m c 8 t)
          (here (grid0.coords t)) := by
  by_cases h1 : t.val % 2 = 0
  · have h2 : ¬t.val % 2 = 1 := by omega
    have hq := left_odd m c ⟨t.val - 1, hp⟩ (by show (t.val - 1) % 2 = 1; omega)
    rw [← hq, outsAt0_C m c t h0 h1 h2, out_C]
  · have h2 : t.val % 2 = 1 := by omega
    have hq := left_even m c ⟨t.val - 1, hp⟩ (by show (t.val - 1) % 2 = 0; omega)
    rw [← hq, outsAt0_B m c t h0 h1 h2, out_B]

/-- So the tile of results of any point stands over its own tile of normalised rows. -/
theorem left_out (t : Fin cfg0.N) : ∃ h : FVec Ideal S512x1024 .bf16,
    (∀ r d, (h (ix2 r d) : EReal) = normalRow m c (rowAt t.val (lt_64 t) r) d)
    ∧ (outsAt0 m c t.val t.isLt).1
      = outTile h (iblk m c 0 t) (iblk m c 5 t) (iblk m c 6 t) (iblk m c 7 t) (iblk m c 8 t) (here (grid0.coords t)) := by
  have ht := lt_64 t
  by_cases h0 : t.val % 64 = 0
  · refine ⟨_, fun r d => ?_, out_first m c t h0⟩
    refine normTile_apply m c t _ _ _ r (blk0 m c t r) ?_ d
    show 0 = (512 * t.val + r.val) / 8192
    omega
  · have hp : t.val - 1 < cfg0.N := Nat.lt_of_le_of_lt (Nat.sub_le _ _) t.isLt
    refine ⟨_, fun r d => ?_, out_later m c t h0 hp⟩
    refine (ahead_apply m c _ r d).trans ?_
    refine congrArg (fun k => normalRow m c k d) (Fin.ext ?_)
    show 512 * min (t.val - 1 + 1) 63 + r.val = 512 * t.val + r.val
    omega

/-- What a point stores, at an index. -/
theorem left_out_apply (t : Fin cfg0.N) (r : Fin 512) (e : Fin 1024) :
    ((outsAt0 m c t.val t.isLt).1 (ix3 0 r e) : EReal)
      = layer (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          ⟨(rowAt t.val (lt_64 t) r).val / 8192, by omega⟩ ⟨(rowAt t.val (lt_64 t) r).val % 8192, by omega⟩ e := by
  have ht := lt_64 t
  obtain ⟨h, hh, ho⟩ := left_out m c t
  rw [ho]
  refine (result_apply _ (iblk m c 0 t) _ (iblk m c 8 t) _ r (fun d => ?_) e).trans
    (congrArg (fun g => normed _ g e) (funext fun d => blk8 m c t d))
  refine congrArg₂ (· + ·) ((blk0 m c t r d).trans (rows_apply m c _ d)) (congrArg₂ (· * ·) ((blk5 m c t _ d).trans ?_)
    ((feedTile_apply h (columns (iblk m c 6 t)) (rows (iblk m c 7 t)) _ (fun d f => m ((c : Thread nD τ).loc main_arg3) (ix3 3 d f))
      (fun f e => m ((c : Thread nD τ).loc main_arg4) (ix3 3 f e)) r (fun d => hh r d) (fun j d f => blk6 m c t d (lane j f)) (fun j f e => blk7 m c t (lane j f) e) d).trans ?_))
  · refine congrArg (fun b => m ((c : Thread nD τ).loc main_arg2) (ix3 3 b ⟨5120 + d.val, by omega⟩)) (Fin.ext ?_)
    show (grid0.coords t 0).val / 16 = (512 * t.val + r.val) / 8192
    rw [(idx t).1]
    omega
  · refine congrArg (fun v => feed v _ _ d) ?_
    unfold normalRow
    rw [show (fun d => (V m c main_v3 (ix3 0 (rowAt t.val (lt_64 t) r) d) : EReal)) = _ from funext fun d => rows_apply m c _ d]

/-- The point of row `k`. -/
def pointOf (k : Fin 32768) : Fin cfg0.N := ⟨k.val / 512, by rw [show cfg0.N = 64 from N_0]; omega⟩

/-- The result array at an index. -/
theorem final_apply (k : Fin 32768) (e : Fin 1024) :
    ((dats m 0 c).arrAt 9 cfg0.N (ix3 0 k e) : EReal)
      = layer (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          ⟨k.val / 8192, by omega⟩ ⟨k.val % 8192, by omega⟩ e := by
  have hk : rowAt (pointOf k).val (lt_64 _) ⟨k.val % 512, Nat.mod_lt _ (by norm_num)⟩ = k :=
    Fin.ext (by show 512 * (k.val / 512) + k.val % 512 = k.val; omega)
  have hs := congrFun (stored m c (pointOf k)) (ix3 0 ⟨k.val % 512, Nat.mod_lt _ (by norm_num)⟩ e)
  have hl := left_out_apply m c (pointOf k) ⟨k.val % 512, Nat.mod_lt _ (by norm_num)⟩ e
  simp only [hk] at hl
  refine Eq.trans (congrArg ((dats m 0 c).arrAt 9 cfg0.N) (funext fun a => Fin.ext ?_)) (hs.trans hl)
  refine Eq.symm ((Pipeline.Window.rect_emb_val win0_9 (pointOf k) (ix3 0 ⟨k.val % 512, Nat.mod_lt _ (by norm_num)⟩ e) a).trans ?_)
  rw [(idx (pointOf k)).2.2.2.2.2.2.2.2.2.2]
  match a with
  | ⟨0, _⟩ => rfl
  | ⟨1, _⟩ => show k.val / 512 * 512 + k.val % 512 = k.val; omega
  | ⟨2, _⟩ => show 0 * 1024 + e.val = e.val; omega

end Cert.Kernel2Ideal.Mlp

end
-- ==== Proof.Mlp.Reference.lean ====
/- The reference's feed-forward at an index: the block of `Row` at a batch and a position. -/
module

public import proofs.«01_k».proof.Proof.Mlp.Row
public import proofs.«01_k».proof.Proof.Gen.Reference2Ideal.Read
public import Idealize.ShloMosaic.Lib.ValueIdx

@[expose] public section

noncomputable section

namespace Cert.Reference2Ideal.Mlp

open Cert.Reference2Ideal Cert.Reference2Ideal.Read Cert.Mlp Idealize.ShloMosaic Idealize.ShloMosaic.ValueIdx
open Idealize.ShloMosaic.TcCoe

variable (x0 : S4x8192x1024.Idx → EReal) (x1 : S4x1024.Idx → EReal) (x2 : S4x8x6144.Idx → EReal) (x3 : S4x1024x4096.Idx → EReal)
  (x4 : S4x4096x1024.Idx → EReal) (x5 : S1024.Idx → EReal) (b : Fin 4) (n : Fin 8192)

/-! ## The weights and the modulation, read at an index -/

theorem shift_apply (d : Fin 1024) :
    (val_main_v28 (F := Ideal) x2 (ix3 b n d) : EReal) = x2 (ix3 3 ⟨b.val, by omega⟩ ⟨3072 + d.val, by omega⟩) := by
  rw [val_main_v28_apply, val_main_v2_apply, val_main_v1_apply, val_main_v0_apply]
  refine congrArg x2 (funext fun a => Fin.ext ?_)
  match a with
  | ⟨0, _⟩ => rfl
  | ⟨1, _⟩ => show (b.val * 1024 + d.val) / 1024 % 4 = b.val; omega
  | ⟨2, _⟩ => show 3072 + (b.val * 1024 + d.val) % 1024 = 3072 + d.val; omega

theorem scale_apply (d : Fin 1024) :
    (val_main_v26 (F := Ideal) x2 (ix3 b n d) : EReal)
      = Ideal.ofBits .f32 0x3F800000#32 + x2 (ix3 3 ⟨b.val, by omega⟩ ⟨4096 + d.val, by omega⟩) := by
  rw [val_main_v26_apply, val_main_v25_apply, val_main_v24_apply, val_main_cst_2_apply, val_main_v5_apply, val_main_v4_apply,
    val_main_v3_apply]
  refine congrArg (fun i => Ideal.ofBits .f32 0x3F800000#32 + x2 i) (funext fun a => Fin.ext ?_)
  match a with
  | ⟨0, _⟩ => rfl
  | ⟨1, _⟩ => show (b.val * 1024 + d.val) / 1024 % 4 = b.val; omega
  | ⟨2, _⟩ => show 4096 + (b.val * 1024 + d.val) % 1024 = 4096 + d.val; omega

theorem gate_apply (d : Fin 1024) :
    (val_main_v38 (F := Ideal) x2 (ix3 b n d) : EReal) = x2 (ix3 3 ⟨b.val, by omega⟩ ⟨5120 + d.val, by omega⟩) := by
  rw [val_main_v38_apply, val_main_v8_apply, val_main_v7_apply, val_main_v6_apply]
  refine congrArg x2 (funext fun a => Fin.ext ?_)
  match a with
  | ⟨0, _⟩ => rfl
  | ⟨1, _⟩ => show (b.val * 1024 + d.val) / 1024 % 4 = b.val; omega
  | ⟨2, _⟩ => show 5120 + (b.val * 1024 + d.val) % 1024 = 5120 + d.val; omega

theorem weights_apply (d : Fin 1024) : (val_main_v22 (F := Ideal) x1 (ix3 b n d) : EReal) = x1 (ix2 3 d) := by
  rw [val_main_v22_apply, val_main_v21_apply, val_main_v10_apply, val_main_v9_apply]
  refine congrArg x1 (funext fun a => Fin.ext ?_)
  match a with
  | ⟨0, _⟩ => rfl
  | ⟨1, _⟩ => show d.val % 1024 = d.val; omega

theorem final_weights_apply (d : Fin 1024) : (val_main_v52 (F := Ideal) x5 (ix3 b n d) : EReal) = x5 (ix1 d) := by
  rw [val_main_v52_apply, val_main_v51_apply]
  refine congrArg x5 (funext fun a => Fin.ext ?_)
  match a with
  | ⟨0, _⟩ => rfl

theorem up_apply (d : Fin 1024) (f : Fin 4096) : (val_main_v31 (F := Ideal) x3 (ix2 d f) : EReal) = x3 (ix3 3 d f) := by
  rw [val_main_v31_apply, val_main_v30_apply]
  refine congrArg x3 (funext fun a => Fin.ext ?_)
  match a with
  | ⟨0, _⟩ => rfl
  | ⟨1, _⟩ => show (d.val * 4096 + f.val) / 4096 % 1024 = d.val; omega
  | ⟨2, _⟩ => show (d.val * 4096 + f.val) % 4096 = f.val; omega

theorem down_apply (f : Fin 4096) (d : Fin 1024) : (val_main_v36 (F := Ideal) x4 (ix2 f d) : EReal) = x4 (ix3 3 f d) := by
  rw [val_main_v36_apply, val_main_v35_apply]
  refine congrArg x4 (funext fun a => Fin.ext ?_)
  match a with
  | ⟨0, _⟩ => rfl
  | ⟨1, _⟩ => show (f.val * 1024 + d.val) / 1024 % 4096 = f.val; omega
  | ⟨2, _⟩ => show (f.val * 1024 + d.val) % 1024 = d.val; omega

/-! ## The row, step by step -/

/-- The reciprocal root of the row's mean square, spread over its lanes. -/
theorem inv_apply (d : Fin 1024) :
    (val_main_v19 (F := Ideal) x0 (ix3 b n d) : EReal) = invNorm fun d => x0 (ix3 b n d) := by
  rw [val_main_v19_apply, val_main_v18_apply, val_main_v17_apply, val_main_v16_apply, val_main_cst_1_apply, val_main_v15_apply,
    val_main_v14_apply, val_main_cst_0_apply, val_main_v13_apply, val_main_v12_apply, val_main_cst_apply]
  unfold invNorm
  refine congrArg (fun s => Ideal.rsqrt (Ideal.div s (Ideal.ofBits .f32 0x44800000#32) + Ideal.ofBits .f32 0x358637BD#32)) ?_
  refine (congrArg (· + _) Ideal.ofBits_zero_f32).trans ((zero_add _).trans (Finset.sum_congr rfl fun k _ => ?_))
  rw [val_main_v11_apply]
  refine congrArg (fun i => x0 i * x0 i) (funext fun a => Fin.ext ?_)
  match a with
  | ⟨0, _⟩ => rfl
  | ⟨1, _⟩ => rfl
  | ⟨2, _⟩ => rfl

theorem modulated_apply (d : Fin 1024) :
    (val_main_v29 (F := Ideal) x0 x1 x2 (ix3 b n d) : EReal)
      = modulated (fun d => x0 (ix3 b n d)) (fun d => x1 (ix2 3 d)) (fun d => x2 (ix3 3 ⟨b.val, by omega⟩ ⟨3072 + d.val, by omega⟩))
          (fun d => x2 (ix3 3 ⟨b.val, by omega⟩ ⟨4096 + d.val, by omega⟩)) d := by
  rw [val_main_v29_apply, val_main_v27_apply, val_main_v23_apply, val_main_v20_apply, inv_apply, weights_apply, scale_apply, shift_apply]
  rfl

theorem hidden_apply (f : Fin 4096) :
    (val_main_v34 (F := Ideal) x0 x1 x2 x3 (ix3 b n f) : EReal)
      = hiddenLane (fun d => val_main_v29 (F := Ideal) x0 x1 x2 (ix3 b n d)) (fun d f => x3 (ix3 3 d f)) f := by
  have e : (val_main_v32 (F := Ideal) x0 x1 x2 x3 (ix3 b n f) : EReal)
      = ∑ d : Fin 1024, (val_main_v29 (F := Ideal) x0 x1 x2 (ix3 b n d) : EReal) * x3 (ix3 3 d f) := by
    rw [val_main_v32_apply]
    refine Finset.sum_congr rfl fun d _ => congrArg₂ (· * ·) (congrArg _ (funext fun a => Fin.ext ?_))
      ((congrArg _ (funext fun a => Fin.ext ?_)).trans (up_apply x3 d f))
    · match a with
      | ⟨0, _⟩ => rfl
      | ⟨1, _⟩ => rfl
      | ⟨2, _⟩ => rfl
    · match a with
      | ⟨0, _⟩ => rfl
      | ⟨1, _⟩ => rfl
  rw [val_main_v34_apply, val_main_v33_apply, val_main_call0_v0_apply, val_main_call0_cst_apply, e]
  rfl

theorem feed_apply (e : Fin 1024) :
    (val_main_v37 (F := Ideal) x0 x1 x2 x3 x4 (ix3 b n e) : EReal)
      = feed (fun d => val_main_v29 (F := Ideal) x0 x1 x2 (ix3 b n d)) (fun d f => x3 (ix3 3 d f)) (fun f d => x4 (ix3 3 f d)) e := by
  rw [val_main_v37_apply]
  refine Finset.sum_congr rfl fun f _ => congrArg₂ (· * ·) ((congrArg _ (funext fun a => Fin.ext ?_)).trans (hidden_apply x0 x1 x2 x3 b n f))
    ((congrArg _ (funext fun a => Fin.ext ?_)).trans (down_apply x4 f e))
  · match a with
    | ⟨0, _⟩ => rfl
    | ⟨1, _⟩ => rfl
    | ⟨2, _⟩ => rfl
  · match a with
    | ⟨0, _⟩ => rfl
    | ⟨1, _⟩ => rfl

theorem residual_apply (d : Fin 1024) :
    (val_main_v40 (F := Ideal) x0 x1 x2 x3 x4 (ix3 b n d) : EReal)
      = residual (fun d => x0 (ix3 b n d))
          (modulated (fun d => x0 (ix3 b n d)) (fun d => x1 (ix2 3 d)) (fun d => x2 (ix3 3 ⟨b.val, by omega⟩ ⟨3072 + d.val, by omega⟩))
            (fun d => x2 (ix3 3 ⟨b.val, by omega⟩ ⟨4096 + d.val, by omega⟩)))
          (fun d => x2 (ix3 3 ⟨b.val, by omega⟩ ⟨5120 + d.val, by omega⟩)) (fun d f => x3 (ix3 3 d f)) (fun f d => x4 (ix3 3 f d)) d := by
  rw [val_main_v40_apply, val_main_v39_apply, gate_apply, feed_apply,
    show (fun d : Fin 1024 => (val_main_v29 (F := Ideal) x0 x1 x2 (ix3 b n d) : EReal)) = _ from
      funext fun d => modulated_apply x0 x1 x2 b n d]
  rfl

/-- The final norm's reciprocal root, of the row the residual left. -/
theorem final_inv_apply (d : Fin 1024) :
    (val_main_v49 (F := Ideal) x0 x1 x2 x3 x4 (ix3 b n d) : EReal)
      = invNorm fun d => val_main_v40 (F := Ideal) x0 x1 x2 x3 x4 (ix3 b n d) := by
  rw [val_main_v49_apply, val_main_v48_apply, val_main_v47_apply, val_main_v46_apply, val_main_cst_5_apply, val_main_v45_apply,
    val_main_v44_apply, val_main_cst_4_apply, val_main_v43_apply, val_main_v42_apply, val_main_cst_3_apply]
  unfold invNorm
  refine congrArg (fun s => Ideal.rsqrt (Ideal.div s (Ideal.ofBits .f32 0x44800000#32) + Ideal.ofBits .f32 0x358637BD#32)) ?_
  refine (congrArg (· + _) Ideal.ofBits_zero_f32).trans ((zero_add _).trans (Finset.sum_congr rfl fun k _ => ?_))
  rw [val_main_v41_apply]
  refine congrArg (fun i => val_main_v40 (F := Ideal) x0 x1 x2 x3 x4 i * val_main_v40 (F := Ideal) x0 x1 x2 x3 x4 i)
    (funext fun a => Fin.ext ?_)
  match a with
  | ⟨0, _⟩ => rfl
  | ⟨1, _⟩ => rfl
  | ⟨2, _⟩ => rfl

/-- The reference's result at a batch, a position and a lane. -/
theorem layer_apply (e : Fin 1024) :
    (val_main_v53 (F := Ideal) x0 x1 x2 x3 x4 x5 (ix3 b n e) : EReal) = layer x0 x1 x2 x3 x4 x5 b n e := by
  rw [val_main_v53_apply, val_main_v50_apply, final_inv_apply, final_weights_apply,
    show (fun d : Fin 1024 => (val_main_v40 (F := Ideal) x0 x1 x2 x3 x4 (ix3 b n d) : EReal)) = _ from
      funext fun d => residual_apply x0 x1 x2 x3 x4 b n d, residual_apply]
  rfl

/-- The same by the row's number among the 32768. -/
theorem result_apply (k : Fin 32768) (e : Fin 1024) :
    (val_main_v54 (F := Ideal) x0 x1 x2 x3 x4 x5 (ix3 0 k e) : EReal)
      = layer x0 x1 x2 x3 x4 x5 ⟨k.val / 8192, by omega⟩ ⟨k.val % 8192, by omega⟩ e := by
  rw [val_main_v54_apply]
  refine (congrArg _ (funext fun a => Fin.ext ?_)).trans (layer_apply x0 x1 x2 x3 x4 x5 _ _ e)
  match a with
  | ⟨0, _⟩ => show ((0 * 32768 + k.val) * 1024 + e.val) / 8388608 = k.val / 8192; omega
  | ⟨1, _⟩ => show ((0 * 32768 + k.val) * 1024 + e.val) / 1024 % 8192 = k.val % 8192; omega
  | ⟨2, _⟩ => show ((0 * 32768 + k.val) * 1024 + e.val) % 1024 = e.val; omega

end Cert.Reference2Ideal.Mlp

end
-- ==== Proof.Mlp.Agree.lean ====
/- The claims about the feed-forward: both programs run, and their results agree on all inputs. -/
module

public import proofs.«01_k».proof.Defs
public import proofs.«01_k».proof.Proof.Mlp.Array
public import proofs.«01_k».proof.Proof.Mlp.Reference
public import proofs.«01_k».proof.Proof.Gen.Reference2Ideal.Run
public import Idealize.ShloMosaic.Lib.Quiescent

@[expose] public section

noncomputable section

namespace Cert.Mlp

open Idealize.ShloMosaic Idealize.ShloMosaic.ValueIdx Idealize.SL.Sem
open Idealize.ShloMosaic.TcCoe

/-- The reference runs, keeps its arguments and leaves every counter at zero. -/
theorem reference_frame (m) (g) :
    θ_run (Cert.Reference2Ideal.defs (F := Ideal)) (onTc (τ := Cert.Reference2Ideal.τ) (Cert.Reference2Ideal.main (F := Ideal)))
      ⟨m, fun _ => 0, g⟩ (fun r => (∀ c : Dev Cert.Reference2Ideal.nD,
        r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
        ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
        ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
        ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
        ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
        ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
        ∧ r.2.sem = fun _ => 0) :=
  (θ_run Cert.Reference2Ideal.defs _ _).mono (fun r h => ⟨fun c => (h c).2, sem_eq_zero_of_no_sems (by decide) r.2⟩)
    (Cert.Reference2Ideal.Value.run (F := Ideal) m g)

/-- The two results agree. -/
theorem results_eq (m : (ℓ : Loc Cert.Kernel2Ideal.nD Cert.Kernel2Ideal.τ Cert.Kernel2Ideal.sig) → Buf (Elt Ideal) ℓ) (c : Dev Cert.Kernel2Ideal.nD) :
    Cert.Reference2Ideal.Read.val_main_v54 (F := Ideal)
        (m ((c.tc : Thread Cert.Kernel2Ideal.nD Cert.Kernel2Ideal.τ).loc Cert.Kernel2Ideal.main_arg0))
        (m ((c.tc : Thread Cert.Kernel2Ideal.nD Cert.Kernel2Ideal.τ).loc Cert.Kernel2Ideal.main_arg1))
        (m ((c.tc : Thread Cert.Kernel2Ideal.nD Cert.Kernel2Ideal.τ).loc Cert.Kernel2Ideal.main_arg2))
        (m ((c.tc : Thread Cert.Kernel2Ideal.nD Cert.Kernel2Ideal.τ).loc Cert.Kernel2Ideal.main_arg3))
        (m ((c.tc : Thread Cert.Kernel2Ideal.nD Cert.Kernel2Ideal.τ).loc Cert.Kernel2Ideal.main_arg4))
        (m ((c.tc : Thread Cert.Kernel2Ideal.nD Cert.Kernel2Ideal.τ).loc Cert.Kernel2Ideal.main_arg5))
      = (Cert.Kernel2Ideal.Gen.dats m 0 c).arrAt 9 Cert.Kernel2Ideal.cfg0.N := by
  funext i
  have e : i = ix3 0 (i 1) (i 2) := by
    funext a
    match a with
    | ⟨0, _⟩ => exact Fin.ext (by show (i 0).val = 0; have : (i 0).val < 1 := (i 0).isLt; omega)
    | ⟨1, _⟩ => rfl
    | ⟨2, _⟩ => rfl
  generalize i 1 = k at e
  generalize i 2 = l at e
  subst e
  exact (Cert.Reference2Ideal.Mlp.result_apply _ _ _ _ _ _ k l).trans (Cert.Kernel2Ideal.Mlp.final_apply m c k l).symm

/-- The kernel computes the reference's feed-forward. -/
theorem algebraic :
    Cert.algebraic_Kernel2Ideal_Reference2Ideal (hKernel2Ideal := Cert.Kernel2Ideal.Gen.facts) (hReference2Ideal := Cert.Reference2Ideal.Gen.facts) := by
  intro m g m' g' _ hagree
  refine ⟨fun c => (Cert.Kernel2Ideal.Gen.dats m 0 c).arrAt 9 Cert.Kernel2Ideal.cfg0.N, Cert.Kernel2Ideal.Mlp.run m g, ?_⟩
  refine (θ_run Cert.Reference2Ideal.defs _ _).mono (fun _ h c => ⟨(h c).1.trans ?_, (h c).2⟩) (Cert.Reference2Ideal.Value.run (F := Ideal) m' g')
  rw [Cert.Reference2Ideal.Read.val_main_v54_eq]
  obtain ⟨a0, a1, a2, a3, a4, a5⟩ := hagree c
  rw [a0, a1, a2, a3, a4, a5]
  exact results_eq m c

end Cert.Mlp

end
-- ==== Proof.Proj.Row.lean ====
/- One row of the input projection over the extended reals: the normalised and modulated row times the weights, the rotary
   turn of the query and key lanes, the gated unit and the gates. The squashing function written with a hyperbolic tangent
   is the logistic function at every extended real. -/
module

public import proofs.«01_k».proof.Proof.Mlp.Row
public import Idealize.ShloMosaic.Lib.IdealHost

@[expose] public section

noncomputable section

namespace Cert.Proj

open Idealize.ShloMosaic Idealize.ShloMosaic.ValueIdx

/-- A lane of the product of a row with the weights; zero past the last lane. -/
def lanes (h : Fin 1024 → EReal) (w : Fin 1024 → Fin 6656 → EReal) (k : ℕ) : EReal :=
  if hk : k < 6656 then ∑ d, h d * w d ⟨k, hk⟩ else 0

theorem lanes_apply (h : Fin 1024 → EReal) (w : Fin 1024 → Fin 6656 → EReal) (k : Fin 6656) : lanes h w k.val = ∑ d, h d * w d k :=
  dif_pos k.isLt

/-- One half, and the scale of the query. -/
def half : EReal := Ideal.ofBits .f32 0x3F000000#32
def queryScale : EReal := Ideal.ofBits .f32 0x3E38AA3B#32

/-- The lane a lane is turned with: the other half of its group of thirty-two. -/
def partner (e : ℕ) : ℕ := if e % 32 < 16 then e + 16 else e - 16

/-- A lane within the tables' 128. -/
def within (e : ℕ) : Fin 128 := ⟨e % 128, Nat.mod_lt _ (by decide)⟩

/-- A lane turned with its partner. -/
def turned (p : ℕ → EReal) (co si : Fin 128 → EReal) (e : ℕ) : EReal := p e * co (within e) + p (partner e) * si (within e)

/-- The squashing function as the kernel computes it. -/
def squash (x : EReal) : EReal := half * Ideal.tanh (half * x) + half

/-- The three results' lanes from the lanes `p` of the product. -/
def qkv (p : ℕ → EReal) (co si : Fin 128 → EReal) (e : ℕ) : EReal :=
  if e < 512 then turned p (fun l => co l * queryScale) (fun l => si l * queryScale) e
  else if e < 1024 then turned p co si e else p e

def mix (p : ℕ → EReal) (e : ℕ) : EReal := if e < 512 then p (1536 + e) else p (1536 + e) * squash (p (1792 + e))

def gate (p : ℕ → EReal) (e : ℕ) : EReal := squash (p (2560 + e))

theorem half_eq : half = (((1 : ℝ) / 2 : ℝ) : EReal) := by
  unfold half
  simp [Ideal.ofBits, Ideal.ieee, -EReal.coe_mul]
  norm_num

/-- On a real number: half the hyperbolic tangent of the half, plus a half. -/
theorem tanh_half (r : ℝ) : 1 / 2 * Real.tanh (1 / 2 * r) + 1 / 2 = (1 + Real.exp (-r))⁻¹ := by
  have h1 : Real.exp (-r) = Real.exp (-(1 / 2 * r)) * Real.exp (-(1 / 2 * r)) := by
    rw [← Real.exp_add]; congr 1; ring
  have h2 : Real.exp (1 / 2 * r) * Real.exp (-(1 / 2 * r)) = 1 := by
    rw [← Real.exp_add, add_neg_cancel, Real.exp_zero]
  rw [Real.tanh_eq_sinh_div_cosh, Real.sinh_eq, Real.cosh_eq, h1]
  have a := Real.exp_pos (1 / 2 * r)
  have b := Real.exp_pos (-(1 / 2 * r))
  set u := Real.exp (1 / 2 * r)
  set v := Real.exp (-(1 / 2 * r))
  have c : u + v ≠ 0 := by positivity
  have d : 1 + v * v ≠ 0 := by positivity
  field_simp
  nlinarith [h2]

theorem squash_eq (x : EReal) : squash x = Ideal.logistic x := by
  unfold squash
  rw [half_eq]
  induction x with
  | bot =>
    rw [EReal.coe_mul_bot_of_pos (by norm_num), Ideal.tanh_bot, Ideal.logistic_bot, show (-1 : EReal) = ((-1 : ℝ) : EReal) by rw [EReal.coe_neg, EReal.coe_one],
      ← EReal.coe_mul, ← EReal.coe_add, show (1 / 2 * (-1) + 1 / 2 : ℝ) = 0 by norm_num, EReal.coe_zero]
  | top =>
    rw [EReal.coe_mul_top_of_pos (by norm_num), Ideal.tanh_top, Ideal.logistic_top, mul_one, ← EReal.coe_add,
      show (1 / 2 + 1 / 2 : ℝ) = 1 by norm_num, EReal.coe_one]
  | coe r =>
    rw [← EReal.coe_mul, Ideal.tanh_coe, Ideal.logistic_coe, ← EReal.coe_mul, ← EReal.coe_add, tanh_half]

end Cert.Proj

end
-- ==== Proof.Proj.Tile.lean ====
/- What one grid point computes from the blocks it reads, at an index: a normalised and modulated tile of 512 rows, its
   products with the columns of the weights, and the pieces of the three results. -/
module

public import proofs.«01_k».proof.Proof.Proj.Row
public import proofs.«01_k».proof.Proof.Gen.Kernel3Ideal.Skeleton
public import Idealize.ShloMosaic.Lib.ValueIdx
public import Idealize.ShloMosaic.Lib.ValueLayout
public import Idealize.ShloMosaic.Lib.KernelVsHost
public import Idealize.ShloMosaic.Lib.Pipeline.Value

@[expose] public section

noncomputable section

namespace Cert.Kernel3Ideal.Proj

open Cert.Kernel3Ideal Cert.Kernel3Ideal.Gen Cert.Mlp Cert.Proj Idealize.ShloMosaic Idealize.ShloMosaic.ValueIdx

/-! ## Changes of shape and rows repeated -/

theorem cast_rows {α : Type} (x : S1x512x1024.Idx → α) (r : Fin 512) (d : Fin 1024) :
    shapeCast S512x1024 x shapeCasts_S1x512x1024_S512x1024 (ix2 r d) = x (ix3 0 r d) := by
  refine shapeCast_apply x _ _ _ ?_
  rw [Shape.rowMajor_val_three, Shape.rowMajor_val_two]
  show (0 * 512 + r.val) * 1024 + d.val = r.val * 1024 + d.val
  omega

theorem cast_lane {α : Type} (x : S1x1x1024.Idx → α) (d : Fin 1024) :
    shapeCast S1x1024 x shapeCasts_S1x1x1024_S1x1024 (ix2 0 d) = x (ix3 0 0 d) := by
  refine shapeCast_apply x _ _ _ ?_
  rw [Shape.rowMajor_val_three, Shape.rowMajor_val_two]
  rfl

theorem cast_weights {α : Type} (x : S1x1024x1024.Idx → α) (d e : Fin 1024) :
    shapeCast S1024x1024 x shapeCasts_S1x1024x1024_S1024x1024 (ix2 d e) = x (ix3 0 d e) := by
  refine shapeCast_apply x _ _ _ ?_
  rw [Shape.rowMajor_val_three, Shape.rowMajor_val_two]
  show (0 * 1024 + d.val) * 1024 + e.val = d.val * 1024 + e.val
  omega

theorem cast_column {α : Type} (x : S512.Idx → α) (r : Fin 512) :
    shapeCast S512x1 x shapeCasts_S512_S512x1 (ix2 r 0) = x (ix1 r) := by
  refine shapeCast_apply x _ _ _ ?_
  rw [Shape.rowMajor_val_two, Shape.rowMajor_val_one]
  show r.val = r.val * 1 + 0
  omega

theorem repeat_row {α : Type} (x : S1x1024.Idx → α) (r : Fin 512) (d : Fin 1024) :
    broadcastTo S512x1024 x broadcasts_S1x1024_S512x1024 (ix2 r d) = x (ix2 0 d) := by
  refine broadcastTo_apply x _ _ _ fun a => ?_
  match a with
  | ⟨0, _⟩ => rfl
  | ⟨1, _⟩ => rfl

theorem repeat_column {α : Type} (x : S512x1.Idx → α) (r : Fin 512) (d : Fin 1024) :
    broadcastTo S512x1024 x broadcasts_S512x1_S512x1024 (ix2 r d) = x (ix2 r 0) := by
  refine broadcastTo_apply x _ _ _ fun a => ?_
  match a with
  | ⟨0, _⟩ => rfl
  | ⟨1, _⟩ => rfl

/-! ## The normalised tile -/

/-- A tile times the inverse norms of its rows. -/
def scaled (y : FVec Ideal S512x1024 .f32) : FVec Ideal S512x1024 .f32 :=
  mulf y (broadcastTo S512x1024
    (rsqrt (addf (divf (shapeCast S512x1
          (multiReduction .add [1] S512 (mulf y y) 0x00000000#32 reduces_S512x1024_S512 (.inl rfl) rfl) shapeCasts_S512_S512x1)
        (broadcast S512x1 (Scalar.ofBits .f32 0x44800000#32))) (broadcast S512x1 (Scalar.ofBits .f32 0x358637BD#32))))
    broadcasts_S512x1_S512x1024)

theorem sum_row (y : FVec Ideal S512x1024 .f32) (r : Fin 512) :
    multiReduction .add [1] S512 y 0x00000000#32 reduces_S512x1024_S512 (.inl rfl) rfl (ix1 r)
      = ∑ d : Fin 1024, (y (ix2 r d) : EReal) := by
  refine (Ideal.multiReduction_add_single _ _ _ _ _ _).trans ?_
  refine Finset.sum_congr rfl fun d _ => ?_
  congr 1
  funext a
  match a with
  | ⟨0, _⟩ => rfl
  | ⟨1, _⟩ => rfl

theorem scaled_apply (y : FVec Ideal S512x1024 .f32) (v : Fin 1024 → EReal) (r : Fin 512) (h : ∀ d, y (ix2 r d) = v d) (d : Fin 1024) :
    (scaled y (ix2 r d) : EReal) = v d * invNorm v := by
  unfold scaled
  rw [mulf_apply, repeat_column]
  show (y (ix2 r d) : EReal) * Ideal.rsqrt (Ideal.div (shapeCast S512x1 _ _ (ix2 r 0)) _ + _) = _
  rw [cast_column, sum_row, h]
  have hs : ∑ d : Fin 1024, (mulf y y (ix2 r d) : EReal) = ∑ d, v d * v d :=
    Finset.sum_congr rfl fun d _ => by rw [mulf_apply, h]
  rw [hs]
  rfl

/-- The stored tile of normalised rows. -/
theorem norm_apply (x : Vec Ideal S1x512x1024 .f32) (g sh sc : Vec Ideal S1x1x1024 .f32) (v : Fin 1024 → EReal) (r : Fin 512)
    (h : ∀ d, x (ix3 0 r d) = v d) (d : Fin 1024) :
    (k0_pay1 (F := Ideal) x g sh sc (ix2 r d) : EReal)
      = modulated v (fun d => g (ix3 0 0 d)) (fun d => sh (ix3 0 0 d)) (fun d => sc (ix3 0 0 d)) d := by
  have e : k0_pay1 (F := Ideal) x g sh sc = shapeCast S512x1024 (truncf .bf16
      (addf (mulf (mulf (scaled (shapeCast S512x1024 x shapeCasts_S1x512x1024_S512x1024))
          (broadcastTo S512x1024 (shapeCast S1x1024 g shapeCasts_S1x1x1024_S1x1024) broadcasts_S1x1024_S512x1024))
        (broadcastTo S512x1024 (addf (broadcast S1x1024 (Scalar.ofBits .f32 0x3F800000#32))
          (shapeCast S1x1024 sc shapeCasts_S1x1x1024_S1x1024)) broadcasts_S1x1024_S512x1024))
        (broadcastTo S512x1024 (shapeCast S1x1024 sh shapeCasts_S1x1x1024_S1x1024) broadcasts_S1x1024_S512x1024))
      bitsLt_bf16_f32) shapeCasts_S512x1024_S512x1024 := rfl
  rw [e, shapeCast_self]
  show (addf (F := Ideal) (mulf (mulf (scaled _) _) _) _ (ix2 r d) : EReal) = _
  rw [addf_apply, mulf_apply, mulf_apply, repeat_row, repeat_row, repeat_row, addf_apply, cast_lane, cast_lane, cast_lane,
    scaled_apply _ v r (fun d => by rw [cast_rows, h])]
  rfl

/-! ## The feed-forward -/

theorem product_apply (x : FVec Ideal S512x1024 .bf16) (w : FVec Ideal S1024x1024 .bf16) (r : Fin 512) (e : Fin 1024) :
    matmul dot_S512x1024_S1024x1024_S512x1024_1_0_0_1_n_n none x w (constant S512x1024 .f32 0x00000000#32) (ix2 r e)
      = ∑ d : Fin 1024, (x (ix2 r d) : EReal) * w (ix2 d e) := by
  simp only [matmul]
  rw [Ideal.matmul_constant_zero_apply,
    ← Equiv.sum_comp (contrEquiv1 dot_S512x1024_S1024x1024_S512x1024_1_0_0_1_n_n 1024 rfl rfl).symm]
  refine Finset.sum_congr rfl fun d _ => ?_
  have hd := contrEquiv1_symm_val dot_S512x1024_S1024x1024_S512x1024_1_0_0_1_n_n 1024 rfl rfl d
  congr 2
  · funext a; apply Fin.ext
    match a with
    | ⟨0, _⟩ => rfl
    | ⟨1, _⟩ => exact hd
  · funext a; apply Fin.ext
    match a with
    | ⟨0, _⟩ => exact hd
    | ⟨1, _⟩ => rfl

theorem product_last_apply (x : FVec Ideal S512x1024 .bf16) (w : FVec Ideal S1024x512 .bf16) (r : Fin 512) (e : Fin 512) :
    matmul dot_S512x1024_S1024x512_S512x512_1_0_0_1_n_n none x w (constant S512x512 .f32 0x00000000#32) (ix2 r e)
      = ∑ d : Fin 1024, (x (ix2 r d) : EReal) * w (ix2 d e) := by
  simp only [matmul]
  rw [Ideal.matmul_constant_zero_apply,
    ← Equiv.sum_comp (contrEquiv1 dot_S512x1024_S1024x512_S512x512_1_0_0_1_n_n 1024 rfl rfl).symm]
  refine Finset.sum_congr rfl fun d _ => ?_
  have hd := contrEquiv1_symm_val dot_S512x1024_S1024x512_S512x512_1_0_0_1_n_n 1024 rfl rfl d
  congr 2
  · funext a; apply Fin.ext
    match a with
    | ⟨0, _⟩ => rfl
    | ⟨1, _⟩ => exact hd
  · funext a; apply Fin.ext
    match a with
    | ⟨0, _⟩ => exact hd
    | ⟨1, _⟩ => rfl

theorem cast_last {α : Type} (x : S1x1024x512.Idx → α) (d : Fin 1024) (e : Fin 512) :
    shapeCast S1024x512 x shapeCasts_S1x1024x512_S1024x512 (ix2 d e) = x (ix3 0 d e) := by
  refine shapeCast_apply x _ _ _ ?_
  rw [Shape.rowMajor_val_three, Shape.rowMajor_val_two]
  show (0 * 1024 + d.val) * 512 + e.val = d.val * 512 + e.val
  omega

/-- The `j`-th block of 1024 columns of the weights, and the last 512 columns. -/
def columns (w : Vec Ideal S1x1024x6656 .bf16) (j : Fin 6) : Vec Ideal S1x1024x1024 .bf16 :=
  fun y => w (ix3 0 (y 1) ⟨1024 * j.val + (y 2).val, by have : (y 2).val < 1024 := (y 2).isLt; omega⟩)

def lastColumns (w : Vec Ideal S1x1024x6656 .bf16) : Vec Ideal S1x1024x512 .bf16 :=
  fun y => w (ix3 0 (y 1) ⟨6144 + (y 2).val, by have : (y 2).val < 512 := (y 2).isLt; omega⟩)

/-- The lanes of row `r` of the product of a tile with the weights. -/
def rowLanes (h : FVec Ideal S512x1024 .bf16) (w : Vec Ideal S1x1024x6656 .bf16) (r : Fin 512) : ℕ → EReal :=
  lanes (fun d => h (ix2 r d)) (fun d k => w (ix3 0 d k))

/-- A block of 1024 columns of the product, and the last 512. -/
def prod (h : FVec Ideal S512x1024 .bf16) (w : Vec Ideal S1x1024x6656 .bf16) (j : Fin 6) : FVec Ideal S512x1024 .f32 :=
  k0_pay4 (F := Ideal) h (columns w j)

def lastProd (h : FVec Ideal S512x1024 .bf16) (w : Vec Ideal S1x1024x6656 .bf16) : FVec Ideal S512x512 .f32 :=
  matmul (F := Ideal) (φ₂ := .bf16) dot_S512x1024_S1024x512_S512x512_1_0_0_1_n_n none h
    (shapeCast S1024x512 (lastColumns w) shapeCasts_S1x1024x512_S1024x512) (constant S512x512 .f32 0x00000000#32)

theorem prod_apply (h : FVec Ideal S512x1024 .bf16) (w : Vec Ideal S1x1024x6656 .bf16) (j : Fin 6) (r : Fin 512) (e : Fin 1024) :
    (prod h w j (ix2 r e) : EReal) = rowLanes h w r (1024 * j.val + e.val) := by
  refine (product_apply h (shapeCast S1024x1024 (columns w j) shapeCasts_S1x1024x1024_S1024x1024) r e).trans ?_
  refine Eq.trans ?_ (lanes_apply _ _ ⟨1024 * j.val + e.val, by omega⟩).symm
  exact Finset.sum_congr rfl fun d _ => congrArg _ (cast_weights _ d e)

theorem lastProd_apply (h : FVec Ideal S512x1024 .bf16) (w : Vec Ideal S1x1024x6656 .bf16) (r : Fin 512) (e : Fin 512) :
    (lastProd h w (ix2 r e) : EReal) = rowLanes h w r (6144 + e.val) := by
  refine (product_last_apply h (shapeCast S1024x512 (lastColumns w) shapeCasts_S1x1024x512_S1024x512) r e).trans ?_
  refine Eq.trans ?_ (lanes_apply _ _ ⟨6144 + e.val, by omega⟩).symm
  exact Finset.sum_congr rfl fun d _ => congrArg _ (cast_last _ d e)

/-! ## The rotary turn -/

/-- Which lanes are in the first half of their group of thirty-two. -/
def firstHalf : IVec S512x128 1 := k0_pay16 32#32 k0_pay15

/-- 128 lanes, each turned with its partner. -/
def turnTile (a co si : FVec Ideal S512x128 .f32) : FVec Ideal S1x512x128 .bf16 :=
  shapeCast S1x512x128 (truncf .bf16 (addf (mulf a co)
    (mulf (select firstHalf (dynamicRotate 1 112#32 none a rotates_S512x128_d1) (dynamicRotate 1 16#32 none a rotates_S512x128_d1)) si))
    bitsLt_bf16_f32) shapeCasts_S512x128_S1x512x128

theorem cast_turn {α : Type} (x : S512x128.Idx → α) (r : Fin 512) (l : Fin 128) :
    shapeCast S1x512x128 x shapeCasts_S512x128_S1x512x128 (ix3 0 r l) = x (ix2 r l) := by
  refine shapeCast_apply x _ _ _ ?_
  rw [Shape.rowMajor_val_three, Shape.rowMajor_val_two]
  show r.val * 128 + l.val = (0 * 512 + r.val) * 128 + l.val
  omega

theorem firstHalf_apply (r : Fin 512) (l : Fin 128) : firstHalf (ix2 r l) = if l.val % 32 < 16 then 1#1 else 0#1 := by
  have e : firstHalf (ix2 r l) = firstHalf (ix2 0 l) := rfl
  rw [e]
  clear e
  revert l
  decide +kernel

theorem rotate_apply (sb : BitVec 32) (a : FVec Ideal S512x128 .f32) (r : Fin 512) (l k : Fin 128)
    (hk : k.val = (l.val + 128 - sb.toNat % 128) % 128) :
    dynamicRotate 1 sb none a rotates_S512x128_d1 (ix2 r l) = a (ix2 r k) := by
  refine dynamicRotate_apply _ _ _ _ _ _ fun b => ?_
  match b with
  | ⟨0, _⟩ => rfl
  | ⟨1, _⟩ => exact hk

theorem partner_lt (l : Fin 128) : partner l.val < 128 := by
  unfold partner; split <;> omega

theorem turnTile_apply (a co si : FVec Ideal S512x128 .f32) (r : Fin 512) (l : Fin 128) :
    (turnTile a co si (ix3 0 r l) : EReal) = a (ix2 r l) * co (ix2 r l) + a (ix2 r ⟨partner l.val, partner_lt l⟩) * si (ix2 r l) := by
  unfold turnTile
  rw [cast_turn, truncf_apply, addf_apply, mulf_apply, mulf_apply, select_apply, firstHalf_apply]
  have hp : partner l.val = if l.val % 32 < 16 then l.val + 16 else l.val - 16 := rfl
  by_cases h : l.val % 32 < 16
  · rw [if_pos h] at hp
    rw [if_pos h]
    exact congrArg (fun t : EReal => a (ix2 r l) * co (ix2 r l) + t * si (ix2 r l))
      (rotate_apply 112#32 a r l ⟨partner l.val, partner_lt l⟩ (hp.trans (by
        show l.val + 16 = (l.val + 128 - 112) % 128; omega)))
  · rw [if_neg h] at hp
    rw [if_neg h]
    exact congrArg (fun t : EReal => a (ix2 r l) * co (ix2 r l) + t * si (ix2 r l))
      (rotate_apply 16#32 a r l ⟨partner l.val, partner_lt l⟩ (hp.trans (by
        show l.val - 16 = (l.val + 128 - 16) % 128; omega)))

/-! ## The gates -/

/-- 512 lanes squashed. -/
def squashed (x : FVec Ideal S512x512 .f32) : FVec Ideal S512x512 .f32 :=
  addf (mulf (broadcast S512x512 (Scalar.ofBits .f32 0x3F000000#32)) (tanh (mulf (broadcast S512x512 (Scalar.ofBits .f32 0x3F000000#32)) x)))
    (broadcast S512x512 (Scalar.ofBits .f32 0x3F000000#32))

def gateTile (x : FVec Ideal S512x512 .f32) : FVec Ideal S1x512x512 .bf16 := k0_pay2 (F := Ideal) (squashed x)

theorem cast_wide {α : Type} (x : S512x512.Idx → α) (r e : Fin 512) :
    shapeCast S1x512x512 x shapeCasts_S512x512_S1x512x512 (ix3 0 r e) = x (ix2 r e) := by
  refine shapeCast_apply x _ _ _ ?_
  rw [Shape.rowMajor_val_three, Shape.rowMajor_val_two]
  show r.val * 512 + e.val = (0 * 512 + r.val) * 512 + e.val
  omega

theorem cast_narrow {α : Type} (x : S512x256.Idx → α) (r : Fin 512) (e : Fin 256) :
    shapeCast S1x512x256 x shapeCasts_S512x256_S1x512x256 (ix3 0 r e) = x (ix2 r e) := by
  refine shapeCast_apply x _ _ _ ?_
  rw [Shape.rowMajor_val_three, Shape.rowMajor_val_two]
  show r.val * 256 + e.val = (0 * 512 + r.val) * 256 + e.val
  omega

theorem gateTile_apply (x : FVec Ideal S512x512 .f32) (r e : Fin 512) : (gateTile x (ix3 0 r e) : EReal) = squash (x (ix2 r e)) :=
  (cast_wide (squashed x) r e).trans rfl

/-- The left and the right half of a block of columns. -/
def leftHalf (x : FVec Ideal S512x1024 .f32) : FVec Ideal S512x512 .f32 := k0_pay12 (F := Ideal) x
def rightHalf (x : FVec Ideal S512x1024 .f32) : FVec Ideal S512x512 .f32 := k0_pay24 (F := Ideal) x

theorem leftHalf_apply (x : FVec Ideal S512x1024 .f32) (r e : Fin 512) : leftHalf x (ix2 r e) = x (ix2 r ⟨e.val, by omega⟩) :=
  slice2_axis1_apply 0 x slices_S512x1024_o0_0_S512x512 r e _ (Nat.zero_add _).symm

theorem rightHalf_apply (x : FVec Ideal S512x1024 .f32) (r e : Fin 512) : rightHalf x (ix2 r e) = x (ix2 r ⟨512 + e.val, by omega⟩) :=
  slice2_axis1_apply 512 x slices_S512x1024_o0_512_S512x512 r e _ rfl

end Cert.Kernel3Ideal.Proj

end
-- ==== Proof.Proj.Pieces.lean ====
/- The pieces the body stores of its three results, and what each holds: the query and key lanes turned 128 at a time, the
   value lanes, the pooled and mixed lanes, the gated unit, and the gates 512 at a time. -/
module

public import proofs.«01_k».proof.Proof.Proj.Tile
public import Idealize.ShloMosaic.Lib.Pipeline.ValueKit.Tiles

@[expose] public section

noncomputable section

namespace Cert.Kernel3Ideal.Proj

open Cert.Kernel3Ideal Cert.Kernel3Ideal.Gen Cert.Mlp Cert.Proj Idealize.ShloMosaic Idealize.ShloMosaic.ValueIdx

/-- 128 lanes of a half block. -/
def part0 (x : FVec Ideal S512x512 .f32) : FVec Ideal S512x128 .f32 := extractStridedSlice S512x128 ![0, 0] x slices_S512x512_o0_0_S512x128
def part1 (x : FVec Ideal S512x512 .f32) : FVec Ideal S512x128 .f32 := extractStridedSlice S512x128 ![0, 128] x slices_S512x512_o0_128_S512x128
def part2 (x : FVec Ideal S512x512 .f32) : FVec Ideal S512x128 .f32 := extractStridedSlice S512x128 ![0, 256] x slices_S512x512_o0_256_S512x128
def part3 (x : FVec Ideal S512x512 .f32) : FVec Ideal S512x128 .f32 := extractStridedSlice S512x128 ![0, 384] x slices_S512x512_o0_384_S512x128

theorem part0_apply (x : FVec Ideal S512x512 .f32) (r : Fin 512) (l : Fin 128) : part0 x (ix2 r l) = x (ix2 r ⟨0 + l.val, by omega⟩) :=
  slice2_axis1_apply 0 x slices_S512x512_o0_0_S512x128 r l _ rfl
theorem part1_apply (x : FVec Ideal S512x512 .f32) (r : Fin 512) (l : Fin 128) : part1 x (ix2 r l) = x (ix2 r ⟨128 + l.val, by omega⟩) :=
  slice2_axis1_apply 128 x slices_S512x512_o0_128_S512x128 r l _ rfl
theorem part2_apply (x : FVec Ideal S512x512 .f32) (r : Fin 512) (l : Fin 128) : part2 x (ix2 r l) = x (ix2 r ⟨256 + l.val, by omega⟩) :=
  slice2_axis1_apply 256 x slices_S512x512_o0_256_S512x128 r l _ rfl
theorem part3_apply (x : FVec Ideal S512x512 .f32) (r : Fin 512) (l : Fin 128) : part3 x (ix2 r l) = x (ix2 r ⟨384 + l.val, by omega⟩) :=
  slice2_axis1_apply 384 x slices_S512x512_o0_384_S512x128 r l _ rfl

/-- A table times the scale of the query. -/
def scaledTable (x : FVec Ideal S512x128 .f32) : FVec Ideal S512x128 .f32 := k0_pay13 (F := Ideal) x

theorem scaledTable_apply (x : FVec Ideal S512x128 .f32) (r : Fin 512) (l : Fin 128) :
    (scaledTable x (ix2 r l) : EReal) = x (ix2 r l) * queryScale := by
  have e : scaledTable x = mulf (shapeCast S512x128 x shapeCasts_S512x128_S512x128) (broadcast S512x128 (Scalar.ofBits .f32 0x3E38AA3B#32)) := rfl
  rw [e, shapeCast_self]
  rfl

/-- The gated unit's lanes: the first 256 of a half block times the second 256 squashed. -/
def unitTile (x : FVec Ideal S512x512 .f32) : FVec Ideal S1x512x256 .f32 :=
  shapeCast S1x512x256 (mulf (extractStridedSlice S512x256 ![0, 0] x slices_S512x512_o0_0_S512x256)
    (addf (mulf (broadcast S512x256 (Scalar.ofBits .f32 0x3F000000#32))
        (tanh (mulf (broadcast S512x256 (Scalar.ofBits .f32 0x3F000000#32)) (extractStridedSlice S512x256 ![0, 256] x slices_S512x512_o0_256_S512x256))))
      (broadcast S512x256 (Scalar.ofBits .f32 0x3F000000#32)))) shapeCasts_S512x256_S1x512x256

theorem unitTile_apply (x : FVec Ideal S512x512 .f32) (r : Fin 512) (e : Fin 256) :
    (unitTile x (ix3 0 r e) : EReal) = x (ix2 r ⟨e.val, by omega⟩) * squash (x (ix2 r ⟨256 + e.val, by omega⟩)) := by
  unfold unitTile
  rw [cast_narrow, mulf_apply, slice2_axis1_apply 0 x slices_S512x512_o0_0_S512x256 r e ⟨e.val, by omega⟩ (Nat.zero_add _).symm]
  refine congrArg (fun t : EReal => x (ix2 r ⟨e.val, by omega⟩) * squash t) ?_
  exact slice2_axis1_apply 256 x slices_S512x512_o0_256_S512x256 r e ⟨256 + e.val, by omega⟩ rfl

/-- A half block as the pieces hold it. -/
def wide (x : FVec Ideal S512x512 .f32) : FVec Ideal S1x512x512 .bf16 :=
  shapeCast S1x512x512 (truncf .bf16 x bitsLt_bf16_f32) shapeCasts_S512x512_S1x512x512

def qkvPieces (P0 P1 : FVec Ideal S512x1024 .f32) (co si : FVec Ideal S512x128 .f32) : List (View.Piece (Elt Ideal) S1x512x1536 .bf16) :=
  [⟨Rect.unit ![0, 0, 1024] ![1, 512, 512] inb_S1x512x1536_S1x512x512_0_0_1024, wide (leftHalf P1)⟩,
   ⟨Rect.unit ![0, 0, 896] ![1, 512, 128] inb_S1x512x1536_S1x512x128_0_0_896, turnTile (part3 (rightHalf P0)) co si⟩,
   ⟨Rect.unit ![0, 0, 768] ![1, 512, 128] inb_S1x512x1536_S1x512x128_0_0_768, turnTile (part2 (rightHalf P0)) co si⟩,
   ⟨Rect.unit ![0, 0, 640] ![1, 512, 128] inb_S1x512x1536_S1x512x128_0_0_640, turnTile (part1 (rightHalf P0)) co si⟩,
   ⟨Rect.unit ![0, 0, 512] ![1, 512, 128] inb_S1x512x1536_S1x512x128_0_0_512, turnTile (part0 (rightHalf P0)) co si⟩,
   ⟨Rect.unit ![0, 0, 384] ![1, 512, 128] inb_S1x512x1536_S1x512x128_0_0_384, turnTile (part3 (leftHalf P0)) (scaledTable co) (scaledTable si)⟩,
   ⟨Rect.unit ![0, 0, 256] ![1, 512, 128] inb_S1x512x1536_S1x512x128_0_0_256, turnTile (part2 (leftHalf P0)) (scaledTable co) (scaledTable si)⟩,
   ⟨Rect.unit ![0, 0, 128] ![1, 512, 128] inb_S1x512x1536_S1x512x128_0_0_128, turnTile (part1 (leftHalf P0)) (scaledTable co) (scaledTable si)⟩,
   ⟨Rect.unit ![0, 0, 0] ![1, 512, 128] inb_S1x512x1536_S1x512x128_0_0_0, turnTile (part0 (leftHalf P0)) (scaledTable co) (scaledTable si)⟩]

def mixPieces (P1 P2 : FVec Ideal S512x1024 .f32) : List (View.Piece (Elt Ideal) S1x512x768 .f32) :=
  [⟨Rect.unit ![0, 0, 512] ![1, 512, 256] inb_S1x512x768_S1x512x256_0_0_512, unitTile (leftHalf P2)⟩,
   ⟨Rect.unit ![0, 0, 0] ![1, 512, 512] inb_S1x512x768_S1x512x512_0_0_0, shapeCast S1x512x512 (rightHalf P1) shapeCasts_S512x512_S1x512x512⟩]

def gatePieces (P2 P3 P4 P5 : FVec Ideal S512x1024 .f32) (L : FVec Ideal S512x512 .f32) : List (View.Piece (Elt Ideal) S1x512x4096 .bf16) :=
  [⟨Rect.unit ![0, 0, 3584] ![1, 512, 512] inb_S1x512x4096_S1x512x512_0_0_3584, gateTile L⟩,
   ⟨Rect.unit ![0, 0, 3072] ![1, 512, 512] inb_S1x512x4096_S1x512x512_0_0_3072, gateTile (rightHalf P5)⟩,
   ⟨Rect.unit ![0, 0, 2560] ![1, 512, 512] inb_S1x512x4096_S1x512x512_0_0_2560, gateTile (leftHalf P5)⟩,
   ⟨Rect.unit ![0, 0, 2048] ![1, 512, 512] inb_S1x512x4096_S1x512x512_0_0_2048, gateTile (rightHalf P4)⟩,
   ⟨Rect.unit ![0, 0, 1536] ![1, 512, 512] inb_S1x512x4096_S1x512x512_0_0_1536, gateTile (leftHalf P4)⟩,
   ⟨Rect.unit ![0, 0, 1024] ![1, 512, 512] inb_S1x512x4096_S1x512x512_0_0_1024, gateTile (rightHalf P3)⟩,
   ⟨Rect.unit ![0, 0, 512] ![1, 512, 512] inb_S1x512x4096_S1x512x512_0_0_512, gateTile (leftHalf P3)⟩,
   ⟨Rect.unit ![0, 0, 0] ![1, 512, 512] inb_S1x512x4096_S1x512x512_0_0_0, gateTile (rightHalf P2)⟩]

/-- An element of a piece that starts at lane `o`. -/
theorem emb_lane {n N o : ℕ} (inb : ∀ a, ![0, 0, o] a + (![1, 512, n] : Fin 3 → ℕ) a ≤ (⟨3, ![1, 512, N]⟩ : Shape).size a) (r : Fin 512) (l : Fin n)
    (h : o + l.val < N) :
    (Rect.unit (s := ⟨3, ![1, 512, N]⟩) ![0, 0, o] ![1, 512, n] inb).emb (ix3 0 r l) = ix3 0 r ⟨o + l.val, h⟩ := by
  funext a
  apply Fin.ext
  match a with
  | ⟨0, _⟩ => rfl
  | ⟨1, _⟩ => show 0 + 1 * r.val = r.val; omega
  | ⟨2, _⟩ => show o + 1 * l.val = o + l.val; omega

/-- A piece that starts at lane `o` holds `G` when each of its rows does. -/
theorem piece_of {n N o : ℕ} {e : EltTy} (inb : ∀ a, ![0, 0, o] a + (![1, 512, n] : Fin 3 → ℕ) a ≤ (⟨3, ![1, 512, N]⟩ : Shape).size a)
    (v : Vec Ideal ⟨3, ![1, 512, n]⟩ e) (G : (⟨3, ![1, 512, N]⟩ : Shape).Idx → Elt Ideal e)
    (ho : o + n ≤ N) (hv : ∀ (r : Fin 512) (l : Fin n), v (ix3 0 r l) = G (ix3 0 r ⟨o + l.val, by omega⟩))
    (x : (⟨3, ![1, 512, n]⟩ : Shape).Idx) :
    v x = G ((Rect.unit (s := ⟨3, ![1, 512, N]⟩) ![0, 0, o] ![1, 512, n] inb).emb x) := by
  obtain ⟨r, l, rfl⟩ : ∃ (r : Fin 512) (l : Fin n), x = ix3 0 r l := ⟨x 1, x 2, by
    funext a
    match a with
    | ⟨0, _⟩ => exact Subsingleton.elim (α := Fin 1) _ _
    | ⟨1, _⟩ => rfl
    | ⟨2, _⟩ => rfl⟩
  rw [emb_lane inb r l (by omega), hv]

/-- What the three results' blocks hold. -/
def qkvBlock (p : Fin 512 → ℕ → EReal) (co si : FVec Ideal S512x128 .f32) (y : S1x512x1536.Idx) : EReal :=
  qkv (p (y 1)) (fun l => co (ix2 (y 1) l)) (fun l => si (ix2 (y 1) l)) (y 2).val
def mixBlock (p : Fin 512 → ℕ → EReal) (y : S1x512x768.Idx) : EReal := mix (p (y 1)) (y 2).val
def gateBlock (p : Fin 512 → ℕ → EReal) (y : S1x512x4096.Idx) : EReal := gate (p (y 1)) (y 2).val

section

variable (p : Fin 512 → ℕ → EReal)

theorem half_of {j : ℕ} {P : FVec Ideal S512x1024 .f32} (h : ∀ (r : Fin 512) (e : Fin 1024), (P (ix2 r e) : EReal) = p r (1024 * j + e.val)) (r e : Fin 512) :
    (leftHalf P (ix2 r e) : EReal) = p r (1024 * j + e.val) ∧ (rightHalf P (ix2 r e) : EReal) = p r (1024 * j + 512 + e.val) := by
  rw [leftHalf_apply, rightHalf_apply]
  exact ⟨h r _, (h r _).trans (congrArg (p r) (Nat.add_assoc _ _ _).symm)⟩

/-- 128 lanes turned, from lane `o` of the product on. -/
theorem turn_of {o : ℕ} (ho : o % 128 = 0) {a co si : FVec Ideal S512x128 .f32} {c s : Fin 512 → Fin 128 → EReal} (r : Fin 512)
    (ha : ∀ l : Fin 128, (a (ix2 r l) : EReal) = p r (o + l.val)) (hc : ∀ l, (co (ix2 r l) : EReal) = c r l) (hs : ∀ l, (si (ix2 r l) : EReal) = s r l) (l : Fin 128) :
    (turnTile a co si (ix3 0 r l) : EReal) = turned (p r) (c r) (s r) (o + l.val) := by
  have e1 : within (o + l.val) = l := Fin.ext (by show (o + l.val) % 128 = l.val; omega)
  have e2 : partner (o + l.val) = o + partner l.val := by unfold partner; split <;> split <;> omega
  rw [turnTile_apply, ha, ha, hc, hs]
  unfold turned
  rw [e1, e2]

theorem qkv_pieces {P0 P1 : FVec Ideal S512x1024 .f32} (co si : FVec Ideal S512x128 .f32)
    (h0 : ∀ (r : Fin 512) (e : Fin 1024), (P0 (ix2 r e) : EReal) = p r (1024 * 0 + e.val)) (h1 : ∀ (r : Fin 512) (e : Fin 1024), (P1 (ix2 r e) : EReal) = p r (1024 * 1 + e.val)) :
    ∀ pc ∈ qkvPieces P0 P1 co si, ∀ x : pc.1.shape.Idx, pc.2 x = qkvBlock p co si (pc.1.emb x) := by
  have q : ∀ (o : ℕ) (ho : o + 128 ≤ 512) (hm : o % 128 = 0) (a : FVec Ideal S512x128 .f32)
      (ha : ∀ (r : Fin 512) (l : Fin 128), (a (ix2 r l) : EReal) = p r (o + l.val)) (r : Fin 512) (l : Fin 128),
      (turnTile a (scaledTable co) (scaledTable si) (ix3 0 r l) : EReal) = qkvBlock p co si (ix3 0 r ⟨o + l.val, by omega⟩) := by
    intro o ho hm a ha r l
    refine (turn_of p hm (c := fun r l => co (ix2 r l) * queryScale) (s := fun r l => si (ix2 r l) * queryScale) r (ha r)
      (fun l => scaledTable_apply co r l) (fun l => scaledTable_apply si r l) l).trans ?_
    exact (if_pos (show o + l.val < 512 by omega)).symm
  have k : ∀ (o : ℕ) (ho : o + 128 ≤ 1024) (h5 : 512 ≤ o) (hm : o % 128 = 0) (a : FVec Ideal S512x128 .f32)
      (ha : ∀ (r : Fin 512) (l : Fin 128), (a (ix2 r l) : EReal) = p r (o + l.val)) (r : Fin 512) (l : Fin 128),
      (turnTile a co si (ix3 0 r l) : EReal) = qkvBlock p co si (ix3 0 r ⟨o + l.val, by omega⟩) := by
    intro o ho h5 hm a ha r l
    refine (turn_of p hm (c := fun r l => co (ix2 r l)) (s := fun r l => si (ix2 r l)) r (ha r) (fun _ => rfl) (fun _ => rfl) l).trans ?_
    exact ((if_neg (show ¬ o + l.val < 512 by omega)).trans (if_pos (show o + l.val < 1024 by omega))).symm
  have L := fun r e => (half_of p h0 r e).1
  have R := fun r e => (half_of p h0 r e).2
  refine List.forall_mem_cons.2 ⟨fun x => ?_, List.forall_mem_cons.2 ⟨fun x => ?_, List.forall_mem_cons.2 ⟨fun x => ?_, List.forall_mem_cons.2 ⟨fun x => ?_,
    List.forall_mem_cons.2 ⟨fun x => ?_, List.forall_mem_cons.2 ⟨fun x => ?_, List.forall_mem_cons.2 ⟨fun x => ?_, List.forall_mem_cons.2 ⟨fun x => ?_,
    List.forall_mem_cons.2 ⟨fun x => ?_, fun _ h => absurd h List.not_mem_nil⟩⟩⟩⟩⟩⟩⟩⟩⟩
  · refine piece_of (e := .bf16) inb_S1x512x1536_S1x512x512_0_0_1024 (wide (leftHalf P1)) (qkvBlock p co si) (by omega) (fun r l => ?_) x
    refine (cast_wide (leftHalf P1) r l).trans ((half_of p h1 r l).1.trans ?_)
    exact ((if_neg (show ¬ 1024 + l.val < 512 by omega)).trans (if_neg (show ¬ 1024 + l.val < 1024 by omega))).symm
  · exact piece_of (e := .bf16) inb_S1x512x1536_S1x512x128_0_0_896 _ (qkvBlock p co si) (by omega)
      (k 896 (by omega) (by omega) (by omega) _ fun r l => (part3_apply _ r l).trans ((R r _).trans (congrArg (p r) (by show 1024 * 0 + 512 + (384 + l.val) = 896 + l.val; omega)))) x
  · exact piece_of (e := .bf16) inb_S1x512x1536_S1x512x128_0_0_768 _ (qkvBlock p co si) (by omega)
      (k 768 (by omega) (by omega) (by omega) _ fun r l => (part2_apply _ r l).trans ((R r _).trans (congrArg (p r) (by show 1024 * 0 + 512 + (256 + l.val) = 768 + l.val; omega)))) x
  · exact piece_of (e := .bf16) inb_S1x512x1536_S1x512x128_0_0_640 _ (qkvBlock p co si) (by omega)
      (k 640 (by omega) (by omega) (by omega) _ fun r l => (part1_apply _ r l).trans ((R r _).trans (congrArg (p r) (by show 1024 * 0 + 512 + (128 + l.val) = 640 + l.val; omega)))) x
  · exact piece_of (e := .bf16) inb_S1x512x1536_S1x512x128_0_0_512 _ (qkvBlock p co si) (by omega)
      (k 512 (by omega) (by omega) (by omega) _ fun r l => (part0_apply _ r l).trans ((R r _).trans (congrArg (p r) (by show 1024 * 0 + 512 + (0 + l.val) = 512 + l.val; omega)))) x
  · exact piece_of (e := .bf16) inb_S1x512x1536_S1x512x128_0_0_384 _ (qkvBlock p co si) (by omega)
      (q 384 (by omega) (by omega) _ fun r l => (part3_apply _ r l).trans ((L r _).trans (congrArg (p r) (by show 1024 * 0 + (384 + l.val) = 384 + l.val; omega)))) x
  · exact piece_of (e := .bf16) inb_S1x512x1536_S1x512x128_0_0_256 _ (qkvBlock p co si) (by omega)
      (q 256 (by omega) (by omega) _ fun r l => (part2_apply _ r l).trans ((L r _).trans (congrArg (p r) (by show 1024 * 0 + (256 + l.val) = 256 + l.val; omega)))) x
  · exact piece_of (e := .bf16) inb_S1x512x1536_S1x512x128_0_0_128 _ (qkvBlock p co si) (by omega)
      (q 128 (by omega) (by omega) _ fun r l => (part1_apply _ r l).trans ((L r _).trans (congrArg (p r) (by show 1024 * 0 + (128 + l.val) = 128 + l.val; omega)))) x
  · exact piece_of (e := .bf16) inb_S1x512x1536_S1x512x128_0_0_0 _ (qkvBlock p co si) (by omega)
      (q 0 (by omega) (by omega) _ fun r l => (part0_apply _ r l).trans ((L r _).trans (congrArg (p r) (by show 1024 * 0 + (0 + l.val) = 0 + l.val; omega)))) x

theorem mix_pieces {P1 P2 : FVec Ideal S512x1024 .f32}
    (h1 : ∀ (r : Fin 512) (e : Fin 1024), (P1 (ix2 r e) : EReal) = p r (1024 * 1 + e.val)) (h2 : ∀ (r : Fin 512) (e : Fin 1024), (P2 (ix2 r e) : EReal) = p r (1024 * 2 + e.val)) :
    ∀ pc ∈ mixPieces P1 P2, ∀ x : pc.1.shape.Idx, pc.2 x = mixBlock p (pc.1.emb x) := by
  refine List.forall_mem_cons.2 ⟨fun x => ?_, List.forall_mem_cons.2 ⟨fun x => ?_, fun _ h => absurd h List.not_mem_nil⟩⟩
  · refine piece_of (e := .f32) inb_S1x512x768_S1x512x256_0_0_512 (unitTile (leftHalf P2)) (mixBlock p) (by omega) (fun r l => ?_) x
    rw [unitTile_apply, (half_of p h2 r _).1, (half_of p h2 r _).1]
    refine Eq.trans ?_ (if_neg (show ¬ 512 + l.val < 512 by omega)).symm
    show p r (1024 * 2 + l.val) * squash (p r (1024 * 2 + (256 + l.val))) = p r (1536 + (512 + l.val)) * squash (p r (1792 + (512 + l.val)))
    rw [show 1024 * 2 + l.val = 1536 + (512 + l.val) by omega, show 1024 * 2 + (256 + l.val) = 1792 + (512 + l.val) by omega]
  · refine piece_of (e := .f32) inb_S1x512x768_S1x512x512_0_0_0 (shapeCast S1x512x512 (rightHalf P1) shapeCasts_S512x512_S1x512x512) (mixBlock p) (by omega) (fun r l => ?_) x
    rw [cast_wide, (half_of p h1 r l).2]
    refine Eq.trans ?_ (if_pos (show 0 + l.val < 512 by omega)).symm
    exact congrArg (p r) (by show 1024 * 1 + 512 + l.val = 1536 + (0 + l.val); omega)

theorem gate_pieces {P2 P3 P4 P5 : FVec Ideal S512x1024 .f32} {L : FVec Ideal S512x512 .f32}
    (h2 : ∀ (r : Fin 512) (e : Fin 1024), (P2 (ix2 r e) : EReal) = p r (1024 * 2 + e.val)) (h3 : ∀ (r : Fin 512) (e : Fin 1024), (P3 (ix2 r e) : EReal) = p r (1024 * 3 + e.val))
    (h4 : ∀ (r : Fin 512) (e : Fin 1024), (P4 (ix2 r e) : EReal) = p r (1024 * 4 + e.val)) (h5 : ∀ (r : Fin 512) (e : Fin 1024), (P5 (ix2 r e) : EReal) = p r (1024 * 5 + e.val))
    (hL : ∀ r e : Fin 512, (L (ix2 r e) : EReal) = p r (6144 + e.val)) :
    ∀ pc ∈ gatePieces P2 P3 P4 P5 L, ∀ x : pc.1.shape.Idx, pc.2 x = gateBlock p (pc.1.emb x) := by
  have g : ∀ (o : ℕ) (ho : o + 512 ≤ 4096) (a : FVec Ideal S512x512 .f32) (ha : ∀ r e : Fin 512, ∃ k, k = 2560 + o + e.val ∧ (a (ix2 r e) : EReal) = p r k) (r e : Fin 512),
      (gateTile a (ix3 0 r e) : EReal) = gateBlock p (ix3 0 r ⟨o + e.val, by omega⟩) := by
    intro o ho a ha r e
    obtain ⟨k, hk, h⟩ := ha r e
    rw [gateTile_apply, h, hk, Nat.add_assoc]
    rfl
  refine List.forall_mem_cons.2 ⟨fun x => ?_, List.forall_mem_cons.2 ⟨fun x => ?_, List.forall_mem_cons.2 ⟨fun x => ?_, List.forall_mem_cons.2 ⟨fun x => ?_,
    List.forall_mem_cons.2 ⟨fun x => ?_, List.forall_mem_cons.2 ⟨fun x => ?_, List.forall_mem_cons.2 ⟨fun x => ?_, List.forall_mem_cons.2 ⟨fun x => ?_,
    fun _ h => absurd h List.not_mem_nil⟩⟩⟩⟩⟩⟩⟩⟩
  · exact piece_of (e := .bf16) inb_S1x512x4096_S1x512x512_0_0_3584 _ (gateBlock p) (by omega) (g 3584 (by omega) _ fun r e => ⟨_, by omega, hL r e⟩) x
  · exact piece_of (e := .bf16) inb_S1x512x4096_S1x512x512_0_0_3072 _ (gateBlock p) (by omega) (g 3072 (by omega) _ fun r e => ⟨_, by omega, (half_of p h5 r e).2⟩) x
  · exact piece_of (e := .bf16) inb_S1x512x4096_S1x512x512_0_0_2560 _ (gateBlock p) (by omega) (g 2560 (by omega) _ fun r e => ⟨_, by omega, (half_of p h5 r e).1⟩) x
  · exact piece_of (e := .bf16) inb_S1x512x4096_S1x512x512_0_0_2048 _ (gateBlock p) (by omega) (g 2048 (by omega) _ fun r e => ⟨_, by omega, (half_of p h4 r e).2⟩) x
  · exact piece_of (e := .bf16) inb_S1x512x4096_S1x512x512_0_0_1536 _ (gateBlock p) (by omega) (g 1536 (by omega) _ fun r e => ⟨_, by omega, (half_of p h4 r e).1⟩) x
  · exact piece_of (e := .bf16) inb_S1x512x4096_S1x512x512_0_0_1024 _ (gateBlock p) (by omega) (g 1024 (by omega) _ fun r e => ⟨_, by omega, (half_of p h3 r e).2⟩) x
  · exact piece_of (e := .bf16) inb_S1x512x4096_S1x512x512_0_0_512 _ (gateBlock p) (by omega) (g 512 (by omega) _ fun r e => ⟨_, by omega, (half_of p h3 r e).1⟩) x
  · exact piece_of (e := .bf16) inb_S1x512x4096_S1x512x512_0_0_0 _ (gateBlock p) (by omega) (g 0 (by omega) _ fun r e => ⟨_, by omega, (half_of p h2 r e).2⟩) x

end

end Cert.Kernel3Ideal.Proj

end
-- ==== Proof.Proj.Names.lean ====
/- The body's own expressions for the pieces it stores, at an even point and at an odd one, as the pieces named before. -/
module

public import proofs.«01_k».proof.Proof.Proj.Pieces

@[expose] public section

noncomputable section

namespace Cert.Kernel3Ideal.Proj

open Cert.Kernel3Ideal Cert.Kernel3Ideal.Gen Cert.Mlp Cert.Proj Idealize.ShloMosaic Idealize.ShloMosaic.ValueIdx

/-! ## At an even point -/

theorem half_even (P : FVec Ideal S512x1024 .f32) : k0_pay12 (F := Ideal) P = leftHalf P ∧ k0_pay24 (F := Ideal) P = rightHalf P := ⟨rfl, rfl⟩

theorem table_even (x : FVec Ideal S512x128 .f32) : k0_pay13 (F := Ideal) x = scaledTable x ∧ k0_pay14 (F := Ideal) x = scaledTable x := ⟨rfl, rfl⟩

theorem plain_even (x : FVec Ideal S512x128 .f32) : k0_pay25 (F := Ideal) x = x ∧ k0_pay26 (F := Ideal) x = x := ⟨shapeCast_self x _, shapeCast_self x _⟩

theorem mask_even : k0_pay16 32#32 k0_pay15 = firstHalf ∧ k0_pay29 k0_pay27 k0_pay28 = firstHalf := ⟨rfl, rfl⟩

theorem query_even (x : FVec Ideal S512x512 .f32) (co si : FVec Ideal S512x128 .f32) : k0_pay17 (F := Ideal) x co si 32#32 k0_pay15 = turnTile (part0 x) co si
    ∧ k0_pay18 (F := Ideal) x co si 32#32 k0_pay15 = turnTile (part1 x) co si
    ∧ k0_pay22 (F := Ideal) (k0_pay20 x co) (k0_pay21 x si 32#32 k0_pay15) = turnTile (part2 x) co si
    ∧ k0_pay23 (F := Ideal) x co si firstHalf = turnTile (part3 x) co si :=
  ⟨rfl, rfl, rfl, rfl⟩

theorem key_even (x : FVec Ideal S512x512 .f32) (co si : FVec Ideal S512x128 .f32) : k0_pay30 (F := Ideal) x co si k0_pay27 k0_pay28 = turnTile (part0 x) co si
    ∧ k0_pay31 (F := Ideal) x co si k0_pay27 k0_pay28 = turnTile (part1 x) co si
    ∧ k0_pay32 (F := Ideal) x co si k0_pay27 k0_pay28 = turnTile (part2 x) co si
    ∧ k0_pay36 (F := Ideal) (k0_pay34 x co) (k0_pay35 x si k0_pay27 k0_pay28) = turnTile (part3 x) co si :=
  ⟨rfl, rfl, rfl, rfl⟩

theorem rest_even (P : FVec Ideal S512x1024 .f32) : k0_pay38 (F := Ideal) P = wide (leftHalf P)
    ∧ k0_pay39 (F := Ideal) P = shapeCast S1x512x512 (rightHalf P) shapeCasts_S512x512_S1x512x512
    ∧ k0_pay43 (F := Ideal) P = gateTile (rightHalf P) ∧ k0_pay45 (F := Ideal) P = gateTile (leftHalf P) ∧ k0_pay47 (F := Ideal) (k0_pay46 P) = gateTile (rightHalf P)
    ∧ k0_pay49 (F := Ideal) P = gateTile (leftHalf P) ∧ k0_pay51 (F := Ideal) (k0_pay50 P) = gateTile (rightHalf P)
    ∧ k0_pay52 (F := Ideal) P = gateTile (leftHalf P) ∧ k0_pay53 (F := Ideal) P = gateTile (rightHalf P) :=
  ⟨rfl, rfl, rfl, rfl, rfl, rfl, rfl, rfl, rfl⟩

theorem products_even (h : FVec Ideal S512x1024 .bf16) (w : Vec Ideal S1x1024x6656 .bf16) : k0_pay4 (F := Ideal) h (columns w 0) = prod h w 0
    ∧ k0_pay11 (F := Ideal) h (columns w 1) = prod h w 1 ∧ k0_pay37 (F := Ideal) h (columns w 2) = prod h w 2
    ∧ k0_pay40 (F := Ideal) h (columns w 3) = prod h w 3 ∧ k0_pay44 (F := Ideal) h (columns w 4) = prod h w 4
    ∧ k0_pay48 (F := Ideal) h (columns w 5) = prod h w 5 ∧ k0_pay42 (F := Ideal) (k0_pay41 h (columns w 2)) = unitTile (leftHalf (prod h w 2))
    ∧ k0_pay2 (F := Ideal) (k0_pay54 h (lastColumns w)) = gateTile (lastProd h w) :=
  ⟨rfl, rfl, rfl, rfl, rfl, rfl, rfl, rfl⟩

/-! ## At an odd point -/

theorem half_odd (P : FVec Ideal S512x1024 .f32) : k0_pay63 (F := Ideal) P = leftHalf P ∧ k0_pay75 (F := Ideal) P = rightHalf P := ⟨rfl, rfl⟩

theorem table_odd (x : FVec Ideal S512x128 .f32) : k0_pay64 (F := Ideal) x = scaledTable x ∧ k0_pay65 (F := Ideal) x = scaledTable x := ⟨rfl, rfl⟩

theorem plain_odd (x : FVec Ideal S512x128 .f32) : k0_pay76 (F := Ideal) x = x ∧ k0_pay77 (F := Ideal) x = x := ⟨shapeCast_self x _, shapeCast_self x _⟩

theorem mask_odd : k0_pay67 32#32 k0_pay66 = firstHalf ∧ k0_pay80 k0_pay78 k0_pay79 = firstHalf := ⟨rfl, rfl⟩

theorem query_odd (x : FVec Ideal S512x512 .f32) (co si : FVec Ideal S512x128 .f32) : k0_pay68 (F := Ideal) x co si 32#32 k0_pay66 = turnTile (part0 x) co si
    ∧ k0_pay69 (F := Ideal) x co si 32#32 k0_pay66 = turnTile (part1 x) co si
    ∧ k0_pay73 (F := Ideal) (k0_pay71 x co) (k0_pay72 x si 32#32 k0_pay66) = turnTile (part2 x) co si
    ∧ k0_pay74 (F := Ideal) x co si firstHalf = turnTile (part3 x) co si :=
  ⟨rfl, rfl, rfl, rfl⟩

theorem key_odd (x : FVec Ideal S512x512 .f32) (co si : FVec Ideal S512x128 .f32) : k0_pay81 (F := Ideal) x co si k0_pay78 k0_pay79 = turnTile (part0 x) co si
    ∧ k0_pay82 (F := Ideal) x co si k0_pay78 k0_pay79 = turnTile (part1 x) co si
    ∧ k0_pay83 (F := Ideal) x co si k0_pay78 k0_pay79 = turnTile (part2 x) co si
    ∧ k0_pay87 (F := Ideal) (k0_pay85 x co) (k0_pay86 x si k0_pay78 k0_pay79) = turnTile (part3 x) co si :=
  ⟨rfl, rfl, rfl, rfl⟩

theorem rest_odd (P : FVec Ideal S512x1024 .f32) : k0_pay89 (F := Ideal) P = wide (leftHalf P)
    ∧ k0_pay90 (F := Ideal) P = shapeCast S1x512x512 (rightHalf P) shapeCasts_S512x512_S1x512x512
    ∧ k0_pay94 (F := Ideal) P = gateTile (rightHalf P) ∧ k0_pay96 (F := Ideal) P = gateTile (leftHalf P) ∧ k0_pay98 (F := Ideal) (k0_pay97 P) = gateTile (rightHalf P)
    ∧ k0_pay100 (F := Ideal) P = gateTile (leftHalf P) ∧ k0_pay102 (F := Ideal) (k0_pay101 P) = gateTile (rightHalf P)
    ∧ k0_pay103 (F := Ideal) P = gateTile (leftHalf P) ∧ k0_pay104 (F := Ideal) P = gateTile (rightHalf P) :=
  ⟨rfl, rfl, rfl, rfl, rfl, rfl, rfl, rfl, rfl⟩

theorem products_odd (h : FVec Ideal S512x1024 .bf16) (w : Vec Ideal S1x1024x6656 .bf16) : k0_pay55 (F := Ideal) h (columns w 0) = prod h w 0
    ∧ k0_pay62 (F := Ideal) h (columns w 1) = prod h w 1 ∧ k0_pay88 (F := Ideal) h (columns w 2) = prod h w 2
    ∧ k0_pay91 (F := Ideal) h (columns w 3) = prod h w 3 ∧ k0_pay95 (F := Ideal) h (columns w 4) = prod h w 4
    ∧ k0_pay99 (F := Ideal) h (columns w 5) = prod h w 5 ∧ k0_pay93 (F := Ideal) (k0_pay92 h (columns w 2)) = unitTile (leftHalf (prod h w 2))
    ∧ k0_pay3 (F := Ideal) (k0_pay105 h (lastColumns w)) = gateTile (lastProd h w) :=
  ⟨rfl, rfl, rfl, rfl, rfl, rfl, rfl, rfl⟩

end Cert.Kernel3Ideal.Proj

end
-- ==== Proof.Proj.Block.lean ====
/- What a grid point leaves in its three output blocks and in the two buffers kept between points: the results of the rows
   normalised before, and the normalised rows of the next tile. -/
module

public import proofs.«01_k».proof.Proof.Proj.Names
public import proofs.«01_k».proof.Proof.Gen.Kernel3Ideal.Frame
public import Idealize.ShloMosaic.Lib.VecWindow

@[expose] public section

noncomputable section

namespace Cert.Kernel3Ideal.Proj

open Cert.Kernel3Ideal Cert.Kernel3Ideal.Gen Cert.Mlp Cert.Proj Idealize.ShloMosaic Idealize.ShloMosaic.ValueIdx
open Idealize.ShloMosaic.TcCoe

/-! ## What the body reads -/

/-- A row of the modulation table's block. -/
def row (x : Vec Ideal S1x8x1024 .f32) (b : Fin 8) : Vec Ideal S1x1x1024 .f32 := fun y => x (ix3 0 b (y 2))

theorem read_all {s : Shape} {e : EltTy} (arg : Memref sig .tc .vmem s e) (harg : arg.IsWhole) (x : Vec Ideal s e)
    {off : Fin s.rank → ℕ} (inb : ∀ a, off a + s.size a ≤ s.size a) :
    arg.view.readAt (Elt Ideal) (Rect.unit off s.size inb).toLoadRect (harg.unread x) = x := by
  rw [View.readAt_full, harg.read_unread]

theorem read_row (arg : Memref sig .tc .vmem S1x8x1024 .f32) (harg : arg.IsWhole) (x : Vec Ideal S1x8x1024 .f32) (b : Fin 8)
    {off : Fin 3 → ℕ} (h : off = ![0, b.val, 0]) (inb : ∀ a, off a + S1x1x1024.size a ≤ S1x8x1024.size a) :
    arg.view.readAt (Elt Ideal) (Rect.unit (s := S1x8x1024) off S1x1x1024.size inb).toLoadRect (harg.unread x) = row x b := by
  subst h
  funext y
  refine (View.ld_unit_apply_of _ _ _ _ _ (ix3 0 b (y 2)) (fun a => ?_)).trans (congrFun (harg.read_unread x) _)
  match a with
  | ⟨0, _⟩ => show 0 = 0 + (y 0).val; have : (y 0).val < 1 := (y 0).isLt; omega
  | ⟨1, _⟩ => show b.val = b.val + (y 1).val; have : (y 1).val < 1 := (y 1).isLt; omega
  | ⟨2, _⟩ => show (y 2).val = 0 + (y 2).val; omega

theorem read_columns (arg : Memref sig .tc .vmem S1x1024x6656 .bf16) (harg : arg.IsWhole) (x : Vec Ideal S1x1024x6656 .bf16) (j : Fin 6)
    {off : Fin 3 → ℕ} (h : off = ![0, 0, 1024 * j.val]) (inb : ∀ a, off a + S1x1024x1024.size a ≤ S1x1024x6656.size a) :
    arg.view.readAt (Elt Ideal) (Rect.unit (s := S1x1024x6656) off S1x1024x1024.size inb).toLoadRect (harg.unread x) = columns x j := by
  subst h
  funext y
  refine (View.ld_unit_apply_of _ _ _ _ _ (ix3 0 (y 1) ⟨1024 * j.val + (y 2).val, by have : (y 2).val < 1024 := (y 2).isLt; omega⟩) (fun a => ?_)).trans (congrFun (harg.read_unread x) _)
  match a with
  | ⟨0, _⟩ => show 0 = 0 + (y 0).val; have : (y 0).val < 1 := (y 0).isLt; omega
  | ⟨1, _⟩ => show (y 1).val = 0 + (y 1).val; omega
  | ⟨2, _⟩ => rfl

theorem read_last (arg : Memref sig .tc .vmem S1x1024x6656 .bf16) (harg : arg.IsWhole) (x : Vec Ideal S1x1024x6656 .bf16)
    (inb : ∀ a, (![0, 0, 6144] : Fin 3 → ℕ) a + S1x1024x512.size a ≤ S1x1024x6656.size a) :
    arg.view.readAt (Elt Ideal) (Rect.unit (s := S1x1024x6656) ![0, 0, 6144] S1x1024x512.size inb).toLoadRect (harg.unread x) = lastColumns x := by
  funext y
  refine (View.ld_unit_apply_of _ _ _ _ _ (ix3 0 (y 1) ⟨6144 + (y 2).val, by have : (y 2).val < 512 := (y 2).isLt; omega⟩) (fun a => ?_)).trans (congrFun (harg.read_unread x) _)
  match a with
  | ⟨0, _⟩ => show 0 = 0 + (y 0).val; have : (y 0).val < 1 := (y 0).isLt; omega
  | ⟨1, _⟩ => show (y 1).val = 0 + (y 1).val; omega
  | ⟨2, _⟩ => rfl

/-- A grid point is its one coordinate. -/
def single (a : Fin 64) : grid0.Coords := fun d => match d with | ⟨0, _⟩ => a

theorem coords_eq (i : grid0.Coords) : ∃ a, i = single a := ⟨i 0, funext fun d => match d with | ⟨0, _⟩ => rfl⟩

/-- The batch of a point's tile. -/
def here (i : grid0.Coords) : Fin 8 := ⟨(i 0).val / 16, by have : (i 0).val < 64 := (i 0).isLt; omega⟩

/-- The batch of the next point's tile; the last point's own for the last. -/
def after (i : grid0.Coords) : Fin 8 := ⟨min ((i 0).val + 1) 63 / 16, by omega⟩

theorem next_row (i : grid0.Coords) : k0_off1 i = ![0, (after i).val, 0] ∧ k0_off2 i = ![0, (after i).val, 0] := by
  obtain ⟨a, rfl⟩ := coords_eq i
  revert a
  decide +kernel

/-! ## What it stores -/

/-- The normalised rows of a tile. -/
def normTile (x : Vec Ideal S1x512x1024 .f32) (g : Vec Ideal S1x1x1024 .f32) (sh sc : Vec Ideal S1x8x1024 .f32) (b : Fin 8) :
    FVec Ideal S512x1024 .bf16 :=
  k0_pay1 (F := Ideal) x g (row sh b) (row sc b)

/-- Equal operands give equal tiles. -/
theorem norm_congr {X x : Vec Ideal S1x512x1024 .f32} {G g : Vec Ideal S1x1x1024 .f32} {SH SC : Vec Ideal S1x1x1024 .f32}
    {sh sc : Vec Ideal S1x8x1024 .f32} {b : Fin 8} (hx : X = x) (hg : G = g) (hsh : SH = row sh b) (hsc : SC = row sc b) :
    k0_pay1 X G SH SC = normTile x g sh sc b := by
  subst hx hg hsh hsc; rfl

/-- The pieces of the three results from the normalised rows `h`, the tables and the weights. -/
def qkvOf (h : FVec Ideal S512x1024 .bf16) (co si : Vec Ideal S512x128 .f32) (w : Vec Ideal S1x1024x6656 .bf16) := qkvPieces (prod h w 0) (prod h w 1) co si
def mixOf (h : FVec Ideal S512x1024 .bf16) (w : Vec Ideal S1x1024x6656 .bf16) := mixPieces (prod h w 1) (prod h w 2)
def gateOf (h : FVec Ideal S512x1024 .bf16) (w : Vec Ideal S1x1024x6656 .bf16) :=
  gatePieces (prod h w 2) (prod h w 3) (prod h w 4) (prod h w 5) (lastProd h w)

theorem qkvOf_apply (h : FVec Ideal S512x1024 .bf16) (co si : Vec Ideal S512x128 .f32) (w : Vec Ideal S1x1024x6656 .bf16) :
    ∀ pc ∈ qkvOf h co si w, ∀ x : pc.1.shape.Idx, pc.2 x = qkvBlock (rowLanes h w) co si (pc.1.emb x) :=
  qkv_pieces _ co si (fun r e => prod_apply h w 0 r e) (fun r e => prod_apply h w 1 r e)

theorem mixOf_apply (h : FVec Ideal S512x1024 .bf16) (w : Vec Ideal S1x1024x6656 .bf16) :
    ∀ pc ∈ mixOf h w, ∀ x : pc.1.shape.Idx, pc.2 x = mixBlock (rowLanes h w) (pc.1.emb x) :=
  mix_pieces _ (fun r e => prod_apply h w 1 r e) (fun r e => prod_apply h w 2 r e)

theorem gateOf_apply (h : FVec Ideal S512x1024 .bf16) (w : Vec Ideal S1x1024x6656 .bf16) :
    ∀ pc ∈ gateOf h w, ∀ x : pc.1.shape.Idx, pc.2 x = gateBlock (rowLanes h w) (pc.1.emb x) :=
  gate_pieces _ (fun r e => prod_apply h w 2 r e) (fun r e => prod_apply h w 3 r e) (fun r e => prod_apply h w 4 r e)
    (fun r e => prod_apply h w 5 r e) (fun r e => lastProd_apply h w r e)

section

variable (c : Dev nD) (i : grid0.Coords) (arg1 : Memref sig .tc .vmem S1x512x1024 .f32) (harg1 : arg1.IsWhole) (arg2 : Memref sig .tc .vmem S1x512x1024 .f32) (harg2 : arg2.IsWhole) (arg3 : Memref sig .tc .vmem S1x1x1024 .f32) (harg3 : arg3.IsWhole) (arg4 : Memref sig .tc .vmem S1x8x1024 .f32) (harg4 : arg4.IsWhole) (arg5 : Memref sig .tc .vmem S1x8x1024 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S1x1024x6656 .bf16) (harg8 : arg8.IsWhole) (arg9 : Memref sig .tc .vmem S1x512x1536 .bf16) (harg9 : arg9.IsWhole) (arg10 : Memref sig .tc .vmem S1x512x768 .f32) (harg10 : arg10.IsWhole) (arg11 : Memref sig .tc .vmem S1x512x4096 .bf16) (harg11 : arg11.IsWhole) (arg12 : Memref sig .tc .vmem S512x1024 .bf16) (harg12 : arg12.IsWhole) (arg13 : Memref sig .tc .vmem S512x1024 .bf16) (harg13 : arg13.IsWhole)
  (x0 : Vec Ideal S1x512x1024 .f32) (x1 : Vec Ideal S1x512x1024 .f32) (x2 : Vec Ideal S1x1x1024 .f32) (x3 : Vec Ideal S1x8x1024 .f32) (x4 : Vec Ideal S1x8x1024 .f32) (x5 : Vec Ideal S512x128 .f32) (x6 : Vec Ideal S512x128 .f32) (x7 : Vec Ideal S1x1024x6656 .bf16)

/-- The pieces the first point stores. -/
theorem pieces_A (hc0 : cond0_0 i) (hc1 : cond0_1 i) (hc2 : ¬cond0_2 i) :
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7).1 = qkvOf (normTile x0 x2 x3 x4 0) x5 x6 x7
    ∧ (kernelRun0_A (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7).2.1 = mixOf (normTile x0 x2 x3 x4 0) x7
    ∧ (kernelRun0_A (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7).2.2.1 = gateOf (normTile x0 x2 x3 x4 0) x7 := by
  have hr : kernelRun0_A.sl.v29 (F := Ideal) c arg1 harg1 arg3 harg3 arg4 harg4 arg5 harg5 arg12 x0 x2 x3 x4 = normTile x0 x2 x3 x4 0 := by
    delta kernelRun0_A.sl.v29 kernelRun0_A.sl.HS0_1
    refine (View.readCov_full _ _ _ _ _).trans ?_
    exact norm_congr (read_all arg1 harg1 x0 _) (read_all arg3 harg3 x2 _) (read_row (off := ![0, 0, 0]) arg4 harg4 x3 0 rfl _)
      (read_row (off := ![0, 0, 0]) arg5 harg5 x4 0 rfl _)
  have c0 := read_columns (off := ![0, 0, 0]) arg8 harg8 x7 0 rfl inb_S1x1024x6656_S1x1024x1024_0_0_0
  have c1 := read_columns (off := ![0, 0, 1024]) arg8 harg8 x7 1 rfl inb_S1x1024x6656_S1x1024x1024_0_0_1024
  have c2 := read_columns (off := ![0, 0, 2048]) arg8 harg8 x7 2 rfl inb_S1x1024x6656_S1x1024x1024_0_0_2048
  have c3 := read_columns (off := ![0, 0, 3072]) arg8 harg8 x7 3 rfl inb_S1x1024x6656_S1x1024x1024_0_0_3072
  have c4 := read_columns (off := ![0, 0, 4096]) arg8 harg8 x7 4 rfl inb_S1x1024x6656_S1x1024x1024_0_0_4096
  have c5 := read_columns (off := ![0, 0, 5120]) arg8 harg8 x7 5 rfl inb_S1x1024x6656_S1x1024x1024_0_0_5120
  have c6 := read_last arg8 harg8 x7 inb_S1x1024x6656_S1x1024x512_0_0_6144
  have t5 := read_all arg6 harg6 x5 inb_S512x128_S512x128_0_0
  have t6 := read_all arg7 harg7 x6 inb_S512x128_S512x128_0_0
  delta kernelRun0_A kernelRun0_A.sl.r_11 kernelRun0_A.sl.r_12 kernelRun0_A.sl.r_16 kernelRun0_A.sl.r_17 kernelRun0_A.sl.r_7 kernelRun0_A.sl.r_13 kernelRun0_A.sl.r_22 kernelRun0_A.sl.r_24 kernelRun0_A.sl.r_20 kernelRun0_A.sl.r_18 kernelRun0_A.sl.r_19 kernelRun0_A.sl.r_21 kernelRun0_A.sl.r_23 kernelRun0_A.sl.r_25 kernelRun0_A.sl.r_6 kernelRun0_A.sl.r_8 kernelRun0_A.sl.r_9 kernelRun0_A.sl.r_14 kernelRun0_A.sl.r_15 kernelRun0_A.sl.r_10 kernelRun0_A.sl.r
  dsimp only
  simp only [hr, c0, c1, c2, c3, c4, c5, c6, t5, t6, half_even, table_even, plain_even, mask_even, query_even, key_even, rest_even, products_even]
  exact ⟨rfl, rfl, rfl⟩

theorem qkv_A (hc0 : cond0_0 i) (hc1 : cond0_1 i) (hc2 : ¬cond0_2 i) (y : S1x512x1536.Idx) :
    out0_A_8 (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 y = qkvBlock (rowLanes (normTile x0 x2 x3 x4 0) x7) x5 x6 y := by
  unfold out0_A_8
  rw [View.read_writes_junk_eq_canon]
  refine View.canon_apply_of_pieces (S := S1x512x1536) (Val := Elt Ideal) (e := .bf16) (qkvBlock (rowLanes (normTile x0 x2 x3 x4 0) x7) x5 x6) _ ?_ y
    (cover0_A_8 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 y)
  rw [(pieces_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 hc0 hc1 hc2).1]
  exact qkvOf_apply (normTile x0 x2 x3 x4 0) x5 x6 x7

theorem mix_A (hc0 : cond0_0 i) (hc1 : cond0_1 i) (hc2 : ¬cond0_2 i) (y : S1x512x768.Idx) :
    out0_A_9 (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 y = mixBlock (rowLanes (normTile x0 x2 x3 x4 0) x7) y := by
  unfold out0_A_9
  rw [View.read_writes_junk_eq_canon]
  refine View.canon_apply_of_pieces (S := S1x512x768) (Val := Elt Ideal) (e := .f32) (mixBlock (rowLanes (normTile x0 x2 x3 x4 0) x7)) _ ?_ y
    (cover0_A_9 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 y)
  rw [(pieces_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 hc0 hc1 hc2).2.1]
  exact mixOf_apply (normTile x0 x2 x3 x4 0) x7

theorem gate_A (hc0 : cond0_0 i) (hc1 : cond0_1 i) (hc2 : ¬cond0_2 i) (y : S1x512x4096.Idx) :
    out0_A_10 (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 y = gateBlock (rowLanes (normTile x0 x2 x3 x4 0) x7) y := by
  unfold out0_A_10
  rw [View.read_writes_junk_eq_canon]
  refine View.canon_apply_of_pieces (S := S1x512x4096) (Val := Elt Ideal) (e := .bf16) (gateBlock (rowLanes (normTile x0 x2 x3 x4 0) x7)) _ ?_ y
    (cover0_A_10 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 y)
  rw [(pieces_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 hc0 hc1 hc2).2.2]
  exact gateOf_apply (normTile x0 x2 x3 x4 0) x7

/-- The buffer the first point fills for the next. -/
theorem next_A (hc0 : cond0_0 i) (hc1 : cond0_1 i) (hc2 : ¬cond0_2 i) :
    sout0_A_1 (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 = normTile x1 x2 x3 x4 (after i) := by
  refine (View.read_writes_full _ _ _ _ _).trans ?_
  delta kernelRun0_A.sl.r_1 kernelRun0_A.sl.r_2 kernelRun0_A.sl.r_3 kernelRun0_A.sl.r_4 kernelRun0_A.sl.r_5
  exact norm_congr (read_all arg2 harg2 x1 _) (read_all arg3 harg3 x2 _) (read_row arg4 harg4 x3 (after i) (next_row i).1 _)
    (read_row arg5 harg5 x4 (after i) (next_row i).1 _)

/-- The pieces an odd point stores. -/
theorem pieces_B (hc0 : ¬cond0_0 i) (hc1 : ¬cond0_1 i) (hc2 : cond0_2 i) (h : Vec Ideal S512x1024 .bf16) :
    (kernelRun0_B (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 h).1 = qkvOf h x5 x6 x7
    ∧ (kernelRun0_B (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 h).2.1 = mixOf h x7
    ∧ (kernelRun0_B (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 h).2.2.1 = gateOf h x7 := by
  have hr := read_all arg13 harg13 h inb_S512x1024_S512x1024_0_0
  have c0 := read_columns (off := ![0, 0, 0]) arg8 harg8 x7 0 rfl inb_S1x1024x6656_S1x1024x1024_0_0_0
  have c1 := read_columns (off := ![0, 0, 1024]) arg8 harg8 x7 1 rfl inb_S1x1024x6656_S1x1024x1024_0_0_1024
  have c2 := read_columns (off := ![0, 0, 2048]) arg8 harg8 x7 2 rfl inb_S1x1024x6656_S1x1024x1024_0_0_2048
  have c3 := read_columns (off := ![0, 0, 3072]) arg8 harg8 x7 3 rfl inb_S1x1024x6656_S1x1024x1024_0_0_3072
  have c4 := read_columns (off := ![0, 0, 4096]) arg8 harg8 x7 4 rfl inb_S1x1024x6656_S1x1024x1024_0_0_4096
  have c5 := read_columns (off := ![0, 0, 5120]) arg8 harg8 x7 5 rfl inb_S1x1024x6656_S1x1024x1024_0_0_5120
  have c6 := read_last arg8 harg8 x7 inb_S1x1024x6656_S1x1024x512_0_0_6144
  have t5 := read_all arg6 harg6 x5 inb_S512x128_S512x128_0_0
  have t6 := read_all arg7 harg7 x6 inb_S512x128_S512x128_0_0
  delta kernelRun0_B kernelRun0_B.sl.r_11 kernelRun0_B.sl.r_12 kernelRun0_B.sl.r_16 kernelRun0_B.sl.r_17 kernelRun0_B.sl.r_7 kernelRun0_B.sl.r_13 kernelRun0_B.sl.r_22 kernelRun0_B.sl.r_24 kernelRun0_B.sl.r_20 kernelRun0_B.sl.r_18 kernelRun0_B.sl.r_19 kernelRun0_B.sl.r_21 kernelRun0_B.sl.r_23 kernelRun0_B.sl.r_25 kernelRun0_B.sl.r_6 kernelRun0_B.sl.r_8 kernelRun0_B.sl.r_9 kernelRun0_B.sl.r_14 kernelRun0_B.sl.r_15 kernelRun0_B.sl.r_10 kernelRun0_B.sl.r
  dsimp only
  simp only [hr, c0, c1, c2, c3, c4, c5, c6, t5, t6, half_odd, table_odd, plain_odd, mask_odd, query_odd, key_odd, rest_odd, products_odd]
  exact ⟨rfl, rfl, rfl⟩

theorem qkv_B (hc0 : ¬cond0_0 i) (hc1 : ¬cond0_1 i) (hc2 : cond0_2 i) (h : Vec Ideal S512x1024 .bf16) (y : S1x512x1536.Idx) :
    out0_B_8 (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 h y = qkvBlock (rowLanes h x7) x5 x6 y := by
  unfold out0_B_8
  rw [View.read_writes_junk_eq_canon]
  refine View.canon_apply_of_pieces (S := S1x512x1536) (Val := Elt Ideal) (e := .bf16) (qkvBlock (rowLanes h x7) x5 x6) _ ?_ y
    (cover0_B_8 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 h y)
  rw [(pieces_B c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 hc0 hc1 hc2 h).1]
  exact qkvOf_apply h x5 x6 x7

theorem mix_B (hc0 : ¬cond0_0 i) (hc1 : ¬cond0_1 i) (hc2 : cond0_2 i) (h : Vec Ideal S512x1024 .bf16) (y : S1x512x768.Idx) :
    out0_B_9 (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 h y = mixBlock (rowLanes h x7) y := by
  unfold out0_B_9
  rw [View.read_writes_junk_eq_canon]
  refine View.canon_apply_of_pieces (S := S1x512x768) (Val := Elt Ideal) (e := .f32) (mixBlock (rowLanes h x7)) _ ?_ y
    (cover0_B_9 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 h y)
  rw [(pieces_B c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 hc0 hc1 hc2 h).2.1]
  exact mixOf_apply h x7

theorem gate_B (hc0 : ¬cond0_0 i) (hc1 : ¬cond0_1 i) (hc2 : cond0_2 i) (h : Vec Ideal S512x1024 .bf16) (y : S1x512x4096.Idx) :
    out0_B_10 (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 h y = gateBlock (rowLanes h x7) y := by
  unfold out0_B_10
  rw [View.read_writes_junk_eq_canon]
  refine View.canon_apply_of_pieces (S := S1x512x4096) (Val := Elt Ideal) (e := .bf16) (gateBlock (rowLanes h x7)) _ ?_ y
    (cover0_B_10 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 h y)
  rw [(pieces_B c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 hc0 hc1 hc2 h).2.2]
  exact gateOf_apply h x7

/-- The buffer an odd point fills for the next. -/
theorem next_B (hc0 : ¬cond0_0 i) (hc1 : ¬cond0_1 i) (hc2 : cond0_2 i) (h : Vec Ideal S512x1024 .bf16) :
    sout0_B_0 (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 h = normTile x1 x2 x3 x4 (after i) := by
  refine (View.read_writes_full _ _ _ _ _).trans ?_
  delta kernelRun0_B.sl.r_1 kernelRun0_B.sl.r_2 kernelRun0_B.sl.r_3 kernelRun0_B.sl.r_4 kernelRun0_B.sl.r_5
  exact norm_congr (read_all arg2 harg2 x1 _) (read_all arg3 harg3 x2 _) (read_row arg4 harg4 x3 (after i) (next_row i).2 _)
    (read_row arg5 harg5 x4 (after i) (next_row i).2 _)

/-- The pieces a later even point stores. -/
theorem pieces_C (hc0 : ¬cond0_0 i) (hc1 : cond0_1 i) (hc2 : ¬cond0_2 i) (h : Vec Ideal S512x1024 .bf16) :
    (kernelRun0_C (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 h).1 = qkvOf h x5 x6 x7
    ∧ (kernelRun0_C (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 h).2.1 = mixOf h x7
    ∧ (kernelRun0_C (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 h).2.2.1 = gateOf h x7 := by
  have hr := read_all arg12 harg12 h inb_S512x1024_S512x1024_0_0
  have c0 := read_columns (off := ![0, 0, 0]) arg8 harg8 x7 0 rfl inb_S1x1024x6656_S1x1024x1024_0_0_0
  have c1 := read_columns (off := ![0, 0, 1024]) arg8 harg8 x7 1 rfl inb_S1x1024x6656_S1x1024x1024_0_0_1024
  have c2 := read_columns (off := ![0, 0, 2048]) arg8 harg8 x7 2 rfl inb_S1x1024x6656_S1x1024x1024_0_0_2048
  have c3 := read_columns (off := ![0, 0, 3072]) arg8 harg8 x7 3 rfl inb_S1x1024x6656_S1x1024x1024_0_0_3072
  have c4 := read_columns (off := ![0, 0, 4096]) arg8 harg8 x7 4 rfl inb_S1x1024x6656_S1x1024x1024_0_0_4096
  have c5 := read_columns (off := ![0, 0, 5120]) arg8 harg8 x7 5 rfl inb_S1x1024x6656_S1x1024x1024_0_0_5120
  have c6 := read_last arg8 harg8 x7 inb_S1x1024x6656_S1x1024x512_0_0_6144
  have t5 := read_all arg6 harg6 x5 inb_S512x128_S512x128_0_0
  have t6 := read_all arg7 harg7 x6 inb_S512x128_S512x128_0_0
  delta kernelRun0_C kernelRun0_C.sl.r_11 kernelRun0_C.sl.r_12 kernelRun0_C.sl.r_16 kernelRun0_C.sl.r_17 kernelRun0_C.sl.r_7 kernelRun0_C.sl.r_13 kernelRun0_C.sl.r_22 kernelRun0_C.sl.r_24 kernelRun0_C.sl.r_20 kernelRun0_C.sl.r_18 kernelRun0_C.sl.r_19 kernelRun0_C.sl.r_21 kernelRun0_C.sl.r_23 kernelRun0_C.sl.r_25 kernelRun0_C.sl.r_6 kernelRun0_C.sl.r_8 kernelRun0_C.sl.r_9 kernelRun0_C.sl.r_14 kernelRun0_C.sl.r_15 kernelRun0_C.sl.r_10 kernelRun0_C.sl.r
  dsimp only
  simp only [hr, c0, c1, c2, c3, c4, c5, c6, t5, t6, half_even, table_even, plain_even, mask_even, query_even, key_even, rest_even, products_even]
  exact ⟨rfl, rfl, rfl⟩

theorem qkv_C (hc0 : ¬cond0_0 i) (hc1 : cond0_1 i) (hc2 : ¬cond0_2 i) (h : Vec Ideal S512x1024 .bf16) (y : S1x512x1536.Idx) :
    out0_C_8 (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 h y = qkvBlock (rowLanes h x7) x5 x6 y := by
  unfold out0_C_8
  rw [View.read_writes_junk_eq_canon]
  refine View.canon_apply_of_pieces (S := S1x512x1536) (Val := Elt Ideal) (e := .bf16) (qkvBlock (rowLanes h x7) x5 x6) _ ?_ y
    (cover0_C_8 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 h y)
  rw [(pieces_C c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 hc0 hc1 hc2 h).1]
  exact qkvOf_apply h x5 x6 x7

theorem mix_C (hc0 : ¬cond0_0 i) (hc1 : cond0_1 i) (hc2 : ¬cond0_2 i) (h : Vec Ideal S512x1024 .bf16) (y : S1x512x768.Idx) :
    out0_C_9 (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 h y = mixBlock (rowLanes h x7) y := by
  unfold out0_C_9
  rw [View.read_writes_junk_eq_canon]
  refine View.canon_apply_of_pieces (S := S1x512x768) (Val := Elt Ideal) (e := .f32) (mixBlock (rowLanes h x7)) _ ?_ y
    (cover0_C_9 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 h y)
  rw [(pieces_C c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 hc0 hc1 hc2 h).2.1]
  exact mixOf_apply h x7

theorem gate_C (hc0 : ¬cond0_0 i) (hc1 : cond0_1 i) (hc2 : ¬cond0_2 i) (h : Vec Ideal S512x1024 .bf16) (y : S1x512x4096.Idx) :
    out0_C_10 (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 h y = gateBlock (rowLanes h x7) y := by
  unfold out0_C_10
  rw [View.read_writes_junk_eq_canon]
  refine View.canon_apply_of_pieces (S := S1x512x4096) (Val := Elt Ideal) (e := .bf16) (gateBlock (rowLanes h x7)) _ ?_ y
    (cover0_C_10 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 h y)
  rw [(pieces_C c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 hc0 hc1 hc2 h).2.2]
  exact gateOf_apply h x7

/-- The buffer a later even point fills for the next. -/
theorem next_C (hc0 : ¬cond0_0 i) (hc1 : cond0_1 i) (hc2 : ¬cond0_2 i) (h : Vec Ideal S512x1024 .bf16) :
    sout0_C_1 (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 h = normTile x1 x2 x3 x4 (after i) := by
  refine (View.read_writes_full _ _ _ _ _).trans ?_
  delta kernelRun0_C.sl.r_1 kernelRun0_C.sl.r_2 kernelRun0_C.sl.r_3 kernelRun0_C.sl.r_4 kernelRun0_C.sl.r_5
  exact norm_congr (read_all arg2 harg2 x1 _) (read_all arg3 harg3 x2 _) (read_row arg4 harg4 x3 (after i) (next_row i).1 _)
    (read_row arg5 harg5 x4 (after i) (next_row i).1 _)

end

end Cert.Kernel3Ideal.Proj

end
-- ==== Proof.Proj.Run.lean ====
/- The input projection kernel's run: its three result arrays, block by block, and its arguments unchanged. -/
module

public import proofs.«01_k».proof.Proof.Gen.Kernel3Ideal.Frame
public import Idealize.ShloMosaic.Lib.Pipeline.Value
public import Idealize.ShloMosaic.PureOps.Ideal.Laws

@[expose] public section

noncomputable section

namespace Cert.Kernel3Ideal.Proj

open Cert.Kernel3Ideal Cert.Kernel3Ideal.Gen Idealize.ShloMosaic
open Idealize.ShloMosaic.TcCoe Idealize.SL.Sem

variable (m : (ℓ : Loc nD τ sig) → Buf (Elt Ideal) ℓ)

/-- No two points write the same block of a result. -/
theorem separate (t t' : Fin cfg0.N) : (win0_8.index t = win0_8.index t' → t = t') ∧ (win0_9.index t = win0_9.index t' → t = t')
    ∧ (win0_10.index t = win0_10.index t' → t = t') :=
  (by decide +kernel : ∀ t t' : Fin grid0.N, (win0_8.index t = win0_8.index t' → t = t') ∧ (win0_9.index t = win0_9.index t' → t = t')
    ∧ (win0_10.index t = win0_10.index t' → t = t')) t t'

/-- A point's block of each final array is what that point left. -/
theorem stored_qkv (c : Dev nD) (t : Fin cfg0.N) :
    ((cfg0.win 8).blk t).view.read (Elt Ideal) ((dats m 0 c).arrAt 8 cfg0.N)
      = (cfg0.win 8).cut (grid0.coords t) (outsAt0 m c t.val t.isLt).1 := by
  refine ((dats m 0 c).read_blk_arrAt_eq_flushed 8 (fun t t' _ _ hne => (cfg0.win 8).disjoint_blk fun h => hne ((separate t t').1 h))
    cfg0.N t t.isLt (flush0_8 t)).trans ?_
  show (cfg0.win 8).cut (grid0.coords t) ((dats m 0 c).after 8 t) = _
  rw [after0_8]

theorem stored_mix (c : Dev nD) (t : Fin cfg0.N) :
    ((cfg0.win 9).blk t).view.read (Elt Ideal) ((dats m 0 c).arrAt 9 cfg0.N)
      = (cfg0.win 9).cut (grid0.coords t) (outsAt0 m c t.val t.isLt).2.1 := by
  refine ((dats m 0 c).read_blk_arrAt_eq_flushed 9 (fun t t' _ _ hne => (cfg0.win 9).disjoint_blk fun h => hne ((separate t t').2.1 h))
    cfg0.N t t.isLt (flush0_9 t)).trans ?_
  show (cfg0.win 9).cut (grid0.coords t) ((dats m 0 c).after 9 t) = _
  rw [after0_9]

theorem stored_gate (c : Dev nD) (t : Fin cfg0.N) :
    ((cfg0.win 10).blk t).view.read (Elt Ideal) ((dats m 0 c).arrAt 10 cfg0.N)
      = (cfg0.win 10).cut (grid0.coords t) (outsAt0 m c t.val t.isLt).2.2.1 := by
  refine ((dats m 0 c).read_blk_arrAt_eq_flushed 10 (fun t t' _ _ hne => (cfg0.win 10).disjoint_blk fun h => hne ((separate t t').2.2 h))
    cfg0.N t t.isLt (flush0_10 t)).trans ?_
  show (cfg0.win 10).cut (grid0.coords t) ((dats m 0 c).after 10 t) = _
  rw [after0_10]

/-- The run ends with those arrays as its results and the arguments as they were. -/
theorem run (ρ) : θ_run defs (onTc (τ := τ) (main (F := Ideal))) ⟨m, fun _ => 0, ρ⟩ fun r => ∀ c : Dev nD,
      r.2.mem ((c : Thread nD τ).loc main_v42_0) = (dats m 0 c).arrAt 8 cfg0.N
      ∧ r.2.mem ((c : Thread nD τ).loc main_v42_1) = (dats m 0 c).arrAt 9 cfg0.N
      ∧ r.2.mem ((c : Thread nD τ).loc main_v42_2) = (dats m 0 c).arrAt 10 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h.1 c).1 8, (h.1 c).1 9, (h.1 c).1 10, h.2 c⟩) (θ_run_and (run_main m ρ) (unchanged m ρ))

end Cert.Kernel3Ideal.Proj

end
-- ==== Proof.Proj.Angle.lean ====
/- The angle each query and key lane is turned by at each position: the position's grid row or its grid column, by turns of
   thirty-two lanes, times the frequency of the lane; and with it the layer's three results at an index. -/
module

public import proofs.«01_k».proof.Proof.Proj.Row
public import proofs.«01_k».proof.Proof.Gen.Reference3Ideal.Read

@[expose] public section

noncomputable section

namespace Cert.Proj

open Idealize.ShloMosaic Idealize.ShloMosaic.ValueIdx

/-- The grid row and the grid column of each position, and the sixteen frequencies. -/
def gridRow : FVec Ideal Cert.Reference3Ideal.S8192 .f32 := Cert.Reference3Ideal.Read.val_main_v42 (F := Ideal)
def gridCol : FVec Ideal Cert.Reference3Ideal.S8192 .f32 := Cert.Reference3Ideal.Read.val_main_v44 (F := Ideal)
def frequency : FVec Ideal Cert.Reference3Ideal.S16 .f32 := Cert.Reference3Ideal.Read.val_main_v40 (F := Ideal)

/-- The angle along an axis of the grid, and its cosine and sine. -/
def angle (n : Fin 8192) (axis : Fin 2) (j : Fin 16) : EReal :=
  (if axis.val = 0 then (gridRow (ix1 n) : EReal) else gridCol (ix1 n)) * (frequency (ix1 j) : EReal)

def cosine (n : Fin 8192) (axis : Fin 2) (j : Fin 16) : EReal := FloatOps.hostUnary (F := Ideal) (φ := .f32) .cos (angle n axis j)
def sine (n : Fin 8192) (axis : Fin 2) (j : Fin 16) : EReal := FloatOps.hostUnary (F := Ideal) (φ := .f32) .sin (angle n axis j)

/-- The axis and the frequency of a lane. -/
def axisOf (l : ℕ) : Fin 2 := ⟨l / 32 % 2, Nat.mod_lt _ (by decide)⟩
def freqOf (l : ℕ) : Fin 16 := ⟨l % 16, Nat.mod_lt _ (by decide)⟩

/-- The two tables: the cosine of a lane's angle, and its sine, negated in the first half of each thirty-two lanes. -/
def cosAt (n : Fin 8192) (l : Fin 128) : EReal := cosine n (axisOf l.val) (freqOf l.val)
def sinAt (n : Fin 8192) (l : Fin 128) : EReal :=
  if l.val % 32 < 16 then -sine n (axisOf l.val) (freqOf l.val) else sine n (axisOf l.val) (freqOf l.val)

/-! ## The layer -/

section

open Cert.Reference3Ideal Cert.Mlp

variable (x : S4x8192x1024.Idx → EReal) (g : S4x1024.Idx → EReal) (ada : S4x8x6144.Idx → EReal) (w : S4x1024x6656.Idx → EReal)
  (b : Fin 4) (n : Fin 8192)

/-- The normalised and modulated row of a batch at a position. -/
def normalRow : Fin 1024 → EReal :=
  modulated (fun d => x (ix3 b n d)) (fun d => g (ix2 0 d)) (fun d => ada (ix3 0 ⟨b.val, by omega⟩ ⟨d.val, by omega⟩))
    (fun d => ada (ix3 0 ⟨b.val, by omega⟩ ⟨1024 + d.val, by omega⟩))

/-- The lanes of its product with the weights. -/
def product : ℕ → EReal := lanes (normalRow x g ada b n) (fun d k => w (ix3 0 d k))

/-- The three results at a batch, a position and a lane. -/
def qkvAt (e : ℕ) : EReal := qkv (product x g ada w b n) (cosAt n) (sinAt n) e
def mixAt (e : ℕ) : EReal := mix (product x g ada w b n) e
def gateAt (e : ℕ) : EReal := gate (product x g ada w b n) e

end

end Cert.Proj

end
-- ==== Proof.Proj.Table.lean ====
/- The two tables the host hands the kernel: at a position and a lane, the cosine and the signed sine of the lane's angle. -/
module

public import proofs.«01_k».proof.Proof.Proj.Angle
public import proofs.«01_k».proof.Proof.Gen.Kernel3Ideal.Frame
public import Idealize.ShloMosaic.Lib.Claim
public import Idealize.ShloMosaic.Lib.StableHlo.RunRead
public import Idealize.ShloMosaic.Lib.ValueIdx
public import Idealize.ShloMosaic.Lib.ValueLayout
public import Idealize.ShloMosaic.Lib.Pipeline.Value
public import Idealize.ShloMosaic.PureOps.Ideal.Laws

@[expose] public section

noncomputable section

namespace Cert.Kernel3Ideal.Proj

open Cert.Kernel3Ideal Cert.Kernel3Ideal.Gen Cert.Proj Idealize.ShloMosaic Idealize.ShloMosaic.ValueIdx
open Idealize.ShloMosaic.TcCoe

/-- Every position times every frequency. -/
def outer (p : FVec Ideal S8192 .f32) (q : FVec Ideal S16 .f32) : FVec Ideal S8192x16 .f32 :=
  mulf (broadcastInDim S8192x16 ![0, 1] bcast_S8192x1_S8192x16_0_1 (broadcastInDim S8192x1 ![0] bcast_S8192_S8192x1_0 p))
    (broadcastInDim S8192x16 ![0, 1] bcast_S1x16_S8192x16_0_1 (broadcastInDim S1x16 ![1] bcast_S16_S1x16_1 q))

/-- Four tables side by side. -/
def four (x y z w : FVec Ideal S8192x16 .f32) : FVec Ideal S8192x64 .f32 :=
  concatenate S8192x64 1 [⟨S8192x16, x⟩, ⟨S8192x16, y⟩, ⟨S8192x16, z⟩, ⟨S8192x16, w⟩]
    concatenates_S8192x16_S8192x16_S8192x16_S8192x16_S8192x64_d1

/-- A table twice, side by side. -/
def twice (x : FVec Ideal S8192x64 .f32) : FVec Ideal S8192x128 .f32 :=
  shapeCast S8192x128
    (broadcastInDim S1x8192x2x64 ![0, 1, 2, 3] bcast_S1x8192x1x64_S1x8192x2x64_0_1_2_3 (shapeCast S1x8192x1x64 x shapeCasts_S8192x64_S1x8192x1x64))
    shapeCasts_S1x8192x2x64_S8192x128

variable (m : (ℓ : Loc nD τ sig) → Buf (Elt Ideal) ℓ) (c : Dev nD)

/-- What the host's last operations leave in the first table, over what the earlier ones left of rows and columns. -/
theorem last_cos (σ : (b : DevRef τ sig) → b.ty.Contents (Elt Ideal)) : StableHlo.after hostOps0_4 σ main_v35
    = twice (four (Host.cos (outer (σ main_v2) frequency)) (Host.cos (outer (σ main_v2) frequency))
        (Host.cos (outer (sitofp .f32 (σ main_v3)) frequency)) (Host.cos (outer (sitofp .f32 (σ main_v3)) frequency))) := by
  simp only [hostOps0_4]
  after_reads_simp
  rfl

set_option maxHeartbeats 1000000 in
/-- And in the second. -/
theorem last_sin (σ : (b : DevRef τ sig) → b.ty.Contents (Elt Ideal)) : StableHlo.after hostOps0_4 σ main_v38
    = twice (four (Host.negf (Host.sin (outer (σ main_v2) frequency))) (Host.sin (outer (σ main_v2) frequency))
        (Host.negf (Host.sin (outer (sitofp .f32 (σ main_v3)) frequency))) (Host.sin (outer (sitofp .f32 (σ main_v3)) frequency))) := by
  simp only [hostOps0_4]
  after_reads_simp
  rfl

/-- What the earlier operations leave. -/
def early : (b : DevRef τ sig) → b.ty.Contents (Elt Ideal) :=
  StableHlo.after [hostOps0, hostOps0_1, hostOps0_2, hostOps0_3].flatten (fun b => m (c, b))

theorem early_row : early m c main_v2 = gridRow := rfl

theorem V_col : V m c main_v4 = gridCol := by
  entry_read
  rfl

theorem last_col (σ : (b : DevRef τ sig) → b.ty.Contents (Elt Ideal)) :
    StableHlo.after hostOps0_4 σ main_v4 = sitofp (F := Ideal) .f32 (σ main_v3) := by
  simp only [hostOps0_4]
  after_reads_simp

theorem early_col : sitofp (F := Ideal) .f32 (early m c main_v3) = gridCol :=
  (last_col (early m c)).symm.trans (V_col m c)

theorem V_cos : V m c main_v35
    = twice (four (Host.cos (outer gridRow frequency)) (Host.cos (outer gridRow frequency)) (Host.cos (outer gridCol frequency))
        (Host.cos (outer gridCol frequency))) := by
  have e := last_cos (early m c)
  rw [early_row, early_col] at e
  exact e

theorem V_sin : V m c main_v38
    = twice (four (Host.negf (Host.sin (outer gridRow frequency))) (Host.sin (outer gridRow frequency))
        (Host.negf (Host.sin (outer gridCol frequency))) (Host.sin (outer gridCol frequency))) := by
  have e := last_sin (early m c)
  rw [early_row, early_col] at e
  exact e

/-! ## The tables at a position and a lane -/

theorem outer_apply (p : FVec Ideal S8192 .f32) (q : FVec Ideal S16 .f32) (n : Fin 8192) (j : Fin 16) :
    (outer p q (ix2 n j) : EReal) = (p (ix1 n) : EReal) * (q (ix1 j) : EReal) := by
  refine congrArg₂ (· * ·) ?_ ?_
  · refine (broadcastInDim_apply _ _ _ _ (ix2 n 0) fun a => ?_).trans (broadcastInDim_apply _ _ _ _ (ix1 n) fun a => ?_)
    · match a with
      | ⟨0, _⟩ => rfl
      | ⟨1, _⟩ => rfl
    · match a with
      | ⟨0, _⟩ => rfl
  · refine (broadcastInDim_apply _ _ _ _ (ix2 0 j) fun a => ?_).trans (broadcastInDim_apply _ _ _ _ (ix1 j) fun a => ?_)
    · match a with
      | ⟨0, _⟩ => rfl
      | ⟨1, _⟩ => rfl
    · match a with
      | ⟨0, _⟩ => rfl

theorem twice_apply (x : FVec Ideal S8192x64 .f32) (n : Fin 8192) (l : Fin 128) :
    twice x (ix2 n l) = x (ix2 n ⟨l.val % 64, Nat.mod_lt _ (by decide)⟩) := by
  refine (shapeCast_apply _ _ _ (ix4 0 n ⟨l.val / 64, by omega⟩ ⟨l.val % 64, Nat.mod_lt _ (by decide)⟩) ?_).trans
    ((broadcastInDim_apply _ _ _ _ (ix4 0 n 0 ⟨l.val % 64, Nat.mod_lt _ (by decide)⟩) fun a => ?_).trans (shapeCast_apply _ _ _ _ ?_))
  · rw [Shape.rowMajor_val_four, Shape.rowMajor_val_two]
    show ((0 * 8192 + n.val) * 2 + l.val / 64) * 64 + l.val % 64 = n.val * 128 + l.val
    omega
  · match a with
    | ⟨0, _⟩ => rfl
    | ⟨1, _⟩ => rfl
    | ⟨2, _⟩ => rfl
    | ⟨3, _⟩ => rfl
  · rw [Shape.rowMajor_val_four, Shape.rowMajor_val_two]
    show n.val * 64 + l.val % 64 = ((0 * 8192 + n.val) * 1 + 0) * 64 + l.val % 64
    omega

/-- The four tables side by side, read a quarter at a time. -/
theorem four_apply (t : Fin 4 → FVec Ideal S8192x16 .f32) (n : Fin 8192) (l : Fin 64) :
    four (t 0) (t 1) (t 2) (t 3) (ix2 n l) = t ⟨l.val / 16, by omega⟩ (ix2 n ⟨l.val % 16, Nat.mod_lt _ (by decide)⟩) := by
  have key : ∀ k : Fin 4, l.val / 16 = k.val →
      four (t 0) (t 1) (t 2) (t 3) (ix2 n l) = t k (ix2 n ⟨l.val % 16, Nat.mod_lt _ (by decide)⟩) := by
    intro k hk
    unfold four
    refine concatenate_apply_piece (t := S8192x64) 1 _ _ (ix2 n l) k.val (by show k.val < 4; omega) S8192x16 (t k) ?_ rfl (16 * k.val) ?_
      (ix2 n ⟨l.val % 16, Nat.mod_lt _ (by decide)⟩) ?_ ?_
    · match k with
      | ⟨0, _⟩ => rfl
      | ⟨1, _⟩ => rfl
      | ⟨2, _⟩ => rfl
      | ⟨3, _⟩ => rfl
    · clear hk
      match k with
      | ⟨0, _⟩ => rfl
      | ⟨1, _⟩ => rfl
      | ⟨2, _⟩ => rfl
      | ⟨3, _⟩ => rfl
    · intro b hb
      match b with
      | ⟨0, _⟩ => rfl
      | ⟨1, _⟩ => exact absurd rfl hb
    · show 16 * k.val + l.val % 16 = l.val
      omega
  exact key ⟨l.val / 16, by omega⟩ rfl

theorem cosine_apply (axis : Fin 2) (n : Fin 8192) (j : Fin 16) :
    (Host.cos (outer (if axis.val = 0 then gridRow else gridCol) frequency) (ix2 n j) : EReal) = cosine n axis j := by
  refine (congrArg (FloatOps.hostUnary (F := Ideal) (φ := .f32) .cos) ((outer_apply _ _ n j).trans ?_) :)
  unfold angle
  split <;> rfl

theorem sine_apply (axis : Fin 2) (n : Fin 8192) (j : Fin 16) :
    (Host.sin (outer (if axis.val = 0 then gridRow else gridCol) frequency) (ix2 n j) : EReal) = sine n axis j := by
  refine (congrArg (FloatOps.hostUnary (F := Ideal) (φ := .f32) .sin) ((outer_apply _ _ n j).trans ?_) :)
  unfold angle
  split <;> rfl

/-- The first table is the cosine. -/
theorem cos_apply (n : Fin 8192) (l : Fin 128) : (V m c main_v35 (ix2 n l) : EReal) = cosAt n l := by
  rw [V_cos, twice_apply]
  refine (four_apply (fun k => Host.cos (outer (if k.val / 2 = 0 then gridRow else gridCol) frequency)) n _).trans ?_
  refine (cosine_apply ⟨l.val % 64 / 16 / 2, by omega⟩ n _).trans ?_
  unfold cosAt
  refine congrArg₂ (cosine n) (Fin.ext ?_) (Fin.ext ?_)
  · show l.val % 64 / 16 / 2 = l.val / 32 % 2
    omega
  · show l.val % 64 % 16 = l.val % 16
    omega

/-- The second is the signed sine. -/
theorem sin_apply (n : Fin 8192) (l : Fin 128) : (V m c main_v38 (ix2 n l) : EReal) = sinAt n l := by
  have hs : ∀ j : Fin 16, j.val = l.val % 16 → sine n ⟨l.val % 64 / 16 / 2, by omega⟩ j = sine n (axisOf l.val) (freqOf l.val) := by
    intro j hj
    refine congrArg₂ (sine n) (Fin.ext ?_) (Fin.ext hj)
    show l.val % 64 / 16 / 2 = l.val / 32 % 2
    omega
  rw [V_sin, twice_apply]
  refine (four_apply (fun k => if k.val % 2 = 0 then Host.negf (Host.sin (outer (if k.val / 2 = 0 then gridRow else gridCol) frequency))
      else Host.sin (outer (if k.val / 2 = 0 then gridRow else gridCol) frequency)) n _).trans ?_
  have hj : (l.val % 64) % 16 = l.val % 16 := by omega
  by_cases hl : l.val % 32 < 16
  · have hk : l.val % 64 / 16 % 2 = 0 := by omega
    refine (congrFun (if_pos hk) _).trans ?_
    refine (congrArg (fun z : EReal => -z) ((sine_apply ⟨l.val % 64 / 16 / 2, by omega⟩ n _).trans (hs _ hj))).trans ?_
    exact (if_pos hl).symm
  · have hk : ¬l.val % 64 / 16 % 2 = 0 := by omega
    refine (congrFun (if_neg hk) _).trans ?_
    exact ((sine_apply ⟨l.val % 64 / 16 / 2, by omega⟩ n _).trans (hs _ hj)).trans (if_neg hl).symm

end Cert.Kernel3Ideal.Proj

end
-- ==== Proof.Proj.Array.lean ====
/- The input projection kernel's three result arrays: each of their rows is the layer's at the row's batch and position. -/
module

public import proofs.«01_k».proof.Proof.Proj.Block
public import proofs.«01_k».proof.Proof.Proj.Run
public import proofs.«01_k».proof.Proof.Proj.Table
public import Idealize.ShloMosaic.Lib.Claim

@[expose] public section

noncomputable section

namespace Cert.Kernel3Ideal.Proj

open Cert.Kernel3Ideal Cert.Kernel3Ideal.Gen Cert.Mlp Cert.Proj Idealize.ShloMosaic Idealize.ShloMosaic.ValueIdx
open Idealize.ShloMosaic.TcCoe Idealize.SL.Sem

variable (m : (ℓ : Loc nD τ sig) → Buf (Elt Ideal) ℓ) (c : Dev nD)

/-! ## What the arrays hold when the kernel starts -/

theorem cast_latent {α : Type} (x : S4x8192x1024.Idx → α) (k : Fin 32768) (d : Fin 1024) :
    shapeCast S1x32768x1024 x shapeCasts_S4x8192x1024_S1x32768x1024 (ix3 0 k d)
      = x (ix3 ⟨k.val / 8192, by omega⟩ ⟨k.val % 8192, by omega⟩ d) := by
  refine shapeCast_apply x _ _ _ ?_
  rw [Shape.rowMajor_val_three, Shape.rowMajor_val_three]
  show (k.val / 8192 * 8192 + k.val % 8192) * 1024 + d.val = (0 * 32768 + k.val) * 1024 + d.val
  omega

theorem cast_scale {α : Type} (x : S4x1024.Idx → α) (d : Fin 1024) :
    shapeCast S4x1x1024 x shapeCasts_S4x1024_S4x1x1024 (ix3 0 0 d) = x (ix2 0 d) := by
  refine shapeCast_apply x _ _ _ ?_
  rw [Shape.rowMajor_val_three, Shape.rowMajor_val_two]
  show 0 * 1024 + d.val = (0 * 1 + 0) * 1024 + d.val
  omega

/-- Row `k` of the 32768 is the row of batch `k / 8192` at position `k % 8192`. -/
theorem rows_apply (k : Fin 32768) (d : Fin 1024) :
    V m c main_v41 (ix3 0 k d) = m ((c : Thread nD τ).loc main_arg0) (ix3 ⟨k.val / 8192, by omega⟩ ⟨k.val % 8192, by omega⟩ d) := by
  have e : V m c main_v41 = shapeCast S1x32768x1024 (m ((c : Thread nD τ).loc main_arg0)) shapeCasts_S4x8192x1024_S1x32768x1024 := by
    entry_read
    rfl
  exact (congrFun e _).trans (cast_latent _ k d)

theorem scale_apply (d : Fin 1024) : V m c main_v39 (ix3 0 0 d) = m ((c : Thread nD τ).loc main_arg1) (ix2 0 d) := by
  have e : V m c main_v39 = shapeCast S4x1x1024 (m ((c : Thread nD τ).loc main_arg1)) shapeCasts_S4x1024_S4x1x1024 := by
    entry_read
    rfl
  exact (congrFun e _).trans (cast_scale _ d)

theorem weights_apply (d : Fin 1024) (k : Fin 6656) : V m c main_v40 (ix3 0 d k) = m ((c : Thread nD τ).loc main_arg3) (ix3 0 d k) := by
  have e : V m c main_v40 = truncf (F := Ideal) .bf16 (m ((c : Thread nD τ).loc main_arg3)) bitsLt_bf16_f32 := by
    entry_read
    rfl
  rw [e]
  rfl

/-! ## What a point reads -/

/-- The one coordinate of a point, and the block each window stages there. -/
theorem idx (t : Fin cfg0.N) :
    (grid0.coords t 0).val = t.val ∧ (t.val = 0 → win0_0.index t = ![0, 0, 0]) ∧ win0_1.index t = ![0, min (t.val + 1) 63, 0]
    ∧ win0_2.index t = ![0, 0, 0] ∧ win0_3.index t = ![0, 0, 0] ∧ win0_4.index t = ![0, 0, 1] ∧ win0_5.index t = ![t.val % 16, 0]
    ∧ win0_6.index t = ![t.val % 16, 0] ∧ win0_7.index t = ![0, 0, 0] ∧ win0_8.index t = ![0, t.val, 0] ∧ win0_9.index t = ![0, t.val, 0]
    ∧ win0_10.index t = ![0, t.val, 0] := by
  revert t
  exact (by decide +kernel : ∀ t : Fin grid0.N,
    (grid0.coords t 0).val = t.val ∧ (t.val = 0 → win0_0.index t = ![0, 0, 0]) ∧ win0_1.index t = ![0, min (t.val + 1) 63, 0]
    ∧ win0_2.index t = ![0, 0, 0] ∧ win0_3.index t = ![0, 0, 0] ∧ win0_4.index t = ![0, 0, 1] ∧ win0_5.index t = ![t.val % 16, 0]
    ∧ win0_6.index t = ![t.val % 16, 0] ∧ win0_7.index t = ![0, 0, 0] ∧ win0_8.index t = ![0, t.val, 0] ∧ win0_9.index t = ![0, t.val, 0]
    ∧ win0_10.index t = ![0, t.val, 0])

theorem lt_64 (t : Fin cfg0.N) : t.val < 64 := lt_of_lt_of_eq t.isLt N_0

/-- Row `r` of tile `s`. -/
def rowAt (s : ℕ) (hs : s < 64) (r : Fin 512) : Fin 32768 := ⟨512 * s + r.val, by omega⟩

theorem blk0 (t : Fin cfg0.N) (h : t.val = 0) (r : Fin 512) (d : Fin 1024) :
    iblk m c 0 t (ix3 0 r d) = V m c main_v41 (ix3 0 (rowAt 0 (by omega) r) d) := by
  refine congrArg (V m c main_v41) (funext fun a => Fin.ext ?_)
  refine (Pipeline.Window.rect_emb_val win0_0 t (ix3 0 r d) a).trans ?_
  rw [(idx t).2.1 h]
  match a with
  | ⟨0, _⟩ => rfl
  | ⟨1, _⟩ => show 0 * 512 + r.val = 512 * 0 + r.val; omega
  | ⟨2, _⟩ => show 0 * 1024 + d.val = d.val; omega

theorem blk1 (t : Fin cfg0.N) (r : Fin 512) (d : Fin 1024) :
    iblk m c 1 t (ix3 0 r d) = V m c main_v41 (ix3 0 (rowAt (min (t.val + 1) 63) (by omega) r) d) := by
  refine congrArg (V m c main_v41) (funext fun a => Fin.ext ?_)
  refine (Pipeline.Window.rect_emb_val win0_1 t (ix3 0 r d) a).trans ?_
  rw [(idx t).2.2.1]
  match a with
  | ⟨0, _⟩ => rfl
  | ⟨1, _⟩ => show min (t.val + 1) 63 * 512 + r.val = 512 * min (t.val + 1) 63 + r.val; omega
  | ⟨2, _⟩ => show 0 * 1024 + d.val = d.val; omega

theorem blk2 (t : Fin cfg0.N) (d : Fin 1024) :
    iblk m c 2 t (ix3 0 0 d) = m ((c : Thread nD τ).loc main_arg1) (ix2 0 d) := by
  refine (congrArg (V m c main_v39) (funext fun a => Fin.ext ?_)).trans (scale_apply m c d)
  refine (Pipeline.Window.rect_emb_val win0_2 t (ix3 0 0 d) a).trans ?_
  rw [(idx t).2.2.2.1]
  match a with
  | ⟨0, _⟩ => rfl
  | ⟨1, _⟩ => rfl
  | ⟨2, _⟩ => show 0 * 1024 + d.val = d.val; omega

theorem blk3 (t : Fin cfg0.N) (b : Fin 8) (d : Fin 1024) :
    iblk m c 3 t (ix3 0 b d) = m ((c : Thread nD τ).loc main_arg2) (ix3 0 b ⟨d.val, by omega⟩) := by
  refine (congrArg (V m c main_arg2) (funext fun a => Fin.ext ?_)).trans (congrFun (V_main_arg2 m c) _)
  refine (Pipeline.Window.rect_emb_val win0_3 t (ix3 0 b d) a).trans ?_
  rw [(idx t).2.2.2.2.1]
  match a with
  | ⟨0, _⟩ => rfl
  | ⟨1, _⟩ => show 0 * 8 + b.val = b.val; omega
  | ⟨2, _⟩ => show 0 * 1024 + d.val = d.val; omega

theorem blk4 (t : Fin cfg0.N) (b : Fin 8) (d : Fin 1024) :
    iblk m c 4 t (ix3 0 b d) = m ((c : Thread nD τ).loc main_arg2) (ix3 0 b ⟨1024 + d.val, by omega⟩) := by
  refine (congrArg (V m c main_arg2) (funext fun a => Fin.ext ?_)).trans (congrFun (V_main_arg2 m c) _)
  refine (Pipeline.Window.rect_emb_val win0_4 t (ix3 0 b d) a).trans ?_
  rw [(idx t).2.2.2.2.2.1]
  match a with
  | ⟨0, _⟩ => rfl
  | ⟨1, _⟩ => show 0 * 8 + b.val = b.val; omega
  | ⟨2, _⟩ => show 1 * 1024 + d.val = 1024 + d.val; omega

theorem blk5 (t : Fin cfg0.N) (r : Fin 512) (l : Fin 128) :
    (iblk m c 5 t (ix2 r l) : EReal) = cosAt ⟨512 * (t.val % 16) + r.val, by omega⟩ l := by
  refine (congrArg (V m c main_v35) (funext fun a => Fin.ext ?_)).trans (cos_apply m c _ l)
  refine (Pipeline.Window.rect_emb_val win0_5 t (ix2 r l) a).trans ?_
  rw [(idx t).2.2.2.2.2.2.1]
  match a with
  | ⟨0, _⟩ => show t.val % 16 * 512 + r.val = 512 * (t.val % 16) + r.val; omega
  | ⟨1, _⟩ => show 0 * 128 + l.val = l.val; omega

theorem blk6 (t : Fin cfg0.N) (r : Fin 512) (l : Fin 128) :
    (iblk m c 6 t (ix2 r l) : EReal) = sinAt ⟨512 * (t.val % 16) + r.val, by omega⟩ l := by
  refine (congrArg (V m c main_v38) (funext fun a => Fin.ext ?_)).trans (sin_apply m c _ l)
  refine (Pipeline.Window.rect_emb_val win0_6 t (ix2 r l) a).trans ?_
  rw [(idx t).2.2.2.2.2.2.2.1]
  match a with
  | ⟨0, _⟩ => show t.val % 16 * 512 + r.val = 512 * (t.val % 16) + r.val; omega
  | ⟨1, _⟩ => show 0 * 128 + l.val = l.val; omega

theorem blk7 (t : Fin cfg0.N) (d : Fin 1024) (k : Fin 6656) :
    iblk m c 7 t (ix3 0 d k) = m ((c : Thread nD τ).loc main_arg3) (ix3 0 d k) := by
  refine (congrArg (V m c main_v40) (funext fun a => Fin.ext ?_)).trans (weights_apply m c d k)
  refine (Pipeline.Window.rect_emb_val win0_7 t (ix3 0 d k) a).trans ?_
  rw [(idx t).2.2.2.2.2.2.2.2.1]
  match a with
  | ⟨0, _⟩ => rfl
  | ⟨1, _⟩ => show 0 * 1024 + d.val = d.val; omega
  | ⟨2, _⟩ => show 0 * 6656 + k.val = k.val; omega

/-! ## What a point leaves -/

/-- The normalised and modulated row `k`. -/
def rowOf (k : Fin 32768) : Fin 1024 → EReal :=
  normalRow (m ((c : Thread nD τ).loc main_arg0)) (m ((c : Thread nD τ).loc main_arg1)) (m ((c : Thread nD τ).loc main_arg2))
    ⟨k.val / 8192, by omega⟩ ⟨k.val % 8192, by omega⟩

/-- A tile of normalised rows, from the block of rows and the batch it belongs to. -/
theorem normTile_apply (t : Fin cfg0.N) (x : Vec Ideal S1x512x1024 .f32) (b : Fin 8) (k : Fin 32768) (r : Fin 512)
    (hx : ∀ d, x (ix3 0 r d) = V m c main_v41 (ix3 0 k d)) (hb : b.val = k.val / 8192) (d : Fin 1024) :
    (normTile x (iblk m c 2 t) (iblk m c 3 t) (iblk m c 4 t) b (ix2 r d) : EReal) = rowOf m c k d := by
  have hk : k.val / 8192 < 8 := by clear hb; omega
  obtain rfl : b = ⟨k.val / 8192, hk⟩ := Fin.ext hb
  refine (norm_apply x (iblk m c 2 t) (row (iblk m c 3 t) _) (row (iblk m c 4 t) _) _ r (fun d => (hx d).trans (rows_apply m c k d)) d).trans ?_
  unfold rowOf normalRow
  rw [show (fun d : Fin 1024 => (iblk m c 2 t (ix3 0 0 d) : EReal)) = fun d => m ((c : Thread nD τ).loc main_arg1) (ix2 0 d) from
      funext fun d => blk2 m c t d]
  rw [show (fun d : Fin 1024 => (row (iblk m c 3 t) ⟨k.val / 8192, by omega⟩ (ix3 0 0 d) : EReal))
      = fun d => m ((c : Thread nD τ).loc main_arg2) (ix3 0 ⟨k.val / 8192, by omega⟩ ⟨d.val, by omega⟩) from
      funext fun d => blk3 m c t _ d]
  rw [show (fun d : Fin 1024 => (row (iblk m c 4 t) ⟨k.val / 8192, by omega⟩ (ix3 0 0 d) : EReal))
      = fun d => m ((c : Thread nD τ).loc main_arg2) (ix3 0 ⟨k.val / 8192, by omega⟩ ⟨1024 + d.val, by omega⟩) from
      funext fun d => blk4 m c t _ d]

/-- The tile a point normalises for the next. -/
def ahead (t : Fin cfg0.N) : Vec Ideal S512x1024 .bf16 :=
  normTile (iblk m c 1 t) (iblk m c 2 t) (iblk m c 3 t) (iblk m c 4 t) (after (grid0.coords t))

theorem ahead_apply (t : Fin cfg0.N) (r : Fin 512) (d : Fin 1024) :
    (ahead m c t (ix2 r d) : EReal) = rowOf m c (rowAt (min (t.val + 1) 63) (by omega) r) d := by
  refine normTile_apply m c t _ _ _ r (blk1 m c t r) ?_ d
  show min ((grid0.coords t 0).val + 1) 63 / 16 = (512 * min (t.val + 1) 63 + r.val) / 8192
  rw [(idx t).1]
  omega

/-- An even point leaves it in the second buffer. -/
theorem left_even (t : Fin cfg0.N) (h : t.val % 2 = 0) : (outsAt0 m c t.val t.isLt).2.2.2.2 = ahead m c t := by
  have h2 : ¬t.val % 2 = 1 := by omega
  by_cases h0 : t.val % 64 = 0
  · rw [outsAt0_A m c t h0 h h2]
    dsimp only
    rw [next_A]
    rfl
  · rw [outsAt0_C m c t h0 h h2]
    dsimp only
    rw [next_C]
    rfl

/-- An odd point leaves it in the first. -/
theorem left_odd (t : Fin cfg0.N) (h : t.val % 2 = 1) : (outsAt0 m c t.val t.isLt).2.2.2.1 = ahead m c t := by
  have h0 : ¬t.val % 64 = 0 := by omega
  have h1 : ¬t.val % 2 = 0 := by omega
  rw [outsAt0_B m c t h0 h1 h]
  dsimp only
  rw [next_B]
  rfl

/-- The three blocks a point leaves stand over one tile of normalised rows. -/
def Leaves (t : Fin cfg0.N) (h : FVec Ideal S512x1024 .bf16) : Prop :=
  (∀ y, (outsAt0 m c t.val t.isLt).1 y = qkvBlock (rowLanes h (iblk m c 7 t)) (iblk m c 5 t) (iblk m c 6 t) y)
  ∧ (∀ y, (outsAt0 m c t.val t.isLt).2.1 y = mixBlock (rowLanes h (iblk m c 7 t)) y)
  ∧ (∀ y, (outsAt0 m c t.val t.isLt).2.2.1 y = gateBlock (rowLanes h (iblk m c 7 t)) y)

/-- For the first point it is the tile it normalises itself. -/
theorem leaves_first (t : Fin cfg0.N) (h0 : t.val % 64 = 0) :
    Leaves m c t (normTile (iblk m c 0 t) (iblk m c 2 t) (iblk m c 3 t) (iblk m c 4 t) 0) := by
  have h1 : t.val % 2 = 0 := by omega
  have h2 : ¬t.val % 2 = 1 := by omega
  unfold Leaves
  rw [outsAt0_A m c t h0 h1 h2]
  refine ⟨fun y => ?_, fun y => ?_, fun y => ?_⟩ <;> dsimp only
  · rw [qkv_A]
  · rw [mix_A]
  · rw [gate_A]

/-- For a later point, the tile the point before it left. -/
theorem leaves_later (t : Fin cfg0.N) (h0 : ¬t.val % 64 = 0) (hp : t.val - 1 < cfg0.N) : Leaves m c t (ahead m c ⟨t.val - 1, hp⟩) := by
  by_cases h1 : t.val % 2 = 0
  · have h2 : ¬t.val % 2 = 1 := by omega
    rw [← left_odd m c ⟨t.val - 1, hp⟩ (by show (t.val - 1) % 2 = 1; omega)]
    unfold Leaves
    rw [outsAt0_C m c t h0 h1 h2]
    refine ⟨fun y => ?_, fun y => ?_, fun y => ?_⟩ <;> dsimp only
    · rw [qkv_C]
    · rw [mix_C]
    · rw [gate_C]
  · have h2 : t.val % 2 = 1 := by omega
    rw [← left_even m c ⟨t.val - 1, hp⟩ (by show (t.val - 1) % 2 = 0; omega)]
    unfold Leaves
    rw [outsAt0_B m c t h0 h1 h2]
    refine ⟨fun y => ?_, fun y => ?_, fun y => ?_⟩ <;> dsimp only
    · rw [qkv_B]
    · rw [mix_B]
    · rw [gate_B]

/-- So any point's blocks stand over its own tile of normalised rows. -/
theorem leaves (t : Fin cfg0.N) : ∃ h : FVec Ideal S512x1024 .bf16,
    (∀ r d, (h (ix2 r d) : EReal) = rowOf m c (rowAt t.val (lt_64 t) r) d) ∧ Leaves m c t h := by
  have ht := lt_64 t
  by_cases h0 : t.val % 64 = 0
  · have hz : t.val = 0 := by omega
    refine ⟨_, fun r d => ?_, leaves_first m c t h0⟩
    refine (normTile_apply m c t _ _ _ r (blk0 m c t hz r) ?_ d).trans (congrArg (fun k => rowOf m c k d) (Fin.ext ?_))
    · show 0 = (512 * 0 + r.val) / 8192
      omega
    · show 512 * 0 + r.val = 512 * t.val + r.val
      omega
  · have hp : t.val - 1 < cfg0.N := Nat.lt_of_le_of_lt (Nat.sub_le _ _) t.isLt
    refine ⟨_, fun r d => ?_, leaves_later m c t h0 hp⟩
    refine (ahead_apply m c _ r d).trans ?_
    refine congrArg (fun k => rowOf m c k d) (Fin.ext ?_)
    show 512 * min (t.val - 1 + 1) 63 + r.val = 512 * t.val + r.val
    omega

/-- The lanes of row `k`'s product. -/
def lanesOf (k : Fin 32768) : ℕ → EReal :=
  product (m ((c : Thread nD τ).loc main_arg0)) (m ((c : Thread nD τ).loc main_arg1)) (m ((c : Thread nD τ).loc main_arg2))
    (m ((c : Thread nD τ).loc main_arg3)) ⟨k.val / 8192, by omega⟩ ⟨k.val % 8192, by omega⟩

theorem rowLanes_eq (t : Fin cfg0.N) (h : FVec Ideal S512x1024 .bf16)
    (hh : ∀ r d, (h (ix2 r d) : EReal) = rowOf m c (rowAt t.val (lt_64 t) r) d) (r : Fin 512) :
    rowLanes h (iblk m c 7 t) r = lanesOf m c (rowAt t.val (lt_64 t) r) := by
  unfold rowLanes lanesOf product
  exact congrArg₂ lanes (funext fun d => hh r d) (funext fun d => funext fun k => blk7 m c t d k)

/-- The position of row `r` of a point's tile is where the point's tables stand. -/
theorem position (t : Fin cfg0.N) (r : Fin 512) :
    (⟨512 * (t.val % 16) + r.val, by omega⟩ : Fin 8192) = ⟨(rowAt t.val (lt_64 t) r).val % 8192, by omega⟩ := by
  refine Fin.ext ?_
  show 512 * (t.val % 16) + r.val = (512 * t.val + r.val) % 8192
  omega

/-- What a point stores in each result, at an index. -/
theorem left_apply (t : Fin cfg0.N) (r : Fin 512) :
    (∀ e : Fin 1536, ((outsAt0 m c t.val t.isLt).1 (ix3 0 r e) : EReal)
      = qkv (lanesOf m c (rowAt t.val (lt_64 t) r)) (cosAt ⟨(rowAt t.val (lt_64 t) r).val % 8192, by omega⟩)
          (sinAt ⟨(rowAt t.val (lt_64 t) r).val % 8192, by omega⟩) e.val)
    ∧ (∀ e : Fin 768, ((outsAt0 m c t.val t.isLt).2.1 (ix3 0 r e) : EReal) = mix (lanesOf m c (rowAt t.val (lt_64 t) r)) e.val)
    ∧ (∀ e : Fin 4096, ((outsAt0 m c t.val t.isLt).2.2.1 (ix3 0 r e) : EReal) = gate (lanesOf m c (rowAt t.val (lt_64 t) r)) e.val) := by
  obtain ⟨h, hh, ha, hb, hc⟩ := leaves m c t
  have hl := rowLanes_eq m c t h hh r
  refine ⟨fun e => (ha _).trans ?_, fun e => (hb _).trans ?_, fun e => (hc _).trans ?_⟩
  · show qkv (rowLanes h (iblk m c 7 t) r) (fun l => (iblk m c 5 t (ix2 r l) : EReal)) (fun l => (iblk m c 6 t (ix2 r l) : EReal)) e.val = _
    rw [hl, show (fun l => (iblk m c 5 t (ix2 r l) : EReal)) = _ from funext fun l => blk5 m c t r l,
      show (fun l => (iblk m c 6 t (ix2 r l) : EReal)) = _ from funext fun l => blk6 m c t r l, position t r]
  · show mix (rowLanes h (iblk m c 7 t) r) e.val = _
    rw [hl]
  · show gate (rowLanes h (iblk m c 7 t) r) e.val = _
    rw [hl]

/-! ## The result arrays -/

/-- The point of row `k`, and the row within its tile. -/
def pointOf (k : Fin 32768) : Fin cfg0.N := ⟨k.val / 512, by rw [show cfg0.N = 64 from N_0]; omega⟩
def withinTile (k : Fin 32768) : Fin 512 := ⟨k.val % 512, Nat.mod_lt _ (by norm_num)⟩

theorem rowAt_pointOf (k : Fin 32768) : rowAt (pointOf k).val (lt_64 _) (withinTile k) = k :=
  Fin.ext (by show 512 * (k.val / 512) + k.val % 512 = k.val; omega)

/-- The first result array at an index. -/
theorem qkv_apply (k : Fin 32768) (e : Fin 1536) :
    ((dats m 0 c).arrAt 8 cfg0.N (ix3 0 k e) : EReal)
      = qkvAt (m ((c : Thread nD τ).loc main_arg0)) (m ((c : Thread nD τ).loc main_arg1)) (m ((c : Thread nD τ).loc main_arg2))
          (m ((c : Thread nD τ).loc main_arg3)) ⟨k.val / 8192, by omega⟩ ⟨k.val % 8192, by omega⟩ e.val := by
  have hs := congrFun (stored_qkv m c (pointOf k)) (ix3 0 (withinTile k) e)
  have hl := (left_apply m c (pointOf k) (withinTile k)).1 e
  simp only [rowAt_pointOf] at hl
  refine Eq.trans (congrArg ((dats m 0 c).arrAt 8 cfg0.N) (funext fun a => Fin.ext ?_)) (hs.trans hl)
  refine Eq.symm ((Pipeline.Window.rect_emb_val win0_8 (pointOf k) (ix3 0 (withinTile k) e) a).trans ?_)
  rw [(idx (pointOf k)).2.2.2.2.2.2.2.2.2.1]
  match a with
  | ⟨0, _⟩ => rfl
  | ⟨1, _⟩ => show k.val / 512 * 512 + k.val % 512 = k.val; omega
  | ⟨2, _⟩ => show 0 * 1536 + e.val = e.val; omega

/-- The second. -/
theorem mix_apply (k : Fin 32768) (e : Fin 768) :
    ((dats m 0 c).arrAt 9 cfg0.N (ix3 0 k e) : EReal)
      = mixAt (m ((c : Thread nD τ).loc main_arg0)) (m ((c : Thread nD τ).loc main_arg1)) (m ((c : Thread nD τ).loc main_arg2))
          (m ((c : Thread nD τ).loc main_arg3)) ⟨k.val / 8192, by omega⟩ ⟨k.val % 8192, by omega⟩ e.val := by
  have hs := congrFun (stored_mix m c (pointOf k)) (ix3 0 (withinTile k) e)
  have hl := (left_apply m c (pointOf k) (withinTile k)).2.1 e
  simp only [rowAt_pointOf] at hl
  refine Eq.trans (congrArg ((dats m 0 c).arrAt 9 cfg0.N) (funext fun a => Fin.ext ?_)) (hs.trans hl)
  refine Eq.symm ((Pipeline.Window.rect_emb_val win0_9 (pointOf k) (ix3 0 (withinTile k) e) a).trans ?_)
  rw [(idx (pointOf k)).2.2.2.2.2.2.2.2.2.2.1]
  match a with
  | ⟨0, _⟩ => rfl
  | ⟨1, _⟩ => show k.val / 512 * 512 + k.val % 512 = k.val; omega
  | ⟨2, _⟩ => show 0 * 768 + e.val = e.val; omega

/-- The third. -/
theorem gate_apply (k : Fin 32768) (e : Fin 4096) :
    ((dats m 0 c).arrAt 10 cfg0.N (ix3 0 k e) : EReal)
      = gateAt (m ((c : Thread nD τ).loc main_arg0)) (m ((c : Thread nD τ).loc main_arg1)) (m ((c : Thread nD τ).loc main_arg2))
          (m ((c : Thread nD τ).loc main_arg3)) ⟨k.val / 8192, by omega⟩ ⟨k.val % 8192, by omega⟩ e.val := by
  have hs := congrFun (stored_gate m c (pointOf k)) (ix3 0 (withinTile k) e)
  have hl := (left_apply m c (pointOf k) (withinTile k)).2.2 e
  simp only [rowAt_pointOf] at hl
  refine Eq.trans (congrArg ((dats m 0 c).arrAt 10 cfg0.N) (funext fun a => Fin.ext ?_)) (hs.trans hl)
  refine Eq.symm ((Pipeline.Window.rect_emb_val win0_10 (pointOf k) (ix3 0 (withinTile k) e) a).trans ?_)
  rw [(idx (pointOf k)).2.2.2.2.2.2.2.2.2.2.2]
  match a with
  | ⟨0, _⟩ => rfl
  | ⟨1, _⟩ => show k.val / 512 * 512 + k.val % 512 = k.val; omega
  | ⟨2, _⟩ => show 0 * 4096 + e.val = e.val; omega

end Cert.Kernel3Ideal.Proj

end
-- ==== Proof.Proj.Rope.lean ====
/- The reference's rotary turn at an index. Its array of 512 lanes is cut into heads, grid axes, halves and frequencies; the two
   halves are turned with each other by the angle of their axis and frequency, and put back. Lane by lane that is a lane turned
   with its partner. -/
module

public import proofs.«01_k».proof.Proof.Proj.Angle
public import Idealize.ShloMosaic.Lib.ValueIdx
public import Idealize.ShloMosaic.Lib.ValueIdxRank6
public import Idealize.ShloMosaic.Lib.Pipeline.Value
public import Idealize.ShloMosaic.PureOps.Ideal.Laws

@[expose] public section

noncomputable section

namespace Cert.Reference3Ideal.Proj

open Cert.Reference3Ideal Cert.Reference3Ideal.Gen Cert.Reference3Ideal.Read Cert.Proj Idealize.ShloMosaic Idealize.ShloMosaic.ValueIdx

/-! ## The cosines and sines -/

/-- The row of a position along the first axis, its column along the second. -/
theorem place_apply (n : Fin 8192) (x : Fin 2) :
    (val_main_v47 (F := Ideal) (ix2 n x) : EReal) = if x.val = 0 then (gridRow (ix1 n) : EReal) else gridCol (ix1 n) := by
  unfold val_main_v47
  match x with
  | ⟨0, _⟩ =>
    refine (concatenate_pair_apply_left (t := S8192x2) (s₁ := S8192x1) (s₂ := S8192x1) 1 _ _ _ _ rfl (ix2 n 0) fun a => ?_).trans ?_
    · match a with
      | ⟨0, _⟩ => rfl
      | ⟨1, _⟩ => rfl
    · rw [val_main_v45_apply]
      refine (congrArg (val_main_v42 (F := Ideal)) (funext fun a => ?_)).trans (if_pos rfl).symm
      match a with
      | ⟨0, _⟩ => rfl
  | ⟨1, _⟩ =>
    refine (concatenate_pair_apply_right (t := S8192x2) (s₁ := S8192x1) (s₂ := S8192x1) 1 _ _ _ _ rfl rfl (ix2 n 0) (fun a ha => ?_) rfl).trans ?_
    · match a with
      | ⟨0, _⟩ => rfl
      | ⟨1, _⟩ => exact absurd rfl ha
    · rw [val_main_v46_apply]
      refine (congrArg (val_main_v44 (F := Ideal)) (funext fun a => ?_)).trans (if_neg (by show ¬(1 : ℕ) = 0; decide)).symm
      match a with
      | ⟨0, _⟩ => rfl

theorem angle_apply (n : Fin 8192) (x : Fin 2) (j : Fin 16) : (val_main_v52 (F := Ideal) (ix3 n x j) : EReal) = angle n x j := by
  rw [val_main_v52_apply, val_main_v50_apply, val_main_v48_apply, val_main_v51_apply, val_main_v49_apply]
  refine congrArg₂ (· * ·) ((congrArg (val_main_v47 (F := Ideal)) (funext fun a => ?_)).trans (place_apply n x))
    (congrArg (val_main_v40 (F := Ideal)) (funext fun a => ?_))
  · match a with
    | ⟨0, _⟩ => rfl
    | ⟨1, _⟩ => rfl
  · match a with
    | ⟨0, _⟩ => rfl

theorem cosine_apply (n : Fin 8192) (x : Fin 2) (j : Fin 16) : (val_main_v54 (F := Ideal) (ix5 0 n 0 x j) : EReal) = cosine n x j := by
  rw [val_main_v54_apply, val_main_v53_apply]
  refine congrArg (FloatOps.hostUnary (F := Ideal) (φ := .f32) .cos) ((congrArg (val_main_v52 (F := Ideal)) (funext fun a => ?_)).trans (angle_apply n x j))
  match a with
  | ⟨0, _⟩ => rfl
  | ⟨1, _⟩ => rfl
  | ⟨2, _⟩ => rfl

theorem sine_apply (n : Fin 8192) (x : Fin 2) (j : Fin 16) : (val_main_v56 (F := Ideal) (ix5 0 n 0 x j) : EReal) = sine n x j := by
  rw [val_main_v56_apply, val_main_v55_apply]
  refine congrArg (FloatOps.hostUnary (F := Ideal) (φ := .f32) .sin) ((congrArg (val_main_v52 (F := Ideal)) (funext fun a => ?_)).trans (angle_apply n x j))
  match a with
  | ⟨0, _⟩ => rfl
  | ⟨1, _⟩ => rfl
  | ⟨2, _⟩ => rfl

/-! ## The two halves, turned and put back -/

/-- The first half of every group of thirty-two lanes, and the second. -/
def firstPart (a : FVec Ideal S4x8192x512 .f32) : FVec Ideal S4x8192x8x2x16 .f32 :=
  shapeCast S4x8192x8x2x16 (extractStridedSlice S4x8192x8x2x1x16 ![0, 0, 0, 0, 0, 0]
    (shapeCast S4x8192x8x2x2x16 a shapeCasts_S4x8192x512_S4x8192x8x2x2x16) slices_S4x8192x8x2x2x16_S4x8192x8x2x1x16_0_0_0_0_0_0)
    shapeCasts_S4x8192x8x2x1x16_S4x8192x8x2x16
def secondPart (a : FVec Ideal S4x8192x512 .f32) : FVec Ideal S4x8192x8x2x16 .f32 :=
  shapeCast S4x8192x8x2x16 (extractStridedSlice S4x8192x8x2x1x16 ![0, 0, 0, 0, 1, 0]
    (shapeCast S4x8192x8x2x2x16 a shapeCasts_S4x8192x512_S4x8192x8x2x2x16) slices_S4x8192x8x2x2x16_S4x8192x8x2x1x16_0_0_0_0_1_0)
    shapeCasts_S4x8192x8x2x1x16_S4x8192x8x2x16

/-- A table of angles repeated over batches and heads. -/
def spread (t : FVec Ideal S1x8192x1x2x16 .f32) : FVec Ideal S4x8192x8x2x16 .f32 :=
  broadcastInDim S4x8192x8x2x16 ![0, 1, 2, 3, 4] bcast_S1x8192x1x2x16_S4x8192x8x2x16_0_1_2_3_4 t

/-- Two halves put back. -/
def together (u v : FVec Ideal S4x8192x8x2x16 .f32) : FVec Ideal S4x8192x512 .f32 :=
  shapeCast S4x8192x512
    (concatenate S4x8192x8x2x2x16 4
      [⟨S4x8192x8x2x1x16, broadcastInDim S4x8192x8x2x1x16 ![0, 1, 2, 3, 5] bcast_S4x8192x8x2x16_S4x8192x8x2x1x16_0_1_2_3_5 u⟩,
       ⟨S4x8192x8x2x1x16, broadcastInDim S4x8192x8x2x1x16 ![0, 1, 2, 3, 5] bcast_S4x8192x8x2x16_S4x8192x8x2x1x16_0_1_2_3_5 v⟩]
      concatenates_S4x8192x8x2x1x16_S4x8192x8x2x1x16_S4x8192x8x2x2x16_d4)
    shapeCasts_S4x8192x8x2x2x16_S4x8192x512

/-- The turn. -/
def rope (a : FVec Ideal S4x8192x512 .f32) : FVec Ideal S4x8192x512 .f32 :=
  together
    (subf (mulf (firstPart a) (spread (val_main_v54 (F := Ideal)))) (mulf (secondPart a) (spread (val_main_v56 (F := Ideal)))))
    (addf (mulf (secondPart a) (spread (val_main_v54 (F := Ideal)))) (mulf (firstPart a) (spread (val_main_v56 (F := Ideal)))))

section

variable (a : FVec Ideal S4x8192x512 .f32) (b : Fin 4) (n : Fin 8192) (h : Fin 8) (x : Fin 2) (j : Fin 16)

theorem cut_apply {α : Type} (a : S4x8192x512.Idx → α) (k : Fin 2) :
    shapeCast S4x8192x8x2x2x16 a shapeCasts_S4x8192x512_S4x8192x8x2x2x16 (ix6 b n h x k j)
      = a (ix3 b n ⟨64 * h.val + 32 * x.val + 16 * k.val + j.val, by omega⟩) := by
  refine shapeCast_apply a _ _ _ ?_
  rw [Shape.rowMajor_val_six, Shape.rowMajor_val_three]
  show (b.val * 8192 + n.val) * 512 + (64 * h.val + 32 * x.val + 16 * k.val + j.val)
    = ((((b.val * 8192 + n.val) * 8 + h.val) * 2 + x.val) * 2 + k.val) * 16 + j.val
  omega

theorem drop_apply {α : Type} (y : S4x8192x8x2x1x16.Idx → α) :
    shapeCast S4x8192x8x2x16 y shapeCasts_S4x8192x8x2x1x16_S4x8192x8x2x16 (ix5 b n h x j) = y (ix6 b n h x 0 j) := by
  refine shapeCast_apply y _ _ _ ?_
  rw [Shape.rowMajor_val_six, Shape.rowMajor_val_five]
  show ((((b.val * 8192 + n.val) * 8 + h.val) * 2 + x.val) * 1 + 0) * 16 + j.val
    = (((b.val * 8192 + n.val) * 8 + h.val) * 2 + x.val) * 16 + j.val
  omega

theorem firstPart_apply : firstPart a (ix5 b n h x j) = a (ix3 b n ⟨64 * h.val + 32 * x.val + j.val, by omega⟩) := by
  refine (drop_apply b n h x j _).trans ((extractStridedSlice_apply _ _ _ _ (ix6 b n h x 0 j) fun d => ?_).trans
    ((cut_apply b n h x j a 0).trans (congrArg a (congrArg (ix3 b n) (Fin.ext ?_)))))
  · match d with
    | ⟨0, _⟩ => exact (Nat.zero_add _).symm
    | ⟨1, _⟩ => exact (Nat.zero_add _).symm
    | ⟨2, _⟩ => exact (Nat.zero_add _).symm
    | ⟨3, _⟩ => exact (Nat.zero_add _).symm
    | ⟨4, _⟩ => rfl
    | ⟨5, _⟩ => exact (Nat.zero_add _).symm
  · show 64 * h.val + 32 * x.val + 16 * 0 + j.val = 64 * h.val + 32 * x.val + j.val
    omega

theorem secondPart_apply : secondPart a (ix5 b n h x j) = a (ix3 b n ⟨64 * h.val + 32 * x.val + 16 + j.val, by omega⟩) := by
  refine (drop_apply b n h x j _).trans ((extractStridedSlice_apply _ _ _ _ (ix6 b n h x 1 j) fun d => ?_).trans
    ((cut_apply b n h x j a 1).trans (congrArg a (congrArg (ix3 b n) (Fin.ext ?_)))))
  · match d with
    | ⟨0, _⟩ => exact (Nat.zero_add _).symm
    | ⟨1, _⟩ => exact (Nat.zero_add _).symm
    | ⟨2, _⟩ => exact (Nat.zero_add _).symm
    | ⟨3, _⟩ => exact (Nat.zero_add _).symm
    | ⟨4, _⟩ => rfl
    | ⟨5, _⟩ => exact (Nat.zero_add _).symm
  · show 64 * h.val + 32 * x.val + 16 * 1 + j.val = 64 * h.val + 32 * x.val + 16 + j.val
    omega

theorem spread_apply (t : FVec Ideal S1x8192x1x2x16 .f32) : spread t (ix5 b n h x j) = t (ix5 0 n 0 x j) := by
  refine broadcastInDim_apply _ _ _ _ _ fun d => ?_
  match d with
  | ⟨0, _⟩ => rfl
  | ⟨1, _⟩ => rfl
  | ⟨2, _⟩ => rfl
  | ⟨3, _⟩ => rfl
  | ⟨4, _⟩ => rfl

theorem one_apply (u : FVec Ideal S4x8192x8x2x16 .f32) :
    broadcastInDim S4x8192x8x2x1x16 ![0, 1, 2, 3, 5] bcast_S4x8192x8x2x16_S4x8192x8x2x1x16_0_1_2_3_5 u (ix6 b n h x 0 j)
      = u (ix5 b n h x j) := by
  refine broadcastInDim_apply _ _ _ _ _ fun d => ?_
  match d with
  | ⟨0, _⟩ => rfl
  | ⟨1, _⟩ => rfl
  | ⟨2, _⟩ => rfl
  | ⟨3, _⟩ => rfl
  | ⟨4, _⟩ => rfl

end

/-- The head, the axis and the frequency of one of the 512 lanes. -/
def headOf (e : Fin 512) : Fin 8 := ⟨e.val / 64, by omega⟩

theorem back_apply {α : Type} (y : S4x8192x8x2x2x16.Idx → α) (b : Fin 4) (n : Fin 8192) (e : Fin 512) (k : Fin 2) (hk : e.val / 16 % 2 = k.val) :
    shapeCast S4x8192x512 y shapeCasts_S4x8192x8x2x2x16_S4x8192x512 (ix3 b n e) = y (ix6 b n (headOf e) (axisOf e.val) k (freqOf e.val)) := by
  refine shapeCast_apply y _ _ _ ?_
  rw [Shape.rowMajor_val_six, Shape.rowMajor_val_three]
  show ((((b.val * 8192 + n.val) * 8 + e.val / 64) * 2 + e.val / 32 % 2) * 2 + k.val) * 16 + e.val % 16 = (b.val * 8192 + n.val) * 512 + e.val
  omega

theorem together_first (u v : FVec Ideal S4x8192x8x2x16 .f32) (b : Fin 4) (n : Fin 8192) (e : Fin 512) (he : e.val % 32 < 16) :
    together u v (ix3 b n e) = u (ix5 b n (headOf e) (axisOf e.val) (freqOf e.val)) := by
  refine (back_apply _ b n e 0 (by show e.val / 16 % 2 = 0; omega)).trans
    ((concatenate_pair_apply_left (t := S4x8192x8x2x2x16) (s₁ := S4x8192x8x2x1x16) (s₂ := S4x8192x8x2x1x16) 4 _ _ _ _ rfl (ix6 b n (headOf e) (axisOf e.val) 0 (freqOf e.val)) fun d => ?_).trans
      (one_apply b n _ _ _ u))
  match d with
  | ⟨0, _⟩ => rfl
  | ⟨1, _⟩ => rfl
  | ⟨2, _⟩ => rfl
  | ⟨3, _⟩ => rfl
  | ⟨4, _⟩ => rfl
  | ⟨5, _⟩ => rfl

theorem together_second (u v : FVec Ideal S4x8192x8x2x16 .f32) (b : Fin 4) (n : Fin 8192) (e : Fin 512) (he : ¬e.val % 32 < 16) :
    together u v (ix3 b n e) = v (ix5 b n (headOf e) (axisOf e.val) (freqOf e.val)) := by
  refine (back_apply _ b n e 1 (by show e.val / 16 % 2 = 1; omega)).trans
    ((concatenate_pair_apply_right (t := S4x8192x8x2x2x16) (s₁ := S4x8192x8x2x1x16) (s₂ := S4x8192x8x2x1x16) 4 _ _ _ _ rfl rfl (ix6 b n (headOf e) (axisOf e.val) 0 (freqOf e.val)) (fun d hd => ?_) rfl).trans
      (one_apply b n _ _ _ v))
  match d with
  | ⟨0, _⟩ => rfl
  | ⟨1, _⟩ => rfl
  | ⟨2, _⟩ => rfl
  | ⟨3, _⟩ => rfl
  | ⟨4, _⟩ => exact absurd rfl hd
  | ⟨5, _⟩ => rfl

/-- The tables read at a lane within their 128. -/
theorem cosAt_within (n : Fin 8192) (e : ℕ) : cosAt n (within e) = cosine n (axisOf e) (freqOf e) := by
  refine congrArg₂ (cosine n) (Fin.ext ?_) (Fin.ext ?_)
  · show e % 128 / 32 % 2 = e / 32 % 2
    omega
  · show e % 128 % 16 = e % 16
    omega

theorem sinAt_within (n : Fin 8192) (e : ℕ) :
    sinAt n (within e) = if e % 32 < 16 then -sine n (axisOf e) (freqOf e) else sine n (axisOf e) (freqOf e) := by
  have hs : sine n (axisOf (within e).val) (freqOf (within e).val) = sine n (axisOf e) (freqOf e) := by
    refine congrArg₂ (sine n) (Fin.ext ?_) (Fin.ext ?_)
    · show e % 128 / 32 % 2 = e / 32 % 2
      omega
    · show e % 128 % 16 = e % 16
      omega
  have hc : ((within e).val % 32 < 16) = (e % 32 < 16) := by
    show (e % 128 % 32 < 16) = (e % 32 < 16)
    rw [show e % 128 % 32 = e % 32 by omega]
  unfold sinAt
  rw [hs]
  simp only [hc]

/-- A turned lane of the reference is the lane turned with its partner. -/
theorem rope_apply (a : FVec Ideal S4x8192x512 .f32) (p : ℕ → EReal) (b : Fin 4) (n : Fin 8192)
    (hp : ∀ e : Fin 512, (a (ix3 b n e) : EReal) = p e.val) (e : Fin 512) :
    (rope a (ix3 b n e) : EReal) = turned p (cosAt n) (sinAt n) e.val := by
  have hf := firstPart_apply a b n (headOf e) (axisOf e.val) (freqOf e.val)
  have hs := secondPart_apply a b n (headOf e) (axisOf e.val) (freqOf e.val)
  have hcos := (spread_apply b n (headOf e) (axisOf e.val) (freqOf e.val) (val_main_v54 (F := Ideal))).trans (cosine_apply n _ _)
  have hsin := (spread_apply b n (headOf e) (axisOf e.val) (freqOf e.val) (val_main_v56 (F := Ideal))).trans (sine_apply n _ _)
  unfold rope turned partner
  rw [cosAt_within, sinAt_within]
  by_cases he : e.val % 32 < 16
  · rw [together_first _ _ b n e he, if_pos he, if_pos he]
    have h1 : (firstPart a (ix5 b n (headOf e) (axisOf e.val) (freqOf e.val)) : EReal) = p e.val :=
      hf.trans ((hp _).trans (congrArg p (by show 64 * (e.val / 64) + 32 * (e.val / 32 % 2) + e.val % 16 = e.val; omega)))
    have h2 : (secondPart a (ix5 b n (headOf e) (axisOf e.val) (freqOf e.val)) : EReal) = p (e.val + 16) :=
      hs.trans ((hp _).trans (congrArg p (by show 64 * (e.val / 64) + 32 * (e.val / 32 % 2) + 16 + e.val % 16 = e.val + 16; omega)))
    refine (congrArg₂ (· - ·) (congrArg₂ (· * ·) h1 hcos) (congrArg₂ (· * ·) h2 hsin)).trans ?_
    rw [sub_eq_add_neg, mul_neg]
  · rw [together_second _ _ b n e he, if_neg he, if_neg he]
    have h1 : (firstPart a (ix5 b n (headOf e) (axisOf e.val) (freqOf e.val)) : EReal) = p (e.val - 16) :=
      hf.trans ((hp _).trans (congrArg p (by show 64 * (e.val / 64) + 32 * (e.val / 32 % 2) + e.val % 16 = e.val - 16; omega)))
    have h2 : (secondPart a (ix5 b n (headOf e) (axisOf e.val) (freqOf e.val)) : EReal) = p e.val :=
      hs.trans ((hp _).trans (congrArg p (by show 64 * (e.val / 64) + 32 * (e.val / 32 % 2) + 16 + e.val % 16 = e.val; omega)))
    exact congrArg₂ (· + ·) (congrArg₂ (· * ·) h2 hcos) (congrArg₂ (· * ·) h1 hsin)

end Cert.Reference3Ideal.Proj

end
-- ==== Proof.Proj.Reference.lean ====
/- The reference's input projection at an index: the layer of `Angle` at a batch, a position and a lane. -/
module

public import proofs.«01_k».proof.Proof.Proj.Rope

@[expose] public section

noncomputable section

namespace Cert.Reference3Ideal.Proj

open Cert.Reference3Ideal Cert.Reference3Ideal.Gen Cert.Reference3Ideal.Read Cert.Proj Cert.Mlp Idealize.ShloMosaic Idealize.ShloMosaic.ValueIdx
open Idealize.ShloMosaic.TcCoe

variable (x0 : S4x8192x1024.Idx → EReal) (x1 : S4x1024.Idx → EReal) (x2 : S4x8x6144.Idx → EReal) (x3 : S4x1024x6656.Idx → EReal)
  (b : Fin 4) (n : Fin 8192)

/-! ## The modulated row and its product with the weights -/

theorem shift_apply (d : Fin 1024) :
    (val_main_v25 (F := Ideal) x2 (ix3 b n d) : EReal) = x2 (ix3 0 ⟨b.val, by omega⟩ ⟨d.val, by omega⟩) := by
  rw [val_main_v25_apply, val_main_v2_apply, val_main_v1_apply, val_main_v0_apply]
  refine congrArg x2 (funext fun a => Fin.ext ?_)
  match a with
  | ⟨0, _⟩ => rfl
  | ⟨1, _⟩ => show (b.val * 1024 + d.val) / 1024 % 4 = b.val; omega
  | ⟨2, _⟩ => show (b.val * 1024 + d.val) % 1024 = d.val; omega

theorem scale_apply (d : Fin 1024) :
    (val_main_v23 (F := Ideal) x2 (ix3 b n d) : EReal)
      = Ideal.ofBits .f32 0x3F800000#32 + x2 (ix3 0 ⟨b.val, by omega⟩ ⟨1024 + d.val, by omega⟩) := by
  rw [val_main_v23_apply, val_main_v22_apply, val_main_v21_apply, val_main_cst_2_apply, val_main_v5_apply, val_main_v4_apply,
    val_main_v3_apply]
  refine congrArg (fun i => Ideal.ofBits .f32 0x3F800000#32 + x2 i) (funext fun a => Fin.ext ?_)
  match a with
  | ⟨0, _⟩ => rfl
  | ⟨1, _⟩ => show (b.val * 1024 + d.val) / 1024 % 4 = b.val; omega
  | ⟨2, _⟩ => show 1024 + (b.val * 1024 + d.val) % 1024 = 1024 + d.val; omega

theorem weights_apply (d : Fin 1024) : (val_main_v19 (F := Ideal) x1 (ix3 b n d) : EReal) = x1 (ix2 0 d) := by
  rw [val_main_v19_apply, val_main_v18_apply, val_main_v17_apply, val_main_v16_apply]
  refine congrArg x1 (funext fun a => Fin.ext ?_)
  match a with
  | ⟨0, _⟩ => rfl
  | ⟨1, _⟩ => show d.val % 1024 = d.val; omega

theorem matrix_apply (d : Fin 1024) (k : Fin 6656) : (val_main_v28 (F := Ideal) x3 (ix2 d k) : EReal) = x3 (ix3 0 d k) := by
  rw [val_main_v28_apply, val_main_v27_apply]
  refine congrArg x3 (funext fun a => Fin.ext ?_)
  match a with
  | ⟨0, _⟩ => rfl
  | ⟨1, _⟩ => show (d.val * 6656 + k.val) / 6656 % 1024 = d.val; omega
  | ⟨2, _⟩ => show (d.val * 6656 + k.val) % 6656 = k.val; omega

/-- The reciprocal root of the row's mean square, spread over its lanes. -/
theorem inv_apply (d : Fin 1024) :
    (val_main_v14 (F := Ideal) x0 (ix3 b n d) : EReal) = invNorm fun d => x0 (ix3 b n d) := by
  rw [val_main_v14_apply, val_main_v13_apply, val_main_v12_apply, val_main_v11_apply, val_main_cst_1_apply, val_main_v10_apply,
    val_main_v9_apply, val_main_cst_0_apply, val_main_v8_apply, val_main_v7_apply, val_main_cst_apply]
  unfold invNorm
  refine congrArg (fun s => Ideal.rsqrt (Ideal.div s (Ideal.ofBits .f32 0x44800000#32) + Ideal.ofBits .f32 0x358637BD#32)) ?_
  refine (congrArg (· + _) Ideal.ofBits_zero_f32).trans ((zero_add _).trans (Finset.sum_congr rfl fun k _ => ?_))
  rw [val_main_v6_apply]
  refine congrArg (fun i => x0 i * x0 i) (funext fun a => Fin.ext ?_)
  match a with
  | ⟨0, _⟩ => rfl
  | ⟨1, _⟩ => rfl
  | ⟨2, _⟩ => rfl

theorem modulated_apply (d : Fin 1024) : (val_main_v26 (F := Ideal) x0 x1 x2 (ix3 b n d) : EReal) = normalRow x0 x1 x2 b n d := by
  rw [val_main_v26_apply, val_main_v24_apply, val_main_v20_apply, val_main_v15_apply, inv_apply, weights_apply, scale_apply, shift_apply]
  rfl

theorem product_apply (k : Fin 6656) :
    (val_main_v29 (F := Ideal) x0 x1 x2 x3 (ix3 b n k) : EReal) = product x0 x1 x2 x3 b n k.val := by
  unfold product
  rw [lanes_apply, val_main_v29_apply]
  refine Finset.sum_congr rfl fun d _ => congrArg₂ (· * ·) ((congrArg _ (funext fun a => Fin.ext ?_)).trans (modulated_apply x0 x1 x2 b n d))
    ((congrArg _ (funext fun a => Fin.ext ?_)).trans (matrix_apply x3 d k))
  · match a with
    | ⟨0, _⟩ => rfl
    | ⟨1, _⟩ => rfl
    | ⟨2, _⟩ => rfl
  · match a with
    | ⟨0, _⟩ => rfl
    | ⟨1, _⟩ => rfl

/-- Lanes of the product from an offset on. -/
theorem piece_apply {w : ℕ} (off : ℕ) (x : FVec Ideal ⟨3, ![4, 8192, w]⟩ .f32) (idx : Shape.Idx ⟨3, ![4, 8192, w]⟩ → S4x8192x6656.Idx) (e : Fin w)
    (hx : x (ix3 b n e) = val_main_v29 (F := Ideal) x0 x1 x2 x3 (idx (ix3 b n e)))
    (h0 : (idx (ix3 b n e) 0).val = b.val) (h1 : (idx (ix3 b n e) 1).val = n.val) (h2 : (idx (ix3 b n e) 2).val = off + e.val) :
    (x (ix3 b n e) : EReal) = product x0 x1 x2 x3 b n (off + e.val) := by
  have hb : off + e.val < 6656 := h2 ▸ (idx (ix3 b n e) 2).isLt
  refine hx.trans ((congrArg _ (funext fun a => Fin.ext ?_)).trans (product_apply x0 x1 x2 x3 b n ⟨off + e.val, hb⟩))
  match a with
  | ⟨0, _⟩ => exact h0
  | ⟨1, _⟩ => exact h1
  | ⟨2, _⟩ => exact h2

/-! ## The query, key and value lanes -/

/-- Scaling what is turned is scaling the tables. -/
theorem turned_scaled (p : ℕ → EReal) (q : EReal) (co si : Fin 128 → EReal) (e : ℕ) :
    turned (fun k => p k * q) co si e = turned p (fun l => co l * q) (fun l => si l * q) e := by
  unfold turned
  rw [mul_assoc, mul_assoc, mul_comm q, mul_comm q]

/-- A whole number of tables further on, the turn is the same. -/
theorem turned_shifted (p : ℕ → EReal) (co si : Fin 128 → EReal) (e : ℕ) :
    turned (fun k => p (512 + k)) co si e = turned p co si (512 + e) := by
  have h1 : within (512 + e) = within e := Fin.ext (by show (512 + e) % 128 = e % 128; omega)
  have h2 : partner (512 + e) = 512 + partner e := by
    unfold partner
    rw [show (512 + e) % 32 = e % 32 by omega]
    split <;> omega
  unfold turned
  rw [h1, h2]

theorem query_apply (e : Fin 512) :
    (val_main_v78 (F := Ideal) x0 x1 x2 x3 (ix3 b n e) : EReal)
      = turned (product x0 x1 x2 x3 b n) (fun l => cosAt n l * queryScale) (fun l => sinAt n l * queryScale) e.val := by
  rw [← turned_scaled]
  refine rope_apply (val_main_v59 (F := Ideal) x0 x1 x2 x3) _ b n (fun k => ?_) e
  rw [val_main_v59_apply, val_main_v58_apply, val_main_cst_8_apply]
  exact congrArg (· * queryScale) ((piece_apply x0 x1 x2 x3 b n 0 (val_main_v57 (F := Ideal) x0 x1 x2 x3) idx_main_v57 k
    (val_main_v57_apply _ _ _ _ _) rfl rfl (Nat.zero_add _).symm).trans (congrArg _ (Nat.zero_add _)))

theorem key_apply (e : Fin 512) :
    (val_main_v98 (F := Ideal) x0 x1 x2 x3 (ix3 b n e) : EReal)
      = turned (product x0 x1 x2 x3 b n) (cosAt n) (sinAt n) (512 + e.val) := by
  rw [← turned_shifted]
  exact rope_apply (val_main_v79 (F := Ideal) x0 x1 x2 x3) _ b n (fun k => piece_apply x0 x1 x2 x3 b n 512
    (val_main_v79 (F := Ideal) x0 x1 x2 x3) idx_main_v79 k (val_main_v79_apply _ _ _ _ _) rfl rfl rfl) e

theorem value_apply (e : Fin 512) :
    (val_main_v99 (F := Ideal) x0 x1 x2 x3 (ix3 b n e) : EReal) = product x0 x1 x2 x3 b n (1024 + e.val) :=
  piece_apply x0 x1 x2 x3 b n 1024 (val_main_v99 (F := Ideal) x0 x1 x2 x3) idx_main_v99 e (val_main_v99_apply _ _ _ _ _) rfl rfl rfl

/-- Three arrays of 512 lanes side by side, read in the `k`-th. -/
theorem three_apply (t : Fin 3 → FVec Ideal S4x8192x512 .f32) (k : Fin 3) (e : Fin 512) (i : Fin 1536) (hi : i.val = 512 * k.val + e.val) :
    concatenate S4x8192x1536 2 [⟨S4x8192x512, t 0⟩, ⟨S4x8192x512, t 1⟩, ⟨S4x8192x512, t 2⟩]
      concatenates_S4x8192x512_S4x8192x512_S4x8192x512_S4x8192x1536_d2 (ix3 b n i) = t k (ix3 b n e) := by
  refine concatenate_apply_piece (t := S4x8192x1536) 2 _ _ (ix3 b n i) k.val (by show k.val < 3; omega) S4x8192x512 (t k) ?_ rfl
    (512 * k.val) ?_ (ix3 b n e) ?_ ?_
  · clear hi
    match k with
    | ⟨0, _⟩ => rfl
    | ⟨1, _⟩ => rfl
    | ⟨2, _⟩ => rfl
  · clear hi
    match k with
    | ⟨0, _⟩ => rfl
    | ⟨1, _⟩ => rfl
    | ⟨2, _⟩ => rfl
  · intro a ha
    match a with
    | ⟨0, _⟩ => rfl
    | ⟨1, _⟩ => rfl
    | ⟨2, _⟩ => exact absurd rfl ha
  · show 512 * k.val + e.val = i.val
    exact hi.symm

/-- The lanes of three arrays side by side. -/
theorem joined (x y z : FVec Ideal S4x8192x512 .f32) (e : Fin 1536) :
    concatenate S4x8192x1536 2 [⟨S4x8192x512, x⟩, ⟨S4x8192x512, y⟩, ⟨S4x8192x512, z⟩]
      concatenates_S4x8192x512_S4x8192x512_S4x8192x512_S4x8192x1536_d2 (ix3 b n e)
      = if h : e.val < 512 then x (ix3 b n ⟨e.val, h⟩) else if h1 : e.val < 1024 then y (ix3 b n ⟨e.val - 512, by omega⟩)
        else z (ix3 b n ⟨e.val - 1024, by omega⟩) := by
  by_cases h : e.val < 512
  · rw [dif_pos h]
    exact three_apply b n ![x, y, z] 0 ⟨e.val, h⟩ e (by show e.val = 512 * 0 + e.val; omega)
  · rw [dif_neg h]
    by_cases h1 : e.val < 1024
    · rw [dif_pos h1]
      exact three_apply b n ![x, y, z] 1 ⟨e.val - 512, by omega⟩ e (by show e.val = 512 * 1 + (e.val - 512); omega)
    · rw [dif_neg h1]
      exact three_apply b n ![x, y, z] 2 ⟨e.val - 1024, by omega⟩ e (by show e.val = 512 * 2 + (e.val - 1024); omega)

theorem joined_apply (e : Fin 1536) : (val_main_v116 (F := Ideal) x0 x1 x2 x3 (ix3 b n e) : EReal) = qkvAt x0 x1 x2 x3 b n e.val := by
  unfold val_main_v116 qkvAt qkv
  rw [joined]
  by_cases h0 : e.val < 512
  · rw [dif_pos h0, if_pos h0]
    exact query_apply x0 x1 x2 x3 b n _
  · rw [dif_neg h0, if_neg h0]
    by_cases h1 : e.val < 1024
    · rw [dif_pos h1, if_pos h1]
      refine (key_apply x0 x1 x2 x3 b n _).trans (congrArg (turned _ _ _) ?_)
      show 512 + (e.val - 512) = e.val
      omega
    · rw [dif_neg h1, if_neg h1]
      refine (value_apply x0 x1 x2 x3 b n _).trans (congrArg _ ?_)
      show 1024 + (e.val - 1024) = e.val
      omega

/-! ## The gated unit and the gates -/

/-- The reference's squashing function is the kernel's. -/
theorem squash_div (x : EReal) :
    Ideal.div (Ideal.ofBits .f32 0x3F800000#32) (Ideal.ofBits .f32 0x3F800000#32 + Ideal.exp (-x)) = squash x := by
  rw [Ideal.ofBits_one_f32, squash_eq]
  rfl

theorem unit_apply (e : Fin 256) :
    (val_main_v108 (F := Ideal) x0 x1 x2 x3 (ix3 b n e) : EReal)
      = product x0 x1 x2 x3 b n (2048 + e.val) * squash (product x0 x1 x2 x3 b n (2304 + e.val)) := by
  have hv := piece_apply x0 x1 x2 x3 b n 2048 (val_main_v100 (F := Ideal) x0 x1 x2 x3) idx_main_v100 e (val_main_v100_apply _ _ _ _ _) rfl rfl rfl
  have hg := piece_apply x0 x1 x2 x3 b n 2304 (val_main_v101 (F := Ideal) x0 x1 x2 x3) idx_main_v101 e (val_main_v101_apply _ _ _ _ _) rfl rfl rfl
  rw [val_main_v108_apply, val_main_v107_apply, val_main_v106_apply, val_main_cst_10_apply, val_main_v105_apply, val_main_v104_apply,
    val_main_cst_9_apply, val_main_v103_apply, val_main_v102_apply, hv, hg, ← squash_div]
  rfl

theorem gates_apply (e : Fin 4096) : (val_main_v115 (F := Ideal) x0 x1 x2 x3 (ix3 b n e) : EReal) = gateAt x0 x1 x2 x3 b n e.val := by
  have hg := piece_apply x0 x1 x2 x3 b n 2560 (val_main_v109 (F := Ideal) x0 x1 x2 x3) idx_main_v109 e (val_main_v109_apply _ _ _ _ _) rfl rfl rfl
  unfold gateAt gate
  rw [val_main_v115_apply, val_main_v114_apply, val_main_cst_12_apply, val_main_v113_apply, val_main_v112_apply,
    val_main_cst_11_apply, val_main_v111_apply, val_main_v110_apply, hg, ← squash_div]
  rfl

theorem mixed_apply (e : Fin 768) : (val_main_v120 (F := Ideal) x0 x1 x2 x3 (ix3 b n e) : EReal) = mixAt x0 x1 x2 x3 b n e.val := by
  unfold mixAt mix val_main_v120
  by_cases h : e.val < 512
  · rw [if_pos h]
    refine (concatenate_pair_apply_left (t := S4x8192x768) (s₁ := S4x8192x512) (s₂ := S4x8192x256) 2 _ _ _ _ rfl (ix3 b n ⟨e.val, h⟩) fun a => ?_).trans
      (piece_apply x0 x1 x2 x3 b n 1536 (val_main_v119 (F := Ideal) x0 x1 x2 x3) idx_main_v119 ⟨e.val, h⟩ (val_main_v119_apply _ _ _ _ _) rfl rfl rfl)
    match a with
    | ⟨0, _⟩ => rfl
    | ⟨1, _⟩ => rfl
    | ⟨2, _⟩ => rfl
  · rw [if_neg h]
    refine (concatenate_pair_apply_right (t := S4x8192x768) (s₁ := S4x8192x512) (s₂ := S4x8192x256) 2 _ _ _ _ rfl rfl (ix3 b n ⟨e.val - 512, by omega⟩)
      (fun a ha => ?_) (by show e.val - 512 + 512 = e.val; omega)).trans ((unit_apply x0 x1 x2 x3 b n _).trans ?_)
    · match a with
      | ⟨0, _⟩ => rfl
      | ⟨1, _⟩ => rfl
      | ⟨2, _⟩ => exact absurd rfl ha
    · rw [show 2048 + (e.val - 512) = 1536 + e.val by omega, show 2304 + (e.val - 512) = 1792 + e.val by omega]

/-! ## The three results -/

theorem qkv_apply (k : Fin 32768) (e : Fin 1536) :
    (val_main_v118 (F := Ideal) x0 x1 x2 x3 (ix3 0 k e) : EReal)
      = qkvAt x0 x1 x2 x3 ⟨k.val / 8192, by omega⟩ ⟨k.val % 8192, by omega⟩ e.val := by
  refine Eq.trans (shapeCast_apply (val_main_v116 (F := Ideal) x0 x1 x2 x3) shapeCasts_S4x8192x1536_S1x32768x1536 (ix3 0 k e)
    (ix3 ⟨k.val / 8192, by omega⟩ ⟨k.val % 8192, by omega⟩ e) ?_) (joined_apply x0 x1 x2 x3 _ _ e)
  rw [Shape.rowMajor_val_three, Shape.rowMajor_val_three]
  show (k.val / 8192 * 8192 + k.val % 8192) * 1536 + e.val = (0 * 32768 + k.val) * 1536 + e.val
  omega

theorem mix_apply (k : Fin 32768) (e : Fin 768) :
    (val_main_v121 (F := Ideal) x0 x1 x2 x3 (ix3 0 k e) : EReal)
      = mixAt x0 x1 x2 x3 ⟨k.val / 8192, by omega⟩ ⟨k.val % 8192, by omega⟩ e.val := by
  refine Eq.trans (shapeCast_apply (val_main_v120 (F := Ideal) x0 x1 x2 x3) shapeCasts_S4x8192x768_S1x32768x768 (ix3 0 k e)
    (ix3 ⟨k.val / 8192, by omega⟩ ⟨k.val % 8192, by omega⟩ e) ?_) (mixed_apply x0 x1 x2 x3 _ _ e)
  rw [Shape.rowMajor_val_three, Shape.rowMajor_val_three]
  show (k.val / 8192 * 8192 + k.val % 8192) * 768 + e.val = (0 * 32768 + k.val) * 768 + e.val
  omega

theorem gate_apply (k : Fin 32768) (e : Fin 4096) :
    (val_main_v123 (F := Ideal) x0 x1 x2 x3 (ix3 0 k e) : EReal)
      = gateAt x0 x1 x2 x3 ⟨k.val / 8192, by omega⟩ ⟨k.val % 8192, by omega⟩ e.val := by
  refine Eq.trans (shapeCast_apply (val_main_v115 (F := Ideal) x0 x1 x2 x3) shapeCasts_S4x8192x4096_S1x32768x4096 (ix3 0 k e)
    (ix3 ⟨k.val / 8192, by omega⟩ ⟨k.val % 8192, by omega⟩ e) ?_) (gates_apply x0 x1 x2 x3 _ _ e)
  rw [Shape.rowMajor_val_three, Shape.rowMajor_val_three]
  show (k.val / 8192 * 8192 + k.val % 8192) * 4096 + e.val = (0 * 32768 + k.val) * 4096 + e.val
  omega

end Cert.Reference3Ideal.Proj

end
-- ==== Proof.Proj.Agree.lean ====
/- The claims about the input projection: both programs run, and their three results agree on all inputs. -/
module

public import proofs.«01_k».proof.Defs
public import proofs.«01_k».proof.Proof.Proj.Array
public import proofs.«01_k».proof.Proof.Proj.Reference
public import proofs.«01_k».proof.Proof.Gen.Reference3Ideal.Run
public import Idealize.ShloMosaic.Lib.Quiescent

@[expose] public section

noncomputable section

namespace Cert.Proj

open Idealize.ShloMosaic Idealize.ShloMosaic.ValueIdx Idealize.SL.Sem
open Idealize.ShloMosaic.TcCoe

/-- The reference runs, keeps its arguments and leaves every counter at zero. -/
theorem reference_frame (m) (g) :
    θ_run (Cert.Reference3Ideal.defs (F := Ideal)) (onTc (τ := Cert.Reference3Ideal.τ) (Cert.Reference3Ideal.main (F := Ideal)))
      ⟨m, fun _ => 0, g⟩ (fun r => (∀ c : Dev Cert.Reference3Ideal.nD,
        r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
        ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
        ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
        ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
        ∧ r.2.sem = fun _ => 0) :=
  (θ_run Cert.Reference3Ideal.defs _ _).mono (fun r h => ⟨fun c => (h c).2.2.2, sem_eq_zero_of_no_sems (by decide) r.2⟩)
    (Cert.Reference3Ideal.Value.run (F := Ideal) m g)

/-- Two arrays of rows and lanes that agree at every row and lane are one. -/
theorem rows_ext {w : ℕ} {x y : Shape.Idx ⟨3, ![1, 32768, w]⟩ → EReal} (h : ∀ (k : Fin 32768) (e : Fin w), x (ix3 0 k e) = y (ix3 0 k e)) : x = y := by
  funext i
  have e : i = ix3 0 (i 1) (i 2) := by
    funext a
    match a with
    | ⟨0, _⟩ => exact Fin.ext (by show (i 0).val = 0; have : (i 0).val < 1 := (i 0).isLt; omega)
    | ⟨1, _⟩ => rfl
    | ⟨2, _⟩ => rfl
  rw [e]
  exact h (i 1) (i 2)

section

variable (m : (ℓ : Loc Cert.Kernel3Ideal.nD Cert.Kernel3Ideal.τ Cert.Kernel3Ideal.sig) → Buf (Elt Ideal) ℓ) (c : Dev Cert.Kernel3Ideal.nD)

/-- The queries, keys and values agree. -/
theorem qkv_eq :
    Cert.Reference3Ideal.Read.val_main_v118 (F := Ideal)
        (m ((c.tc : Thread Cert.Kernel3Ideal.nD Cert.Kernel3Ideal.τ).loc Cert.Kernel3Ideal.main_arg0))
        (m ((c.tc : Thread Cert.Kernel3Ideal.nD Cert.Kernel3Ideal.τ).loc Cert.Kernel3Ideal.main_arg1))
        (m ((c.tc : Thread Cert.Kernel3Ideal.nD Cert.Kernel3Ideal.τ).loc Cert.Kernel3Ideal.main_arg2))
        (m ((c.tc : Thread Cert.Kernel3Ideal.nD Cert.Kernel3Ideal.τ).loc Cert.Kernel3Ideal.main_arg3))
      = (Cert.Kernel3Ideal.Gen.dats m 0 c).arrAt 8 Cert.Kernel3Ideal.cfg0.N :=
  rows_ext fun k e => (Cert.Reference3Ideal.Proj.qkv_apply _ _ _ _ k e).trans (Cert.Kernel3Ideal.Proj.qkv_apply m c k e).symm

/-- The mixing lanes agree. -/
theorem mix_eq :
    Cert.Reference3Ideal.Read.val_main_v121 (F := Ideal)
        (m ((c.tc : Thread Cert.Kernel3Ideal.nD Cert.Kernel3Ideal.τ).loc Cert.Kernel3Ideal.main_arg0))
        (m ((c.tc : Thread Cert.Kernel3Ideal.nD Cert.Kernel3Ideal.τ).loc Cert.Kernel3Ideal.main_arg1))
        (m ((c.tc : Thread Cert.Kernel3Ideal.nD Cert.Kernel3Ideal.τ).loc Cert.Kernel3Ideal.main_arg2))
        (m ((c.tc : Thread Cert.Kernel3Ideal.nD Cert.Kernel3Ideal.τ).loc Cert.Kernel3Ideal.main_arg3))
      = (Cert.Kernel3Ideal.Gen.dats m 0 c).arrAt 9 Cert.Kernel3Ideal.cfg0.N :=
  rows_ext fun k e => (Cert.Reference3Ideal.Proj.mix_apply _ _ _ _ k e).trans (Cert.Kernel3Ideal.Proj.mix_apply m c k e).symm

/-- The gates agree. -/
theorem gate_eq :
    Cert.Reference3Ideal.Read.val_main_v123 (F := Ideal)
        (m ((c.tc : Thread Cert.Kernel3Ideal.nD Cert.Kernel3Ideal.τ).loc Cert.Kernel3Ideal.main_arg0))
        (m ((c.tc : Thread Cert.Kernel3Ideal.nD Cert.Kernel3Ideal.τ).loc Cert.Kernel3Ideal.main_arg1))
        (m ((c.tc : Thread Cert.Kernel3Ideal.nD Cert.Kernel3Ideal.τ).loc Cert.Kernel3Ideal.main_arg2))
        (m ((c.tc : Thread Cert.Kernel3Ideal.nD Cert.Kernel3Ideal.τ).loc Cert.Kernel3Ideal.main_arg3))
      = (Cert.Kernel3Ideal.Gen.dats m 0 c).arrAt 10 Cert.Kernel3Ideal.cfg0.N :=
  rows_ext fun k e => (Cert.Reference3Ideal.Proj.gate_apply _ _ _ _ k e).trans (Cert.Kernel3Ideal.Proj.gate_apply m c k e).symm

end

/-- The kernel computes the reference's input projection. -/
theorem algebraic :
    Cert.algebraic_Kernel3Ideal_Reference3Ideal (hKernel3Ideal := Cert.Kernel3Ideal.Gen.facts) (hReference3Ideal := Cert.Reference3Ideal.Gen.facts) := by
  intro m g m' g' _ hagree
  refine ⟨fun c => (Cert.Kernel3Ideal.Gen.dats m 0 c).arrAt 8 Cert.Kernel3Ideal.cfg0.N, fun c => (Cert.Kernel3Ideal.Gen.dats m 0 c).arrAt 9 Cert.Kernel3Ideal.cfg0.N,
    fun c => (Cert.Kernel3Ideal.Gen.dats m 0 c).arrAt 10 Cert.Kernel3Ideal.cfg0.N, Cert.Kernel3Ideal.Proj.run m g, ?_⟩
  refine (θ_run Cert.Reference3Ideal.defs _ _).mono
    (fun _ h c => ⟨(h c).1.trans ?_, (h c).2.1.trans ?_, (h c).2.2.1.trans ?_, (h c).2.2.2⟩) (Cert.Reference3Ideal.Value.run (F := Ideal) m' g')
  · rw [Cert.Reference3Ideal.Read.val_main_v118_eq]
    obtain ⟨a0, a1, a2, a3⟩ := hagree c
    rw [a0, a1, a2, a3]
    exact qkv_eq m c
  · rw [Cert.Reference3Ideal.Read.val_main_v121_eq]
    obtain ⟨a0, a1, a2, a3⟩ := hagree c
    rw [a0, a1, a2, a3]
    exact mix_eq m c
  · rw [Cert.Reference3Ideal.Read.val_main_v123_eq]
    obtain ⟨a0, a1, a2, a3⟩ := hagree c
    rw [a0, a1, a2, a3]
    exact gate_eq m c

end Cert.Proj

end
-- ==== Proof.lean ====
/- The claims about the neighbourhood attention, the feed-forward and the input projection, put together: each kernel, its ideal
   version and its reference run and keep their arguments, and each kernel's results are its reference's — the attention's on
   real inputs, the other two's on all. -/
module

public import proofs.«01_k».proof.Defs
public import proofs.«01_k».proof.Proof.Gen.Kernel.Frame
public import proofs.«01_k».proof.Proof.Gen.Kernel2.Frame
public import proofs.«01_k».proof.Proof.Gen.Kernel3.Frame
public import proofs.«01_k».proof.Proof.Attn.Agree
public import proofs.«01_k».proof.Proof.Mlp.Agree
public import proofs.«01_k».proof.Proof.Proj.Agree

@[expose] public section

noncomputable section

namespace Cert.Proof

open Idealize.ShloMosaic Idealize.SL.Sem

/-- `Cert.Claim`: the facts each program states, the frames, the ideal versions' passes and the three equations. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Pre_finite.Gen.facts,
    fun m ρ _ => Cert.Kernel.Gen.frame m ρ,
    fun m ρ _ => Cert.KernelIdeal.Gen.frame m ρ,
    fun m ρ _ => Cert.KernelIdeal.Gen.frame m ρ,
    fun m ρ _ => Cert.Attn.reference_frame m ρ,
    fun m ρ _ => Cert.Attn.reference_frame m ρ,
    fun m ρ _ => Cert.Kernel2.Gen.frame m ρ,
    fun m ρ _ => Cert.Kernel2Ideal.Gen.frame m ρ,
    fun m ρ _ => Cert.Mlp.reference_frame m ρ,
    fun m ρ _ => Cert.Kernel3.Gen.frame m ρ,
    fun m ρ _ => Cert.Kernel3Ideal.Gen.frame m ρ,
    fun m ρ _ => Cert.Proj.reference_frame m ρ,
    trivial,
    @Cert.Attn.algebraic Cert.Pre_finite.Gen.facts,
    trivial,
    Cert.Mlp.algebraic,
    trivial,
    Cert.Proj.algebraic⟩

end Cert.Proof

end
